-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))) = (fun _ => 1#1)

def Pre_ExpertsTwo [hPre_experts_in_range : Cert.Pre_experts_in_range.Facts] (m : (ℓ : Loc Cert.ExpertsTwo.nD Cert.ExpertsTwo.τ Cert.ExpertsTwo.sig) → Buf (Elt Bits) ℓ) : Prop :=
  ∀ c : Dev Cert.ExpertsTwo.nD,
    (Cert.Pre_experts_in_range.fn (F := Bits) (m ((c.tc : Thread Cert.ExpertsTwo.nD Cert.ExpertsTwo.τ).loc Cert.ExpertsTwo.main_arg0)) (m ((c.tc : Thread Cert.ExpertsTwo.nD Cert.ExpertsTwo.τ).loc Cert.ExpertsTwo.main_arg1)) (m ((c.tc : Thread Cert.ExpertsTwo.nD Cert.ExpertsTwo.τ).loc Cert.ExpertsTwo.main_arg2)) (m ((c.tc : Thread Cert.ExpertsTwo.nD Cert.ExpertsTwo.τ).loc Cert.ExpertsTwo.main_arg3)) (m ((c.tc : Thread Cert.ExpertsTwo.nD Cert.ExpertsTwo.τ).loc Cert.ExpertsTwo.main_arg4))) = (fun _ => 1#1)

def Pre_ExpertsTwoIdeal [hPre_experts_in_range : Cert.Pre_experts_in_range.Facts] (m : (ℓ : Loc Cert.ExpertsTwoIdeal.nD Cert.ExpertsTwoIdeal.τ Cert.ExpertsTwoIdeal.sig) → Buf (Elt Ideal) ℓ) : Prop :=
  ∀ c : Dev Cert.ExpertsTwoIdeal.nD,
    (Cert.Pre_experts_in_range.fn (F := Ideal) (m ((c.tc : Thread Cert.ExpertsTwoIdeal.nD Cert.ExpertsTwoIdeal.τ).loc Cert.ExpertsTwoIdeal.main_arg0)) (m ((c.tc : Thread Cert.ExpertsTwoIdeal.nD Cert.ExpertsTwoIdeal.τ).loc Cert.ExpertsTwoIdeal.main_arg1)) (m ((c.tc : Thread Cert.ExpertsTwoIdeal.nD Cert.ExpertsTwoIdeal.τ).loc Cert.ExpertsTwoIdeal.main_arg2)) (m ((c.tc : Thread Cert.ExpertsTwoIdeal.nD Cert.ExpertsTwoIdeal.τ).loc Cert.ExpertsTwoIdeal.main_arg3)) (m ((c.tc : Thread Cert.ExpertsTwoIdeal.nD Cert.ExpertsTwoIdeal.τ).loc Cert.ExpertsTwoIdeal.main_arg4))) = (fun _ => 1#1)

def Pre_ExpertsTwoReferenceIdeal (m : (ℓ : Loc Cert.ExpertsTwoReferenceIdeal.nD Cert.ExpertsTwoReferenceIdeal.τ Cert.ExpertsTwoReferenceIdeal.sig) → Buf (Elt Ideal) ℓ) : Prop :=
  True

def Pre_ExpertsTwoReferenceIdeal_experts_in_range [hPre_experts_in_range : Cert.Pre_experts_in_range.Facts] (m : (ℓ : Loc Cert.ExpertsTwoReferenceIdeal.nD Cert.ExpertsTwoReferenceIdeal.τ Cert.ExpertsTwoReferenceIdeal.sig) → Buf (Elt Ideal) ℓ) : Prop :=
  ∀ c : Dev Cert.ExpertsTwoReferenceIdeal.nD,
    (Cert.Pre_experts_in_range.fn (F := Ideal) (m ((c.tc : Thread Cert.ExpertsTwoReferenceIdeal.nD Cert.ExpertsTwoReferenceIdeal.τ).loc Cert.ExpertsTwoReferenceIdeal.main_arg0)) (m ((c.tc : Thread Cert.ExpertsTwoReferenceIdeal.nD Cert.ExpertsTwoReferenceIdeal.τ).loc Cert.ExpertsTwoReferenceIdeal.main_arg1)) (m ((c.tc : Thread Cert.ExpertsTwoReferenceIdeal.nD Cert.ExpertsTwoReferenceIdeal.τ).loc Cert.ExpertsTwoReferenceIdeal.main_arg2)) (m ((c.tc : Thread Cert.ExpertsTwoReferenceIdeal.nD Cert.ExpertsTwoReferenceIdeal.τ).loc Cert.ExpertsTwoReferenceIdeal.main_arg3)) (m ((c.tc : Thread Cert.ExpertsTwoReferenceIdeal.nD Cert.ExpertsTwoReferenceIdeal.τ).loc Cert.ExpertsTwoReferenceIdeal.main_arg4))) = (fun _ => 1#1)

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInReferenceIdeal (m : (ℓ : Loc Cert.SsdInReferenceIdeal.nD Cert.SsdInReferenceIdeal.τ Cert.SsdInReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsTwo [hExpertsTwo : Cert.ExpertsTwo.Facts] [hPre_experts_in_range : Cert.Pre_experts_in_range.Facts] : Prop :=
  ∀ (m : (ℓ : Loc Cert.ExpertsTwo.nD Cert.ExpertsTwo.τ Cert.ExpertsTwo.sig) → Buf (Elt Bits) ℓ) (g : Dev Cert.ExpertsTwo.nD → PrngReg), Pre_ExpertsTwo m →
    θ_run (Cert.ExpertsTwo.defs (F := Bits)) (onTc (τ := Cert.ExpertsTwo.τ) (Cert.ExpertsTwo.main (F := Bits))) ⟨m, fun _ => 0, g⟩ (fun r => (∀ c : Dev Cert.ExpertsTwo.nD,
      r.2.mem ((c.tc : Thread Cert.ExpertsTwo.nD Cert.ExpertsTwo.τ).loc Cert.ExpertsTwo.main_arg0) = m ((c.tc : Thread Cert.ExpertsTwo.nD Cert.ExpertsTwo.τ).loc Cert.ExpertsTwo.main_arg0)
      ∧ r.2.mem ((c.tc : Thread Cert.ExpertsTwo.nD Cert.ExpertsTwo.τ).loc Cert.ExpertsTwo.main_arg1) = m ((c.tc : Thread Cert.ExpertsTwo.nD Cert.ExpertsTwo.τ).loc Cert.ExpertsTwo.main_arg1)
      ∧ r.2.mem ((c.tc : Thread Cert.ExpertsTwo.nD Cert.ExpertsTwo.τ).loc Cert.ExpertsTwo.main_arg2) = m ((c.tc : Thread Cert.ExpertsTwo.nD Cert.ExpertsTwo.τ).loc Cert.ExpertsTwo.main_arg2)
      ∧ r.2.mem ((c.tc : Thread Cert.ExpertsTwo.nD Cert.ExpertsTwo.τ).loc Cert.ExpertsTwo.main_arg3) = m ((c.tc : Thread Cert.ExpertsTwo.nD Cert.ExpertsTwo.τ).loc Cert.ExpertsTwo.main_arg3)
      ∧ r.2.mem ((c.tc : Thread Cert.ExpertsTwo.nD Cert.ExpertsTwo.τ).loc Cert.ExpertsTwo.main_arg4) = m ((c.tc : Thread Cert.ExpertsTwo.nD Cert.ExpertsTwo.τ).loc Cert.ExpertsTwo.main_arg4))
      ∧ r.2.sem = fun _ => 0)

def quiescent_ExpertsTwoIdeal [hExpertsTwoIdeal : Cert.ExpertsTwoIdeal.Facts] [hPre_experts_in_range : Cert.Pre_experts_in_range.Facts] : Prop :=
  ∀ (m : (ℓ : Loc Cert.ExpertsTwoIdeal.nD Cert.ExpertsTwoIdeal.τ Cert.ExpertsTwoIdeal.sig) → Buf (Elt Ideal) ℓ) (g : Dev Cert.ExpertsTwoIdeal.nD → PrngReg), Pre_ExpertsTwoIdeal m →
    θ_run (Cert.ExpertsTwoIdeal.defs (F := Ideal)) (onTc (τ := Cert.ExpertsTwoIdeal.τ) (Cert.ExpertsTwoIdeal.main (F := Ideal))) ⟨m, fun _ => 0, g⟩ (fun r => (∀ c : Dev Cert.ExpertsTwoIdeal.nD,
      r.2.mem ((c.tc : Thread Cert.ExpertsTwoIdeal.nD Cert.ExpertsTwoIdeal.τ).loc Cert.ExpertsTwoIdeal.main_arg0) = m ((c.tc : Thread Cert.ExpertsTwoIdeal.nD Cert.ExpertsTwoIdeal.τ).loc Cert.ExpertsTwoIdeal.main_arg0)
      ∧ r.2.mem ((c.tc : Thread Cert.ExpertsTwoIdeal.nD Cert.ExpertsTwoIdeal.τ).loc Cert.ExpertsTwoIdeal.main_arg1) = m ((c.tc : Thread Cert.ExpertsTwoIdeal.nD Cert.ExpertsTwoIdeal.τ).loc Cert.ExpertsTwoIdeal.main_arg1)
      ∧ r.2.mem ((c.tc : Thread Cert.ExpertsTwoIdeal.nD Cert.ExpertsTwoIdeal.τ).loc Cert.ExpertsTwoIdeal.main_arg2) = m ((c.tc : Thread Cert.ExpertsTwoIdeal.nD Cert.ExpertsTwoIdeal.τ).loc Cert.ExpertsTwoIdeal.main_arg2)
      ∧ r.2.mem ((c.tc : Thread Cert.ExpertsTwoIdeal.nD Cert.ExpertsTwoIdeal.τ).loc Cert.ExpertsTwoIdeal.main_arg3) = m ((c.tc : Thread Cert.ExpertsTwoIdeal.nD Cert.ExpertsTwoIdeal.τ).loc Cert.ExpertsTwoIdeal.main_arg3)
      ∧ r.2.mem ((c.tc : Thread Cert.ExpertsTwoIdeal.nD Cert.ExpertsTwoIdeal.τ).loc Cert.ExpertsTwoIdeal.main_arg4) = m ((c.tc : Thread Cert.ExpertsTwoIdeal.nD Cert.ExpertsTwoIdeal.τ).loc Cert.ExpertsTwoIdeal.main_arg4))
      ∧ r.2.sem = fun _ => 0)

def quiescent_ExpertsTwoReferenceIdeal [hExpertsTwoReferenceIdeal : Cert.ExpertsTwoReferenceIdeal.Facts] : Prop :=
  ∀ (m : (ℓ : Loc Cert.ExpertsTwoReferenceIdeal.nD Cert.ExpertsTwoReferenceIdeal.τ Cert.ExpertsTwoReferenceIdeal.sig) → Buf (Elt Ideal) ℓ) (g : Dev Cert.ExpertsTwoReferenceIdeal.nD → PrngReg), Pre_ExpertsTwoReferenceIdeal m →
    θ_run (Cert.ExpertsTwoReferenceIdeal.defs (F := Ideal)) (onTc (τ := Cert.ExpertsTwoReferenceIdeal.τ) (Cert.ExpertsTwoReferenceIdeal.main (F := Ideal))) ⟨m, fun _ => 0, g⟩ (fun r => (∀ c : Dev Cert.ExpertsTwoReferenceIdeal.nD,
      r.2.mem ((c.tc : Thread Cert.ExpertsTwoReferenceIdeal.nD Cert.ExpertsTwoReferenceIdeal.τ).loc Cert.ExpertsTwoReferenceIdeal.main_arg0) = m ((c.tc : Thread Cert.ExpertsTwoReferenceIdeal.nD Cert.ExpertsTwoReferenceIdeal.τ).loc Cert.ExpertsTwoReferenceIdeal.main_arg0)
      ∧ r.2.mem ((c.tc : Thread Cert.ExpertsTwoReferenceIdeal.nD Cert.ExpertsTwoReferenceIdeal.τ).loc Cert.ExpertsTwoReferenceIdeal.main_arg1) = m ((c.tc : Thread Cert.ExpertsTwoReferenceIdeal.nD Cert.ExpertsTwoReferenceIdeal.τ).loc Cert.ExpertsTwoReferenceIdeal.main_arg1)
      ∧ r.2.mem ((c.tc : Thread Cert.ExpertsTwoReferenceIdeal.nD Cert.ExpertsTwoReferenceIdeal.τ).loc Cert.ExpertsTwoReferenceIdeal.main_arg2) = m ((c.tc : Thread Cert.ExpertsTwoReferenceIdeal.nD Cert.ExpertsTwoReferenceIdeal.τ).loc Cert.ExpertsTwoReferenceIdeal.main_arg2)
      ∧ r.2.mem ((c.tc : Thread Cert.ExpertsTwoReferenceIdeal.nD Cert.ExpertsTwoReferenceIdeal.τ).loc Cert.ExpertsTwoReferenceIdeal.main_arg3) = m ((c.tc : Thread Cert.ExpertsTwoReferenceIdeal.nD Cert.ExpertsTwoReferenceIdeal.τ).loc Cert.ExpertsTwoReferenceIdeal.main_arg3)
      ∧ r.2.mem ((c.tc : Thread Cert.ExpertsTwoReferenceIdeal.nD Cert.ExpertsTwoReferenceIdeal.τ).loc Cert.ExpertsTwoReferenceIdeal.main_arg4) = m ((c.tc : Thread Cert.ExpertsTwoReferenceIdeal.nD Cert.ExpertsTwoReferenceIdeal.τ).loc Cert.ExpertsTwoReferenceIdeal.main_arg4))
      ∧ r.2.sem = fun _ => 0)

def quiescent_ExpertsTwoReferenceIdeal_pre_experts_in_range [hExpertsTwoReferenceIdeal : Cert.ExpertsTwoReferenceIdeal.Facts] [hPre_experts_in_range : Cert.Pre_experts_in_range.Facts] : Prop :=
  ∀ (m : (ℓ : Loc Cert.ExpertsTwoReferenceIdeal.nD Cert.ExpertsTwoReferenceIdeal.τ Cert.ExpertsTwoReferenceIdeal.sig) → Buf (Elt Ideal) ℓ) (g : Dev Cert.ExpertsTwoReferenceIdeal.nD → PrngReg), Pre_ExpertsTwoReferenceIdeal_experts_in_range m →
    θ_run (Cert.ExpertsTwoReferenceIdeal.defs (F := Ideal)) (onTc (τ := Cert.ExpertsTwoReferenceIdeal.τ) (Cert.ExpertsTwoReferenceIdeal.main (F := Ideal))) ⟨m, fun _ => 0, g⟩ (fun r => (∀ c : Dev Cert.ExpertsTwoReferenceIdeal.nD,
      r.2.mem ((c.tc : Thread Cert.ExpertsTwoReferenceIdeal.nD Cert.ExpertsTwoReferenceIdeal.τ).loc Cert.ExpertsTwoReferenceIdeal.main_arg0) = m ((c.tc : Thread Cert.ExpertsTwoReferenceIdeal.nD Cert.ExpertsTwoReferenceIdeal.τ).loc Cert.ExpertsTwoReferenceIdeal.main_arg0)
      ∧ r.2.mem ((c.tc : Thread Cert.ExpertsTwoReferenceIdeal.nD Cert.ExpertsTwoReferenceIdeal.τ).loc Cert.ExpertsTwoReferenceIdeal.main_arg1) = m ((c.tc : Thread Cert.ExpertsTwoReferenceIdeal.nD Cert.ExpertsTwoReferenceIdeal.τ).loc Cert.ExpertsTwoReferenceIdeal.main_arg1)
      ∧ r.2.mem ((c.tc : Thread Cert.ExpertsTwoReferenceIdeal.nD Cert.ExpertsTwoReferenceIdeal.τ).loc Cert.ExpertsTwoReferenceIdeal.main_arg2) = m ((c.tc : Thread Cert.ExpertsTwoReferenceIdeal.nD Cert.ExpertsTwoReferenceIdeal.τ).loc Cert.ExpertsTwoReferenceIdeal.main_arg2)
      ∧ r.2.mem ((c.tc : Thread Cert.ExpertsTwoReferenceIdeal.nD Cert.ExpertsTwoReferenceIdeal.τ).loc Cert.ExpertsTwoReferenceIdeal.main_arg3) = m ((c.tc : Thread Cert.ExpertsTwoReferenceIdeal.nD Cert.ExpertsTwoReferenceIdeal.τ).loc Cert.ExpertsTwoReferenceIdeal.main_arg3)
      ∧ r.2.mem ((c.tc : Thread Cert.ExpertsTwoReferenceIdeal.nD Cert.ExpertsTwoReferenceIdeal.τ).loc Cert.ExpertsTwoReferenceIdeal.main_arg4) = m ((c.tc : Thread Cert.ExpertsTwoReferenceIdeal.nD Cert.ExpertsTwoReferenceIdeal.τ).loc Cert.ExpertsTwoReferenceIdeal.main_arg4))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2)
      ∧ r.2.mem ((c.tc : Thread Cert.SsdIn.nD Cert.SsdIn.τ).loc Cert.SsdIn.main_arg3) = m ((c.tc : Thread Cert.SsdIn.nD Cert.SsdIn.τ).loc Cert.SsdIn.main_arg3)
      ∧ r.2.mem ((c.tc : Thread Cert.SsdIn.nD Cert.SsdIn.τ).loc Cert.SsdIn.main_arg4) = m ((c.tc : Thread Cert.SsdIn.nD Cert.SsdIn.τ).loc Cert.SsdIn.main_arg4)
      ∧ r.2.mem ((c.tc : Thread Cert.SsdIn.nD Cert.SsdIn.τ).loc Cert.SsdIn.main_arg5) = m ((c.tc : Thread Cert.SsdIn.nD Cert.SsdIn.τ).loc Cert.SsdIn.main_arg5)
      ∧ r.2.mem ((c.tc : Thread Cert.SsdIn.nD Cert.SsdIn.τ).loc Cert.SsdIn.main_arg6) = m ((c.tc : Thread Cert.SsdIn.nD Cert.SsdIn.τ).loc Cert.SsdIn.main_arg6)
      ∧ r.2.mem ((c.tc : Thread Cert.SsdIn.nD Cert.SsdIn.τ).loc Cert.SsdIn.main_arg7) = m ((c.tc : Thread Cert.SsdIn.nD Cert.SsdIn.τ).loc Cert.SsdIn.main_arg7))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
      ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
      ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5)
      ∧ r.2.mem ((c.tc : Thread Cert.SsdInIdeal.nD Cert.SsdInIdeal.τ).loc Cert.SsdInIdeal.main_arg6) = m ((c.tc : Thread Cert.SsdInIdeal.nD Cert.SsdInIdeal.τ).loc Cert.SsdInIdeal.main_arg6)
      ∧ r.2.mem ((c.tc : Thread Cert.SsdInIdeal.nD Cert.SsdInIdeal.τ).loc Cert.SsdInIdeal.main_arg7) = m ((c.tc : Thread Cert.SsdInIdeal.nD Cert.SsdInIdeal.τ).loc Cert.SsdInIdeal.main_arg7))
      ∧ r.2.sem = fun _ => 0)

def quiescent_SsdInReferenceIdeal [hSsdInReferenceIdeal : Cert.SsdInReferenceIdeal.Facts] : Prop :=
  ∀ (m : (ℓ : Loc Cert.SsdInReferenceIdeal.nD Cert.SsdInReferenceIdeal.τ Cert.SsdInReferenceIdeal.sig) → Buf (Elt Ideal) ℓ) (g : Dev Cert.SsdInReferenceIdeal.nD → PrngReg), Pre_SsdInReferenceIdeal m →
    θ_run (Cert.SsdInReferenceIdeal.defs (F := Ideal)) (onTc (τ := Cert.SsdInReferenceIdeal.τ) (Cert.SsdInReferenceIdeal.main (F := Ideal))) ⟨m, fun _ => 0, g⟩ (fun r => (∀ c : Dev Cert.SsdInReferenceIdeal.nD,
      r.2.mem ((c.tc : Thread Cert.SsdInReferenceIdeal.nD Cert.SsdInReferenceIdeal.τ).loc Cert.SsdInReferenceIdeal.main_arg0) = m ((c.tc : Thread Cert.SsdInReferenceIdeal.nD Cert.SsdInReferenceIdeal.τ).loc Cert.SsdInReferenceIdeal.main_arg0)
      ∧ r.2.mem ((c.tc : Thread Cert.SsdInReferenceIdeal.nD Cert.SsdInReferenceIdeal.τ).loc Cert.SsdInReferenceIdeal.main_arg1) = m ((c.tc : Thread Cert.SsdInReferenceIdeal.nD Cert.SsdInReferenceIdeal.τ).loc Cert.SsdInReferenceIdeal.main_arg1)
      ∧ r.2.mem ((c.tc : Thread Cert.SsdInReferenceIdeal.nD Cert.SsdInReferenceIdeal.τ).loc Cert.SsdInReferenceIdeal.main_arg2) = m ((c.tc : Thread Cert.SsdInReferenceIdeal.nD Cert.SsdInReferenceIdeal.τ).loc Cert.SsdInReferenceIdeal.main_arg2)
      ∧ r.2.mem ((c.tc : Thread Cert.SsdInReferenceIdeal.nD Cert.SsdInReferenceIdeal.τ).loc Cert.SsdInReferenceIdeal.main_arg3) = m ((c.tc : Thread Cert.SsdInReferenceIdeal.nD Cert.SsdInReferenceIdeal.τ).loc Cert.SsdInReferenceIdeal.main_arg3)
      ∧ r.2.mem ((c.tc : Thread Cert.SsdInReferenceIdeal.nD Cert.SsdInReferenceIdeal.τ).loc Cert.SsdInReferenceIdeal.main_arg4) = m ((c.tc : Thread Cert.SsdInReferenceIdeal.nD Cert.SsdInReferenceIdeal.τ).loc Cert.SsdInReferenceIdeal.main_arg4)
      ∧ r.2.mem ((c.tc : Thread Cert.SsdInReferenceIdeal.nD Cert.SsdInReferenceIdeal.τ).loc Cert.SsdInReferenceIdeal.main_arg5) = m ((c.tc : Thread Cert.SsdInReferenceIdeal.nD Cert.SsdInReferenceIdeal.τ).loc Cert.SsdInReferenceIdeal.main_arg5)
      ∧ r.2.mem ((c.tc : Thread Cert.SsdInReferenceIdeal.nD Cert.SsdInReferenceIdeal.τ).loc Cert.SsdInReferenceIdeal.main_arg6) = m ((c.tc : Thread Cert.SsdInReferenceIdeal.nD Cert.SsdInReferenceIdeal.τ).loc Cert.SsdInReferenceIdeal.main_arg6)
      ∧ r.2.mem ((c.tc : Thread Cert.SsdInReferenceIdeal.nD Cert.SsdInReferenceIdeal.τ).loc Cert.SsdInReferenceIdeal.main_arg7) = m ((c.tc : Thread Cert.SsdInReferenceIdeal.nD Cert.SsdInReferenceIdeal.τ).loc Cert.SsdInReferenceIdeal.main_arg7))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3)
      ∧ r.2.mem ((c.tc : Thread Cert.SsdOut.nD Cert.SsdOut.τ).loc Cert.SsdOut.main_arg4) = m ((c.tc : Thread Cert.SsdOut.nD Cert.SsdOut.τ).loc Cert.SsdOut.main_arg4)
      ∧ r.2.mem ((c.tc : Thread Cert.SsdOut.nD Cert.SsdOut.τ).loc Cert.SsdOut.main_arg5) = m ((c.tc : Thread Cert.SsdOut.nD Cert.SsdOut.τ).loc Cert.SsdOut.main_arg5)
      ∧ r.2.mem ((c.tc : Thread Cert.SsdOut.nD Cert.SsdOut.τ).loc Cert.SsdOut.main_arg6) = m ((c.tc : Thread Cert.SsdOut.nD Cert.SsdOut.τ).loc Cert.SsdOut.main_arg6)
      ∧ r.2.mem ((c.tc : Thread Cert.SsdOut.nD Cert.SsdOut.τ).loc Cert.SsdOut.main_arg7) = m ((c.tc : Thread Cert.SsdOut.nD Cert.SsdOut.τ).loc Cert.SsdOut.main_arg7)
      ∧ r.2.mem ((c.tc : Thread Cert.SsdOut.nD Cert.SsdOut.τ).loc Cert.SsdOut.main_arg8) = m ((c.tc : Thread Cert.SsdOut.nD Cert.SsdOut.τ).loc Cert.SsdOut.main_arg8)
      ∧ r.2.mem ((c.tc : Thread Cert.SsdOut.nD Cert.SsdOut.τ).loc Cert.SsdOut.main_arg9) = m ((c.tc : Thread Cert.SsdOut.nD Cert.SsdOut.τ).loc Cert.SsdOut.main_arg9)
      ∧ r.2.mem ((c.tc : Thread Cert.SsdOut.nD Cert.SsdOut.τ).loc Cert.SsdOut.main_arg10) = m ((c.tc : Thread Cert.SsdOut.nD Cert.SsdOut.τ).loc Cert.SsdOut.main_arg10)
      ∧ r.2.mem ((c.tc : Thread Cert.SsdOut.nD Cert.SsdOut.τ).loc Cert.SsdOut.main_arg11) = m ((c.tc : Thread Cert.SsdOut.nD Cert.SsdOut.τ).loc Cert.SsdOut.main_arg11)
      ∧ r.2.mem ((c.tc : Thread Cert.SsdOut.nD Cert.SsdOut.τ).loc Cert.SsdOut.main_arg12) = m ((c.tc : Thread Cert.SsdOut.nD Cert.SsdOut.τ).loc Cert.SsdOut.main_arg12))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
      ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
      ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6)
      ∧ r.2.mem ((c.tc : Thread Cert.SsdOutIdeal.nD Cert.SsdOutIdeal.τ).loc Cert.SsdOutIdeal.main_arg7) = m ((c.tc : Thread Cert.SsdOutIdeal.nD Cert.SsdOutIdeal.τ).loc Cert.SsdOutIdeal.main_arg7)
      ∧ r.2.mem ((c.tc : Thread Cert.SsdOutIdeal.nD Cert.SsdOutIdeal.τ).loc Cert.SsdOutIdeal.main_arg8) = m ((c.tc : Thread Cert.SsdOutIdeal.nD Cert.SsdOutIdeal.τ).loc Cert.SsdOutIdeal.main_arg8)
      ∧ r.2.mem ((c.tc : Thread Cert.SsdOutIdeal.nD Cert.SsdOutIdeal.τ).loc Cert.SsdOutIdeal.main_arg9) = m ((c.tc : Thread Cert.SsdOutIdeal.nD Cert.SsdOutIdeal.τ).loc Cert.SsdOutIdeal.main_arg9)
      ∧ r.2.mem ((c.tc : Thread Cert.SsdOutIdeal.nD Cert.SsdOutIdeal.τ).loc Cert.SsdOutIdeal.main_arg10) = m ((c.tc : Thread Cert.SsdOutIdeal.nD Cert.SsdOutIdeal.τ).loc Cert.SsdOutIdeal.main_arg10)
      ∧ r.2.mem ((c.tc : Thread Cert.SsdOutIdeal.nD Cert.SsdOutIdeal.τ).loc Cert.SsdOutIdeal.main_arg11) = m ((c.tc : Thread Cert.SsdOutIdeal.nD Cert.SsdOutIdeal.τ).loc Cert.SsdOutIdeal.main_arg11)
      ∧ r.2.mem ((c.tc : Thread Cert.SsdOutIdeal.nD Cert.SsdOutIdeal.τ).loc Cert.SsdOutIdeal.main_arg12) = m ((c.tc : Thread Cert.SsdOutIdeal.nD Cert.SsdOutIdeal.τ).loc Cert.SsdOutIdeal.main_arg12))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1)
      ∧ r.2.mem ((c.tc : Thread Cert.SsdOutReferenceIdeal.nD Cert.SsdOutReferenceIdeal.τ).loc Cert.SsdOutReferenceIdeal.main_arg2) = m ((c.tc : Thread Cert.SsdOutReferenceIdeal.nD Cert.SsdOutReferenceIdeal.τ).loc Cert.SsdOutReferenceIdeal.main_arg2)
      ∧ r.2.mem ((c.tc : Thread Cert.SsdOutReferenceIdeal.nD Cert.SsdOutReferenceIdeal.τ).loc Cert.SsdOutReferenceIdeal.main_arg3) = m ((c.tc : Thread Cert.SsdOutReferenceIdeal.nD Cert.SsdOutReferenceIdeal.τ).loc Cert.SsdOutReferenceIdeal.main_arg3)
      ∧ r.2.mem ((c.tc : Thread Cert.SsdOutReferenceIdeal.nD Cert.SsdOutReferenceIdeal.τ).loc Cert.SsdOutReferenceIdeal.main_arg4) = m ((c.tc : Thread Cert.SsdOutReferenceIdeal.nD Cert.SsdOutReferenceIdeal.τ).loc Cert.SsdOutReferenceIdeal.main_arg4)
      ∧ r.2.mem ((c.tc : Thread Cert.SsdOutReferenceIdeal.nD Cert.SsdOutReferenceIdeal.τ).loc Cert.SsdOutReferenceIdeal.main_arg5) = m ((c.tc : Thread Cert.SsdOutReferenceIdeal.nD Cert.SsdOutReferenceIdeal.τ).loc Cert.SsdOutReferenceIdeal.main_arg5)
      ∧ r.2.mem ((c.tc : Thread Cert.SsdOutReferenceIdeal.nD Cert.SsdOutReferenceIdeal.τ).loc Cert.SsdOutReferenceIdeal.main_arg6) = m ((c.tc : Thread Cert.SsdOutReferenceIdeal.nD Cert.SsdOutReferenceIdeal.τ).loc Cert.SsdOutReferenceIdeal.main_arg6)
      ∧ r.2.mem ((c.tc : Thread Cert.SsdOutReferenceIdeal.nD Cert.SsdOutReferenceIdeal.τ).loc Cert.SsdOutReferenceIdeal.main_arg7) = m ((c.tc : Thread Cert.SsdOutReferenceIdeal.nD Cert.SsdOutReferenceIdeal.τ).loc Cert.SsdOutReferenceIdeal.main_arg7)
      ∧ r.2.mem ((c.tc : Thread Cert.SsdOutReferenceIdeal.nD Cert.SsdOutReferenceIdeal.τ).loc Cert.SsdOutReferenceIdeal.main_arg8) = m ((c.tc : Thread Cert.SsdOutReferenceIdeal.nD Cert.SsdOutReferenceIdeal.τ).loc Cert.SsdOutReferenceIdeal.main_arg8)
      ∧ r.2.mem ((c.tc : Thread Cert.SsdOutReferenceIdeal.nD Cert.SsdOutReferenceIdeal.τ).loc Cert.SsdOutReferenceIdeal.main_arg9) = m ((c.tc : Thread Cert.SsdOutReferenceIdeal.nD Cert.SsdOutReferenceIdeal.τ).loc Cert.SsdOutReferenceIdeal.main_arg9)
      ∧ r.2.mem ((c.tc : Thread Cert.SsdOutReferenceIdeal.nD Cert.SsdOutReferenceIdeal.τ).loc Cert.SsdOutReferenceIdeal.main_arg10) = m ((c.tc : Thread Cert.SsdOutReferenceIdeal.nD Cert.SsdOutReferenceIdeal.τ).loc Cert.SsdOutReferenceIdeal.main_arg10)
      ∧ r.2.mem ((c.tc : Thread Cert.SsdOutReferenceIdeal.nD Cert.SsdOutReferenceIdeal.τ).loc Cert.SsdOutReferenceIdeal.main_arg11) = m ((c.tc : Thread Cert.SsdOutReferenceIdeal.nD Cert.SsdOutReferenceIdeal.τ).loc Cert.SsdOutReferenceIdeal.main_arg11)
      ∧ r.2.mem ((c.tc : Thread Cert.SsdOutReferenceIdeal.nD Cert.SsdOutReferenceIdeal.τ).loc Cert.SsdOutReferenceIdeal.main_arg12) = m ((c.tc : Thread Cert.SsdOutReferenceIdeal.nD Cert.SsdOutReferenceIdeal.τ).loc Cert.SsdOutReferenceIdeal.main_arg12))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7)
      ∧ r.2.mem ((c.tc : Thread Cert.MixOutReferenceIdeal.nD Cert.MixOutReferenceIdeal.τ).loc Cert.MixOutReferenceIdeal.main_arg8) = m ((c.tc : Thread Cert.MixOutReferenceIdeal.nD Cert.MixOutReferenceIdeal.τ).loc Cert.MixOutReferenceIdeal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v37) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_ExpertsTwo_ExpertsTwoIdeal : Prop :=
  True

def algebraic_ExpertsTwoIdeal_ExpertsTwoReferenceIdeal [hExpertsTwoIdeal : Cert.ExpertsTwoIdeal.Facts] [hExpertsTwoReferenceIdeal : Cert.ExpertsTwoReferenceIdeal.Facts] [hPre_experts_in_range : Cert.Pre_experts_in_range.Facts] : Prop :=
  ∀ (m : (ℓ : Loc Cert.ExpertsTwoIdeal.nD Cert.ExpertsTwoIdeal.τ Cert.ExpertsTwoIdeal.sig) → Buf (Elt Ideal) ℓ) (g : Dev Cert.ExpertsTwoIdeal.nD → PrngReg)
    (m' : (ℓ : Loc Cert.ExpertsTwoReferenceIdeal.nD Cert.ExpertsTwoReferenceIdeal.τ Cert.ExpertsTwoReferenceIdeal.sig) → Buf (Elt Ideal) ℓ) (g' : Dev Cert.ExpertsTwoReferenceIdeal.nD → PrngReg), Pre_ExpertsTwoIdeal m →
    (∀ c : Dev Cert.ExpertsTwoIdeal.nD,
      m' ((c.tc : Thread Cert.ExpertsTwoReferenceIdeal.nD Cert.ExpertsTwoReferenceIdeal.τ).loc Cert.ExpertsTwoReferenceIdeal.main_arg0) = m ((c.tc : Thread Cert.ExpertsTwoIdeal.nD Cert.ExpertsTwoIdeal.τ).loc Cert.ExpertsTwoIdeal.main_arg0)
      ∧ m' ((c.tc : Thread Cert.ExpertsTwoReferenceIdeal.nD Cert.ExpertsTwoReferenceIdeal.τ).loc Cert.ExpertsTwoReferenceIdeal.main_arg1) = m ((c.tc : Thread Cert.ExpertsTwoIdeal.nD Cert.ExpertsTwoIdeal.τ).loc Cert.ExpertsTwoIdeal.main_arg1)
      ∧ m' ((c.tc : Thread Cert.ExpertsTwoReferenceIdeal.nD Cert.ExpertsTwoReferenceIdeal.τ).loc Cert.ExpertsTwoReferenceIdeal.main_arg2) = m ((c.tc : Thread Cert.ExpertsTwoIdeal.nD Cert.ExpertsTwoIdeal.τ).loc Cert.ExpertsTwoIdeal.main_arg2)
      ∧ m' ((c.tc : Thread Cert.ExpertsTwoReferenceIdeal.nD Cert.ExpertsTwoReferenceIdeal.τ).loc Cert.ExpertsTwoReferenceIdeal.main_arg3) = m ((c.tc : Thread Cert.ExpertsTwoIdeal.nD Cert.ExpertsTwoIdeal.τ).loc Cert.ExpertsTwoIdeal.main_arg3)
      ∧ m' ((c.tc : Thread Cert.ExpertsTwoReferenceIdeal.nD Cert.ExpertsTwoReferenceIdeal.τ).loc Cert.ExpertsTwoReferenceIdeal.main_arg4) = m ((c.tc : Thread Cert.ExpertsTwoIdeal.nD Cert.ExpertsTwoIdeal.τ).loc Cert.ExpertsTwoIdeal.main_arg4)) →
    ∃ (v0 : (c : Dev Cert.ExpertsTwoIdeal.nD) → Buf (Elt Ideal) ((c.tc : Thread Cert.ExpertsTwoIdeal.nD Cert.ExpertsTwoIdeal.τ).loc Cert.ExpertsTwoIdeal.main_v0)),
      θ_run (Cert.ExpertsTwoIdeal.defs (F := Ideal)) (onTc (τ := Cert.ExpertsTwoIdeal.τ) (Cert.ExpertsTwoIdeal.main (F := Ideal))) ⟨m, fun _ => 0, g⟩ (fun r => ∀ c : Dev Cert.ExpertsTwoIdeal.nD,
          r.2.mem ((c.tc : Thread Cert.ExpertsTwoIdeal.nD Cert.ExpertsTwoIdeal.τ).loc Cert.ExpertsTwoIdeal.main_v0) = v0 c
          ∧ r.2.mem ((c.tc : Thread Cert.ExpertsTwoIdeal.nD Cert.ExpertsTwoIdeal.τ).loc Cert.ExpertsTwoIdeal.main_arg0) = m ((c.tc : Thread Cert.ExpertsTwoIdeal.nD Cert.ExpertsTwoIdeal.τ).loc Cert.ExpertsTwoIdeal.main_arg0)
          ∧ r.2.mem ((c.tc : Thread Cert.ExpertsTwoIdeal.nD Cert.ExpertsTwoIdeal.τ).loc Cert.ExpertsTwoIdeal.main_arg1) = m ((c.tc : Thread Cert.ExpertsTwoIdeal.nD Cert.ExpertsTwoIdeal.τ).loc Cert.ExpertsTwoIdeal.main_arg1)
          ∧ r.2.mem ((c.tc : Thread Cert.ExpertsTwoIdeal.nD Cert.ExpertsTwoIdeal.τ).loc Cert.ExpertsTwoIdeal.main_arg2) = m ((c.tc : Thread Cert.ExpertsTwoIdeal.nD Cert.ExpertsTwoIdeal.τ).loc Cert.ExpertsTwoIdeal.main_arg2)
          ∧ r.2.mem ((c.tc : Thread Cert.ExpertsTwoIdeal.nD Cert.ExpertsTwoIdeal.τ).loc Cert.ExpertsTwoIdeal.main_arg3) = m ((c.tc : Thread Cert.ExpertsTwoIdeal.nD Cert.ExpertsTwoIdeal.τ).loc Cert.ExpertsTwoIdeal.main_arg3)
          ∧ r.2.mem ((c.tc : Thread Cert.ExpertsTwoIdeal.nD Cert.ExpertsTwoIdeal.τ).loc Cert.ExpertsTwoIdeal.main_arg4) = m ((c.tc : Thread Cert.ExpertsTwoIdeal.nD Cert.ExpertsTwoIdeal.τ).loc Cert.ExpertsTwoIdeal.main_arg4))
      ∧ θ_run (Cert.ExpertsTwoReferenceIdeal.defs (F := Ideal)) (onTc (τ := Cert.ExpertsTwoReferenceIdeal.τ) (Cert.ExpertsTwoReferenceIdeal.main (F := Ideal))) ⟨m', fun _ => 0, g'⟩ (fun r => ∀ c : Dev Cert.ExpertsTwoReferenceIdeal.nD,
          r.2.mem ((c.tc : Thread Cert.ExpertsTwoReferenceIdeal.nD Cert.ExpertsTwoReferenceIdeal.τ).loc Cert.ExpertsTwoReferenceIdeal.main_v37) = v0 c
          ∧ r.2.mem ((c.tc : Thread Cert.ExpertsTwoReferenceIdeal.nD Cert.ExpertsTwoReferenceIdeal.τ).loc Cert.ExpertsTwoReferenceIdeal.main_arg0) = m' ((c.tc : Thread Cert.ExpertsTwoReferenceIdeal.nD Cert.ExpertsTwoReferenceIdeal.τ).loc Cert.ExpertsTwoReferenceIdeal.main_arg0)
          ∧ r.2.mem ((c.tc : Thread Cert.ExpertsTwoReferenceIdeal.nD Cert.ExpertsTwoReferenceIdeal.τ).loc Cert.ExpertsTwoReferenceIdeal.main_arg1) = m' ((c.tc : Thread Cert.ExpertsTwoReferenceIdeal.nD Cert.ExpertsTwoReferenceIdeal.τ).loc Cert.ExpertsTwoReferenceIdeal.main_arg1)
          ∧ r.2.mem ((c.tc : Thread Cert.ExpertsTwoReferenceIdeal.nD Cert.ExpertsTwoReferenceIdeal.τ).loc Cert.ExpertsTwoReferenceIdeal.main_arg2) = m' ((c.tc : Thread Cert.ExpertsTwoReferenceIdeal.nD Cert.ExpertsTwoReferenceIdeal.τ).loc Cert.ExpertsTwoReferenceIdeal.main_arg2)
          ∧ r.2.mem ((c.tc : Thread Cert.ExpertsTwoReferenceIdeal.nD Cert.ExpertsTwoReferenceIdeal.τ).loc Cert.ExpertsTwoReferenceIdeal.main_arg3) = m' ((c.tc : Thread Cert.ExpertsTwoReferenceIdeal.nD Cert.ExpertsTwoReferenceIdeal.τ).loc Cert.ExpertsTwoReferenceIdeal.main_arg3)
          ∧ r.2.mem ((c.tc : Thread Cert.ExpertsTwoReferenceIdeal.nD Cert.ExpertsTwoReferenceIdeal.τ).loc Cert.ExpertsTwoReferenceIdeal.main_arg4) = m' ((c.tc : Thread Cert.ExpertsTwoReferenceIdeal.nD Cert.ExpertsTwoReferenceIdeal.τ).loc Cert.ExpertsTwoReferenceIdeal.main_arg4))

def preserves_SsdIn_SsdInIdeal : Prop :=
  True

def algebraic_SsdInIdeal_SsdInReferenceIdeal [hSsdInIdeal : Cert.SsdInIdeal.Facts] [hSsdInReferenceIdeal : Cert.SsdInReferenceIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInReferenceIdeal.nD Cert.SsdInReferenceIdeal.τ Cert.SsdInReferenceIdeal.sig) → Buf (Elt Ideal) ℓ) (g' : Dev Cert.SsdInReferenceIdeal.nD → PrngReg), Pre_SsdInIdeal m →
    (∀ c : Dev Cert.SsdInIdeal.nD,
      m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0)
      ∧ m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1)
      ∧ m' ((c.tc : Thread Cert.SsdInReferenceIdeal.nD Cert.SsdInReferenceIdeal.τ).loc Cert.SsdInReferenceIdeal.main_arg2) = m ((c.tc : Thread Cert.SsdInIdeal.nD Cert.SsdInIdeal.τ).loc Cert.SsdInIdeal.main_arg2)
      ∧ m' ((c.tc : Thread Cert.SsdInReferenceIdeal.nD Cert.SsdInReferenceIdeal.τ).loc Cert.SsdInReferenceIdeal.main_arg3) = m ((c.tc : Thread Cert.SsdInIdeal.nD Cert.SsdInIdeal.τ).loc Cert.SsdInIdeal.main_arg3)
      ∧ m' ((c.tc : Thread Cert.SsdInReferenceIdeal.nD Cert.SsdInReferenceIdeal.τ).loc Cert.SsdInReferenceIdeal.main_arg4) = m ((c.tc : Thread Cert.SsdInIdeal.nD Cert.SsdInIdeal.τ).loc Cert.SsdInIdeal.main_arg4)
      ∧ m' ((c.tc : Thread Cert.SsdInReferenceIdeal.nD Cert.SsdInReferenceIdeal.τ).loc Cert.SsdInReferenceIdeal.main_arg5) = m ((c.tc : Thread Cert.SsdInIdeal.nD Cert.SsdInIdeal.τ).loc Cert.SsdInIdeal.main_arg5)
      ∧ m' ((c.tc : Thread Cert.SsdInReferenceIdeal.nD Cert.SsdInReferenceIdeal.τ).loc Cert.SsdInReferenceIdeal.main_arg6) = m ((c.tc : Thread Cert.SsdInIdeal.nD Cert.SsdInIdeal.τ).loc Cert.SsdInIdeal.main_arg6)
      ∧ m' ((c.tc : Thread Cert.SsdInReferenceIdeal.nD Cert.SsdInReferenceIdeal.τ).loc Cert.SsdInReferenceIdeal.main_arg7) = m ((c.tc : Thread Cert.SsdInIdeal.nD Cert.SsdInIdeal.τ).loc Cert.SsdInIdeal.main_arg7)) →
    ∃ (v0 : (c : Dev Cert.SsdInIdeal.nD) → Buf (Elt Ideal) ((c.tc : Thread Cert.SsdInIdeal.nD Cert.SsdInIdeal.τ).loc Cert.SsdInIdeal.main_v7_0)) (v1 : (c : Dev Cert.SsdInIdeal.nD) → Buf (Elt Ideal) ((c.tc : Thread Cert.SsdInIdeal.nD Cert.SsdInIdeal.τ).loc Cert.SsdInIdeal.main_v7_1)) (v2 : (c : Dev Cert.SsdInIdeal.nD) → Buf (Elt Ideal) ((c.tc : Thread Cert.SsdInIdeal.nD Cert.SsdInIdeal.τ).loc Cert.SsdInIdeal.main_v7_2)) (v3 : (c : Dev Cert.SsdInIdeal.nD) → Buf (Elt Ideal) ((c.tc : Thread Cert.SsdInIdeal.nD Cert.SsdInIdeal.τ).loc Cert.SsdInIdeal.main_v7_3)) (v4 : (c : Dev Cert.SsdInIdeal.nD) → Buf (Elt Ideal) ((c.tc : Thread Cert.SsdInIdeal.nD Cert.SsdInIdeal.τ).loc Cert.SsdInIdeal.main_v7_4)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v7_0) = v0 c
          ∧ r.2.mem ((c.tc : Thread Cert.SsdInIdeal.nD Cert.SsdInIdeal.τ).loc Cert.SsdInIdeal.main_v7_1) = v1 c
          ∧ r.2.mem ((c.tc : Thread Cert.SsdInIdeal.nD Cert.SsdInIdeal.τ).loc Cert.SsdInIdeal.main_v7_2) = v2 c
          ∧ r.2.mem ((c.tc : Thread Cert.SsdInIdeal.nD Cert.SsdInIdeal.τ).loc Cert.SsdInIdeal.main_v7_3) = v3 c
          ∧ r.2.mem ((c.tc : Thread Cert.SsdInIdeal.nD Cert.SsdInIdeal.τ).loc Cert.SsdInIdeal.main_v7_4) = v4 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
          ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
          ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
          ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5)
          ∧ r.2.mem ((c.tc : Thread Cert.SsdInIdeal.nD Cert.SsdInIdeal.τ).loc Cert.SsdInIdeal.main_arg6) = m ((c.tc : Thread Cert.SsdInIdeal.nD Cert.SsdInIdeal.τ).loc Cert.SsdInIdeal.main_arg6)
          ∧ r.2.mem ((c.tc : Thread Cert.SsdInIdeal.nD Cert.SsdInIdeal.τ).loc Cert.SsdInIdeal.main_arg7) = m ((c.tc : Thread Cert.SsdInIdeal.nD Cert.SsdInIdeal.τ).loc Cert.SsdInIdeal.main_arg7))
      ∧ θ_run (Cert.SsdInReferenceIdeal.defs (F := Ideal)) (onTc (τ := Cert.SsdInReferenceIdeal.τ) (Cert.SsdInReferenceIdeal.main (F := Ideal))) ⟨m', fun _ => 0, g'⟩ (fun r => ∀ c : Dev Cert.SsdInReferenceIdeal.nD,
          r.2.mem ((c.tc : Thread Cert.SsdInReferenceIdeal.nD Cert.SsdInReferenceIdeal.τ).loc Cert.SsdInReferenceIdeal.main_v7) = v0 c
          ∧ r.2.mem ((c.tc : Thread Cert.SsdInReferenceIdeal.nD Cert.SsdInReferenceIdeal.τ).loc Cert.SsdInReferenceIdeal.main_v37) = v1 c
          ∧ r.2.mem ((c.tc : Thread Cert.SsdInReferenceIdeal.nD Cert.SsdInReferenceIdeal.τ).loc Cert.SsdInReferenceIdeal.main_v38) = v2 c
          ∧ r.2.mem ((c.tc : Thread Cert.SsdInReferenceIdeal.nD Cert.SsdInReferenceIdeal.τ).loc Cert.SsdInReferenceIdeal.main_v39) = v3 c
          ∧ r.2.mem ((c.tc : Thread Cert.SsdInReferenceIdeal.nD Cert.SsdInReferenceIdeal.τ).loc Cert.SsdInReferenceIdeal.main_v51) = v4 c
          ∧ r.2.mem ((c.tc : Thread Cert.SsdInReferenceIdeal.nD Cert.SsdInReferenceIdeal.τ).loc Cert.SsdInReferenceIdeal.main_arg0) = m' ((c.tc : Thread Cert.SsdInReferenceIdeal.nD Cert.SsdInReferenceIdeal.τ).loc Cert.SsdInReferenceIdeal.main_arg0)
          ∧ r.2.mem ((c.tc : Thread Cert.SsdInReferenceIdeal.nD Cert.SsdInReferenceIdeal.τ).loc Cert.SsdInReferenceIdeal.main_arg1) = m' ((c.tc : Thread Cert.SsdInReferenceIdeal.nD Cert.SsdInReferenceIdeal.τ).loc Cert.SsdInReferenceIdeal.main_arg1)
          ∧ r.2.mem ((c.tc : Thread Cert.SsdInReferenceIdeal.nD Cert.SsdInReferenceIdeal.τ).loc Cert.SsdInReferenceIdeal.main_arg2) = m' ((c.tc : Thread Cert.SsdInReferenceIdeal.nD Cert.SsdInReferenceIdeal.τ).loc Cert.SsdInReferenceIdeal.main_arg2)
          ∧ r.2.mem ((c.tc : Thread Cert.SsdInReferenceIdeal.nD Cert.SsdInReferenceIdeal.τ).loc Cert.SsdInReferenceIdeal.main_arg3) = m' ((c.tc : Thread Cert.SsdInReferenceIdeal.nD Cert.SsdInReferenceIdeal.τ).loc Cert.SsdInReferenceIdeal.main_arg3)
          ∧ r.2.mem ((c.tc : Thread Cert.SsdInReferenceIdeal.nD Cert.SsdInReferenceIdeal.τ).loc Cert.SsdInReferenceIdeal.main_arg4) = m' ((c.tc : Thread Cert.SsdInReferenceIdeal.nD Cert.SsdInReferenceIdeal.τ).loc Cert.SsdInReferenceIdeal.main_arg4)
          ∧ r.2.mem ((c.tc : Thread Cert.SsdInReferenceIdeal.nD Cert.SsdInReferenceIdeal.τ).loc Cert.SsdInReferenceIdeal.main_arg5) = m' ((c.tc : Thread Cert.SsdInReferenceIdeal.nD Cert.SsdInReferenceIdeal.τ).loc Cert.SsdInReferenceIdeal.main_arg5)
          ∧ r.2.mem ((c.tc : Thread Cert.SsdInReferenceIdeal.nD Cert.SsdInReferenceIdeal.τ).loc Cert.SsdInReferenceIdeal.main_arg6) = m' ((c.tc : Thread Cert.SsdInReferenceIdeal.nD Cert.SsdInReferenceIdeal.τ).loc Cert.SsdInReferenceIdeal.main_arg6)
          ∧ r.2.mem ((c.tc : Thread Cert.SsdInReferenceIdeal.nD Cert.SsdInReferenceIdeal.τ).loc Cert.SsdInReferenceIdeal.main_arg7) = m' ((c.tc : Thread Cert.SsdInReferenceIdeal.nD Cert.SsdInReferenceIdeal.τ).loc Cert.SsdInReferenceIdeal.main_arg7))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)
      ∧ m' ((c.tc : Thread Cert.SsdOutReferenceIdeal.nD Cert.SsdOutReferenceIdeal.τ).loc Cert.SsdOutReferenceIdeal.main_arg2) = m ((c.tc : Thread Cert.SsdOutIdeal.nD Cert.SsdOutIdeal.τ).loc Cert.SsdOutIdeal.main_arg2)
      ∧ m' ((c.tc : Thread Cert.SsdOutReferenceIdeal.nD Cert.SsdOutReferenceIdeal.τ).loc Cert.SsdOutReferenceIdeal.main_arg3) = m ((c.tc : Thread Cert.SsdOutIdeal.nD Cert.SsdOutIdeal.τ).loc Cert.SsdOutIdeal.main_arg3)
      ∧ m' ((c.tc : Thread Cert.SsdOutReferenceIdeal.nD Cert.SsdOutReferenceIdeal.τ).loc Cert.SsdOutReferenceIdeal.main_arg4) = m ((c.tc : Thread Cert.SsdOutIdeal.nD Cert.SsdOutIdeal.τ).loc Cert.SsdOutIdeal.main_arg4)
      ∧ m' ((c.tc : Thread Cert.SsdOutReferenceIdeal.nD Cert.SsdOutReferenceIdeal.τ).loc Cert.SsdOutReferenceIdeal.main_arg5) = m ((c.tc : Thread Cert.SsdOutIdeal.nD Cert.SsdOutIdeal.τ).loc Cert.SsdOutIdeal.main_arg5)
      ∧ m' ((c.tc : Thread Cert.SsdOutReferenceIdeal.nD Cert.SsdOutReferenceIdeal.τ).loc Cert.SsdOutReferenceIdeal.main_arg6) = m ((c.tc : Thread Cert.SsdOutIdeal.nD Cert.SsdOutIdeal.τ).loc Cert.SsdOutIdeal.main_arg6)
      ∧ m' ((c.tc : Thread Cert.SsdOutReferenceIdeal.nD Cert.SsdOutReferenceIdeal.τ).loc Cert.SsdOutReferenceIdeal.main_arg7) = m ((c.tc : Thread Cert.SsdOutIdeal.nD Cert.SsdOutIdeal.τ).loc Cert.SsdOutIdeal.main_arg7)
      ∧ m' ((c.tc : Thread Cert.SsdOutReferenceIdeal.nD Cert.SsdOutReferenceIdeal.τ).loc Cert.SsdOutReferenceIdeal.main_arg8) = m ((c.tc : Thread Cert.SsdOutIdeal.nD Cert.SsdOutIdeal.τ).loc Cert.SsdOutIdeal.main_arg8)
      ∧ m' ((c.tc : Thread Cert.SsdOutReferenceIdeal.nD Cert.SsdOutReferenceIdeal.τ).loc Cert.SsdOutReferenceIdeal.main_arg9) = m ((c.tc : Thread Cert.SsdOutIdeal.nD Cert.SsdOutIdeal.τ).loc Cert.SsdOutIdeal.main_arg9)
      ∧ m' ((c.tc : Thread Cert.SsdOutReferenceIdeal.nD Cert.SsdOutReferenceIdeal.τ).loc Cert.SsdOutReferenceIdeal.main_arg10) = m ((c.tc : Thread Cert.SsdOutIdeal.nD Cert.SsdOutIdeal.τ).loc Cert.SsdOutIdeal.main_arg10)
      ∧ m' ((c.tc : Thread Cert.SsdOutReferenceIdeal.nD Cert.SsdOutReferenceIdeal.τ).loc Cert.SsdOutReferenceIdeal.main_arg11) = m ((c.tc : Thread Cert.SsdOutIdeal.nD Cert.SsdOutIdeal.τ).loc Cert.SsdOutIdeal.main_arg11)
      ∧ m' ((c.tc : Thread Cert.SsdOutReferenceIdeal.nD Cert.SsdOutReferenceIdeal.τ).loc Cert.SsdOutReferenceIdeal.main_arg12) = m ((c.tc : Thread Cert.SsdOutIdeal.nD Cert.SsdOutIdeal.τ).loc Cert.SsdOutIdeal.main_arg12)) →
    ∃ (v0 : (c : Dev Cert.SsdOutIdeal.nD) → Buf (Elt Ideal) ((c.tc : Thread Cert.SsdOutIdeal.nD Cert.SsdOutIdeal.τ).loc Cert.SsdOutIdeal.main_v7_0)) (v1 : (c : Dev Cert.SsdOutIdeal.nD) → Buf (Elt Ideal) ((c.tc : Thread Cert.SsdOutIdeal.nD Cert.SsdOutIdeal.τ).loc Cert.SsdOutIdeal.main_v7_1)) (v2 : (c : Dev Cert.SsdOutIdeal.nD) → Buf (Elt Ideal) ((c.tc : Thread Cert.SsdOutIdeal.nD Cert.SsdOutIdeal.τ).loc Cert.SsdOutIdeal.main_v7_2)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v7_0) = v0 c
          ∧ r.2.mem ((c.tc : Thread Cert.SsdOutIdeal.nD Cert.SsdOutIdeal.τ).loc Cert.SsdOutIdeal.main_v7_1) = v1 c
          ∧ r.2.mem ((c.tc : Thread Cert.SsdOutIdeal.nD Cert.SsdOutIdeal.τ).loc Cert.SsdOutIdeal.main_v7_2) = v2 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
          ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
          ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
          ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6)
          ∧ r.2.mem ((c.tc : Thread Cert.SsdOutIdeal.nD Cert.SsdOutIdeal.τ).loc Cert.SsdOutIdeal.main_arg7) = m ((c.tc : Thread Cert.SsdOutIdeal.nD Cert.SsdOutIdeal.τ).loc Cert.SsdOutIdeal.main_arg7)
          ∧ r.2.mem ((c.tc : Thread Cert.SsdOutIdeal.nD Cert.SsdOutIdeal.τ).loc Cert.SsdOutIdeal.main_arg8) = m ((c.tc : Thread Cert.SsdOutIdeal.nD Cert.SsdOutIdeal.τ).loc Cert.SsdOutIdeal.main_arg8)
          ∧ r.2.mem ((c.tc : Thread Cert.SsdOutIdeal.nD Cert.SsdOutIdeal.τ).loc Cert.SsdOutIdeal.main_arg9) = m ((c.tc : Thread Cert.SsdOutIdeal.nD Cert.SsdOutIdeal.τ).loc Cert.SsdOutIdeal.main_arg9)
          ∧ r.2.mem ((c.tc : Thread Cert.SsdOutIdeal.nD Cert.SsdOutIdeal.τ).loc Cert.SsdOutIdeal.main_arg10) = m ((c.tc : Thread Cert.SsdOutIdeal.nD Cert.SsdOutIdeal.τ).loc Cert.SsdOutIdeal.main_arg10)
          ∧ r.2.mem ((c.tc : Thread Cert.SsdOutIdeal.nD Cert.SsdOutIdeal.τ).loc Cert.SsdOutIdeal.main_arg11) = m ((c.tc : Thread Cert.SsdOutIdeal.nD Cert.SsdOutIdeal.τ).loc Cert.SsdOutIdeal.main_arg11)
          ∧ r.2.mem ((c.tc : Thread Cert.SsdOutIdeal.nD Cert.SsdOutIdeal.τ).loc Cert.SsdOutIdeal.main_arg12) = m ((c.tc : Thread Cert.SsdOutIdeal.nD Cert.SsdOutIdeal.τ).loc Cert.SsdOutIdeal.main_arg12))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v57) = v0 c
          ∧ r.2.mem ((c.tc : Thread Cert.SsdOutReferenceIdeal.nD Cert.SsdOutReferenceIdeal.τ).loc Cert.SsdOutReferenceIdeal.main_v63) = v1 c
          ∧ r.2.mem ((c.tc : Thread Cert.SsdOutReferenceIdeal.nD Cert.SsdOutReferenceIdeal.τ).loc Cert.SsdOutReferenceIdeal.main_v64) = v2 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1)
          ∧ r.2.mem ((c.tc : Thread Cert.SsdOutReferenceIdeal.nD Cert.SsdOutReferenceIdeal.τ).loc Cert.SsdOutReferenceIdeal.main_arg2) = m' ((c.tc : Thread Cert.SsdOutReferenceIdeal.nD Cert.SsdOutReferenceIdeal.τ).loc Cert.SsdOutReferenceIdeal.main_arg2)
          ∧ r.2.mem ((c.tc : Thread Cert.SsdOutReferenceIdeal.nD Cert.SsdOutReferenceIdeal.τ).loc Cert.SsdOutReferenceIdeal.main_arg3) = m' ((c.tc : Thread Cert.SsdOutReferenceIdeal.nD Cert.SsdOutReferenceIdeal.τ).loc Cert.SsdOutReferenceIdeal.main_arg3)
          ∧ r.2.mem ((c.tc : Thread Cert.SsdOutReferenceIdeal.nD Cert.SsdOutReferenceIdeal.τ).loc Cert.SsdOutReferenceIdeal.main_arg4) = m' ((c.tc : Thread Cert.SsdOutReferenceIdeal.nD Cert.SsdOutReferenceIdeal.τ).loc Cert.SsdOutReferenceIdeal.main_arg4)
          ∧ r.2.mem ((c.tc : Thread Cert.SsdOutReferenceIdeal.nD Cert.SsdOutReferenceIdeal.τ).loc Cert.SsdOutReferenceIdeal.main_arg5) = m' ((c.tc : Thread Cert.SsdOutReferenceIdeal.nD Cert.SsdOutReferenceIdeal.τ).loc Cert.SsdOutReferenceIdeal.main_arg5)
          ∧ r.2.mem ((c.tc : Thread Cert.SsdOutReferenceIdeal.nD Cert.SsdOutReferenceIdeal.τ).loc Cert.SsdOutReferenceIdeal.main_arg6) = m' ((c.tc : Thread Cert.SsdOutReferenceIdeal.nD Cert.SsdOutReferenceIdeal.τ).loc Cert.SsdOutReferenceIdeal.main_arg6)
          ∧ r.2.mem ((c.tc : Thread Cert.SsdOutReferenceIdeal.nD Cert.SsdOutReferenceIdeal.τ).loc Cert.SsdOutReferenceIdeal.main_arg7) = m' ((c.tc : Thread Cert.SsdOutReferenceIdeal.nD Cert.SsdOutReferenceIdeal.τ).loc Cert.SsdOutReferenceIdeal.main_arg7)
          ∧ r.2.mem ((c.tc : Thread Cert.SsdOutReferenceIdeal.nD Cert.SsdOutReferenceIdeal.τ).loc Cert.SsdOutReferenceIdeal.main_arg8) = m' ((c.tc : Thread Cert.SsdOutReferenceIdeal.nD Cert.SsdOutReferenceIdeal.τ).loc Cert.SsdOutReferenceIdeal.main_arg8)
          ∧ r.2.mem ((c.tc : Thread Cert.SsdOutReferenceIdeal.nD Cert.SsdOutReferenceIdeal.τ).loc Cert.SsdOutReferenceIdeal.main_arg9) = m' ((c.tc : Thread Cert.SsdOutReferenceIdeal.nD Cert.SsdOutReferenceIdeal.τ).loc Cert.SsdOutReferenceIdeal.main_arg9)
          ∧ r.2.mem ((c.tc : Thread Cert.SsdOutReferenceIdeal.nD Cert.SsdOutReferenceIdeal.τ).loc Cert.SsdOutReferenceIdeal.main_arg10) = m' ((c.tc : Thread Cert.SsdOutReferenceIdeal.nD Cert.SsdOutReferenceIdeal.τ).loc Cert.SsdOutReferenceIdeal.main_arg10)
          ∧ r.2.mem ((c.tc : Thread Cert.SsdOutReferenceIdeal.nD Cert.SsdOutReferenceIdeal.τ).loc Cert.SsdOutReferenceIdeal.main_arg11) = m' ((c.tc : Thread Cert.SsdOutReferenceIdeal.nD Cert.SsdOutReferenceIdeal.τ).loc Cert.SsdOutReferenceIdeal.main_arg11)
          ∧ r.2.mem ((c.tc : Thread Cert.SsdOutReferenceIdeal.nD Cert.SsdOutReferenceIdeal.τ).loc Cert.SsdOutReferenceIdeal.main_arg12) = m' ((c.tc : Thread Cert.SsdOutReferenceIdeal.nD Cert.SsdOutReferenceIdeal.τ).loc Cert.SsdOutReferenceIdeal.main_arg12))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)
      ∧ m' ((c.tc : Thread Cert.MixOutReferenceIdeal.nD Cert.MixOutReferenceIdeal.τ).loc Cert.MixOutReferenceIdeal.main_arg7) = m ((c.tc : Thread Cert.MixOutIdeal.nD Cert.MixOutIdeal.τ).loc Cert.MixOutIdeal.main_arg7)
      ∧ m' ((c.tc : Thread Cert.MixOutReferenceIdeal.nD Cert.MixOutReferenceIdeal.τ).loc Cert.MixOutReferenceIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v5_0)) (v1 : (c : Dev Cert.MixOutIdeal.nD) → Buf (Elt Ideal) ((c.tc : Thread Cert.MixOutIdeal.nD Cert.MixOutIdeal.τ).loc Cert.MixOutIdeal.main_v5_1)) (v2 : (c : Dev Cert.MixOutIdeal.nD) → Buf (Elt Ideal) ((c.tc : Thread Cert.MixOutIdeal.nD Cert.MixOutIdeal.τ).loc Cert.MixOutIdeal.main_v5_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5_0) = v0 c
          ∧ r.2.mem ((c.tc : Thread Cert.MixOutIdeal.nD Cert.MixOutIdeal.τ).loc Cert.MixOutIdeal.main_v5_1) = v1 c
          ∧ r.2.mem ((c.tc : Thread Cert.MixOutIdeal.nD Cert.MixOutIdeal.τ).loc Cert.MixOutIdeal.main_v5_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v30) = v0 c
          ∧ r.2.mem ((c.tc : Thread Cert.MixOutReferenceIdeal.nD Cert.MixOutReferenceIdeal.τ).loc Cert.MixOutReferenceIdeal.main_v36) = v1 c
          ∧ r.2.mem ((c.tc : Thread Cert.MixOutReferenceIdeal.nD Cert.MixOutReferenceIdeal.τ).loc Cert.MixOutReferenceIdeal.main_v37) = v2 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7)
          ∧ r.2.mem ((c.tc : Thread Cert.MixOutReferenceIdeal.nD Cert.MixOutReferenceIdeal.τ).loc Cert.MixOutReferenceIdeal.main_arg8) = m' ((c.tc : Thread Cert.MixOutReferenceIdeal.nD Cert.MixOutReferenceIdeal.τ).loc Cert.MixOutReferenceIdeal.main_arg8))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hExpertsTwo : Cert.ExpertsTwo.Facts) (hExpertsTwoIdeal : Cert.ExpertsTwoIdeal.Facts) (hExpertsTwoReferenceIdeal : Cert.ExpertsTwoReferenceIdeal.Facts) (hSsdIn : Cert.SsdIn.Facts) (hSsdInIdeal : Cert.SsdInIdeal.Facts) (hSsdInReferenceIdeal : Cert.SsdInReferenceIdeal.Facts) (hSsdOut : Cert.SsdOut.Facts) (hSsdOutIdeal : Cert.SsdOutIdeal.Facts) (hSsdOutReferenceIdeal : Cert.SsdOutReferenceIdeal.Facts) (hMixOut : Cert.MixOut.Facts) (hMixOutIdeal : Cert.MixOutIdeal.Facts) (hMixOutReferenceIdeal : Cert.MixOutReferenceIdeal.Facts) (hPre_finite_scores : Cert.Pre_finite_scores.Facts) (hPre_experts_in_range : Cert.Pre_experts_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ quiescent_ExpertsTwo (hExpertsTwo := hExpertsTwo) (hPre_experts_in_range := hPre_experts_in_range)
    ∧ quiescent_ExpertsTwoIdeal (hExpertsTwoIdeal := hExpertsTwoIdeal) (hPre_experts_in_range := hPre_experts_in_range)
    ∧ quiescent_ExpertsTwoReferenceIdeal (hExpertsTwoReferenceIdeal := hExpertsTwoReferenceIdeal)
    ∧ quiescent_ExpertsTwoReferenceIdeal_pre_experts_in_range (hExpertsTwoReferenceIdeal := hExpertsTwoReferenceIdeal) (hPre_experts_in_range := hPre_experts_in_range)
    ∧ quiescent_SsdIn (hSsdIn := hSsdIn)
    ∧ quiescent_SsdInIdeal (hSsdInIdeal := hSsdInIdeal)
    ∧ quiescent_SsdInReferenceIdeal (hSsdInReferenceIdeal := hSsdInReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
    ∧ preserves_ExpertsTwo_ExpertsTwoIdeal
    ∧ algebraic_ExpertsTwoIdeal_ExpertsTwoReferenceIdeal (hExpertsTwoIdeal := hExpertsTwoIdeal) (hExpertsTwoReferenceIdeal := hExpertsTwoReferenceIdeal) (hPre_experts_in_range := hPre_experts_in_range)
    ∧ preserves_SsdIn_SsdInIdeal
    ∧ algebraic_SsdInIdeal_SsdInReferenceIdeal (hSsdInIdeal := hSsdInIdeal) (hSsdInReferenceIdeal := hSsdInReferenceIdeal)
    ∧ preserves_SsdOut_SsdOutIdeal
    ∧ algebraic_SsdOutIdeal_SsdOutReferenceIdeal (hSsdOutIdeal := hSsdOutIdeal) (hSsdOutReferenceIdeal := hSsdOutReferenceIdeal)
    ∧ preserves_MixOut_MixOutIdeal
    ∧ algebraic_MixOutIdeal_MixOutReferenceIdeal (hMixOutIdeal := hMixOutIdeal) (hMixOutReferenceIdeal := hMixOutReferenceIdeal)
-- ==== Pre_experts_in_range.lean ====
abbrev S401408x1024 : Shape := ⟨2, ![401408, 1024]⟩
abbrev S784 : Shape := ⟨1, ![784]⟩
abbrev S1 : Shape := ⟨1, ![1]⟩
abbrev S2x256x1024x512 : Shape := ⟨4, ![2, 256, 1024, 512]⟩
abbrev S2x256x256x1024 : Shape := ⟨4, ![2, 256, 256, 1024]⟩
abbrev S_ : Shape := ⟨0, ![]⟩

class Facts : Prop where
  bcast_S_S784 : S_.BroadcastsInDim S784 (![] : Fin 0 → Fin S784.rank)
  reducesTo_S784_S_d0 : S784.ReducesTo [0] S_
  h_S_ : 0 < S_.numel

variable [Facts]

def fn {F : FTy → Type} [FloatOps F] (main_arg0 : FVec F S401408x1024 .bf16) (main_arg1 : IVec S784 32) (main_arg2 : IVec S1 32) (main_arg3 : FVec F S2x256x1024x512 .f32) (main_arg4 : FVec F S2x256x256x1024 .f32) : IVec S_ 1 :=
  let main_c : IVec S_ 32 := constantI S_ 32 0#32
  let main_v0 : IVec S784 32 := broadcastInDim S784 ![] bcast_S_S784 main_c
  let main_v1 : IVec S784 1 := cmpi .sge main_arg1 main_v0
  let main_c_0 : IVec S_ 32 := constantI S_ 32 256#32
  let main_v2 : IVec S784 32 := broadcastInDim S784 ![] bcast_S_S784 main_c_0
  let main_v3 : IVec S784 1 := cmpi .slt main_arg1 main_v2
  let main_v4 : IVec S784 1 := andi main_v1 main_v3
  let main_c_1 : IVec S_ 1 := constantI S_ 1 1#1
  let main_v5 : IVec S_ 1 := (fun x v => Host.reduce IntOp.andi x v reducesTo_S784_S_d0 h_S_) main_v4 main_c_1
  main_v5
-- ==== Pre_finite_scores.lean ====
abbrev S4x8x8192x64 : Shape := ⟨4, ![4, 8, 8192, 64]⟩
abbrev S4x8x8192x32 : Shape := ⟨4, ![4, 8, 8192, 32]⟩
abbrev S4x8x256x64 : Shape := ⟨4, ![4, 8, 256, 64]⟩
abbrev S4x256x32 : Shape := ⟨3, ![4, 256, 32]⟩
abbrev S4x8192x32 : Shape := ⟨3, ![4, 8192, 32]⟩
abbrev S_ : Shape := ⟨0, ![]⟩

class Facts : Prop where
  bcast_S_S4x8x8192x64 : S_.BroadcastsInDim S4x8x8192x64 (![] : Fin 0 → Fin S4x8x8192x64.rank)
  reducesTo_S4x8x8192x64_S_d0_1_2_3 : S4x8x8192x64.ReducesTo [0, 1, 2, 3] S_
  h_S_ : 0 < S_.numel
  bcast_S_S4x8x8192x32 : S_.BroadcastsInDim S4x8x8192x32 (![] : Fin 0 → Fin S4x8x8192x32.rank)
  reducesTo_S4x8x8192x32_S_d0_1_2_3 : S4x8x8192x32.ReducesTo [0, 1, 2, 3] S_
  bcast_S_S4x8x256x64 : S_.BroadcastsInDim S4x8x256x64 (![] : Fin 0 → Fin S4x8x256x64.rank)
  reducesTo_S4x8x256x64_S_d0_1_2_3 : S4x8x256x64.ReducesTo [0, 1, 2, 3] S_
  bcast_S_S4x256x32 : S_.BroadcastsInDim S4x256x32 (![] : Fin 0 → Fin S4x256x32.rank)
  reducesTo_S4x256x32_S_d0_1_2 : S4x256x32.ReducesTo [0, 1, 2] S_
  bcast_S_S4x8192x32 : S_.BroadcastsInDim S4x8192x32 (![] : Fin 0 → Fin S4x8192x32.rank)
  reducesTo_S4x8192x32_S_d0_1_2 : S4x8192x32.ReducesTo [0, 1, 2] S_

variable [Facts]

def fn_part1 {F : FTy → Type} [FloatOps F] (main_arg5 : FVec F S4x8x8192x64 .f32) (main_arg6 : FVec F S4x8192x32 .f32) (main_v3 : IVec S_ 1) (main_v7 : IVec S_ 1) (main_v11 : IVec S_ 1) (main_v15 : IVec S_ 1) : IVec S_ 1 :=
  let main_v16 : FVec F S4x8x8192x64 .f32 := Host.absf main_arg5
  let main_cst_6 : FVec F S_ .f32 := constant S_ .f32 0x7F800000#32
  let main_v17 : FVec F S4x8x8192x64 .f32 := broadcastInDim S4x8x8192x64 ![] bcast_S_S4x8x8192x64 main_cst_6
  let main_v18 : IVec S4x8x8192x64 1 := cmpf .olt main_v16 main_v17
  let main_c_7 : IVec S_ 1 := constantI S_ 1 1#1
  let main_v19 : IVec S_ 1 := (fun x v => Host.reduce IntOp.andi x v reducesTo_S4x8x8192x64_S_d0_1_2_3 h_S_) main_v18 main_c_7
  let main_v20 : FVec F S4x8192x32 .f32 := Host.absf main_arg6
  let main_cst_8 : FVec F S_ .f32 := constant S_ .f32 0x7F800000#32
  let main_v21 : FVec F S4x8192x32 .f32 := broadcastInDim S4x8192x32 ![] bcast_S_S4x8192x32 main_cst_8
  let main_v22 : IVec S4x8192x32 1 := cmpf .olt main_v20 main_v21
  let main_c_9 : IVec S_ 1 := constantI S_ 1 1#1
  let main_v23 : IVec S_ 1 := (fun x v => Host.reduce IntOp.andi x v reducesTo_S4x8192x32_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x8x8192x64 .f32) (main_arg1 : FVec F S4x8x8192x32 .f32) (main_arg2 : FVec F S4x8x256x64 .f32) (main_arg3 : FVec F S4x256x32 .f32) (main_arg4 : FVec F S4x8x256x64 .f32) (main_arg5 : FVec F S4x8x8192x64 .f32) (main_arg6 : FVec F S4x8192x32 .f32) (main_arg7 : FVec F S4x8x8192x64 .f32) : IVec S_ 1 :=
  let main_v0 : FVec F S4x8x8192x64 .f32 := Host.absf main_arg0
  let main_cst : FVec F S_ .f32 := constant S_ .f32 0x7F800000#32
  let main_v1 : FVec F S4x8x8192x64 .f32 := broadcastInDim S4x8x8192x64 ![] bcast_S_S4x8x8192x64 main_cst
  let main_v2 : IVec S4x8x8192x64 1 := cmpf .olt main_v0 main_v1
  let main_c : IVec S_ 1 := constantI S_ 1 1#1
  let main_v3 : IVec S_ 1 := (fun x v => Host.reduce IntOp.andi x v reducesTo_S4x8x8192x64_S_d0_1_2_3 h_S_) main_v2 main_c
  let main_v4 : FVec F S4x8x8192x32 .f32 := Host.absf main_arg1
  let main_cst_0 : FVec F S_ .f32 := constant S_ .f32 0x7F800000#32
  let main_v5 : FVec F S4x8x8192x32 .f32 := broadcastInDim S4x8x8192x32 ![] bcast_S_S4x8x8192x32 main_cst_0
  let main_v6 : IVec S4x8x8192x32 1 := cmpf .olt main_v4 main_v5
  let main_c_1 : IVec S_ 1 := constantI S_ 1 1#1
  let main_v7 : IVec S_ 1 := (fun x v => Host.reduce IntOp.andi x v reducesTo_S4x8x8192x32_S_d0_1_2_3 h_S_) main_v6 main_c_1
  let main_v8 : FVec F S4x8x256x64 .f32 := Host.absf main_arg2
  let main_cst_2 : FVec F S_ .f32 := constant S_ .f32 0x7F800000#32
  let main_v9 : FVec F S4x8x256x64 .f32 := broadcastInDim S4x8x256x64 ![] bcast_S_S4x8x256x64 main_cst_2
  let main_v10 : IVec S4x8x256x64 1 := cmpf .olt main_v8 main_v9
  let main_c_3 : IVec S_ 1 := constantI S_ 1 1#1
  let main_v11 : IVec S_ 1 := (fun x v => Host.reduce IntOp.andi x v reducesTo_S4x8x256x64_S_d0_1_2_3 h_S_) main_v10 main_c_3
  let main_v12 : FVec F S4x256x32 .f32 := Host.absf main_arg3
  let main_cst_4 : FVec F S_ .f32 := constant S_ .f32 0x7F800000#32
  let main_v13 : FVec F S4x256x32 .f32 := broadcastInDim S4x256x32 ![] bcast_S_S4x256x32 main_cst_4
  let main_v14 : IVec S4x256x32 1 := cmpf .olt main_v12 main_v13
  let main_c_5 : IVec S_ 1 := constantI S_ 1 1#1
  let main_v15 : IVec S_ 1 := (fun x v => Host.reduce IntOp.andi x v reducesTo_S4x256x32_S_d0_1_2 h_S_) main_v14 main_c_5
  fn_part1 (F := F) main_arg5 main_arg6 main_v3 main_v7 main_v11 main_v15
-- ==== Kernel.lean ====
abbrev S4x8x8192x64 : Shape := ⟨4, ![4, 8, 8192, 64]⟩
abbrev S4x8x8192x32 : Shape := ⟨4, ![4, 8, 8192, 32]⟩
abbrev S4x8x256x64 : Shape := ⟨4, ![4, 8, 256, 64]⟩
abbrev S4x256x32 : Shape := ⟨3, ![4, 256, 32]⟩
abbrev S4x8192x32 : Shape := ⟨3, ![4, 8192, 32]⟩
abbrev S_ : Shape := ⟨0, ![]⟩
abbrev S4x8x8192x16 : Shape := ⟨4, ![4, 8, 8192, 16]⟩
abbrev S4x8x8192x128 : Shape := ⟨4, ![4, 8, 8192, 128]⟩
abbrev S4x1x256x32 : Shape := ⟨4, ![4, 1, 256, 32]⟩
abbrev S4x8x256x32 : Shape := ⟨4, ![4, 8, 256, 32]⟩
abbrev S4x8x256x16 : Shape := ⟨4, ![4, 8, 256, 16]⟩
abbrev S4x8x256x128 : Shape := ⟨4, ![4, 8, 256, 128]⟩
abbrev S4x1x8192x32 : Shape := ⟨4, ![4, 1, 8192, 32]⟩
abbrev S4x8x8448x128 : Shape := ⟨4, ![4, 8, 8448, 128]⟩
abbrev S4x8x64x256 : Shape := ⟨4, ![4, 8, 64, 256]⟩
abbrev S4x8x16x256 : Shape := ⟨4, ![4, 8, 16, 256]⟩
abbrev S4x8x80x256 : Shape := ⟨4, ![4, 8, 80, 256]⟩
abbrev S4x8x64x8192 : Shape := ⟨4, ![4, 8, 64, 8192]⟩
abbrev S4x8x16x8192 : Shape := ⟨4, ![4, 8, 16, 8192]⟩
abbrev S4x8x80x8192 : Shape := ⟨4, ![4, 8, 80, 8192]⟩
abbrev S4x8x80x8448 : Shape := ⟨4, ![4, 8, 80, 8448]⟩
abbrev S4x8192x512 : Shape := ⟨3, ![4, 8192, 512]⟩
abbrev S1x2x4096x128 : Shape := ⟨4, ![1, 2, 4096, 128]⟩
abbrev S1x2x8448x128 : Shape := ⟨4, ![1, 2, 8448, 128]⟩
abbrev S1x2x80x8448 : Shape := ⟨4, ![1, 2, 80, 8448]⟩
abbrev S1x4096x128 : Shape := ⟨3, ![1, 4096, 128]⟩
abbrev S1x4096 : Shape := ⟨2, ![1, 4096]⟩
abbrev S80x4096 : Shape := ⟨2, ![80, 4096]⟩
abbrev S1x1x768x128 : Shape := ⟨4, ![1, 1, 768, 128]⟩
abbrev S768x128 : Shape := ⟨2, ![768, 128]⟩
abbrev S1x1x4096x128 : Shape := ⟨4, ![1, 1, 4096, 128]⟩
abbrev S4096x128 : Shape := ⟨2, ![4096, 128]⟩
abbrev S768x4096 : Shape := ⟨2, ![768, 4096]⟩
abbrev S4096 : Shape := ⟨1, ![4096]⟩
abbrev S1x1x80x768 : Shape := ⟨4, ![1, 1, 80, 768]⟩
abbrev S80x768 : Shape := ⟨2, ![80, 768]⟩
abbrev S64x4096 : Shape := ⟨2, ![64, 4096]⟩
abbrev S128x4096 : Shape := ⟨2, ![128, 4096]⟩

abbrev nBuf : Space → Nat
  | .hbm => 50
  | .vmem => 8
  | .smem => 0
  | _ => 0

abbrev bufTy : (tb : Table) → Fin (tcTables nBuf tb) → BufTy
  | .hbm, ⟨0, _⟩ => ⟨S4x8x8192x64, .f32⟩
  | .hbm, ⟨1, _⟩ => ⟨S4x8x8192x32, .f32⟩
  | .hbm, ⟨2, _⟩ => ⟨S4x8x256x64, .f32⟩
  | .hbm, ⟨3, _⟩ => ⟨S4x256x32, .f32⟩
  | .hbm, ⟨4, _⟩ => ⟨S4x8x256x64, .f32⟩
  | .hbm, ⟨5, _⟩ => ⟨S4x8x8192x64, .f32⟩
  | .hbm, ⟨6, _⟩ => ⟨S4x8192x32, .f32⟩
  | .hbm, ⟨7, _⟩ => ⟨S4x8x8192x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x8x8192x32, .f32⟩
  | .hbm, ⟨15, _⟩ => ⟨S4x8x8192x16, .f32⟩
  | .hbm, ⟨16, _⟩ => ⟨S4x8x8192x16, .f32⟩
  | .hbm, ⟨17, _⟩ => ⟨S4x8x8192x128, .f32⟩
  | .hbm, ⟨18, _⟩ => ⟨S4x8x8192x128, .f32⟩
  | .hbm, ⟨19, _⟩ => ⟨S4x8x8192x128, .f32⟩
  | .hbm, ⟨20, _⟩ => ⟨S4x8x8192x128, .bf16⟩
  | .hbm, ⟨21, _⟩ => ⟨S4x1x256x32, .f32⟩
  | .hbm, ⟨22, _⟩ => ⟨S4x8x256x32, .f32⟩
  | .hbm, ⟨23, _⟩ => ⟨S_, .f32⟩
  | .hbm, ⟨24, _⟩ => ⟨S4x8x256x32, .f32⟩
  | .hbm, ⟨25, _⟩ => ⟨S4x8x256x16, .f32⟩
  | .hbm, ⟨26, _⟩ => ⟨S4x8x256x16, .f32⟩
  | .hbm, ⟨27, _⟩ => ⟨S4x8x256x128, .f32⟩
  | .hbm, ⟨28, _⟩ => ⟨S4x8x256x128, .bf16⟩
  | .hbm, ⟨29, _⟩ => ⟨S4x1x8192x32, .f32⟩
  | .hbm, ⟨30, _⟩ => ⟨S4x8x8192x32, .f32⟩
  | .hbm, ⟨31, _⟩ => ⟨S_, .f32⟩
  | .hbm, ⟨32, _⟩ => ⟨S4x8x8192x32, .f32⟩
  | .hbm, ⟨33, _⟩ => ⟨S4x8x8192x16, .f32⟩
  | .hbm, ⟨34, _⟩ => ⟨S4x8x8192x16, .f32⟩
  | .hbm, ⟨35, _⟩ => ⟨S4x8x8192x128, .f32⟩
  | .hbm, ⟨36, _⟩ => ⟨S4x8x8192x128, .bf16⟩
  | .hbm, ⟨37, _⟩ => ⟨S4x8x8448x128, .bf16⟩
  | .hbm, ⟨38, _⟩ => ⟨S4x8x64x256, .f32⟩
  | .hbm, ⟨39, _⟩ => ⟨S_, .f32⟩
  | .hbm, ⟨40, _⟩ => ⟨S4x8x16x256, .f32⟩
  | .hbm, ⟨41, _⟩ => ⟨S4x8x80x256, .f32⟩
  | .hbm, ⟨42, _⟩ => ⟨S4x8x80x256, .bf16⟩
  | .hbm, ⟨43, _⟩ => ⟨S4x8x64x8192, .f32⟩
  | .hbm, ⟨44, _⟩ => ⟨S_, .f32⟩
  | .hbm, ⟨45, _⟩ => ⟨S4x8x16x8192, .f32⟩
  | .hbm, ⟨46, _⟩ => ⟨S4x8x80x8192, .f32⟩
  | .hbm, ⟨47, _⟩ => ⟨S4x8x80x8192, .bf16⟩
  | .hbm, ⟨48, _⟩ => ⟨S4x8x80x8448, .bf16⟩
  | .hbm, ⟨49, _⟩ => ⟨S4x8192x512, .f32⟩
  | .local _ .vmem, ⟨0, _⟩ => ⟨S1x2x4096x128, .bf16⟩
  | .local _ .vmem, ⟨1, _⟩ => ⟨S1x2x4096x128, .bf16⟩
  | .local _ .vmem, ⟨2, _⟩ => ⟨S1x2x8448x128, .bf16⟩
  | .local _ .vmem, ⟨3, _⟩ => ⟨S1x2x8448x128, .bf16⟩
  | .local _ .vmem, ⟨4, _⟩ => ⟨S1x2x80x8448, .bf16⟩
  | .local _ .vmem, ⟨5, _⟩ => ⟨S1x2x80x8448, .bf16⟩
  | .local _ .vmem, ⟨6, _⟩ => ⟨S1x4096x128, .f32⟩
  | .local _ .vmem, ⟨7, _⟩ => ⟨S1x4096x128, .f32⟩
  | _, _ => ⟨S4x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

@[reducible] def k0_t1_loop : Scf.Loop 32 :=
  let c0_i32 : BitVec 32 := 0#32
  let c11_i32 : BitVec 32 := 11#32
  let v4 : BitVec 32 := Scalar.addi c0_i32 c11_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c768_i32 : BitVec 32 := 768#32
  let v19 : BitVec 32 := Scalar.muli arg7 c768_i32
  v19
def k0_off1 (k0_t1 : Fin k0_t1_loop.trips) : Fin 4 → Nat :=
  let c0_6 : Index := 0#32
  let c0_7 : Index := 0#32
  let c0_i32 : BitVec 32 := 0#32
  let c1_i32 : BitVec 32 := 1#32
  let arg7 : BitVec 32 := Scf.iv c0_i32 c1_i32 k0_t1
  let c768_i32 : BitVec 32 := 768#32
  let v19 : BitVec 32 := Scalar.muli arg7 c768_i32
  let v20 : BitVec 32 := v19
  let v21 : Index := Scalar.indexCast v20
  let c0_8 : Index := 0#32
  ![0, 0, v21.toNat, 0]
def k0_off2 (k0_t1 : Fin k0_t1_loop.trips) : Fin 4 → Nat :=
  let c0_15 : Index := 0#32
  let c0_16 : Index := 0#32
  let c0_17 : Index := 0#32
  let c0_i32 : BitVec 32 := 0#32
  let c1_i32 : BitVec 32 := 1#32
  let arg7 : BitVec 32 := Scf.iv c0_i32 c1_i32 k0_t1
  let c768_i32 : BitVec 32 := 768#32
  let v19 : BitVec 32 := Scalar.muli arg7 c768_i32
  let v20 : BitVec 32 := v19
  let v38 : Index := Scalar.indexCast v20
  ![0, 0, 0, v38.toNat]
def k0_off3 (k0_t1 : Fin k0_t1_loop.trips) : Fin 4 → Nat :=
  let c0_19 : Index := 0#32
  let c1 : Index := 1#32
  let c0_i32 : BitVec 32 := 0#32
  let c1_i32 : BitVec 32 := 1#32
  let arg7 : BitVec 32 := Scf.iv c0_i32 c1_i32 k0_t1
  let c768_i32 : BitVec 32 := 768#32
  let v19 : BitVec 32 := Scalar.muli arg7 c768_i32
  let v20 : BitVec 32 := v19
  let v43 : Index := Scalar.indexCast v20
  let c0_20 : Index := 0#32
  ![0, 1, v43.toNat, 0]
def k0_off4 (k0_t1 : Fin k0_t1_loop.trips) : Fin 4 → Nat :=
  let c0_27 : Index := 0#32
  let c1_28 : Index := 1#32
  let c0_29 : Index := 0#32
  let c0_i32 : BitVec 32 := 0#32
  let c1_i32 : BitVec 32 := 1#32
  let arg7 : BitVec 32 := Scf.iv c0_i32 c1_i32 k0_t1
  let c768_i32 : BitVec 32 := 768#32
  let v19 : BitVec 32 := Scalar.muli arg7 c768_i32
  let v20 : BitVec 32 := v19
  let v60 : Index := Scalar.indexCast v20
  ![0, 1, 0, v60.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x80x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8x8192x64 : Shape := ⟨4, ![4, 8, 8192, 64]⟩
abbrev S4x8x8192x32 : Shape := ⟨4, ![4, 8, 8192, 32]⟩
abbrev S4x8x256x64 : Shape := ⟨4, ![4, 8, 256, 64]⟩
abbrev S4x256x32 : Shape := ⟨3, ![4, 256, 32]⟩
abbrev S4x8192x32 : Shape := ⟨3, ![4, 8192, 32]⟩
abbrev S4x8x8448x64 : Shape := ⟨4, ![4, 8, 8448, 64]⟩
abbrev S4x8448x32 : Shape := ⟨3, ![4, 8448, 32]⟩
abbrev S4x8x8192x8448 : Shape := ⟨4, ![4, 8, 8192, 8448]⟩
abbrev S_ : Shape := ⟨0, ![]⟩
abbrev S4x8x8192 : Shape := ⟨3, ![4, 8, 8192]⟩
abbrev S4x8x8192x1 : Shape := ⟨4, ![4, 8, 8192, 1]⟩
abbrev S4x8192x8x64 : Shape := ⟨4, ![4, 8192, 8, 64]⟩
abbrev S4x8192x512 : Shape := ⟨3, ![4, 8192, 512]⟩

abbrev nBuf : Space → Nat
  | .hbm => 35
  | .vmem => 0
  | .smem => 0
  | _ => 0

abbrev bufTy : (tb : Table) → Fin (tcTables nBuf tb) → BufTy
  | .hbm, ⟨0, _⟩ => ⟨S4x8x8192x64, .f32⟩
  | .hbm, ⟨1, _⟩ => ⟨S4x8x8192x32, .f32⟩
  | .hbm, ⟨2, _⟩ => ⟨S4x8x256x64, .f32⟩
  | .hbm, ⟨3, _⟩ => ⟨S4x256x32, .f32⟩
  | .hbm, ⟨4, _⟩ => ⟨S4x8x256x64, .f32⟩
  | .hbm, ⟨5, _⟩ => ⟨S4x8x8192x64, .f32⟩
  | .hbm, ⟨6, _⟩ => ⟨S4x8192x32, .f32⟩
  | .hbm, ⟨7, _⟩ => ⟨S4x8x8192x64, .f32⟩
  | .hbm, ⟨8, _⟩ => ⟨S4x8x8448x64, .f32⟩
  | .hbm, ⟨9, _⟩ => ⟨S4x8448x32, .f32⟩
  | .hbm, ⟨10, _⟩ => ⟨S4x8x8448x64, .f32⟩
  | .hbm, ⟨11, _⟩ => ⟨S4x8x8192x8448, .f32⟩
  | .hbm, ⟨12, _⟩ => ⟨S4x8x8192x8448, .f32⟩
  | .hbm, ⟨13, _⟩ => ⟨S4x8x8192x8448, .f32⟩
  | .hbm, ⟨14, _⟩ => ⟨S_, .f32⟩
  | .hbm, ⟨15, _⟩ => ⟨S_, .f32⟩
  | .hbm, ⟨16, _⟩ => ⟨S4x8x8192x8448, .f32⟩
  | .hbm, ⟨17, _⟩ => ⟨S4x8x8192x8448, .f32⟩
  | .hbm, ⟨18, _⟩ => ⟨S_, .f32⟩
  | .hbm, ⟨19, _⟩ => ⟨S4x8x8192, .f32⟩
  | .hbm, ⟨20, _⟩ => ⟨S_, .f32⟩
  | .hbm, ⟨21, _⟩ => ⟨S4x8x8192, .f32⟩
  | .hbm, ⟨22, _⟩ => ⟨S4x8x8192, .f32⟩
  | .hbm, ⟨23, _⟩ => ⟨S4x8x8192x1, .f32⟩
  | .hbm, ⟨24, _⟩ => ⟨S4x8x8192x8448, .f32⟩
  | .hbm, ⟨25, _⟩ => ⟨S4x8x8192x8448, .f32⟩
  | .hbm, ⟨26, _⟩ => ⟨S4x8x8192x8448, .f32⟩
  | .hbm, ⟨27, _⟩ => ⟨S_, .f32⟩
  | .hbm, ⟨28, _⟩ => ⟨S4x8x8192, .f32⟩
  | .hbm, ⟨29, _⟩ => ⟨S4x8x8192x1, .f32⟩
  | .hbm, ⟨30, _⟩ => ⟨S4x8x8192x8448, .f32⟩
  | .hbm, ⟨31, _⟩ => ⟨S4x8x8192x8448, .f32⟩
  | .hbm, ⟨32, _⟩ => ⟨S4x8x8192x64, .f32⟩
  | .hbm, ⟨33, _⟩ => ⟨S4x8192x8x64, .f32⟩
  | .hbm, ⟨34, _⟩ => ⟨S4x8192x512, .f32⟩
  | _, _ => ⟨S4x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Experts.lean ====
abbrev S401408x1024 : Shape := ⟨2, ![401408, 1024]⟩
abbrev S784 : Shape := ⟨1, ![784]⟩
abbrev S1 : Shape := ⟨1, ![1]⟩
abbrev S2x256x1024x512 : Shape := ⟨4, ![2, 256, 1024, 512]⟩
abbrev S2x256x256x1024 : Shape := ⟨4, ![2, 256, 256, 1024]⟩
abbrev S512x1024 : Shape := ⟨2, ![512, 1024]⟩
abbrev S1x1x1024x512 : Shape := ⟨4, ![1, 1, 1024, 512]⟩
abbrev S1x1x256x1024 : Shape := ⟨4, ![1, 1, 256, 1024]⟩
abbrev S1024x512 : Shape := ⟨2, ![1024, 512]⟩
abbrev S256x1024 : Shape := ⟨2, ![256, 1024]⟩
abbrev S512x512 : Shape := ⟨2, ![512, 512]⟩
abbrev S512x256 : Shape := ⟨2, ![512, 256]⟩

abbrev nBuf : Space → Nat
  | .hbm => 4
  | .vmem => 10
  | .smem => 2
  | _ => 0

abbrev bufTy : (tb : Table) → Fin (tcTables nBuf tb) → BufTy
  | .hbm, ⟨0, _⟩ => ⟨S401408x1024, .bf16⟩
  | .hbm, ⟨1, _⟩ => ⟨S2x256x1024x512, .f32⟩
  | .hbm, ⟨2, _⟩ => ⟨S2x256x256x1024, .f32⟩
  | .hbm, ⟨3, _⟩ => ⟨S401408x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x256x1024, .f32⟩
  | .local _ .vmem, ⟨5, _⟩ => ⟨S1x1x256x1024, .f32⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S256x1024, .bf16⟩
  | .local _ .smem, ⟨0, _⟩ => ⟨S784, .i32⟩
  | .local _ .smem, ⟨1, _⟩ => ⟨S1, .i32⟩
  | _, _ => ⟨S401408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![784], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S784.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S784) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S784.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S784) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S401408x1024 : Shape := ⟨2, ![401408, 1024]⟩
abbrev S784 : Shape := ⟨1, ![784]⟩
abbrev S1 : Shape := ⟨1, ![1]⟩
abbrev S2x256x1024x512 : Shape := ⟨4, ![2, 256, 1024, 512]⟩
abbrev S2x256x256x1024 : Shape := ⟨4, ![2, 256, 256, 1024]⟩
abbrev S784x512x1024 : Shape := ⟨3, ![784, 512, 1024]⟩
abbrev S_ : Shape := ⟨0, ![]⟩
abbrev S784x1 : Shape := ⟨2, ![784, 1]⟩
abbrev S784x2 : Shape := ⟨2, ![784, 2]⟩
abbrev S784x1024x512 : Shape := ⟨3, ![784, 1024, 512]⟩
abbrev S784x512x512 : Shape := ⟨3, ![784, 512, 512]⟩
abbrev S784x512x256 : Shape := ⟨3, ![784, 512, 256]⟩
abbrev S784x256x1024 : Shape := ⟨3, ![784, 256, 1024]⟩
abbrev S784x1x1 : Shape := ⟨3, ![784, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S401408x1024, .bf16⟩
  | .hbm, ⟨1, _⟩ => ⟨S784, .i32⟩
  | .hbm, ⟨2, _⟩ => ⟨S1, .i32⟩
  | .hbm, ⟨3, _⟩ => ⟨S2x256x1024x512, .f32⟩
  | .hbm, ⟨4, _⟩ => ⟨S2x256x256x1024, .f32⟩
  | .hbm, ⟨5, _⟩ => ⟨S784x512x1024, .bf16⟩
  | .hbm, ⟨6, _⟩ => ⟨S784x512x1024, .f32⟩
  | .hbm, ⟨7, _⟩ => ⟨S_, .i32⟩
  | .hbm, ⟨8, _⟩ => ⟨S784, .i32⟩
  | .hbm, ⟨9, _⟩ => ⟨S784, .i1⟩
  | .hbm, ⟨10, _⟩ => ⟨S_, .i32⟩
  | .hbm, ⟨11, _⟩ => ⟨S784, .i32⟩
  | .hbm, ⟨12, _⟩ => ⟨S784, .i32⟩
  | .hbm, ⟨13, _⟩ => ⟨S784, .i32⟩
  | .hbm, ⟨14, _⟩ => ⟨S_, .i32⟩
  | .hbm, ⟨15, _⟩ => ⟨S784, .i32⟩
  | .hbm, ⟨16, _⟩ => ⟨S784, .i32⟩
  | .hbm, ⟨17, _⟩ => ⟨S784x1, .i32⟩
  | .hbm, ⟨18, _⟩ => ⟨S784x1, .i32⟩
  | .hbm, ⟨19, _⟩ => ⟨S784x2, .i32⟩
  | .hbm, ⟨20, _⟩ => ⟨S784x1024x512, .f32⟩
  | .hbm, ⟨21, _⟩ => ⟨S784x512x512, .f32⟩
  | .hbm, ⟨22, _⟩ => ⟨S784x512x256, .f32⟩
  | .hbm, ⟨23, _⟩ => ⟨S784x512x256, .f32⟩
  | .hbm, ⟨24, _⟩ => ⟨S784x512x256, .f32⟩
  | .hbm, ⟨25, _⟩ => ⟨S784x512x256, .f32⟩
  | .hbm, ⟨26, _⟩ => ⟨S_, .f32⟩
  | .hbm, ⟨27, _⟩ => ⟨S784x512x256, .f32⟩
  | .hbm, ⟨28, _⟩ => ⟨S784x512x256, .f32⟩
  | .hbm, ⟨29, _⟩ => ⟨S_, .f32⟩
  | .hbm, ⟨30, _⟩ => ⟨S784x512x256, .f32⟩
  | .hbm, ⟨31, _⟩ => ⟨S784x512x256, .f32⟩
  | .hbm, ⟨32, _⟩ => ⟨S784x512x256, .f32⟩
  | .hbm, ⟨33, _⟩ => ⟨S784x512x256, .f32⟩
  | .hbm, ⟨34, _⟩ => ⟨S_, .i32⟩
  | .hbm, ⟨35, _⟩ => ⟨S784, .i32⟩
  | .hbm, ⟨36, _⟩ => ⟨S784, .i1⟩
  | .hbm, ⟨37, _⟩ => ⟨S_, .i32⟩
  | .hbm, ⟨38, _⟩ => ⟨S784, .i32⟩
  | .hbm, ⟨39, _⟩ => ⟨S784, .i32⟩
  | .hbm, ⟨40, _⟩ => ⟨S784, .i32⟩
  | .hbm, ⟨41, _⟩ => ⟨S_, .i32⟩
  | .hbm, ⟨42, _⟩ => ⟨S784, .i32⟩
  | .hbm, ⟨43, _⟩ => ⟨S784, .i32⟩
  | .hbm, ⟨44, _⟩ => ⟨S784x1, .i32⟩
  | .hbm, ⟨45, _⟩ => ⟨S784x1, .i32⟩
  | .hbm, ⟨46, _⟩ => ⟨S784x2, .i32⟩
  | .hbm, ⟨47, _⟩ => ⟨S784x256x1024, .f32⟩
  | .hbm, ⟨48, _⟩ => ⟨S784x512x1024, .f32⟩
  | .hbm, ⟨49, _⟩ => ⟨S784, .i32⟩
  | .hbm, ⟨50, _⟩ => ⟨S_, .i32⟩
  | .hbm, ⟨51, _⟩ => ⟨S784, .i32⟩
  | .hbm, ⟨52, _⟩ => ⟨S784, .i1⟩
  | .hbm, ⟨53, _⟩ => ⟨S784x1x1, .i1⟩
  | .hbm, ⟨54, _⟩ => ⟨S_, .f32⟩
  | .hbm, ⟨55, _⟩ => ⟨S_, .f32⟩
  | .hbm, ⟨56, _⟩ => ⟨S784x512x1024, .i1⟩
  | .hbm, ⟨57, _⟩ => ⟨S784x512x1024, .f32⟩
  | .hbm, ⟨58, _⟩ => ⟨S784x512x1024, .f32⟩
  | .hbm, ⟨59, _⟩ => ⟨S401408x1024, .f32⟩
  | .hbm, ⟨60, _⟩ => ⟨S401408x1024, .bf16⟩
  | _, _ => ⟨S401408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== ExpertsTwo.lean ====
abbrev S401408x1024 : Shape := ⟨2, ![401408, 1024]⟩
abbrev S784 : Shape := ⟨1, ![784]⟩
abbrev S1 : Shape := ⟨1, ![1]⟩
abbrev S2x256x1024x512 : Shape := ⟨4, ![2, 256, 1024, 512]⟩
abbrev S2x256x256x1024 : Shape := ⟨4, ![2, 256, 256, 1024]⟩
abbrev S512x1024 : Shape := ⟨2, ![512, 1024]⟩
abbrev S1x1x1024x512 : Shape := ⟨4, ![1, 1, 1024, 512]⟩
abbrev S1x1x256x1024 : Shape := ⟨4, ![1, 1, 256, 1024]⟩
abbrev S1024x512 : Shape := ⟨2, ![1024, 512]⟩
abbrev S256x1024 : Shape := ⟨2, ![256, 1024]⟩
abbrev S512x512 : Shape := ⟨2, ![512, 512]⟩
abbrev S512x256 : Shape := ⟨2, ![512, 256]⟩

abbrev nBuf : Space → Nat
  | .hbm => 4
  | .vmem => 10
  | .smem => 2
  | _ => 0

abbrev bufTy : (tb : Table) → Fin (tcTables nBuf tb) → BufTy
  | .hbm, ⟨0, _⟩ => ⟨S401408x1024, .bf16⟩
  | .hbm, ⟨1, _⟩ => ⟨S2x256x1024x512, .f32⟩
  | .hbm, ⟨2, _⟩ => ⟨S2x256x256x1024, .f32⟩
  | .hbm, ⟨3, _⟩ => ⟨S401408x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x256x1024, .f32⟩
  | .local _ .vmem, ⟨5, _⟩ => ⟨S1x1x256x1024, .f32⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S256x1024, .bf16⟩
  | .local _ .smem, ⟨0, _⟩ => ⟨S784, .i32⟩
  | .local _ .smem, ⟨1, _⟩ => ⟨S1, .i32⟩
  | _, _ => ⟨S401408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![784], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S784.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S784) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S784.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S784) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsTwoReferenceIdeal.lean ====
abbrev S401408x1024 : Shape := ⟨2, ![401408, 1024]⟩
abbrev S784 : Shape := ⟨1, ![784]⟩
abbrev S1 : Shape := ⟨1, ![1]⟩
abbrev S2x256x1024x512 : Shape := ⟨4, ![2, 256, 1024, 512]⟩
abbrev S2x256x256x1024 : Shape := ⟨4, ![2, 256, 256, 1024]⟩
abbrev S784x512x1024 : Shape := ⟨3, ![784, 512, 1024]⟩
abbrev S_ : Shape := ⟨0, ![]⟩
abbrev S784x1 : Shape := ⟨2, ![784, 1]⟩
abbrev S784x2 : Shape := ⟨2, ![784, 2]⟩
abbrev S784x1024x512 : Shape := ⟨3, ![784, 1024, 512]⟩
abbrev S784x512x512 : Shape := ⟨3, ![784, 512, 512]⟩
abbrev S784x512x256 : Shape := ⟨3, ![784, 512, 256]⟩
abbrev S784x256x1024 : Shape := ⟨3, ![784, 256, 1024]⟩
abbrev S784x1x1 : Shape := ⟨3, ![784, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S401408x1024, .bf16⟩
  | .hbm, ⟨1, _⟩ => ⟨S784, .i32⟩
  | .hbm, ⟨2, _⟩ => ⟨S1, .i32⟩
  | .hbm, ⟨3, _⟩ => ⟨S2x256x1024x512, .f32⟩
  | .hbm, ⟨4, _⟩ => ⟨S2x256x256x1024, .f32⟩
  | .hbm, ⟨5, _⟩ => ⟨S784x512x1024, .bf16⟩
  | .hbm, ⟨6, _⟩ => ⟨S784x512x1024, .f32⟩
  | .hbm, ⟨7, _⟩ => ⟨S_, .i32⟩
  | .hbm, ⟨8, _⟩ => ⟨S784, .i32⟩
  | .hbm, ⟨9, _⟩ => ⟨S784, .i1⟩
  | .hbm, ⟨10, _⟩ => ⟨S_, .i32⟩
  | .hbm, ⟨11, _⟩ => ⟨S784, .i32⟩
  | .hbm, ⟨12, _⟩ => ⟨S784, .i32⟩
  | .hbm, ⟨13, _⟩ => ⟨S784, .i32⟩
  | .hbm, ⟨14, _⟩ => ⟨S_, .i32⟩
  | .hbm, ⟨15, _⟩ => ⟨S784, .i32⟩
  | .hbm, ⟨16, _⟩ => ⟨S784, .i32⟩
  | .hbm, ⟨17, _⟩ => ⟨S784x1, .i32⟩
  | .hbm, ⟨18, _⟩ => ⟨S784x1, .i32⟩
  | .hbm, ⟨19, _⟩ => ⟨S784x2, .i32⟩
  | .hbm, ⟨20, _⟩ => ⟨S784x1024x512, .f32⟩
  | .hbm, ⟨21, _⟩ => ⟨S784x512x512, .f32⟩
  | .hbm, ⟨22, _⟩ => ⟨S784x512x256, .f32⟩
  | .hbm, ⟨23, _⟩ => ⟨S784x512x256, .f32⟩
  | .hbm, ⟨24, _⟩ => ⟨S784x512x256, .f32⟩
  | .hbm, ⟨25, _⟩ => ⟨S784x512x256, .f32⟩
  | .hbm, ⟨26, _⟩ => ⟨S_, .f32⟩
  | .hbm, ⟨27, _⟩ => ⟨S784x512x256, .f32⟩
  | .hbm, ⟨28, _⟩ => ⟨S784x512x256, .f32⟩
  | .hbm, ⟨29, _⟩ => ⟨S_, .f32⟩
  | .hbm, ⟨30, _⟩ => ⟨S784x512x256, .f32⟩
  | .hbm, ⟨31, _⟩ => ⟨S784x512x256, .f32⟩
  | .hbm, ⟨32, _⟩ => ⟨S784x512x256, .f32⟩
  | .hbm, ⟨33, _⟩ => ⟨S784x512x256, .f32⟩
  | .hbm, ⟨34, _⟩ => ⟨S_, .i32⟩
  | .hbm, ⟨35, _⟩ => ⟨S784, .i32⟩
  | .hbm, ⟨36, _⟩ => ⟨S784, .i1⟩
  | .hbm, ⟨37, _⟩ => ⟨S_, .i32⟩
  | .hbm, ⟨38, _⟩ => ⟨S784, .i32⟩
  | .hbm, ⟨39, _⟩ => ⟨S784, .i32⟩
  | .hbm, ⟨40, _⟩ => ⟨S784, .i32⟩
  | .hbm, ⟨41, _⟩ => ⟨S_, .i32⟩
  | .hbm, ⟨42, _⟩ => ⟨S784, .i32⟩
  | .hbm, ⟨43, _⟩ => ⟨S784, .i32⟩
  | .hbm, ⟨44, _⟩ => ⟨S784x1, .i32⟩
  | .hbm, ⟨45, _⟩ => ⟨S784x1, .i32⟩
  | .hbm, ⟨46, _⟩ => ⟨S784x2, .i32⟩
  | .hbm, ⟨47, _⟩ => ⟨S784x256x1024, .f32⟩
  | .hbm, ⟨48, _⟩ => ⟨S784x512x1024, .f32⟩
  | .hbm, ⟨49, _⟩ => ⟨S784, .i32⟩
  | .hbm, ⟨50, _⟩ => ⟨S_, .i32⟩
  | .hbm, ⟨51, _⟩ => ⟨S784, .i32⟩
  | .hbm, ⟨52, _⟩ => ⟨S784, .i1⟩
  | .hbm, ⟨53, _⟩ => ⟨S784x1x1, .i1⟩
  | .hbm, ⟨54, _⟩ => ⟨S_, .f32⟩
  | .hbm, ⟨55, _⟩ => ⟨S_, .f32⟩
  | .hbm, ⟨56, _⟩ => ⟨S784x512x1024, .i1⟩
  | .hbm, ⟨57, _⟩ => ⟨S784x512x1024, .f32⟩
  | .hbm, ⟨58, _⟩ => ⟨S784x512x1024, .f32⟩
  | .hbm, ⟨59, _⟩ => ⟨S401408x1024, .f32⟩
  | .hbm, ⟨60, _⟩ => ⟨S401408x1024, .bf16⟩
  | _, _ => ⟨S401408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== SsdIn.lean ====
abbrev S4x8192x1024 : Shape := ⟨3, ![4, 8192, 1024]⟩
abbrev S4x1x1024 : Shape := ⟨3, ![4, 1, 1024]⟩
abbrev S1024x5184 : Shape := ⟨2, ![1024, 5184]⟩
abbrev S3x3072 : Shape := ⟨2, ![3, 3072]⟩
abbrev S3072 : Shape := ⟨1, ![3072]⟩
abbrev S32 : Shape := ⟨1, ![32]⟩
abbrev S1024x2048 : Shape := ⟨2, ![1024, 2048]⟩
abbrev S1024x3072 : Shape := ⟨2, ![1024, 3072]⟩
abbrev S1024x64 : Shape := ⟨2, ![1024, 64]⟩
abbrev S1x3072 : Shape := ⟨2, ![1, 3072]⟩
abbrev S64 : Shape := ⟨1, ![64]⟩
abbrev S1x64 : Shape := ⟨2, ![1, 64]⟩
abbrev S4x8192x2048 : Shape := ⟨3, ![4, 8192, 2048]⟩
abbrev S4x8192x512 : Shape := ⟨3, ![4, 8192, 512]⟩
abbrev S4x64x8192 : Shape := ⟨3, ![4, 64, 8192]⟩
abbrev S1x256x1024 : Shape := ⟨3, ![1, 256, 1024]⟩
abbrev S1x8x1024 : Shape := ⟨3, ![1, 8, 1024]⟩
abbrev S1x1x1024 : Shape := ⟨3, ![1, 1, 1024]⟩
abbrev S1x256x2048 : Shape := ⟨3, ![1, 256, 2048]⟩
abbrev S1x256x512 : Shape := ⟨3, ![1, 256, 512]⟩
abbrev S1x64x256 : Shape := ⟨3, ![1, 64, 256]⟩
abbrev S8x1024 : Shape := ⟨2, ![8, 1024]⟩
abbrev S256x1024 : Shape := ⟨2, ![256, 1024]⟩
abbrev S272x1024 : Shape := ⟨2, ![272, 1024]⟩
abbrev S1x1024 : Shape := ⟨2, ![1, 1024]⟩
abbrev S256x2048 : Shape := ⟨2, ![256, 2048]⟩
abbrev S272x3072 : Shape := ⟨2, ![272, 3072]⟩
abbrev S272x1 : Shape := ⟨2, ![272, 1]⟩
abbrev S256x3072 : Shape := ⟨2, ![256, 3072]⟩
abbrev S256x512 : Shape := ⟨2, ![256, 512]⟩
abbrev S256x64 : Shape := ⟨2, ![256, 64]⟩
abbrev S64x256 : Shape := ⟨2, ![64, 256]⟩

abbrev nBuf : Space → Nat
  | .hbm => 20
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x5184, .f32⟩
  | .hbm, ⟨4, _⟩ => ⟨S3x3072, .f32⟩
  | .hbm, ⟨5, _⟩ => ⟨S3072, .f32⟩
  | .hbm, ⟨6, _⟩ => ⟨S32, .f32⟩
  | .hbm, ⟨7, _⟩ => ⟨S32, .f32⟩
  | .hbm, ⟨8, _⟩ => ⟨S1024x5184, .bf16⟩
  | .hbm, ⟨9, _⟩ => ⟨S1024x2048, .bf16⟩
  | .hbm, ⟨10, _⟩ => ⟨S1024x3072, .bf16⟩
  | .hbm, ⟨11, _⟩ => ⟨S1024x64, .bf16⟩
  | .hbm, ⟨12, _⟩ => ⟨S1x3072, .f32⟩
  | .hbm, ⟨13, _⟩ => ⟨S64, .f32⟩
  | .hbm, ⟨14, _⟩ => ⟨S1x64, .f32⟩
  | .hbm, ⟨15, _⟩ => ⟨S4x8192x2048, .f32⟩
  | .hbm, ⟨16, _⟩ => ⟨S4x8192x2048, .f32⟩
  | .hbm, ⟨17, _⟩ => ⟨S4x8192x512, .f32⟩
  | .hbm, ⟨18, _⟩ => ⟨S4x8192x512, .f32⟩
  | .hbm, ⟨19, _⟩ => ⟨S4x64x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x2048, .bf16⟩
  | .local _ .vmem, ⟨11, _⟩ => ⟨S1024x3072, .bf16⟩
  | .local _ .vmem, ⟨12, _⟩ => ⟨S1024x64, .bf16⟩
  | .local _ .vmem, ⟨13, _⟩ => ⟨S3x3072, .f32⟩
  | .local _ .vmem, ⟨14, _⟩ => ⟨S1x3072, .f32⟩
  | .local _ .vmem, ⟨15, _⟩ => ⟨S1x64, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x64x256, .f32⟩
  | .local _ .vmem, ⟨25, _⟩ => ⟨S1x64x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== SsdInReferenceIdeal.lean ====
abbrev S4x8192x1024 : Shape := ⟨3, ![4, 8192, 1024]⟩
abbrev S4x1x1024 : Shape := ⟨3, ![4, 1, 1024]⟩
abbrev S1024x5184 : Shape := ⟨2, ![1024, 5184]⟩
abbrev S3x3072 : Shape := ⟨2, ![3, 3072]⟩
abbrev S3072 : Shape := ⟨1, ![3072]⟩
abbrev S32 : Shape := ⟨1, ![32]⟩
abbrev S_ : Shape := ⟨0, ![]⟩
abbrev S4x8192x5184 : Shape := ⟨3, ![4, 8192, 5184]⟩
abbrev S4x8192x2048 : Shape := ⟨3, ![4, 8192, 2048]⟩
abbrev S4x8192x3072 : Shape := ⟨3, ![4, 8192, 3072]⟩
abbrev S4x8194x3072 : Shape := ⟨3, ![4, 8194, 3072]⟩
abbrev S1x3072 : Shape := ⟨2, ![1, 3072]⟩
abbrev S1x1x3072 : Shape := ⟨3, ![1, 1, 3072]⟩
abbrev S4x8192x64 : Shape := ⟨3, ![4, 8192, 64]⟩
abbrev S4x8192x512 : Shape := ⟨3, ![4, 8192, 512]⟩
abbrev S4x8192x32 : Shape := ⟨3, ![4, 8192, 32]⟩
abbrev S1x1x32 : Shape := ⟨3, ![1, 1, 32]⟩
abbrev S4x64x8192 : Shape := ⟨3, ![4, 64, 8192]⟩

abbrev nBuf : Space → Nat
  | .hbm => 98
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x5184, .f32⟩
  | .hbm, ⟨4, _⟩ => ⟨S3x3072, .f32⟩
  | .hbm, ⟨5, _⟩ => ⟨S3072, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x5184, .f32⟩
  | .hbm, ⟨16, _⟩ => ⟨S4x8192x2048, .f32⟩
  | .hbm, ⟨17, _⟩ => ⟨S4x8192x3072, .f32⟩
  | .hbm, ⟨18, _⟩ => ⟨S_, .i32⟩
  | .hbm, ⟨19, _⟩ => ⟨S_, .f32⟩
  | .hbm, ⟨20, _⟩ => ⟨S4x8194x3072, .f32⟩
  | .hbm, ⟨21, _⟩ => ⟨S4x8192x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S4x8192x3072, .f32⟩
  | .hbm, ⟨26, _⟩ => ⟨S4x8192x3072, .f32⟩
  | .hbm, ⟨27, _⟩ => ⟨S_, .f32⟩
  | .hbm, ⟨28, _⟩ => ⟨S4x8192x3072, .f32⟩
  | .hbm, ⟨29, _⟩ => ⟨S4x8192x3072, .f32⟩
  | .hbm, ⟨30, _⟩ => ⟨S4x8192x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S4x8192x3072, .f32⟩
  | .hbm, ⟨35, _⟩ => ⟨S4x8192x3072, .f32⟩
  | .hbm, ⟨36, _⟩ => ⟨S4x8192x3072, .f32⟩
  | .hbm, ⟨37, _⟩ => ⟨S4x8192x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S4x8192x3072, .f32⟩
  | .hbm, ⟨42, _⟩ => ⟨S4x8192x3072, .f32⟩
  | .hbm, ⟨43, _⟩ => ⟨S4x8192x3072, .f32⟩
  | .hbm, ⟨44, _⟩ => ⟨S1x1x3072, .f32⟩
  | .hbm, ⟨45, _⟩ => ⟨S4x8192x3072, .f32⟩
  | .hbm, ⟨46, _⟩ => ⟨S4x8192x3072, .f32⟩
  | .hbm, ⟨47, _⟩ => ⟨S4x8192x3072, .f32⟩
  | .hbm, ⟨48, _⟩ => ⟨S4x8192x3072, .f32⟩
  | .hbm, ⟨49, _⟩ => ⟨S_, .f32⟩
  | .hbm, ⟨50, _⟩ => ⟨S4x8192x3072, .f32⟩
  | .hbm, ⟨51, _⟩ => ⟨S4x8192x3072, .f32⟩
  | .hbm, ⟨52, _⟩ => ⟨S_, .f32⟩
  | .hbm, ⟨53, _⟩ => ⟨S4x8192x3072, .f32⟩
  | .hbm, ⟨54, _⟩ => ⟨S4x8192x3072, .f32⟩
  | .hbm, ⟨55, _⟩ => ⟨S4x8192x3072, .f32⟩
  | .hbm, ⟨56, _⟩ => ⟨S4x8192x64, .f32⟩
  | .hbm, ⟨57, _⟩ => ⟨S4x8192x2048, .f32⟩
  | .hbm, ⟨58, _⟩ => ⟨S4x8192x512, .f32⟩
  | .hbm, ⟨59, _⟩ => ⟨S4x8192x512, .f32⟩
  | .hbm, ⟨60, _⟩ => ⟨S4x8192x32, .f32⟩
  | .hbm, ⟨61, _⟩ => ⟨S1x1x32, .f32⟩
  | .hbm, ⟨62, _⟩ => ⟨S4x8192x32, .f32⟩
  | .hbm, ⟨63, _⟩ => ⟨S4x8192x32, .f32⟩
  | .hbm, ⟨64, _⟩ => ⟨S_, .f32⟩
  | .hbm, ⟨65, _⟩ => ⟨S4x8192x32, .f32⟩
  | .hbm, ⟨66, _⟩ => ⟨S4x8192x32, .f32⟩
  | .hbm, ⟨67, _⟩ => ⟨S4x8192x32, .f32⟩
  | .hbm, ⟨68, _⟩ => ⟨S4x8192x32, .f32⟩
  | .hbm, ⟨69, _⟩ => ⟨S4x8192x32, .i1⟩
  | .hbm, ⟨70, _⟩ => ⟨S4x8192x32, .f32⟩
  | .hbm, ⟨71, _⟩ => ⟨S4x8192x32, .f32⟩
  | .hbm, ⟨72, _⟩ => ⟨S4x8192x32, .f32⟩
  | .hbm, ⟨73, _⟩ => ⟨S4x8192x32, .f32⟩
  | .hbm, ⟨74, _⟩ => ⟨S4x8192x32, .f32⟩
  | .hbm, ⟨75, _⟩ => ⟨S4x8192x32, .f32⟩
  | .hbm, ⟨76, _⟩ => ⟨S4x8192x32, .f32⟩
  | .hbm, ⟨77, _⟩ => ⟨S4x8192x32, .f32⟩
  | .hbm, ⟨78, _⟩ => ⟨S4x8192x32, .f32⟩
  | .hbm, ⟨79, _⟩ => ⟨S1x1x32, .f32⟩
  | .hbm, ⟨80, _⟩ => ⟨S4x8192x32, .f32⟩
  | .hbm, ⟨81, _⟩ => ⟨S4x8192x32, .f32⟩
  | .hbm, ⟨82, _⟩ => ⟨S_, .f32⟩
  | .hbm, ⟨83, _⟩ => ⟨S4x8192x32, .f32⟩
  | .hbm, ⟨84, _⟩ => ⟨S4x8192x32, .f32⟩
  | .hbm, ⟨85, _⟩ => ⟨S4x8192x32, .f32⟩
  | .hbm, ⟨86, _⟩ => ⟨S4x8192x32, .f32⟩
  | .hbm, ⟨87, _⟩ => ⟨S4x8192x32, .i1⟩
  | .hbm, ⟨88, _⟩ => ⟨S4x8192x32, .f32⟩
  | .hbm, ⟨89, _⟩ => ⟨S4x8192x32, .f32⟩
  | .hbm, ⟨90, _⟩ => ⟨S4x8192x32, .f32⟩
  | .hbm, ⟨91, _⟩ => ⟨S4x8192x32, .f32⟩
  | .hbm, ⟨92, _⟩ => ⟨S4x8192x32, .f32⟩
  | .hbm, ⟨93, _⟩ => ⟨S4x8192x32, .f32⟩
  | .hbm, ⟨94, _⟩ => ⟨S4x8192x32, .f32⟩
  | .hbm, ⟨95, _⟩ => ⟨S4x8192x32, .f32⟩
  | .hbm, ⟨96, _⟩ => ⟨S4x8192x64, .f32⟩
  | .hbm, ⟨97, _⟩ => ⟨S4x64x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call3_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩

abbrev nD : Nat := 1
abbrev τ : Topo := Topo.v7x

variable {F : FTy → Type} [FloatOps F]
-- ==== SsdOut.lean ====
abbrev S4x8192x1024 : Shape := ⟨3, ![4, 8192, 1024]⟩
abbrev S4x8192x2048 : Shape := ⟨3, ![4, 8192, 2048]⟩
abbrev S32 : Shape := ⟨1, ![32]⟩
abbrev S2048 : Shape := ⟨1, ![2048]⟩
abbrev S2048x1024 : Shape := ⟨2, ![2048, 1024]⟩
abbrev S4x1x1024 : Shape := ⟨3, ![4, 1, 1024]⟩
abbrev S1024 : Shape := ⟨1, ![1024]⟩
abbrev S32x64 : Shape := ⟨2, ![32, 64]⟩
abbrev S1x1x2048 : Shape := ⟨3, ![1, 1, 2048]⟩
abbrev S1x1x1024 : Shape := ⟨3, ![1, 1, 1024]⟩
abbrev S1x256x1024 : Shape := ⟨3, ![1, 256, 1024]⟩
abbrev S1x256x2048 : Shape := ⟨3, ![1, 256, 2048]⟩
abbrev S256x2048 : Shape := ⟨2, ![256, 2048]⟩
abbrev S1x2048 : Shape := ⟨2, ![1, 2048]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S1x1024 : Shape := ⟨2, ![1, 1024]⟩

abbrev nBuf : Space → Nat
  | .hbm => 23
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S4x8192x2048, .f32⟩
  | .hbm, ⟨2, _⟩ => ⟨S4x8192x2048, .f32⟩
  | .hbm, ⟨3, _⟩ => ⟨S4x8192x2048, .f32⟩
  | .hbm, ⟨4, _⟩ => ⟨S4x8192x2048, .f32⟩
  | .hbm, ⟨5, _⟩ => ⟨S32, .f32⟩
  | .hbm, ⟨6, _⟩ => ⟨S2048, .f32⟩
  | .hbm, ⟨7, _⟩ => ⟨S2048x1024, .f32⟩
  | .hbm, ⟨8, _⟩ => ⟨S4x1x1024, .f32⟩
  | .hbm, ⟨9, _⟩ => ⟨S1024, .f32⟩
  | .hbm, ⟨10, _⟩ => ⟨S1024, .f32⟩
  | .hbm, ⟨11, _⟩ => ⟨S4x1x1024, .f32⟩
  | .hbm, ⟨12, _⟩ => ⟨S4x1x1024, .f32⟩
  | .hbm, ⟨13, _⟩ => ⟨S32x64, .f32⟩
  | .hbm, ⟨14, _⟩ => ⟨S2048, .f32⟩
  | .hbm, ⟨15, _⟩ => ⟨S1x1x2048, .f32⟩
  | .hbm, ⟨16, _⟩ => ⟨S1x1x2048, .f32⟩
  | .hbm, ⟨17, _⟩ => ⟨S2048x1024, .bf16⟩
  | .hbm, ⟨18, _⟩ => ⟨S1x1x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .bf16⟩
  | .local _ .vmem, ⟨26, _⟩ => ⟨S1x256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== SsdOutReferenceIdeal.lean ====
abbrev S4x8192x1024 : Shape := ⟨3, ![4, 8192, 1024]⟩
abbrev S4x8192x2048 : Shape := ⟨3, ![4, 8192, 2048]⟩
abbrev S32 : Shape := ⟨1, ![32]⟩
abbrev S2048 : Shape := ⟨1, ![2048]⟩
abbrev S2048x1024 : Shape := ⟨2, ![2048, 1024]⟩
abbrev S4x1x1024 : Shape := ⟨3, ![4, 1, 1024]⟩
abbrev S1024 : Shape := ⟨1, ![1024]⟩
abbrev S4x8192x32x64 : Shape := ⟨4, ![4, 8192, 32, 64]⟩
abbrev S32x1 : Shape := ⟨2, ![32, 1]⟩
abbrev S1x1x32x1 : Shape := ⟨4, ![1, 1, 32, 1]⟩
abbrev S_ : Shape := ⟨0, ![]⟩
abbrev S4x8192x4x512 : Shape := ⟨4, ![4, 8192, 4, 512]⟩
abbrev S4x512 : Shape := ⟨2, ![4, 512]⟩
abbrev S4x8192x4 : Shape := ⟨3, ![4, 8192, 4]⟩
abbrev S4x8192x4x1 : Shape := ⟨4, ![4, 8192, 4, 1]⟩
abbrev S1x1x4x512 : Shape := ⟨4, ![1, 1, 4, 512]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x2048, .f32⟩
  | .hbm, ⟨2, _⟩ => ⟨S4x8192x2048, .f32⟩
  | .hbm, ⟨3, _⟩ => ⟨S4x8192x2048, .f32⟩
  | .hbm, ⟨4, _⟩ => ⟨S4x8192x2048, .f32⟩
  | .hbm, ⟨5, _⟩ => ⟨S32, .f32⟩
  | .hbm, ⟨6, _⟩ => ⟨S2048, .f32⟩
  | .hbm, ⟨7, _⟩ => ⟨S2048x1024, .f32⟩
  | .hbm, ⟨8, _⟩ => ⟨S4x1x1024, .f32⟩
  | .hbm, ⟨9, _⟩ => ⟨S1024, .f32⟩
  | .hbm, ⟨10, _⟩ => ⟨S1024, .f32⟩
  | .hbm, ⟨11, _⟩ => ⟨S4x1x1024, .f32⟩
  | .hbm, ⟨12, _⟩ => ⟨S4x1x1024, .f32⟩
  | .hbm, ⟨13, _⟩ => ⟨S4x8192x32x64, .f32⟩
  | .hbm, ⟨14, _⟩ => ⟨S4x8192x32x64, .f32⟩
  | .hbm, ⟨15, _⟩ => ⟨S4x8192x32x64, .f32⟩
  | .hbm, ⟨16, _⟩ => ⟨S4x8192x32x64, .f32⟩
  | .hbm, ⟨17, _⟩ => ⟨S32x1, .f32⟩
  | .hbm, ⟨18, _⟩ => ⟨S1x1x32x1, .f32⟩
  | .hbm, ⟨19, _⟩ => ⟨S4x8192x32x64, .f32⟩
  | .hbm, ⟨20, _⟩ => ⟨S4x8192x32x64, .f32⟩
  | .hbm, ⟨21, _⟩ => ⟨S4x8192x32x64, .f32⟩
  | .hbm, ⟨22, _⟩ => ⟨S4x8192x2048, .f32⟩
  | .hbm, ⟨23, _⟩ => ⟨S4x8192x2048, .f32⟩
  | .hbm, ⟨24, _⟩ => ⟨S4x8192x2048, .f32⟩
  | .hbm, ⟨25, _⟩ => ⟨S_, .f32⟩
  | .hbm, ⟨26, _⟩ => ⟨S4x8192x2048, .f32⟩
  | .hbm, ⟨27, _⟩ => ⟨S4x8192x2048, .f32⟩
  | .hbm, ⟨28, _⟩ => ⟨S_, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S4x8192x4x512, .f32⟩
  | .hbm, ⟨34, _⟩ => ⟨S4x512, .f32⟩
  | .hbm, ⟨35, _⟩ => ⟨S4x8192x4x512, .f32⟩
  | .hbm, ⟨36, _⟩ => ⟨S_, .f32⟩
  | .hbm, ⟨37, _⟩ => ⟨S4x8192x4, .f32⟩
  | .hbm, ⟨38, _⟩ => ⟨S4x8192x4x1, .f32⟩
  | .hbm, ⟨39, _⟩ => ⟨S_, .f32⟩
  | .hbm, ⟨40, _⟩ => ⟨S4x8192x4x1, .f32⟩
  | .hbm, ⟨41, _⟩ => ⟨S4x8192x4x1, .f32⟩
  | .hbm, ⟨42, _⟩ => ⟨S_, .f32⟩
  | .hbm, ⟨43, _⟩ => ⟨S4x8192x4x1, .f32⟩
  | .hbm, ⟨44, _⟩ => ⟨S4x8192x4x1, .f32⟩
  | .hbm, ⟨45, _⟩ => ⟨S4x8192x4x1, .f32⟩
  | .hbm, ⟨46, _⟩ => ⟨S4x8192x4x512, .f32⟩
  | .hbm, ⟨47, _⟩ => ⟨S4x8192x4x512, .f32⟩
  | .hbm, ⟨48, _⟩ => ⟨S1x1x4x512, .f32⟩
  | .hbm, ⟨49, _⟩ => ⟨S4x8192x4x512, .f32⟩
  | .hbm, ⟨50, _⟩ => ⟨S4x8192x4x512, .f32⟩
  | .hbm, ⟨51, _⟩ => ⟨S4x8192x2048, .f32⟩
  | .hbm, ⟨52, _⟩ => ⟨S_, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S_, .f32⟩
  | .hbm, ⟨60, _⟩ => ⟨S4x8192, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S_, .f32⟩
  | .hbm, ⟨69, _⟩ => ⟨S4x8192, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S4x8192x1024, .f32⟩
  | .hbm, ⟨75, _⟩ => ⟨S4x8192x1024, .f32⟩
  | .hbm, ⟨76, _⟩ => ⟨S_, .f32⟩
  | .hbm, ⟨77, _⟩ => ⟨S4x8192x1, .f32⟩
  | .hbm, ⟨78, _⟩ => ⟨S4x8192x1, .f32⟩
  | .hbm, ⟨79, _⟩ => ⟨S4x8192x1, .f32⟩
  | .hbm, ⟨80, _⟩ => ⟨S4x8192x1024, .f32⟩
  | .hbm, ⟨81, _⟩ => ⟨S4x8192x1024, .f32⟩
  | .hbm, ⟨82, _⟩ => ⟨S1x1x1024, .f32⟩
  | .hbm, ⟨83, _⟩ => ⟨S4x8192x1024, .f32⟩
  | .hbm, ⟨84, _⟩ => ⟨S4x8192x1024, .f32⟩
  | .hbm, ⟨85, _⟩ => ⟨S1x1x1024, .f32⟩
  | .hbm, ⟨86, _⟩ => ⟨S4x8192x1024, .f32⟩
  | .hbm, ⟨87, _⟩ => ⟨S4x8192x1024, .f32⟩
  | .hbm, ⟨88, _⟩ => ⟨S_, .f32⟩
  | .hbm, ⟨89, _⟩ => ⟨S4x1x1024, .f32⟩
  | .hbm, ⟨90, _⟩ => ⟨S4x1x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== MixOut.lean ====
abbrev S4x8192x1024 : Shape := ⟨3, ![4, 8192, 1024]⟩
abbrev S4x8192x512 : Shape := ⟨3, ![4, 8192, 512]⟩
abbrev S1024x1024 : Shape := ⟨2, ![1024, 1024]⟩
abbrev S4x1x1024 : Shape := ⟨3, ![4, 1, 1024]⟩
abbrev S1024 : Shape := ⟨1, ![1024]⟩
abbrev S512x1024 : Shape := ⟨2, ![512, 1024]⟩
abbrev S1x1x1024 : Shape := ⟨3, ![1, 1, 1024]⟩
abbrev S1x256x1024 : Shape := ⟨3, ![1, 256, 1024]⟩
abbrev S1x256x512 : Shape := ⟨3, ![1, 256, 512]⟩
abbrev S256x512 : Shape := ⟨2, ![256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 17
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S1024x1024, .bf16⟩
  | .hbm, ⟨10, _⟩ => ⟨S512x1024, .bf16⟩
  | .hbm, ⟨11, _⟩ => ⟨S512x1024, .bf16⟩
  | .hbm, ⟨12, _⟩ => ⟨S1x1x1024, .f32⟩
  | .hbm, ⟨13, _⟩ => ⟨S1x1x1024, .f32⟩
  | .hbm, ⟨14, _⟩ => ⟨S4x8192x1024, .f32⟩
  | .hbm, ⟨15, _⟩ => ⟨S4x8192x1024, .f32⟩
  | .hbm, ⟨16, _⟩ => ⟨S4x8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .bf16⟩
  | .local _ .vmem, ⟨21, _⟩ => ⟨S1x256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixOutReferenceIdeal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S_, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x1024, .f32⟩
  | .hbm, ⟨39, _⟩ => ⟨S4x8192x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x1x1024, .f32⟩
  | .hbm, ⟨48, _⟩ => ⟨S4x1x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Proof.Finite.lean ====
module

public import proofs.«01_k».proof.Proof.Gen.Pre_finite_scores
public import Idealize.ShloMosaic.Lib.ReduceAll
public import Idealize.ShloMosaic.Lib.Pointwise

@[expose] public section

noncomputable section

/-! What the precondition says: every query and every key is a real number. -/

namespace Cert.Pre_finite_scores.Fin

open Cert.Pre_finite_scores Cert.Pre_finite_scores.Gen Idealize.ShloMosaic

/-- A conjunction of two bits is 1 where both are. -/
theorem and_one (a b : BitVec 1) (h : a &&& b = 1#1) : a = 1#1 ∧ b = 1#1 := by
  revert a b; decide

/-- A number whose absolute value is below infinity is real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = r := by
  have e : FloatOps.ofBits (F := Ideal) .f32 0x7F800000#32 = (⊤ : EReal) := by
    show Ideal.ofBits .f32 0x7F800000#32 = ⊤
    simp [Ideal.ofBits, Ideal.ieee]
  rw [e] at h
  induction x with
  | bot => exact absurd h (by simp [FloatOps.cmpf, FloatOps.hostAbsf, Ideal.cmp])
  | top => exact absurd h (by simp [FloatOps.cmpf, FloatOps.hostAbsf, Ideal.cmp])
  | coe r => exact ⟨r, rfl⟩

section
variable (a0 : FVec Ideal S4x8x8192x64 .f32) (a1 : FVec Ideal S4x8x8192x32 .f32) (a2 : FVec Ideal S4x8x256x64 .f32) (a3 : FVec Ideal S4x256x32 .f32)
  (a4 : FVec Ideal S4x8x256x64 .f32) (a5 : FVec Ideal S4x8x8192x64 .f32) (a6 : FVec Ideal S4x8192x32 .f32) (a7 : FVec Ideal S4x8x8192x64 .f32)

/-- The precondition's six arrays hold real numbers. -/
theorem reals (H : fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a5 i = r) ∧ (∀ i, ∃ r : ℝ, a6 i = r) := by
  have H0 := congrFun H (default : S_.Idx)
  obtain ⟨H0, e6⟩ := and_one _ _ H0
  obtain ⟨H0, e5⟩ := and_one _ _ H0
  obtain ⟨H0, e3⟩ := and_one _ _ H0
  obtain ⟨H0, e2⟩ := and_one _ _ H0
  obtain ⟨e0, e1⟩ := and_one _ _ H0
  haveI : Subsingleton S_.Idx := ⟨fun a b => funext fun d => d.elim0⟩
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e5 i), fun i => real_of_lt _ (Host.reduce_andi_all _ _ _ _ _ e6 i)⟩
end

end Cert.Pre_finite_scores.Fin
end
-- ==== Proof.Host.lean ====
module

public import proofs.«01_k».proof.Proof.Gen.KernelIdeal.Value
public import Idealize.ShloMosaic.Lib.Pointwise

@[expose] public section

noncomputable section

/-! What the kernel's host lines hand the call: the queries, keys and values it reads, from the arguments. -/

namespace Cert.KernelIdeal.Tab

open Cert.KernelIdeal Cert.KernelIdeal.Gen Idealize.ShloMosaic Idealize.ShloMosaic.TcCoe

/-- The queries' slab: 64 columns, the even and the odd rotary columns, 32 zeros, over `√96 · log 2`. -/
def qT (a0 : FVec Ideal S4x8x8192x64 .f32) (a1 : FVec Ideal S4x8x8192x32 .f32) : FVec Ideal S4x8x8192x128 .bf16 :=
  truncf .bf16 (Host.divf (concatenate S4x8x8192x128 3 [⟨S4x8x8192x64, a0⟩,
      ⟨S4x8x8192x16, Host.slice S4x8x8192x16 ![0, 0, 0, 0] ![1, 1, 1, 2] a1 slicesBy_S4x8x8192x32_S4x8x8192x16_0s1_0s1_0s1_0s2⟩,
      ⟨S4x8x8192x16, Host.slice S4x8x8192x16 ![0, 0, 0, 1] ![1, 1, 1, 2] a1 slicesBy_S4x8x8192x32_S4x8x8192x16_0s1_0s1_0s1_1s2⟩,
      ⟨S4x8x8192x32, broadcastInDim S4x8x8192x32 ![] bcast_S_S4x8x8192x32 (constant S_ .f32 0x00000000#32)⟩]
      concatenates_S4x8x8192x64_S4x8x8192x16_S4x8x8192x16_S4x8x8192x32_S4x8x8192x128_d3)
    (broadcastInDim S4x8x8192x128 ![] bcast_S_S4x8x8192x128
      (mulf (Host.sqrt (constant S_ .f32 0x42C00000#32)) (Host.log (constant S_ .f32 0x40000000#32))))) bitsLt_bf16_f32

/-- The keys' slab of the context, as the queries' but unscaled and with the rotary columns shared by the heads. -/
def kcT (a2 : FVec Ideal S4x8x256x64 .f32) (a3 : FVec Ideal S4x256x32 .f32) : FVec Ideal S4x8x256x128 .bf16 :=
  truncf .bf16 (concatenate S4x8x256x128 3 [⟨S4x8x256x64, a2⟩,
      ⟨S4x8x256x16, Host.slice S4x8x256x16 ![0, 0, 0, 0] ![1, 1, 1, 2] (broadcastInDim S4x8x256x32 ![0, 1, 2, 3] bcast_S4x1x256x32_S4x8x256x32_0_1_2_3 (broadcastInDim S4x1x256x32 ![0, 2, 3] bcast_S4x256x32_S4x1x256x32_0_2_3 a3)) slicesBy_S4x8x256x32_S4x8x256x16_0s1_0s1_0s1_0s2⟩,
      ⟨S4x8x256x16, Host.slice S4x8x256x16 ![0, 0, 0, 1] ![1, 1, 1, 2] (broadcastInDim S4x8x256x32 ![0, 1, 2, 3] bcast_S4x1x256x32_S4x8x256x32_0_1_2_3 (broadcastInDim S4x1x256x32 ![0, 2, 3] bcast_S4x256x32_S4x1x256x32_0_2_3 a3)) slicesBy_S4x8x256x32_S4x8x256x16_0s1_0s1_0s1_1s2⟩,
      ⟨S4x8x256x32, broadcastInDim S4x8x256x32 ![] bcast_S_S4x8x256x32 (constant S_ .f32 0x00000000#32)⟩]
      concatenates_S4x8x256x64_S4x8x256x16_S4x8x256x16_S4x8x256x32_S4x8x256x128_d3) bitsLt_bf16_f32

/-- The keys' slab of the latent positions. -/
def klT (a5 : FVec Ideal S4x8x8192x64 .f32) (a6 : FVec Ideal S4x8192x32 .f32) : FVec Ideal S4x8x8192x128 .bf16 :=
  truncf .bf16 (concatenate S4x8x8192x128 3 [⟨S4x8x8192x64, a5⟩,
      ⟨S4x8x8192x16, Host.slice S4x8x8192x16 ![0, 0, 0, 0] ![1, 1, 1, 2] (broadcastInDim S4x8x8192x32 ![0, 1, 2, 3] bcast_S4x1x8192x32_S4x8x8192x32_0_1_2_3 (broadcastInDim S4x1x8192x32 ![0, 2, 3] bcast_S4x8192x32_S4x1x8192x32_0_2_3 a6)) slicesBy_S4x8x8192x32_S4x8x8192x16_0s1_0s1_0s1_0s2⟩,
      ⟨S4x8x8192x16, Host.slice S4x8x8192x16 ![0, 0, 0, 1] ![1, 1, 1, 2] (broadcastInDim S4x8x8192x32 ![0, 1, 2, 3] bcast_S4x1x8192x32_S4x8x8192x32_0_1_2_3 (broadcastInDim S4x1x8192x32 ![0, 2, 3] bcast_S4x8192x32_S4x1x8192x32_0_2_3 a6)) slicesBy_S4x8x8192x32_S4x8x8192x16_0s1_0s1_0s1_1s2⟩,
      ⟨S4x8x8192x32, broadcastInDim S4x8x8192x32 ![] bcast_S_S4x8x8192x32 (constant S_ .f32 0x00000000#32)⟩]
      concatenates_S4x8x8192x64_S4x8x8192x16_S4x8x8192x16_S4x8x8192x32_S4x8x8192x128_d3) bitsLt_bf16_f32

/-- The keys: the context's, then the latent positions'. -/
def kT (a2 : FVec Ideal S4x8x256x64 .f32) (a3 : FVec Ideal S4x256x32 .f32) (a5 : FVec Ideal S4x8x8192x64 .f32) (a6 : FVec Ideal S4x8192x32 .f32) :
    FVec Ideal S4x8x8448x128 .bf16 :=
  concatenate S4x8x8448x128 2 [⟨S4x8x256x128, kcT a2 a3⟩, ⟨S4x8x8192x128, klT a5 a6⟩] concatenates_S4x8x256x128_S4x8x8192x128_S4x8x8448x128_d2

/-- The values, one row a column, with 16 rows of ones below: the context's, then the latent positions'. -/
def vT (a4 : FVec Ideal S4x8x256x64 .f32) (a7 : FVec Ideal S4x8x8192x64 .f32) : FVec Ideal S4x8x80x8448 .bf16 :=
  concatenate S4x8x80x8448 3
    [⟨S4x8x80x256, truncf .bf16 (concatenate S4x8x80x256 2 [⟨S4x8x64x256, transpose S4x8x64x256 [0, 1, 3, 2] a4 transposes_S4x8x256x64_S4x8x64x256_0_1_3_2⟩,
        ⟨S4x8x16x256, broadcastInDim S4x8x16x256 ![] bcast_S_S4x8x16x256 (constant S_ .f32 0x3F800000#32)⟩] concatenates_S4x8x64x256_S4x8x16x256_S4x8x80x256_d2) bitsLt_bf16_f32⟩,
      ⟨S4x8x80x8192, truncf .bf16 (concatenate S4x8x80x8192 2 [⟨S4x8x64x8192, transpose S4x8x64x8192 [0, 1, 3, 2] a7 transposes_S4x8x8192x64_S4x8x64x8192_0_1_3_2⟩,
        ⟨S4x8x16x8192, broadcastInDim S4x8x16x8192 ![] bcast_S_S4x8x16x8192 (constant S_ .f32 0x3F800000#32)⟩] concatenates_S4x8x64x8192_S4x8x16x8192_S4x8x80x8192_d2) bitsLt_bf16_f32⟩]
    concatenates_S4x8x80x256_S4x8x80x8192_S4x8x80x8448_d3

variable (m : (ℓ : Loc nD τ sig) → Buf (Elt Ideal) ℓ) (c : Dev nD)

theorem V_q : V m c main_v9 = qT (m (c, main_arg0)) (m (c, main_arg1)) := by
  unfold_abbrev_sides
  after_results
  rfl
theorem V_k : V m c main_v24 = kT (m (c, main_arg2)) (m (c, main_arg3)) (m (c, main_arg5)) (m (c, main_arg6)) := by
  unfold_abbrev_sides
  after_results
  rfl

theorem V_v : V m c main_v33 = vT (m (c, main_arg4)) (m (c, main_arg7)) := by
  unfold_abbrev_sides
  after_results
  rfl

section entries
variable (a0 : FVec Ideal S4x8x8192x64 .f32) (a1 : FVec Ideal S4x8x8192x32 .f32) (a2 : FVec Ideal S4x8x256x64 .f32) (a3 : FVec Ideal S4x256x32 .f32)
  (a4 : FVec Ideal S4x8x256x64 .f32) (a5 : FVec Ideal S4x8x8192x64 .f32) (a6 : FVec Ideal S4x8192x32 .f32) (a7 : FVec Ideal S4x8x8192x64 .f32)
  (b : Fin 4) (h : Fin 8)

/-- The number the queries are divided by. -/
def scl : EReal := Ideal.sqrt (Ideal.ofBits .f32 0x42C00000#32) * Ideal.log (Ideal.ofBits .f32 0x40000000#32)

theorem qT_nope (i : Fin 8192) (d : Fin 64) : qT a0 a1 (ix4 b h i ⟨d.val, by omega⟩) = Ideal.div (a0 (ix4 b h i d)) scl := by
  pointwise [qT]
  rfl
theorem qT_even (i : Fin 8192) (e : Fin 16) : qT a0 a1 (ix4 b h i ⟨64 + e.val, by omega⟩) = Ideal.div (a1 (ix4 b h i ⟨2 * e.val, by omega⟩)) scl := by
  pointwise [qT]
  rfl
theorem qT_odd (i : Fin 8192) (e : Fin 16) : qT a0 a1 (ix4 b h i ⟨80 + e.val, by omega⟩) = Ideal.div (a1 (ix4 b h i ⟨2 * e.val + 1, by omega⟩)) scl := by
  pointwise [qT]
  rw [dif_neg (by omega), dif_neg (by omega), dif_pos (by omega)]
  exact congrArg (fun x => Ideal.div (a1 (ix4 b h i x)) scl) (Fin.ext (by show 1 + 2 * (80 + e.val - 64 - 16) = 2 * e.val + 1; omega))
theorem qT_pad (i : Fin 8192) (e : Fin 32) : qT a0 a1 (ix4 b h i ⟨96 + e.val, by omega⟩) = Ideal.div 0 scl := by
  pointwise [qT]
  rw [dif_neg (by omega), dif_neg (by omega), dif_neg (by omega)]
  rfl
theorem vT_c (n : Fin 256) (d : Fin 64) : vT a4 a7 (ix4 b h ⟨d.val, by omega⟩ ⟨n.val, by omega⟩) = a4 (ix4 b h n d) := by
  pointwise [vT]
theorem vT_l (n : Fin 8192) (d : Fin 64) : vT a4 a7 (ix4 b h ⟨d.val, by omega⟩ ⟨256 + n.val, by omega⟩) = a7 (ix4 b h n d) := by
  pointwise [vT]
theorem vT_one_c (n : Fin 256) : vT a4 a7 (ix4 b h 64 ⟨n.val, by omega⟩) = 1 := by
  pointwise [vT]
theorem vT_one_l (n : Fin 8192) : vT a4 a7 (ix4 b h 64 ⟨256 + n.val, by omega⟩) = 1 := by
  pointwise [vT]
theorem kT_nope_c (n : Fin 256) (d : Fin 64) : kT a2 a3 a5 a6 (ix4 b h ⟨n.val, by omega⟩ ⟨d.val, by omega⟩) = a2 (ix4 b h n d) := by
  pointwise [kT, kcT, klT]
theorem kT_even_c (n : Fin 256) (e : Fin 16) : kT a2 a3 a5 a6 (ix4 b h ⟨n.val, by omega⟩ ⟨64 + e.val, by omega⟩) = a3 (ix3 b n ⟨2 * e.val, by omega⟩) := by
  pointwise [kT, kcT, klT]
theorem kT_odd_c (n : Fin 256) (e : Fin 16) : kT a2 a3 a5 a6 (ix4 b h ⟨n.val, by omega⟩ ⟨80 + e.val, by omega⟩) = a3 (ix3 b n ⟨2 * e.val + 1, by omega⟩) := by
  pointwise [kT, kcT, klT]
  rw [dif_neg (by omega), dif_neg (by omega), dif_pos (by omega)]
  exact congrArg (fun x => a3 (ix3 b n x)) (Fin.ext (by show 1 + 2 * (80 + e.val - 64 - 16) = 2 * e.val + 1; omega))
theorem kT_pad_c (n : Fin 256) (e : Fin 32) : kT a2 a3 a5 a6 (ix4 b h ⟨n.val, by omega⟩ ⟨96 + e.val, by omega⟩) = 0 := by
  pointwise [kT, kcT, klT]
  rw [dif_neg (by omega), dif_neg (by omega), dif_neg (by omega)]
theorem kT_nope_l (n : Fin 8192) (d : Fin 64) : kT a2 a3 a5 a6 (ix4 b h ⟨256 + n.val, by omega⟩ ⟨d.val, by omega⟩) = a5 (ix4 b h n d) := by
  pointwise [kT, kcT, klT]
theorem kT_even_l (n : Fin 8192) (e : Fin 16) : kT a2 a3 a5 a6 (ix4 b h ⟨256 + n.val, by omega⟩ ⟨64 + e.val, by omega⟩) = a6 (ix3 b n ⟨2 * e.val, by omega⟩) := by
  pointwise [kT, kcT, klT]
theorem kT_odd_l (n : Fin 8192) (e : Fin 16) : kT a2 a3 a5 a6 (ix4 b h ⟨256 + n.val, by omega⟩ ⟨80 + e.val, by omega⟩) = a6 (ix3 b n ⟨2 * e.val + 1, by omega⟩) := by
  pointwise [kT, kcT, klT]
  rw [dif_neg (by omega), dif_neg (by omega), dif_pos (by omega)]
  exact congrArg (fun x => a6 (ix3 b n x)) (Fin.ext (by show 1 + 2 * (80 + e.val - 64 - 16) = 2 * e.val + 1; omega))
theorem kT_pad_l (n : Fin 8192) (e : Fin 32) : kT a2 a3 a5 a6 (ix4 b h ⟨256 + n.val, by omega⟩ ⟨96 + e.val, by omega⟩) = 0 := by
  pointwise [kT, kcT, klT]
  rw [dif_neg (by omega), dif_neg (by omega), dif_neg (by omega)]
end entries

end Cert.KernelIdeal.Tab
end
-- ==== Proof.Online.lean ====
module

public import Idealize.ShloMosaic.Lib.Pointwise

@[expose] public section

noncomputable section

/-! What a softmax computed tile by tile is, over the extended reals: a row's scores come in tiles of
768; the running maximum and the running weighted sum are rescaled at each tile. -/

namespace Cert.Online

open Idealize.ShloMosaic

/-- The running maximum of the scores `s` before tile `k`. -/
def mx (s : ℕ → EReal) : ℕ → EReal
  | 0 => ⊥
  | k + 1 => max (mx s k) (Finset.univ.fold max (⊥ : EReal) fun j : Fin 768 => s (768 * k + j.val))

/-- The running sum of the values `v`, weighted by the powers of two of the scores less the running
maximum, before tile `k`. -/
def acc (s v : ℕ → EReal) : ℕ → EReal
  | 0 => 0
  | k + 1 => Ideal.exp2 (mx s k - mx s (k + 1)) * acc s v k
      + ∑ j : Fin 768, v (768 * k + j.val) * Ideal.exp2 (s (768 * k + j.val) - mx s (k + 1))

/-- A product by a non-negative real distributes over a sum of extended reals. -/
theorem mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top _), ih]

/-- A sum of reals read as extended reals. -/
theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The greatest of finitely many reals (at least one), or of a real and such, is real. -/
theorem fold_max_real {ι : Type*} (S : Finset ι) (hS : S.Nonempty) (f : ι → ℝ) :
    ∃ M : ℝ, S.fold max (⊥ : EReal) (fun i => (f i : EReal)) = M := by
  classical
  induction hS using Finset.Nonempty.cons_induction with
  | singleton a => exact ⟨f a, by simp⟩
  | cons a S ha hS ih =>
    obtain ⟨M, hM⟩ := ih
    exact ⟨max (f a) M, by rw [Finset.fold_cons, hM]; exact (EReal.coe_strictMono.monotone.map_max).symm⟩

/-- The running maximum after a tile of real scores is real. -/
theorem mx_real (t : ℕ → ℝ) (k : ℕ) : ∃ M : ℝ, mx (fun n => (t n : EReal)) (k + 1) = M := by
  induction k with
  | zero =>
    obtain ⟨M, hM⟩ := fold_max_real (Finset.univ : Finset (Fin 768)) ⟨0, Finset.mem_univ _⟩ fun j => t (768 * 0 + j.val)
    exact ⟨M, by rw [mx, hM, mx]; exact max_eq_right bot_le⟩
  | succ k ih =>
    obtain ⟨M, hM⟩ := fold_max_real (Finset.univ : Finset (Fin 768)) ⟨0, Finset.mem_univ _⟩ fun j => t (768 * (k + 1) + j.val)
    obtain ⟨M', hM'⟩ := ih
    exact ⟨max M' M, by rw [mx, hM, hM']; exact (EReal.coe_strictMono.monotone.map_max).symm⟩

/-- A power of two of a real. -/
theorem exp2_coe (x : ℝ) : Ideal.exp2 (x : EReal) = ((Real.exp (x * Real.log 2) : ℝ) : EReal) := by
  rw [Ideal.exp2_coe]
  congr 1
  show (2 : ℝ) ^ x = _
  rw [Real.rpow_def_of_pos (by norm_num), mul_comm]

/-- A tile's sum is a stretch of the sum over all. -/
theorem sum_tile (f : ℕ → EReal) (k : ℕ) :
    ∑ n ∈ Finset.range (768 * (k + 1)), f n = ∑ n ∈ Finset.range (768 * k), f n + ∑ j : Fin 768, f (768 * k + j.val) := by
  rw [show 768 * (k + 1) = 768 * k + 768 by ring, Finset.sum_range_add, Finset.sum_range (fun j => f (768 * k + j))]

/-- The running sum after `k + 1` tiles, in the weights of the maximum so far. -/
theorem acc_eq (t : ℕ → ℝ) (v : ℕ → EReal) (k : ℕ) (M : ℝ) (hM : mx (fun n => (t n : EReal)) (k + 1) = M) :
    acc (fun n => (t n : EReal)) v (k + 1)
      = ∑ n ∈ Finset.range (768 * (k + 1)), ((Real.exp ((t n - M) * Real.log 2) : ℝ) : EReal) * v n := by
  induction k generalizing M with
  | zero =>
    rw [acc, acc, mul_zero, zero_add, hM, sum_tile, Finset.range_zero, Finset.sum_empty, zero_add]
    refine Finset.sum_congr rfl fun j _ => ?_
    rw [← EReal.coe_sub, exp2_coe, mul_comm]
  | succ k ih =>
    obtain ⟨M', hM'⟩ := mx_real t k
    rw [acc, ih M' hM', hM', hM, sum_tile _ (k + 1), ← EReal.coe_sub, exp2_coe, mul_sum _ (Real.exp_pos _).le]
    congr 1
    · refine Finset.sum_congr rfl fun n _ => ?_
      rw [← mul_assoc, ← EReal.coe_mul, ← Real.exp_add]
      congr 3; ring
    · refine Finset.sum_congr rfl fun j _ => ?_
      rw [← EReal.coe_sub, exp2_coe, mul_comm]

/-- The weight of score `n` among the first `N`: the exponential over the sum of exponentials. -/
def wt (u : ℕ → ℝ) (N n : ℕ) : ℝ := Real.exp (u n) / ∑ i ∈ Finset.range N, Real.exp (u i)

/-- The weights do not see a number taken off every score. -/
theorem wt_shift (u : ℕ → ℝ) (N n : ℕ) (M : ℝ) :
    Real.exp (u n - M) / ∑ i ∈ Finset.range N, Real.exp (u i - M) = wt u N n := by
  have h : ∀ i, Real.exp (u i - M) = Real.exp (u i) * Real.exp (-M) := fun i => by rw [← Real.exp_add]; rfl
  unfold wt
  simp only [h]
  rw [← Finset.sum_mul, mul_div_mul_right _ _ (Real.exp_pos _).ne']

/-- The quotient of the running sums after `K + 1` tiles is the softmax's mean of the values. -/
theorem acc_div (t : ℕ → ℝ) (v one : ℕ → EReal) (K : ℕ) (h1 : ∀ n < 768 * (K + 1), one n = 1) :
    Ideal.div (acc (fun n => (t n : EReal)) v (K + 1)) (acc (fun n => (t n : EReal)) one (K + 1))
      = ∑ n ∈ Finset.range (768 * (K + 1)), ((wt (fun n => t n * Real.log 2) (768 * (K + 1)) n : ℝ) : EReal) * v n := by
  obtain ⟨M, hM⟩ := mx_real t K
  have hL : acc (fun n => (t n : EReal)) one (K + 1)
      = ((∑ n ∈ Finset.range (768 * (K + 1)), Real.exp ((t n - M) * Real.log 2) : ℝ) : EReal) := by
    rw [acc_eq t one K M hM, ← coe_sum]
    refine Finset.sum_congr rfl fun n hn => ?_
    rw [h1 n (Finset.mem_range.1 hn), mul_one]
  have hpos : 0 < ∑ n ∈ Finset.range (768 * (K + 1)), Real.exp ((t n - M) * Real.log 2) :=
    Finset.sum_pos (fun _ _ => Real.exp_pos _) ⟨0, Finset.mem_range.2 (by omega)⟩
  rw [hL, Ideal.div_coe hpos.ne', acc_eq t v K M hM, mul_comm, mul_sum _ (one_div_pos.2 hpos).le]
  refine Finset.sum_congr rfl fun n _ => ?_
  rw [← mul_assoc, ← EReal.coe_mul, ← wt_shift _ _ _ (M * Real.log 2), one_div_mul_eq_div]
  simp only [sub_mul]

end Cert.Online
end
-- ==== Proof.Block.lean ====
module

public import proofs.«01_k».proof.Proof.Gen.KernelIdeal.Value
public import Idealize.ShloMosaic.Lib.Pointwise
public import proofs.«01_k».proof.Proof.Online

@[expose] public section

noncomputable section

/-! What the kernel's body leaves in its output block, from the blocks it reads. -/

namespace Cert.KernelIdeal.Blk

open Cert.KernelIdeal Cert.KernelIdeal.Gen Idealize.ShloMosaic Idealize.ShloMosaic.TcCoe

/-- The word of negative infinity. -/
theorem negInf : Ideal.ofBits .f32 0xFF800000#32 = (⊥ : EReal) := by simp [Ideal.ofBits, Ideal.ieee]

/-- The greatest of each column of a matrix. -/
theorem colMax {n0 n1 : Nat} (s : FVec Ideal (⟨2, ![n0, n1]⟩ : Shape) .f32) (h : (⟨2, ![n0, n1]⟩ : Shape).Reduces [0] (⟨1, ![n1]⟩ : Shape)) (hφ) (hacc) (r : Fin n1) :
    multiReduction (F := Ideal) .maximumf [0] (⟨1, ![n1]⟩ : Shape) s (0xFF800000#32 : BitVec 32) h hφ hacc (ix1 r)
      = Finset.univ.fold max (⊥ : EReal) fun j : Fin n0 => s (ix2 j r) := by
  pointwise
  rw [negInf]

/-- A vector read as a matrix of one row. -/
theorem rowOf (v : FVec Ideal S4096 .f32) (r : Fin 4096) :
    shapeCast S1x4096 v shapeCasts_S4096_S1x4096 (ix2 0 r) = v (ix1 r) := by
  pointwise

/-- A tile's scores: the products of its keys and the queries. -/
theorem pay7_apply (kt : Vec Ideal S1x1x768x128 .bf16) (qh : Vec Ideal S1x1x4096x128 .bf16) (j : Fin 768) (r : Fin 4096) :
    k0_pay7 (F := Ideal) kt qh (ix2 j r) = ∑ x : Fin 128, kt (ix4 0 0 j x) * qh (ix4 0 0 r x) := by
  pointwise [k0_pay7]

/-- The maximum after a tile. -/
theorem pay8_apply (m : FVec Ideal S1x4096 .f32) (kt : Vec Ideal S1x1x768x128 .bf16) (qh : Vec Ideal S1x1x4096x128 .bf16) (r : Fin 4096) :
    k0_pay8 (F := Ideal) m kt qh (ix2 0 r)
      = max (m (ix2 0 r)) (Finset.univ.fold max (⊥ : EReal) fun j : Fin 768 => k0_pay7 (F := Ideal) kt qh (ix2 j r)) := by
  unfold k0_pay8
  generalize k0_pay7 (F := Ideal) kt qh = s
  exact congrArg (max (m (ix2 0 r))) ((rowOf _ r).trans (colMax s reduces_S768x4096_S4096 _ _ r))

/-- The weighted sum after a tile. -/
theorem pay9_apply (m : FVec Ideal S1x4096 .f32) (a : FVec Ideal S80x4096 .f32) (kt : Vec Ideal S1x1x768x128 .bf16) (qh : Vec Ideal S1x1x4096x128 .bf16)
    (vt : Vec Ideal S1x1x80x768 .bf16) (d : Fin 80) (r : Fin 4096) :
    k0_pay9 (F := Ideal) m a kt qh vt (ix2 d r)
      = Ideal.exp2 (m (ix2 0 r) - k0_pay8 (F := Ideal) m kt qh (ix2 0 r)) * a (ix2 d r)
        + ∑ j : Fin 768, vt (ix4 0 0 d j) * Ideal.exp2 (k0_pay7 (F := Ideal) kt qh (ix2 j r) - k0_pay8 (F := Ideal) m kt qh (ix2 0 r)) := by
  pointwise [k0_pay9]
  rfl

/-- The block's first 64 columns: the first head's quotients. -/
theorem pay6_apply_lo (a b : FVec Ideal S80x4096 .f32) (r : Fin 4096) (d : Fin 64) :
    k0_pay6 (F := Ideal) a b (ix3 0 r ⟨d.val, by omega⟩) = Ideal.div (a (ix2 ⟨d.val, by omega⟩ r)) (a (ix2 64 r)) := by
  pointwise [k0_pay6]

/-- The block's last 64 columns: the second head's quotients. -/
theorem pay6_apply_hi (a b : FVec Ideal S80x4096 .f32) (r : Fin 4096) (d : Fin 64) :
    k0_pay6 (F := Ideal) a b (ix3 0 r ⟨64 + d.val, by omega⟩) = Ideal.div (b (ix2 ⟨d.val, by omega⟩ r)) (b (ix2 64 r)) := by
  pointwise [k0_pay6]

/-- The second head's maximum is the first head's text. -/
theorem pay11_eq : k0_pay11 (F := Ideal) = k0_pay8 := rfl

/-- The second head's weighted sum is the first head's text. -/
theorem pay5_eq (m : FVec Ideal S1x4096 .f32) (a : FVec Ideal S80x4096 .f32) (kt : Vec Ideal S1x1x768x128 .bf16) (qh : Vec Ideal S1x1x4096x128 .bf16)
    (vt : Vec Ideal S1x1x80x768 .bf16) :
    k0_pay5 (F := Ideal) m a (k0_pay11 m kt qh) (k0_pay12 m kt qh) vt = k0_pay9 m a kt qh vt := rfl

/-- The maxima start at negative infinity, the sums at zero. -/
theorem pay1_apply (r : Fin 4096) : k0_pay1 (F := Ideal) (ix2 0 r) = (⊥ : EReal) := negInf
theorem pay2_apply (d : Fin 80) (r : Fin 4096) : k0_pay2 (F := Ideal) (ix2 d r) = (0 : EReal) := by
  pointwise [k0_pay2]
theorem pay3_apply (r : Fin 4096) : k0_pay3 (F := Ideal) (ix2 0 r) = (⊥ : EReal) := negInf
theorem pay4_apply (d : Fin 80) (r : Fin 4096) : k0_pay4 (F := Ideal) (ix2 d r) = (0 : EReal) := by
  pointwise [k0_pay4]

/-- The scores of one head's query against every key, by key. -/
def sc (x0 : Vec Ideal S1x2x4096x128 .bf16) (x1 : Vec Ideal S1x2x8448x128 .bf16) (h : Fin 2) (r : Fin 4096) (n : ℕ) : EReal :=
  if hn : n < 8448 then ∑ x : Fin 128, x1 (ix4 0 h ⟨n, hn⟩ x) * x0 (ix4 0 h r x) else 0

/-- One head's values in row `d`, by key. -/
def vl (x2 : Vec Ideal S1x2x80x8448 .bf16) (h : Fin 2) (d : Fin 80) (n : ℕ) : EReal :=
  if hn : n < 8448 then x2 (ix4 0 h d ⟨n, hn⟩) else 0

theorem trips_eq : k0_t1_loop.trips = 11 := by decide +kernel

section loads
variable (arg3 : Memref sig .tc .vmem S1x2x4096x128 .bf16) (harg3 : arg3.IsWhole) (arg4 : Memref sig .tc .vmem S1x2x8448x128 .bf16) (harg4 : arg4.IsWhole)
  (arg5 : Memref sig .tc .vmem S1x2x80x8448 .bf16) (harg5 : arg5.IsWhole)
  (x0 : Vec Ideal S1x2x4096x128 .bf16) (x1 : Vec Ideal S1x2x8448x128 .bf16) (x2 : Vec Ideal S1x2x80x8448 .bf16) (k : Fin k0_t1_loop.trips)

theorem k_load0 (j : Fin 768) (x : Fin 128) (hn : 768 * k.val + j.val < 8448) :
    View.readAt (Elt Ideal) arg4.view (Rect.unit (s := S1x2x8448x128) (k0_off1 k) S1x1x768x128.size (k0_off1_inb k)).toLoadRect (harg4.unread x1) (ix4 0 0 j x)
      = x1 (ix4 0 0 ⟨768 * k.val + j.val, hn⟩ x) := by
  rw [View.readAt_eq_ld, harg4.read_unread]
  pointwise
  simp [k0_off1_eq]

theorem k_load1 (j : Fin 768) (x : Fin 128) (hn : 768 * k.val + j.val < 8448) :
    View.readAt (Elt Ideal) arg4.view (Rect.unit (s := S1x2x8448x128) (k0_off3 k) S1x1x768x128.size (k0_off3_inb k)).toLoadRect (harg4.unread x1) (ix4 0 0 j x)
      = x1 (ix4 0 1 ⟨768 * k.val + j.val, hn⟩ x) := by
  rw [View.readAt_eq_ld, harg4.read_unread]
  pointwise
  simp [k0_off3_eq]

theorem v_load0 (d : Fin 80) (j : Fin 768) (hn : 768 * k.val + j.val < 8448) :
    View.readAt (Elt Ideal) arg5.view (Rect.unit (s := S1x2x80x8448) (k0_off2 k) S1x1x80x768.size (k0_off2_inb k)).toLoadRect (harg5.unread x2) (ix4 0 0 d j)
      = x2 (ix4 0 0 d ⟨768 * k.val + j.val, hn⟩) := by
  rw [View.readAt_eq_ld, harg5.read_unread]
  pointwise
  simp [k0_off2_eq]

theorem v_load1 (d : Fin 80) (j : Fin 768) (hn : 768 * k.val + j.val < 8448) :
    View.readAt (Elt Ideal) arg5.view (Rect.unit (s := S1x2x80x8448) (k0_off4 k) S1x1x80x768.size (k0_off4_inb k)).toLoadRect (harg5.unread x2) (ix4 0 0 d j)
      = x2 (ix4 0 1 d ⟨768 * k.val + j.val, hn⟩) := by
  rw [View.readAt_eq_ld, harg5.read_unread]
  pointwise
  simp [k0_off4_eq]

theorem q_load0 (inb) (r : Fin 4096) (x : Fin 128) :
    View.readAt (Elt Ideal) arg3.view (Rect.unit (s := S1x2x4096x128) ![0, 0, 0, 0] S1x1x4096x128.size inb).toLoadRect (harg3.unread x0) (ix4 0 0 r x)
      = x0 (ix4 0 0 r x) := by
  rw [View.readAt_eq_ld, harg3.read_unread]
  pointwise

theorem q_load1 (inb) (r : Fin 4096) (x : Fin 128) :
    View.readAt (Elt Ideal) arg3.view (Rect.unit (s := S1x2x4096x128) ![0, 1, 0, 0] S1x1x4096x128.size inb).toLoadRect (harg3.unread x0) (ix4 0 0 r x)
      = x0 (ix4 0 1 r x) := by
  rw [View.readAt_eq_ld, harg3.read_unread]
  pointwise

end loads

section trip
variable (c : Dev nD) (i : grid0.Coords) (arg3 : Memref sig .tc .vmem S1x2x4096x128 .bf16) (harg3 : arg3.IsWhole) (arg4 : Memref sig .tc .vmem S1x2x8448x128 .bf16) (harg4 : arg4.IsWhole)
  (arg5 : Memref sig .tc .vmem S1x2x80x8448 .bf16) (harg5 : arg5.IsWhole) (arg6 : Memref sig .tc .vmem S1x4096x128 .f32) (harg6 : arg6.IsWhole)
  (x0 : Vec Ideal S1x2x4096x128 .bf16) (x1 : Vec Ideal S1x2x8448x128 .bf16) (x2 : Vec Ideal S1x2x80x8448 .bf16)

/-- One trip of the loop as the four vectors it carries on. -/
theorem trip_eq (k : Fin k0_t1_loop.trips) (a : FVec Ideal S1x4096 .f32 × FVec Ideal S80x4096 .f32 × FVec Ideal S1x4096 .f32 × FVec Ideal S80x4096 .f32)
    (X3 : BufTy.Contents (Elt Ideal) arg3.view.ty) (X4 : BufTy.Contents (Elt Ideal) arg4.view.ty) (X5 : BufTy.Contents (Elt Ideal) arg5.view.ty) :
    ∃ q0 q1 : ∀ a, _, tripR_k0_t1 (F := Ideal) Variants.none c none i arg3 harg3 arg4 harg4 arg5 harg5 arg6 harg6 X3 X4 X5 k a
      = (k0_pay8 a.1
            (View.readAt (Elt Ideal) arg4.view (Rect.unit (s := S1x2x8448x128) (k0_off1 k) S1x1x768x128.size (k0_off1_inb k)).toLoadRect X4)
            (View.readAt (Elt Ideal) arg3.view (Rect.unit (s := S1x2x4096x128) ![0, 0, 0, 0] S1x1x4096x128.size q0).toLoadRect X3),
         k0_pay9 a.1 a.2.1
            (View.readAt (Elt Ideal) arg4.view (Rect.unit (s := S1x2x8448x128) (k0_off1 k) S1x1x768x128.size (k0_off1_inb k)).toLoadRect X4)
            (View.readAt (Elt Ideal) arg3.view (Rect.unit (s := S1x2x4096x128) ![0, 0, 0, 0] S1x1x4096x128.size q0).toLoadRect X3)
            (View.readAt (Elt Ideal) arg5.view (Rect.unit (s := S1x2x80x8448) (k0_off2 k) S1x1x80x768.size (k0_off2_inb k)).toLoadRect X5),
         k0_pay8 a.2.2.1
            (View.readAt (Elt Ideal) arg4.view (Rect.unit (s := S1x2x8448x128) (k0_off3 k) S1x1x768x128.size (k0_off3_inb k)).toLoadRect X4)
            (View.readAt (Elt Ideal) arg3.view (Rect.unit (s := S1x2x4096x128) ![0, 1, 0, 0] S1x1x4096x128.size q1).toLoadRect X3),
         k0_pay9 a.2.2.1 a.2.2.2
            (View.readAt (Elt Ideal) arg4.view (Rect.unit (s := S1x2x8448x128) (k0_off3 k) S1x1x768x128.size (k0_off3_inb k)).toLoadRect X4)
            (View.readAt (Elt Ideal) arg3.view (Rect.unit (s := S1x2x4096x128) ![0, 1, 0, 0] S1x1x4096x128.size q1).toLoadRect X3)
            (View.readAt (Elt Ideal) arg5.view (Rect.unit (s := S1x2x80x8448) (k0_off4 k) S1x1x80x768.size (k0_off4_inb k)).toLoadRect X5)) := by
  unfold tripR_k0_t1 trip_k0_t1
  sl_unfold_run_names
  dsimp only
  rw [pay5_eq, pay11_eq]
  exact ⟨_, _, rfl⟩

/-- The four carried vectors before trip `k`, element by element. -/
theorem st_apply (k : ℕ) (hk : k ≤ 11) (r : Fin 4096) :
    (st_k0_t1 (F := Ideal) Variants.none c none i arg3 harg3 arg4 harg4 arg5 harg5 arg6 harg6 (harg3.unread x0) (harg4.unread x1) (harg5.unread x2)
        (k0_pay1, k0_pay2, k0_pay3, k0_pay4) k).1 (ix2 0 r) = Online.mx (sc x0 x1 0 r) k
    ∧ (∀ d, (st_k0_t1 (F := Ideal) Variants.none c none i arg3 harg3 arg4 harg4 arg5 harg5 arg6 harg6 (harg3.unread x0) (harg4.unread x1) (harg5.unread x2)
        (k0_pay1, k0_pay2, k0_pay3, k0_pay4) k).2.1 (ix2 d r) = Online.acc (sc x0 x1 0 r) (vl x2 0 d) k)
    ∧ (st_k0_t1 (F := Ideal) Variants.none c none i arg3 harg3 arg4 harg4 arg5 harg5 arg6 harg6 (harg3.unread x0) (harg4.unread x1) (harg5.unread x2)
        (k0_pay1, k0_pay2, k0_pay3, k0_pay4) k).2.2.1 (ix2 0 r) = Online.mx (sc x0 x1 1 r) k
    ∧ (∀ d, (st_k0_t1 (F := Ideal) Variants.none c none i arg3 harg3 arg4 harg4 arg5 harg5 arg6 harg6 (harg3.unread x0) (harg4.unread x1) (harg5.unread x2)
        (k0_pay1, k0_pay2, k0_pay3, k0_pay4) k).2.2.2 (ix2 d r) = Online.acc (sc x0 x1 1 r) (vl x2 1 d) k) := by
  induction k with
  | zero =>
    rw [st_k0_t1_zero]
    exact ⟨pay1_apply r, fun d => pay2_apply d r, pay3_apply r, fun d => pay4_apply d r⟩
  | succ k ih =>
    have ht : k < k0_t1_loop.trips := by rw [trips_eq]; omega
    obtain ⟨h1, h2, h3, h4⟩ := ih (by omega)
    obtain ⟨q0, q1, he⟩ := trip_eq c i arg3 harg3 arg4 harg4 arg5 harg5 arg6 harg6 ⟨k, ht⟩
      (st_k0_t1 (F := Ideal) Variants.none c none i arg3 harg3 arg4 harg4 arg5 harg5 arg6 harg6 (harg3.unread x0) (harg4.unread x1) (harg5.unread x2)
        (k0_pay1, k0_pay2, k0_pay3, k0_pay4) k) (harg3.unread x0) (harg4.unread x1) (harg5.unread x2)
    have hn : ∀ j : Fin 768, 768 * k + j.val < 8448 := fun j => by omega
    have s0 : ∀ j : Fin 768, k0_pay7 (F := Ideal)
            (View.readAt (Elt Ideal) arg4.view (Rect.unit (s := S1x2x8448x128) (k0_off1 ⟨k, ht⟩) S1x1x768x128.size (k0_off1_inb ⟨k, ht⟩)).toLoadRect (harg4.unread x1))
            (View.readAt (Elt Ideal) arg3.view (Rect.unit (s := S1x2x4096x128) ![0, 0, 0, 0] S1x1x4096x128.size q0).toLoadRect (harg3.unread x0)) (ix2 j r)
          = sc x0 x1 0 r (768 * k + j.val) := fun j => by
      rw [pay7_apply, sc, dif_pos (hn j)]
      exact Finset.sum_congr rfl fun x _ => by rw [k_load0 (hn := hn j), q_load0]
    have s1 : ∀ j : Fin 768, k0_pay7 (F := Ideal)
            (View.readAt (Elt Ideal) arg4.view (Rect.unit (s := S1x2x8448x128) (k0_off3 ⟨k, ht⟩) S1x1x768x128.size (k0_off3_inb ⟨k, ht⟩)).toLoadRect (harg4.unread x1))
            (View.readAt (Elt Ideal) arg3.view (Rect.unit (s := S1x2x4096x128) ![0, 1, 0, 0] S1x1x4096x128.size q1).toLoadRect (harg3.unread x0)) (ix2 j r)
          = sc x0 x1 1 r (768 * k + j.val) := fun j => by
      rw [pay7_apply, sc, dif_pos (hn j)]
      exact Finset.sum_congr rfl fun x _ => by rw [k_load1 (hn := hn j), q_load1]
    have hs := (st_k0_t1_succ (F := Ideal) Variants.none c none i arg3 harg3 arg4 harg4 arg5 harg5 arg6 harg6 (harg3.unread x0) (harg4.unread x1) (harg5.unread x2)
        (k0_pay1, k0_pay2, k0_pay3, k0_pay4) ⟨k, ht⟩).trans he
    rw [hs]
    dsimp only
    refine ⟨?_, fun d => ?_, ?_, fun d => ?_⟩
    · rw [pay8_apply, h1, Online.mx]; simp only [s0]
    · rw [pay9_apply, pay8_apply, h1, h2, Online.acc, Online.mx]; simp only [s0]
      congr 1
      exact Finset.sum_congr rfl fun j _ => by rw [v_load0 (hn := hn j), vl, dif_pos (hn j)]
    · rw [pay8_apply, h3, Online.mx]; simp only [s1]
    · rw [pay9_apply, pay8_apply, h3, h4, Online.acc, Online.mx]; simp only [s1]
      congr 1
      exact Finset.sum_congr rfl fun j _ => by rw [v_load1 (hn := hn j), vl, dif_pos (hn j)]

/-- The block the body leaves, as the quotients of what the loop carried out. -/
theorem out_eq : ∃ st : FVec Ideal S1x4096 .f32 × FVec Ideal S80x4096 .f32 × FVec Ideal S1x4096 .f32 × FVec Ideal S80x4096 .f32,
    st = st_k0_t1 (F := Ideal) Variants.none c none i arg3 harg3 arg4 harg4 arg5 harg5 arg6 harg6 (harg3.unread x0) (harg4.unread x1) (harg5.unread x2)
        (k0_pay1, k0_pay2, k0_pay3, k0_pay4) k0_t1_loop.trips
    ∧ out0_A_3 (F := Ideal) c i arg3 harg3 arg4 harg4 arg5 harg5 arg6 harg6 x0 x1 x2 = k0_pay6 st.2.1 st.2.2.2 := by
  refine ⟨_, rfl, ?_⟩
  unfold out0_A_3
  rw [View.read_writes_eq_canon _ _ _ (cover0_A_3 c i arg3 harg3 arg4 harg4 arg5 harg5 arg6 harg6 x0 x1 x2)]
  unfold kernelRun0_A
  sl_unfold_run_names
  dsimp only
  exact View.canon_cons_unit_zero (by decide) _ _ _

/-- The block's first 64 columns: the first head's softmax sums. -/
theorem out_lo (r : Fin 4096) (d : Fin 64) :
    out0_A_3 (F := Ideal) c i arg3 harg3 arg4 harg4 arg5 harg5 arg6 harg6 x0 x1 x2 (ix3 0 r ⟨d.val, by omega⟩)
      = Ideal.div (Online.acc (sc x0 x1 0 r) (vl x2 0 ⟨d.val, by omega⟩) 11) (Online.acc (sc x0 x1 0 r) (vl x2 0 64) 11) := by
  obtain ⟨st, hst, he⟩ := out_eq c i arg3 harg3 arg4 harg4 arg5 harg5 arg6 harg6 x0 x1 x2
  have h := st_apply c i arg3 harg3 arg4 harg4 arg5 harg5 arg6 harg6 x0 x1 x2 11 le_rfl r
  rw [← trips_eq, ← hst, trips_eq] at h
  rw [he, pay6_apply_lo, h.2.1, h.2.1]

/-- The block's last 64 columns: the second head's. -/
theorem out_hi (r : Fin 4096) (d : Fin 64) :
    out0_A_3 (F := Ideal) c i arg3 harg3 arg4 harg4 arg5 harg5 arg6 harg6 x0 x1 x2 (ix3 0 r ⟨64 + d.val, by omega⟩)
      = Ideal.div (Online.acc (sc x0 x1 1 r) (vl x2 1 ⟨d.val, by omega⟩) 11) (Online.acc (sc x0 x1 1 r) (vl x2 1 64) 11) := by
  obtain ⟨st, hst, he⟩ := out_eq c i arg3 harg3 arg4 harg4 arg5 harg5 arg6 harg6 x0 x1 x2
  have h := st_apply c i arg3 harg3 arg4 harg4 arg5 harg5 arg6 harg6 x0 x1 x2 11 le_rfl r
  rw [← trips_eq, ← hst, trips_eq] at h
  rw [he, pay6_apply_hi, h.2.2.2, h.2.2.2]

end trip

end Cert.KernelIdeal.Blk
end
-- ==== Proof.Array.lean ====
module

public import proofs.«01_k».proof.Proof.Block
public import Idealize.ShloMosaic.Lib.Pipeline.ValueKit

@[expose] public section

noncomputable section

/-! What the kernel's result array holds, from the three arrays the call reads. -/

namespace Cert.KernelIdeal.Arr

open Cert.KernelIdeal Cert.KernelIdeal.Gen Idealize.ShloMosaic Idealize.ShloMosaic.TcCoe

/-- One query's scores against the keys, by key. -/
def sK (q : FVec Ideal S4x8x8192x128 .bf16) (k : FVec Ideal S4x8x8448x128 .bf16) (b : Fin 4) (h : Fin 8) (i : Fin 8192) (n : ℕ) : EReal :=
  if hn : n < 8448 then ∑ x : Fin 128, k (ix4 b h ⟨n, hn⟩ x) * q (ix4 b h i x) else 0

/-- One head's values in row `d`, by key. -/
def vK (v : FVec Ideal S4x8x80x8448 .bf16) (b : Fin 4) (h : Fin 8) (d : Fin 80) (n : ℕ) : EReal :=
  if hn : n < 8448 then v (ix4 b h d ⟨n, hn⟩) else 0

/-- The result at one query, head and column. -/
def res (q : FVec Ideal S4x8x8192x128 .bf16) (k : FVec Ideal S4x8x8448x128 .bf16) (v : FVec Ideal S4x8x80x8448 .bf16)
    (b : Fin 4) (i : Fin 8192) (h : Fin 8) (d : Fin 64) : EReal :=
  Ideal.div (Online.acc (sK q k b h i) (vK v b h ⟨d.val, by omega⟩) 11) (Online.acc (sK q k b h i) (vK v b h 64) 11)

variable (m : (ℓ : Loc nD τ sig) → Buf (Elt Ideal) ℓ) (c : Dev nD)

/-- The blocks' places, by grid point. -/
theorem idx : ∀ t : Fin grid0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val] := by decide +kernel

/-- A grid point's coordinates: batch, pair of heads, stretch of queries. -/
def pb (t : Fin grid0.N) : Fin 4 := ⟨(grid0.coords t 0).val, (grid0.coords t 0).isLt⟩
def ph (t : Fin grid0.N) : Fin 4 := ⟨(grid0.coords t 1).val, (grid0.coords t 1).isLt⟩
def pq (t : Fin grid0.N) : Fin 2 := ⟨(grid0.coords t 2).val, (grid0.coords t 2).isLt⟩

theorem q_blk (t : Fin cfg0.N) (h : Fin 2) (r : Fin 4096) (x : Fin 128) :
    (iblk m c 0 t : Vec Ideal S1x2x4096x128 .bf16) (ix4 0 h r x)
      = (V m c main_v9 : FVec Ideal S4x8x8192x128 .bf16) (ix4 (pb t) ⟨2 * (ph t).val + h.val, by omega⟩ ⟨4096 * (pq t).val + r.val, by omega⟩ x) := by
  blk_ext [iblk, idx t, pb, ph, pq]

theorem k_blk (t : Fin cfg0.N) (h : Fin 2) (n : Fin 8448) (x : Fin 128) :
    (iblk m c 1 t : Vec Ideal S1x2x8448x128 .bf16) (ix4 0 h n x)
      = (V m c main_v24 : FVec Ideal S4x8x8448x128 .bf16) (ix4 (pb t) ⟨2 * (ph t).val + h.val, by omega⟩ n x) := by
  blk_ext [iblk, idx t, pb, ph, pq]

theorem v_blk (t : Fin cfg0.N) (h : Fin 2) (d : Fin 80) (n : Fin 8448) :
    (iblk m c 2 t : Vec Ideal S1x2x80x8448 .bf16) (ix4 0 h d n)
      = (V m c main_v33 : FVec Ideal S4x8x80x8448 .bf16) (ix4 (pb t) ⟨2 * (ph t).val + h.val, by omega⟩ d n) := by
  blk_ext [iblk, idx t, pb, ph, pq]

theorem sc_blk (t : Fin cfg0.N) (h : Fin 2) (r : Fin 4096) :
    Blk.sc (iblk m c 0 t) (iblk m c 1 t) h r
      = sK (V m c main_v9) (V m c main_v24) (pb t) ⟨2 * (ph t).val + h.val, by omega⟩ ⟨4096 * (pq t).val + r.val, by omega⟩ := by
  funext n
  unfold Blk.sc sK
  split
  · exact Finset.sum_congr rfl fun x _ => by rw [q_blk, k_blk]
  · rfl

theorem vl_blk (t : Fin cfg0.N) (h : Fin 2) (d : Fin 80) :
    Blk.vl (iblk m c 2 t) h d = vK (V m c main_v33) (pb t) ⟨2 * (ph t).val + h.val, by omega⟩ d := by
  funext n
  unfold Blk.vl vK
  split
  · rw [v_blk]
  · rfl

/-- What a grid point leaves at one row, head and column of its block. -/
theorem out_blk (t : Fin cfg0.N) (h : Fin 2) (r : Fin 4096) (d : Fin 64) :
    outsAt0 m c t (ix3 0 r ⟨64 * h.val + d.val, by omega⟩)
      = res (V m c main_v9) (V m c main_v24) (V m c main_v33) (pb t) ⟨4096 * (pq t).val + r.val, by omega⟩ ⟨2 * (ph t).val + h.val, by omega⟩ d := by
  unfold outsAt0 res
  rw [← sc_blk, ← vl_blk, ← vl_blk]
  match h with
  | ⟨0, _⟩ => exact (congrArg (fun x => out0_A_3 c _ _ _ _ _ _ _ _ _ _ _ _ (ix3 0 r x)) (Fin.ext (by show 64 * 0 + d.val = d.val; omega))).trans (Blk.out_lo _ _ _ _ _ _ _ _ _ _ _ _ _ r d)
  | ⟨1, _⟩ => exact Blk.out_hi _ _ _ _ _ _ _ _ _ _ _ _ _ r d

theorem res_congr (q : FVec Ideal S4x8x8192x128 .bf16) (k : FVec Ideal S4x8x8448x128 .bf16) (v : FVec Ideal S4x8x80x8448 .bf16)
    {b b' : Fin 4} {i i' : Fin 8192} {h h' : Fin 8} {d d' : Fin 64} (hb : b.val = b'.val) (hi : i.val = i'.val) (hh : h.val = h'.val) (hd : d.val = d'.val) :
    res q k v b i h d = res q k v b' i' h' d' := by
  rw [Fin.ext hb, Fin.ext hi, Fin.ext hh, Fin.ext hd]

theorem out_at (t : Fin cfg0.N) (y : S1x4096x128.Idx) :
    outsAt0 m c t y = res (V m c main_v9) (V m c main_v24) (V m c main_v33) (pb t)
      ⟨4096 * (pq t).val + (y 1).val, by have : (y 1).val < 4096 := (y 1).isLt; omega⟩
      ⟨2 * (ph t).val + (y 2).val / 64, by have : (y 2).val < 128 := (y 2).isLt; omega⟩ ⟨(y 2).val % 64, by omega⟩ := by
  have hy1 : (y 1).val < 4096 := (y 1).isLt
  have hy2 : (y 2).val < 128 := (y 2).isLt
  have hy : y = ix3 (0 : Fin 1) (⟨(y 1).val, hy1⟩ : Fin 4096) (⟨64 * ((y 2).val / 64) + (y 2).val % 64, by omega⟩ : Fin 128) := by
    funext a
    match a with
    | ⟨0, _⟩ => exact Subsingleton.elim (α := Fin 1) _ _
    | ⟨1, _⟩ => rfl
    | ⟨2, _⟩ => exact Fin.ext (Nat.div_add_mod _ 64).symm
  exact (congrArg (outsAt0 m c t) hy).trans (out_blk m c t ⟨(y 2).val / 64, by omega⟩ ⟨(y 1).val, hy1⟩ ⟨(y 2).val % 64, by omega⟩)

/-- THE RESULT ARRAY, element by element. -/
theorem arr_eq : (dats m 0 c).arrAt 3 cfg0.N
    = fun i : S4x8192x512.Idx => res (V m c main_v9) (V m c main_v24) (V m c main_v33) (i 0) (i 1)
        ⟨(i 2).val / 64, by have : (i 2).val < 512 := (i 2).isLt; omega⟩ ⟨(i 2).val % 64, by omega⟩ := by
  refine (dats m 0 c).arrAt_eq_of_covers 3 _ (by decide +kernel) fun t hf y => ?_
  blk_simp
  rw [after0_3]
  refine (out_at m c t y).trans (res_congr _ _ _ ?_ ?_ ?_ ?_)
  · blk_simp [idx t]; rfl
  · blk_simp [idx t]
    exact congrArg (· + _) (Nat.mul_comm 4096 _)
  · blk_simp [idx t]
    have h : ∀ a b : ℕ, 2 * a + b / 64 = (a * 128 + b) / 64 := fun a b => by omega
    exact h _ _
  · blk_simp [idx t]
    have h : ∀ a b : ℕ, b % 64 = (a * 128 + b) % 64 := fun a b => by omega
    exact h _ _

end Cert.KernelIdeal.Arr
end
-- ==== Proof.Real.lean ====
module

public import proofs.«01_k».proof.Proof.Online

@[expose] public section

noncomputable section

/-! A score by its slab: the product over 128 columns, 64 and the even and odd of 32 and 32 of padding. -/

namespace Cert.Online

open Idealize.ShloMosaic

/-- A real over a real. -/
theorem div_real (x y : ℝ) (hy : y ≠ 0) : Ideal.div (x : EReal) (y : EReal) = ((x / y : ℝ) : EReal) := by
  rw [Ideal.div_coe hy, ← EReal.coe_mul, mul_one_div]

/-- A sum over 32 columns, the even ones and the odd ones. -/
theorem sum_even_odd {M : Type*} [AddCommMonoid M] (f : Fin 32 → M) :
    ∑ x : Fin 32, f x = ∑ e : Fin 16, f ⟨2 * e.val, by omega⟩ + ∑ e : Fin 16, f ⟨2 * e.val + 1, by omega⟩ := by
  rw [← (finProdFinEquiv (m := 16) (n := 2)).sum_comp f, Fintype.sum_prod_type, ← Finset.sum_add_distrib]
  refine Finset.sum_congr rfl fun e _ => ?_
  rw [Fin.sum_univ_two]
  congr 2
  · exact Fin.ext (by simp [finProdFinEquiv])
  · exact Fin.ext (by simp [finProdFinEquiv]; omega)

/-- A sum over 128 columns in four stretches. -/
theorem sum_slab {M : Type*} [AddCommMonoid M] (f : Fin 128 → M) :
    ∑ x : Fin 128, f x = ∑ d : Fin 64, f ⟨d.val, by omega⟩ + (∑ e : Fin 16, f ⟨64 + e.val, by omega⟩
      + (∑ e : Fin 16, f ⟨80 + e.val, by omega⟩ + ∑ e : Fin 32, f ⟨96 + e.val, by omega⟩)) := by
  show ∑ x : Fin (64 + (16 + (16 + 32))), f x = _
  rw [Fin.sum_univ_add, Fin.sum_univ_add, Fin.sum_univ_add]
  refine congrArg₂ (· + ·) rfl (congrArg₂ (· + ·) rfl (congrArg₂ (· + ·) ?_ ?_))
  · exact Finset.sum_congr rfl fun e _ => congrArg f (Fin.ext (by show 64 + (16 + e.val) = 80 + e.val; omega))
  · exact Finset.sum_congr rfl fun e _ => congrArg f (Fin.ext (by show 64 + (16 + (16 + e.val)) = 96 + e.val; omega))

/-- A slab's product of real columns, the queries' divided by `c`. -/
theorem slab_score (kk qq : Fin 128 → EReal) (kn qn : Fin 64 → ℝ) (kp qp : Fin 32 → ℝ) (c : ℝ) (hc : c ≠ 0)
    (k1 : ∀ d : Fin 64, kk ⟨d.val, by omega⟩ = (kn d : EReal)) (k2 : ∀ e : Fin 16, kk ⟨64 + e.val, by omega⟩ = (kp ⟨2 * e.val, by omega⟩ : EReal))
    (k3 : ∀ e : Fin 16, kk ⟨80 + e.val, by omega⟩ = (kp ⟨2 * e.val + 1, by omega⟩ : EReal)) (k4 : ∀ e : Fin 32, kk ⟨96 + e.val, by omega⟩ = 0)
    (q1 : ∀ d : Fin 64, qq ⟨d.val, by omega⟩ = Ideal.div (qn d : EReal) (c : EReal))
    (q2 : ∀ e : Fin 16, qq ⟨64 + e.val, by omega⟩ = Ideal.div (qp ⟨2 * e.val, by omega⟩ : EReal) (c : EReal))
    (q3 : ∀ e : Fin 16, qq ⟨80 + e.val, by omega⟩ = Ideal.div (qp ⟨2 * e.val + 1, by omega⟩ : EReal) (c : EReal)) :
    ∑ x, kk x * qq x = (((∑ d, qn d * kn d + ∑ d, qp d * kp d) / c : ℝ) : EReal) := by
  rw [sum_slab]
  simp only [k1, k2, k3, k4, q1, q2, q3, div_real _ _ hc, zero_mul, Finset.sum_const_zero, add_zero, ← EReal.coe_mul, coe_sum, ← EReal.coe_add]
  congr 1
  rw [sum_even_odd (fun d => qp d * kp d), add_div, add_div, Finset.sum_div, Finset.sum_div, Finset.sum_div]
  refine congrArg₂ (· + ·) ?_ (congrArg₂ (· + ·) ?_ ?_) <;> exact Finset.sum_congr rfl fun _ _ => by ring

/-- The softmax of real scores, as a host computes it: the exponentials less the greatest, over their sum. -/
theorem softmax_real (N : ℕ) (u : ℕ → ℝ) (hN : 0 < N) (M : ℝ) (n : Fin N) :
    Ideal.div (Ideal.exp ((u n.val : EReal) - (M : EReal))) (∑ k : Fin N, Ideal.exp ((u k.val : EReal) - (M : EReal))) = ((wt u N n.val : ℝ) : EReal) := by
  simp only [← EReal.coe_sub, Ideal.exp_coe, coe_sum]
  have hpos : 0 < ∑ k : Fin N, Real.exp (u k.val - M) := Finset.sum_pos (fun _ _ => Real.exp_pos _) ⟨⟨0, hN⟩, Finset.mem_univ _⟩
  rw [div_real _ _ hpos.ne', ← wt_shift u N n.val M, Finset.sum_range (fun i => Real.exp (u i - M))]

end Cert.Online
end
-- ==== Proof.Reference.lean ====
module

public import proofs.«01_k».proof.Proof.Gen.ReferenceIdeal.Run
public import proofs.«01_k».proof.Proof.Online
public import proofs.«01_k».proof.Proof.Real

@[expose] public section

noncomputable section

/-! What the reference computes, element by element. -/

namespace Cert.ReferenceIdeal.Att

open Cert.ReferenceIdeal Cert.ReferenceIdeal.Gen Idealize.ShloMosaic Idealize.ShloMosaic.TcCoe

/-- The scores: the two products, over `√96`. -/
def scores (a0 : FVec Ideal S4x8x8192x64 .f32) (a1 : FVec Ideal S4x8x8192x32 .f32) (a2 : FVec Ideal S4x8x256x64 .f32) (a3 : FVec Ideal S4x256x32 .f32)
    (a5 : FVec Ideal S4x8x8192x64 .f32) (a6 : FVec Ideal S4x8192x32 .f32) : FVec Ideal S4x8x8192x8448 .f32 :=
  Host.divf (addf
      (Host.dotGeneral dot_S4x8x8192x64_S4x8x8448x64_S4x8x8192x8448_3_3_2_2_01_01 none a0
        (concatenate S4x8x8448x64 2 [⟨S4x8x256x64, a2⟩, ⟨S4x8x8192x64, a5⟩] concatenates_S4x8x256x64_S4x8x8192x64_S4x8x8448x64_d2))
      (Host.dotGeneral dot_S4x8x8192x32_S4x8448x32_S4x8x8192x8448_3_2_12_1_0_0 none a1
        (concatenate S4x8448x32 1 [⟨S4x256x32, a3⟩, ⟨S4x8192x32, a6⟩] concatenates_S4x256x32_S4x8192x32_S4x8448x32_d1)))
    (broadcastInDim S4x8x8192x8448 ![] bcast_S_S4x8x8192x8448 (Host.sqrt (constant S_ .f32 0x42C00000#32)))

/-- Each row's greatest score. -/
def rowMax (s : FVec Ideal S4x8x8192x8448 .f32) : FVec Ideal S4x8x8192 .f32 :=
  Host.reduce FloatOps.maximumf s (constant S_ .f32 0xFF800000#32) reducesTo_S4x8x8192x8448_S4x8x8192_d3 h_S_

/-- The exponentials of the scores less `g`, their row's greatest. -/
def expoOf (s : FVec Ideal S4x8x8192x8448 .f32) (g : FVec Ideal S4x8x8192 .f32) : FVec Ideal S4x8x8192x8448 .f32 :=
  Host.exp (subf s (broadcastInDim S4x8x8192x8448 ![0, 1, 2, 3] bcast_S4x8x8192x1_S4x8x8192x8448_0_1_2_3 (broadcastInDim S4x8x8192x1 ![0, 1, 2] bcast_S4x8x8192_S4x8x8192x1_0_1_2
    (maximumf (broadcastInDim S4x8x8192 ![] bcast_S_S4x8x8192 (constant S_ .f32 0xFF800000#32)) g))))

/-- The exponentials of the scores less their row's greatest. -/
def expo (s : FVec Ideal S4x8x8192x8448 .f32) : FVec Ideal S4x8x8192x8448 .f32 := expoOf s (rowMax s)

/-- Exponentials over their row's sum. -/
def normed (e : FVec Ideal S4x8x8192x8448 .f32) : FVec Ideal S4x8x8192x8448 .f32 :=
  Host.divf e (broadcastInDim S4x8x8192x8448 ![0, 1, 2, 3] bcast_S4x8x8192x1_S4x8x8192x8448_0_1_2_3 (broadcastInDim S4x8x8192x1 ![0, 1, 2] bcast_S4x8x8192_S4x8x8192x1_0_1_2
    (Host.reduceAdd e (constant S_ .f32 0x00000000#32) reducesTo_S4x8x8192x8448_S4x8x8192_d3 h_S_)))

/-- The softmax of the scores. -/
def probs (s : FVec Ideal S4x8x8192x8448 .f32) : FVec Ideal S4x8x8192x8448 .f32 := normed (expo s)

/-- The values: the context's, then the latent positions'. -/
def vals (a4 : FVec Ideal S4x8x256x64 .f32) (a7 : FVec Ideal S4x8x8192x64 .f32) : FVec Ideal S4x8x8448x64 .f32 :=
  concatenate S4x8x8448x64 2 [⟨S4x8x256x64, a4⟩, ⟨S4x8x8192x64, a7⟩] concatenates_S4x8x256x64_S4x8x8192x64_S4x8x8448x64_d2

/-- The result: the softmax's mean of the values, the heads laid side by side. -/
def outV (p : FVec Ideal S4x8x8192x8448 .f32) (v : FVec Ideal S4x8x8448x64 .f32) : FVec Ideal S4x8192x512 .f32 :=
  shapeCast S4x8192x512 (transpose S4x8192x8x64 [0, 2, 1, 3] (Host.dotGeneral dot_S4x8x8192x8448_S4x8x8448x64_S4x8x8192x64_3_2_2_3_01_01 none p v)
    transposes_S4x8x8192x64_S4x8192x8x64_0_2_1_3) shapeCasts_S4x8192x8x64_S4x8192x512

theorem res_eq (m : (ℓ : Loc nD τ sig) → Buf (Elt Ideal) ℓ) (c : Dev nD) :
    Value.res_out0 m c = outV (probs (scores (m (c, main_arg0)) (m (c, main_arg1)) (m (c, main_arg2)) (m (c, main_arg3)) (m (c, main_arg5)) (m (c, main_arg6))))
      (vals (m (c, main_arg4)) (m (c, main_arg7))) := rfl

theorem negInf : Ideal.ofBits .f32 0xFF800000#32 = (⊥ : EReal) := by simp [Ideal.ofBits, Ideal.ieee]

section entries
variable (a0 : FVec Ideal S4x8x8192x64 .f32) (a1 : FVec Ideal S4x8x8192x32 .f32) (a2 : FVec Ideal S4x8x256x64 .f32) (a3 : FVec Ideal S4x256x32 .f32)
  (a4 : FVec Ideal S4x8x256x64 .f32) (a5 : FVec Ideal S4x8x8192x64 .f32) (a6 : FVec Ideal S4x8192x32 .f32) (a7 : FVec Ideal S4x8x8192x64 .f32)
  (b : Fin 4) (h : Fin 8) (i : Fin 8192)

theorem scores_c (n : Fin 256) : scores a0 a1 a2 a3 a5 a6 (ix4 b h i ⟨n.val, by omega⟩)
    = Ideal.div (∑ d : Fin 64, a0 (ix4 b h i d) * a2 (ix4 b h n d) + ∑ d : Fin 32, a1 (ix4 b h i d) * a3 (ix3 b n d)) (Ideal.sqrt (Ideal.ofBits .f32 0x42C00000#32)) := by
  pointwise [scores]

theorem scores_l (n : Fin 8192) : scores a0 a1 a2 a3 a5 a6 (ix4 b h i ⟨256 + n.val, by omega⟩)
    = Ideal.div (∑ d : Fin 64, a0 (ix4 b h i d) * a5 (ix4 b h n d) + ∑ d : Fin 32, a1 (ix4 b h i d) * a6 (ix3 b n d)) (Ideal.sqrt (Ideal.ofBits .f32 0x42C00000#32)) := by
  pointwise [scores]

theorem vals_c (n : Fin 256) (d : Fin 64) : vals a4 a7 (ix4 b h ⟨n.val, by omega⟩ d) = a4 (ix4 b h n d) := by
  pointwise [vals]
theorem vals_l (n : Fin 8192) (d : Fin 64) : vals a4 a7 (ix4 b h ⟨256 + n.val, by omega⟩ d) = a7 (ix4 b h n d) := by
  pointwise [vals]

theorem rowMax_apply (s : FVec Ideal S4x8x8192x8448 .f32) :
    rowMax s (ix3 b h i) = Finset.univ.fold max (Ideal.ofBits .f32 0xFF800000#32) fun k : Fin 8448 => s (ix4 b h i k) := by
  pointwise [rowMax]

theorem expoOf_apply (s : FVec Ideal S4x8x8192x8448 .f32) (g : FVec Ideal S4x8x8192 .f32) (n : Fin 8448) :
    expoOf s g (ix4 b h i n) = Ideal.exp (s (ix4 b h i n) - g (ix3 b h i)) := by
  have e : expoOf s g (ix4 b h i n) = Ideal.exp (s (ix4 b h i n) - max (Ideal.ofBits .f32 0xFF800000#32) (g (ix3 b h i))) := by
    pointwise [expoOf]
  rw [e, negInf, max_eq_right bot_le]

theorem normed_apply (e : FVec Ideal S4x8x8192x8448 .f32) (n : Fin 8448) :
    normed e (ix4 b h i n) = Ideal.div (e (ix4 b h i n)) (∑ k : Fin 8448, e (ix4 b h i k)) := by
  pointwise [normed]

/-- A row of real scores has a real greatest. -/
theorem rowMax_real (s : FVec Ideal S4x8x8192x8448 .f32) (u : ℕ → ℝ) (hs : ∀ n : Fin 8448, s (ix4 b h i n) = (u n.val : EReal)) :
    ∃ M : ℝ, rowMax s (ix3 b h i) = (M : EReal) := by
  obtain ⟨M, hM⟩ := Online.fold_max_real (Finset.univ : Finset (Fin 8448)) ⟨0, Finset.mem_univ _⟩ fun n => u n.val
  refine ⟨M, ?_⟩
  rw [rowMax_apply, negInf, ← hM]
  exact congrArg (fun f : Fin 8448 → EReal => Finset.univ.fold max ⊥ f) (funext hs)

/-- A row of real scores has for its softmax the weights of those scores. -/
theorem probs_apply (s : FVec Ideal S4x8x8192x8448 .f32) (u : ℕ → ℝ) (hs : ∀ n : Fin 8448, s (ix4 b h i n) = (u n.val : EReal)) (n : Fin 8448) :
    probs s (ix4 b h i n) = ((Online.wt u 8448 n.val : ℝ) : EReal) := by
  obtain ⟨M, hM⟩ := rowMax_real b h i s u hs
  have he : ∀ k : Fin 8448, expo s (ix4 b h i k) = Ideal.exp ((u k.val : EReal) - (M : EReal)) := fun k => by
    rw [expo, expoOf_apply, hM, hs]
  rw [probs, normed_apply]
  simp only [he]
  exact Online.softmax_real 8448 u (by omega) M n

theorem outV_apply (p : FVec Ideal S4x8x8192x8448 .f32) (v : FVec Ideal S4x8x8448x64 .f32) (d : Fin 64) :
    outV p v (ix3 b i ⟨64 * h.val + d.val, by omega⟩) = ∑ n : Fin 8448, p (ix4 b h i n) * v (ix4 b h n d) := by
  pointwise [outV]
end entries

end Cert.ReferenceIdeal.Att
end
-- ==== Proof.Scores.lean ====
module

public import proofs.«01_k».proof.Proof.Host
public import proofs.«01_k».proof.Proof.Array
public import proofs.«01_k».proof.Proof.Reference

@[expose] public section

noncomputable section

/-! The kernel's scores and the reference's, for real queries and keys: one sequence of real numbers, the kernel's over `log 2`. -/

namespace Cert.Att

open Cert.KernelIdeal Cert.KernelIdeal.Gen Idealize.ShloMosaic

/-- The root of the score's width. -/
theorem root : Ideal.sqrt (Ideal.ofBits .f32 0x42C00000#32) = ((Real.sqrt 96 : ℝ) : EReal) := by
  have e : Ideal.ofBits .f32 0x42C00000#32 = ((96 : ℝ) : EReal) := by
    simp [Ideal.ofBits, Ideal.ieee, -EReal.coe_mul]; norm_num
  rw [e, Ideal.sqrt_coe, if_neg (by norm_num)]

/-- The logarithm of two. -/
theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e, Ideal.log_coe, if_neg (by norm_num)]

theorem root_ne : Real.sqrt 96 ≠ 0 := (Real.sqrt_pos.mpr (by norm_num)).ne'
theorem log_two_ne : Real.log 2 ≠ 0 := (Real.log_pos (by norm_num)).ne'

/-- The queries' divisor, `√96 · log 2`. -/
theorem scl_eq : Tab.scl = ((Real.sqrt 96 * Real.log 2 : ℝ) : EReal) := by
  rw [Tab.scl, root, log_two, EReal.coe_mul]

section scores
variable (r0 : S4x8x8192x64.Idx → ℝ) (r1 : S4x8x8192x32.Idx → ℝ) (r2 : S4x8x256x64.Idx → ℝ) (r3 : S4x256x32.Idx → ℝ)
  (r5 : S4x8x8192x64.Idx → ℝ) (r6 : S4x8192x32.Idx → ℝ) (b : Fin 4) (h : Fin 8) (i : Fin 8192)

/-- A context position's product with a query. -/
def dotC (n : Fin 256) : ℝ := ∑ d : Fin 64, r0 (ix4 b h i d) * r2 (ix4 b h n d) + ∑ d : Fin 32, r1 (ix4 b h i d) * r3 (ix3 b n d)

/-- A latent position's product with a query. -/
def dotL (n : Fin 8192) : ℝ := ∑ d : Fin 64, r0 (ix4 b h i d) * r5 (ix4 b h n d) + ∑ d : Fin 32, r1 (ix4 b h i d) * r6 (ix3 b n d)

/-- The product of a query and position `n`: the context's, then the latent positions', then 0. -/
def dots (n : ℕ) : ℝ :=
  if hc : n < 256 then dotC r0 r1 r2 r3 b h i ⟨n, hc⟩ else if hl : n < 8448 then dotL r0 r1 r5 r6 b h i ⟨n - 256, by omega⟩ else 0

theorem dots_c (n : Fin 256) : dots r0 r1 r2 r3 r5 r6 b h i n.val = dotC r0 r1 r2 r3 b h i n := by
  rw [dots, dif_pos n.isLt]

theorem dots_l (n : Fin 8192) : dots r0 r1 r2 r3 r5 r6 b h i (256 + n.val) = dotL r0 r1 r5 r6 b h i n := by
  rw [dots, dif_neg (by omega), dif_pos (by omega)]
  exact congrArg _ (Fin.ext (by show 256 + n.val - 256 = n.val; omega))

variable (a0 : FVec Ideal S4x8x8192x64 .f32) (a1 : FVec Ideal S4x8x8192x32 .f32) (a2 : FVec Ideal S4x8x256x64 .f32) (a3 : FVec Ideal S4x256x32 .f32)
  (a5 : FVec Ideal S4x8x8192x64 .f32) (a6 : FVec Ideal S4x8192x32 .f32)
  (h0 : ∀ x, a0 x = (r0 x : EReal)) (h1 : ∀ x, a1 x = (r1 x : EReal)) (h2 : ∀ x, a2 x = (r2 x : EReal)) (h3 : ∀ x, a3 x = (r3 x : EReal))
  (h5 : ∀ x, a5 x = (r5 x : EReal)) (h6 : ∀ x, a6 x = (r6 x : EReal))

include h0 h1 h2 h3 h5 h6 in
/-- The kernel's scores are those products over `√96 · log 2`. -/
theorem kernel_scores : Arr.sK (Tab.qT a0 a1) (Tab.kT a2 a3 a5 a6) b h i
    = fun n => ((dots r0 r1 r2 r3 r5 r6 b h i n / (Real.sqrt 96 * Real.log 2) : ℝ) : EReal) := by
  have hne : Real.sqrt 96 * Real.log 2 ≠ 0 := mul_ne_zero root_ne log_two_ne
  funext n
  by_cases hn : n < 8448
  · rw [Arr.sK, dif_pos hn]
    by_cases hc : n < 256
    · rw [dots, dif_pos hc]
      exact Online.slab_score _ _ (fun d => r2 (ix4 b h ⟨n, hc⟩ d)) (fun d => r0 (ix4 b h i d)) (fun e => r3 (ix3 b ⟨n, hc⟩ e)) (fun e => r1 (ix4 b h i e)) _ hne
        (fun d => (Tab.kT_nope_c a2 a3 a5 a6 b h ⟨n, hc⟩ d).trans (h2 _))
        (fun e => (Tab.kT_even_c a2 a3 a5 a6 b h ⟨n, hc⟩ e).trans (h3 _))
        (fun e => (Tab.kT_odd_c a2 a3 a5 a6 b h ⟨n, hc⟩ e).trans (h3 _))
        (fun e => Tab.kT_pad_c a2 a3 a5 a6 b h ⟨n, hc⟩ e)
        (fun d => (Tab.qT_nope a0 a1 b h i d).trans (by rw [h0, scl_eq]))
        (fun e => (Tab.qT_even a0 a1 b h i e).trans (by rw [h1, scl_eq]))
        (fun e => (Tab.qT_odd a0 a1 b h i e).trans (by rw [h1, scl_eq]))
    · obtain ⟨n, rfl⟩ : ∃ k, n = 256 + k := ⟨n - 256, by omega⟩
      have hl : n < 8192 := by omega
      rw [dots_l r0 r1 r2 r3 r5 r6 b h i ⟨n, hl⟩]
      exact Online.slab_score _ _ (fun d => r5 (ix4 b h ⟨n, hl⟩ d)) (fun d => r0 (ix4 b h i d)) (fun e => r6 (ix3 b ⟨n, hl⟩ e)) (fun e => r1 (ix4 b h i e)) _ hne
        (fun d => (Tab.kT_nope_l a2 a3 a5 a6 b h ⟨n, hl⟩ d).trans (h5 _))
        (fun e => (Tab.kT_even_l a2 a3 a5 a6 b h ⟨n, hl⟩ e).trans (h6 _))
        (fun e => (Tab.kT_odd_l a2 a3 a5 a6 b h ⟨n, hl⟩ e).trans (h6 _))
        (fun e => Tab.kT_pad_l a2 a3 a5 a6 b h ⟨n, hl⟩ e)
        (fun d => (Tab.qT_nope a0 a1 b h i d).trans (by rw [h0, scl_eq]))
        (fun e => (Tab.qT_even a0 a1 b h i e).trans (by rw [h1, scl_eq]))
        (fun e => (Tab.qT_odd a0 a1 b h i e).trans (by rw [h1, scl_eq]))
  · rw [Arr.sK, dif_neg hn, dots, dif_neg (by omega), dif_neg hn, zero_div, EReal.coe_zero]

include h0 h1 h2 h3 h5 h6 in
/-- The reference's scores are those products over `√96`. -/
theorem reference_scores (n : Fin 8448) : ReferenceIdeal.Att.scores a0 a1 a2 a3 a5 a6 (ix4 b h i n)
    = ((dots r0 r1 r2 r3 r5 r6 b h i n.val / Real.sqrt 96 : ℝ) : EReal) := by
  rcases n with ⟨n, hn⟩
  by_cases hc : n < 256
  · refine (ReferenceIdeal.Att.scores_c a0 a1 a2 a3 a5 a6 b h i ⟨n, hc⟩).trans ?_
    show _ = ((dots r0 r1 r2 r3 r5 r6 b h i n / Real.sqrt 96 : ℝ) : EReal)
    rw [dots, dif_pos hc, root]
    simp only [h0, h1, h2, h3, ← EReal.coe_mul, Online.coe_sum, ← EReal.coe_add]
    exact Online.div_real _ _ root_ne
  · obtain ⟨n, rfl⟩ : ∃ k, n = 256 + k := ⟨n - 256, by omega⟩
    have hl : n < 8192 := by omega
    refine (ReferenceIdeal.Att.scores_l a0 a1 a2 a3 a5 a6 b h i ⟨n, hl⟩).trans ?_
    show _ = ((dots r0 r1 r2 r3 r5 r6 b h i (256 + n) / Real.sqrt 96 : ℝ) : EReal)
    rw [dots_l r0 r1 r2 r3 r5 r6 b h i ⟨n, hl⟩, root]
    simp only [h0, h1, h5, h6, ← EReal.coe_mul, Online.coe_sum, ← EReal.coe_add]
    exact Online.div_real _ _ root_ne
end scores

end Cert.Att
end
-- ==== Proof.Equation.lean ====
module

public import proofs.«01_k».proof.Proof.Scores

@[expose] public section

noncomputable section

/-! The kernel's result and the reference's are one array. -/

namespace Cert.Att

open Cert.KernelIdeal Cert.KernelIdeal.Gen Idealize.ShloMosaic

variable (a4 : FVec Ideal S4x8x256x64 .f32) (a7 : FVec Ideal S4x8x8192x64 .f32) (b : Fin 4) (h : Fin 8)

/-- The kernel's row of ones. -/
theorem ones (n : ℕ) (hn : n < 8448) : Arr.vK (Tab.vT a4 a7) b h 64 n = 1 := by
  rw [Arr.vK, dif_pos hn]
  by_cases hc : n < 256
  · exact Tab.vT_one_c a4 a7 b h ⟨n, hc⟩
  · obtain ⟨n, rfl⟩ : ∃ k, n = 256 + k := ⟨n - 256, by omega⟩
    exact Tab.vT_one_l a4 a7 b h ⟨n, by omega⟩

/-- The kernel's values are the reference's. -/
theorem values (n : Fin 8448) (d : Fin 64) : Arr.vK (Tab.vT a4 a7) b h ⟨d.val, by omega⟩ n.val = ReferenceIdeal.Att.vals a4 a7 (ix4 b h n d) := by
  rcases n with ⟨n, hn⟩
  rw [Arr.vK, dif_pos hn]
  by_cases hc : n < 256
  · exact (Tab.vT_c a4 a7 b h ⟨n, hc⟩ d).trans (ReferenceIdeal.Att.vals_c a4 a7 b h ⟨n, hc⟩ d).symm
  · obtain ⟨n, rfl⟩ : ∃ k, n = 256 + k := ⟨n - 256, by omega⟩
    exact (Tab.vT_l a4 a7 b h ⟨n, by omega⟩ d).trans (ReferenceIdeal.Att.vals_l a4 a7 b h ⟨n, by omega⟩ d).symm

variable (i : Fin 8192) (a0 : FVec Ideal S4x8x8192x64 .f32) (a1 : FVec Ideal S4x8x8192x32 .f32) (a2 : FVec Ideal S4x8x256x64 .f32) (a3 : FVec Ideal S4x256x32 .f32)
  (a5 : FVec Ideal S4x8x8192x64 .f32) (a6 : FVec Ideal S4x8192x32 .f32)
  (h0 : ∀ x, ∃ r : ℝ, a0 x = r) (h1 : ∀ x, ∃ r : ℝ, a1 x = r) (h2 : ∀ x, ∃ r : ℝ, a2 x = r) (h3 : ∀ x, ∃ r : ℝ, a3 x = r)
  (h5 : ∀ x, ∃ r : ℝ, a5 x = r) (h6 : ∀ x, ∃ r : ℝ, a6 x = r)

include h0 h1 h2 h3 h5 h6

/-- One element of the result, both ways. -/
theorem element (d : Fin 64) :
    Arr.res (Tab.qT a0 a1) (Tab.kT a2 a3 a5 a6) (Tab.vT a4 a7) b i h d
      = ReferenceIdeal.Att.outV (ReferenceIdeal.Att.probs (ReferenceIdeal.Att.scores a0 a1 a2 a3 a5 a6)) (ReferenceIdeal.Att.vals a4 a7)
          (ix3 b i ⟨64 * h.val + d.val, by omega⟩) := by
  choose r0 h0 using h0
  choose r1 h1 using h1
  choose r2 h2 using h2
  choose r3 h3 using h3
  choose r5 h5 using h5
  choose r6 h6 using h6
  rw [Arr.res, kernel_scores r0 r1 r2 r3 r5 r6 b h i a0 a1 a2 a3 a5 a6 h0 h1 h2 h3 h5 h6,
    Online.acc_div (fun n => dots r0 r1 r2 r3 r5 r6 b h i n / (Real.sqrt 96 * Real.log 2)) _ _ 10 fun n hn => ones a4 a7 b h n (by omega)]
  refine Eq.trans ?_ (ReferenceIdeal.Att.outV_apply b h i _ _ d).symm
  have e : (fun n => dots r0 r1 r2 r3 r5 r6 b h i n / (Real.sqrt 96 * Real.log 2) * Real.log 2) = fun n => dots r0 r1 r2 r3 r5 r6 b h i n / Real.sqrt 96 := by
    funext n
    rw [div_mul_eq_mul_div, mul_div_mul_right _ _ log_two_ne]
  rw [e]
  show ∑ n ∈ Finset.range 8448, _ = _
  rw [Finset.sum_range]
  refine Finset.sum_congr rfl fun n _ => ?_
  exact congrArg₂ (· * ·) (ReferenceIdeal.Att.probs_apply b h i _ _ (reference_scores r0 r1 r2 r3 r5 r6 b h i a0 a1 a2 a3 a5 a6 h0 h1 h2 h3 h5 h6) n).symm (values a4 a7 b h n d)

omit b h i in
/-- The two results are one array. -/
theorem equation : (fun x : S4x8192x512.Idx => Arr.res (Tab.qT a0 a1) (Tab.kT a2 a3 a5 a6) (Tab.vT a4 a7) (x 0) (x 1)
        ⟨(x 2).val / 64, by have := (x 2).isLt; simp at this; omega⟩ ⟨(x 2).val % 64, by omega⟩)
      = ReferenceIdeal.Att.outV (ReferenceIdeal.Att.probs (ReferenceIdeal.Att.scores a0 a1 a2 a3 a5 a6)) (ReferenceIdeal.Att.vals a4 a7) := by
  funext x
  obtain ⟨b, i, c, rfl⟩ : ∃ (b : Fin 4) (i : Fin 8192) (c : Fin 512), x = ix3 b i c := ⟨x 0, x 1, x 2, funext fun d => by fin_cases d <;> rfl⟩
  refine (element a4 a7 b ⟨c.val / 64, by omega⟩ i a0 a1 a2 a3 a5 a6 h0 h1 h2 h3 h5 h6 ⟨c.val % 64, by omega⟩).trans ?_
  exact congrArg _ (congrArg (ix3 b i) (Fin.ext (by show 64 * (c.val / 64) + c.val % 64 = c.val; omega)))

end Cert.Att
end
-- ==== Proof.Experts.Body.lean ====
module

public import proofs.«01_k».proof.Proof.Gen.ExpertsIdeal.Skeleton
public import proofs.«01_k».proof.Proof.Gen.ExpertsIdeal.Launch
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Tactic

@[expose] public section

set_option maxRecDepth 16384
set_option Elab.async false

noncomputable section

/-! What one run of the experts' body does, on each of its three ways. -/

namespace Cert.ExpertsIdeal.Way

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The experts' numbers, one per block of rows. -/
abbrev tb : Memref sig .tc .smem S784 .i32 := Memref.whole main_arg1
/-- How many blocks hold rows. -/
abbrev tn : Memref sig .tc .smem S1 .i32 := Memref.whole main_arg2
/-- The expert's first weights, kept from step to step. -/
abbrev sg : Memref sig .tc .vmem S1024x512 .bf16 := Memref.whole cc0_scratch0
/-- The expert's second weights, kept from step to step. -/
abbrev sd : Memref sig .tc .vmem S256x1024 .bf16 := Memref.whole cc0_scratch1

/-- The number of blocks, as the body loads it. -/
abbrev nword (T1 : S1.Idx → Elt F .i32) : Elt F .i32 :=
  View.readAt (Elt F) tn.view (Rect.unit (s := S1) ![0] S1.size inb_S1_S1_0).toLoadRect T1 (Shape.Idx.first (numel1_S1.symm ▸ Nat.one_pos))
/-- This block's expert, as the body loads it. -/
abbrev eword (i : grid0.Coords) (T0 : S784.Idx → Elt F .i32) : Elt F .i32 :=
  View.readAt (Elt F) tb.view (Rect.unit (s := S784) (k0_off2 i) S1.size (k0_off2_inb i)).toLoadRect T0 (Shape.Idx.first (numel1_S1.symm ▸ Nat.one_pos))
/-- The block before's expert, as the body loads it. -/
abbrev pword (i : grid0.Coords) (T0 : S784.Idx → Elt F .i32) : Elt F .i32 :=
  View.readAt (Elt F) tb.view (Rect.unit (s := S784) (k0_off3 i) S1.size (k0_off3_inb i)).toLoadRect T0 (Shape.Idx.first (numel1_S1.symm ▸ Nat.one_pos))
/-- Whether the body fetches the weights anew. -/
abbrev anew (i : grid0.Coords) (T0 : S784.Idx → Elt F .i32) : BitVec 1 :=
  Scalar.cmpi .ne (Scalar.extui (Scalar.ori (Scalar.cmpi .eq (BitVec.ofNat 32 (i 0).val) 0#32) (Scalar.cmpi .ne (eword i T0) (pword i T0)))) 0#32

/-- A list of one store of everything reads back as what was stored. -/
theorem read_one {s : Shape} {e : EltTy} (v : View sig .tc .vmem s e) (f : v.ty.Contents (Elt F)) (off : Fin s.rank → ℕ)
    (inb : ∀ a, off a + s.size a ≤ s.size a) (w : s.Idx → Elt F e) : v.read (Elt F) (v.writes (Elt F) f [⟨Rect.unit off s.size inb, w⟩]) = w := by
  funext y
  have h := View.read_writes_cons_emb v f (Rect.unit off s.size inb) w [] y
  rwa [show (Rect.unit off s.size inb).emb y = y from funext fun a => Fin.ext (by
    show off a + 1 * (y a).val = (y a).val
    have := inb a; omega)] at h

/-- A load of everything reads what the view holds. -/
theorem load_all {s : Shape} {e : EltTy} {sp : Space} (v : View sig .tc sp s e) (f : v.ty.Contents (Elt F)) (off : Fin s.rank → ℕ)
    (inb : ∀ a, off a + s.size a ≤ s.size a) {x : s.Idx → Elt F e} (h : v.read (Elt F) f = x) :
    v.readAt (Elt F) (Rect.unit off s.size inb).toLoadRect f = x := by
  subst h
  funext y
  exact congrArg (v.read (Elt F) f) (funext fun a => Fin.ext (by
    show off a + 1 * (y a).val = (y a).val
    have := inb a; omega))

/-- And so does a load of everything after that one store. -/
theorem load_one {s : Shape} {e : EltTy} (off off' : Fin s.rank → ℕ) (inb : ∀ a, off a + s.size a ≤ s.size a) (inb' : ∀ a, off' a + s.size a ≤ s.size a)
    (w : s.Idx → Elt F e) (v : View sig .tc .vmem s e) :
    v.readCov [⟨Rect.unit off s.size inb, w⟩] (Rect.unit off' s.size inb').toLoadRect = w := by
  unfold View.readCov
  exact load_all v _ off' inb' (read_one v _ off inb w)

section
variable (c : Dev nD) (i : grid0.Coords) (arg3 : Memref sig .tc .vmem S512x1024 .bf16) (harg3 : arg3.IsWhole) (arg4 : Memref sig .tc .vmem S1x1x1024x512 .f32) (harg4 : arg4.IsWhole)
    (arg5 : Memref sig .tc .vmem S1x1x256x1024 .f32) (harg5 : arg5.IsWhole) (arg6 : Memref sig .tc .vmem S512x1024 .bf16) (harg6 : arg6.IsWhole)
    (T0 : S784.Idx → Elt F .i32) (T1 : S1.Idx → Elt F .i32)
    (x0 : S512x1024.Idx → Elt F .bf16) (x1 : S1x1x1024x512.Idx → Elt F .f32) (x2 : S1x1x256x1024.Idx → Elt F .f32)
    (y0 : S1024x512.Idx → Elt F .bf16) (y1 : S256x1024.Idx → Elt F .bf16)

/-- What the body reads and hands back untouched: the rows, the two weights, the two tables. -/
abbrev ins : sProp 𝕄 :=
  iprop(owns (c : Thread nD τ) arg3 fullShare x0 ∗ owns (c : Thread nD τ) arg4 fullShare x1 ∗ owns (c : Thread nD τ) arg5 fullShare x2
    ∗ (tb.view.loc (c : Thread nD τ) ↦{fullShare.right} T0) ∗ (tn.view.loc (c : Thread nD τ) ↦{fullShare.right} T1))

/-- The body on its buffers. -/
abbrev body : Prog (TpuEff nD τ sig (Elt F) Λ₀ .tc) PUnit :=
  cc0_moe_experts i tb (Memref.isWhole_whole _) tn (Memref.isWhole_whole _) arg3 harg3 arg4 harg4 arg5 harg5 arg6 harg6 sg (Memref.isWhole_whole _) sd (Memref.isWhole_whole _)

set_option maxHeartbeats 8000000 in
/-- A block of rows whose expert is another one than the block before's: the weights are fetched and kept, and the rows go through them. -/
theorem fetch (h1 : k0_cond1 i (nword T1) = 1#1) (h2 : anew i T0 = 1#1) (h3 : ¬ k0_cond3 i (nword T1) = 1#1) (K : PUnit → sProp 𝕄) :
    iprop(ins c arg3 arg4 arg5 T0 T1 x0 x1 x2 ∗ (∃ d, owns (c : Thread nD τ) arg6 fullShare d)
        ∗ (∃ d, owns (c : Thread nD τ) sg fullShare d) ∗ (∃ d, owns (c : Thread nD τ) sd fullShare d)
        ∗ (iprop(ins c arg3 arg4 arg5 T0 T1 x0 x1 x2 ∗ owns (c : Thread nD τ) arg6 fullShare (k0_pay3 x0 (k0_pay1 x1) (k0_pay2 x2))
            ∗ owns (c : Thread nD τ) sg fullShare (k0_pay1 x1) ∗ owns (c : Thread nD τ) sd fullShare (k0_pay2 x2)) -∗ K ⟨⟩))
      ⊢ wp frame (wpE (defs₀ (F := F)) Variants.none c none) Set.univ (body i arg3 harg3 arg4 harg4 arg5 harg5 arg6 harg6) K := by
  unfold ins body owns
  rw [cc0_moe_experts_eq_skeleton]; unfold cc0_moe_experts_skel
  iintro ⟨⟨⟨%f0, %e0, H0⟩, ⟨%f1, %e1, H1⟩, ⟨%f2, %e2, H2⟩, HT0, HT1⟩, ⟨%d3, %f3, -, HO⟩, ⟨%d4, %f4, -, HG⟩, ⟨%d5, %f5, -, HD⟩, Hk⟩
  have hG : sg.IsWhole := Memref.isWhole_whole _
  have hD : sd.IsWhole := Memref.isWhole_whole _
  have hb : tb.IsWhole := Memref.isWhole_whole _
  have hn : tn.IsWhole := Memref.isWhole_whole _
  sl_exec! (disch := first | sl_exact h1 | sl_exact h3 | exact h2)
  sl_step
  iapply Hk
  isplitl [H0 H1 H2 HT0 HT1]
  · isplitl [H0]
    · iexists _; isplitr; swap
      · iexact H0
      · ipureintro; exact e0
    isplitl [H1]
    · iexists _; isplitr; swap
      · iexact H1
      · ipureintro; exact e1
    isplitl [H2]
    · iexists _; isplitr; swap
      · iexact H2
      · ipureintro; exact e2
    isplitl [HT0]; · iexact HT0
    iexact HT1
  isplitl [HO]
  · iexists _; isplitr; swap
    · iexact HO
    · ipureintro
      delta fetch.sl.HO_1 fetch.sl.v20 fetch.sl.v21 fetch.sl.HG_1 fetch.sl.HD_1
      refine (read_one _ _ _ _ _).trans ?_
      rw [load_all _ _ _ _ e0, load_one, load_one, load_all _ _ _ _ e1, load_all _ _ _ _ e2]
  isplitl [HG]
  · iexists _; isplitr; swap
    · iexact HG
    · ipureintro
      delta fetch.sl.HG_1
      refine (read_one _ _ _ _ _).trans ?_
      rw [load_all _ _ _ _ e1]
  · iexists _; isplitr; swap
    · iexact HD
    · ipureintro
      delta fetch.sl.HD_1
      refine (read_one _ _ _ _ _).trans ?_
      rw [load_all _ _ _ _ e2]

set_option maxHeartbeats 8000000 in
/-- A block whose expert is the block before's: the rows go through the weights kept. -/
theorem keep (h1 : k0_cond1 i (nword T1) = 1#1) (h2 : ¬ anew i T0 = 1#1) (h3 : ¬ k0_cond3 i (nword T1) = 1#1) (K : PUnit → sProp 𝕄) :
    iprop(ins c arg3 arg4 arg5 T0 T1 x0 x1 x2 ∗ (∃ d, owns (c : Thread nD τ) arg6 fullShare d)
        ∗ owns (c : Thread nD τ) sg fullShare y0 ∗ owns (c : Thread nD τ) sd fullShare y1
        ∗ (iprop(ins c arg3 arg4 arg5 T0 T1 x0 x1 x2 ∗ owns (c : Thread nD τ) arg6 fullShare (k0_pay3 x0 y0 y1)
            ∗ owns (c : Thread nD τ) sg fullShare y0 ∗ owns (c : Thread nD τ) sd fullShare y1) -∗ K ⟨⟩))
      ⊢ wp frame (wpE (defs₀ (F := F)) Variants.none c none) Set.univ (body i arg3 harg3 arg4 harg4 arg5 harg5 arg6 harg6) K := by
  unfold ins body owns
  rw [cc0_moe_experts_eq_skeleton]; unfold cc0_moe_experts_skel
  iintro ⟨⟨⟨%f0, %e0, H0⟩, ⟨%f1, %e1, H1⟩, ⟨%f2, %e2, H2⟩, HT0, HT1⟩, ⟨%d3, %f3, -, HO⟩, ⟨%f4, %e4, HG⟩, ⟨%f5, %e5, HD⟩, Hk⟩
  have hG : sg.IsWhole := Memref.isWhole_whole _
  have hD : sd.IsWhole := Memref.isWhole_whole _
  have hb : tb.IsWhole := Memref.isWhole_whole _
  have hn : tn.IsWhole := Memref.isWhole_whole _
  sl_exec! (disch := first | sl_exact h1 | sl_exact h3 | exact h2)
  sl_step
  iapply Hk
  isplitl [H0 H1 H2 HT0 HT1]
  · isplitl [H0]
    · iexists _; isplitr; swap
      · iexact H0
      · ipureintro; exact e0
    isplitl [H1]
    · iexists _; isplitr; swap
      · iexact H1
      · ipureintro; exact e1
    isplitl [H2]
    · iexists _; isplitr; swap
      · iexact H2
      · ipureintro; exact e2
    isplitl [HT0]; · iexact HT0
    iexact HT1
  isplitl [HO]
  · iexists _; isplitr; swap
    · iexact HO
    · ipureintro
      delta keep.sl.HO_1
      refine (read_one _ _ _ _ _).trans ?_
      rw [load_all _ _ _ _ e0, load_all _ _ _ _ e4, load_all _ _ _ _ e5]
  isplitl [HG]
  · iexists _; isplitr; swap
    · iexact HG
    · ipureintro; exact e4
  · iexists _; isplitr; swap
    · iexact HD
    · ipureintro; exact e5

set_option maxHeartbeats 8000000 in
/-- A block past the ones that hold rows: zeros. -/
theorem idle (h1 : ¬ k0_cond1 i (nword T1) = 1#1) (h3 : k0_cond3 i (nword T1) = 1#1) (K : PUnit → sProp 𝕄) :
    iprop(ins c arg3 arg4 arg5 T0 T1 x0 x1 x2 ∗ (∃ d, owns (c : Thread nD τ) arg6 fullShare d)
        ∗ (iprop(ins c arg3 arg4 arg5 T0 T1 x0 x1 x2 ∗ owns (c : Thread nD τ) arg6 fullShare (k0_pay4 (F := F))) -∗ K ⟨⟩))
      ⊢ wp frame (wpE (defs₀ (F := F)) Variants.none c none) Set.univ (body i arg3 harg3 arg4 harg4 arg5 harg5 arg6 harg6) K := by
  unfold ins body owns
  rw [cc0_moe_experts_eq_skeleton]; unfold cc0_moe_experts_skel
  iintro ⟨⟨⟨%f0, %e0, H0⟩, ⟨%f1, %e1, H1⟩, ⟨%f2, %e2, H2⟩, HT0, HT1⟩, ⟨%d3, %f3, -, HO⟩, Hk⟩
  have hb : tb.IsWhole := Memref.isWhole_whole _
  have hn : tn.IsWhole := Memref.isWhole_whole _
  sl_exec! (disch := first | sl_exact h1 | sl_exact h3)
  sl_step
  iapply Hk
  isplitl [H0 H1 H2 HT0 HT1]
  · isplitl [H0]
    · iexists _; isplitr; swap
      · iexact H0
      · ipureintro; exact e0
    isplitl [H1]
    · iexists _; isplitr; swap
      · iexact H1
      · ipureintro; exact e1
    isplitl [H2]
    · iexists _; isplitr; swap
      · iexact H2
      · ipureintro; exact e2
    isplitl [HT0]; · iexact HT0
    iexact HT1
  · iexists _; isplitr; swap
    · iexact HO
    · ipureintro
      delta idle.sl.HO_1
      exact read_one _ _ _ _ _

end

end Cert.ExpertsIdeal.Way

end
-- ==== Proof.Experts.Tables.lean ====
module

public import proofs.«01_k».proof.Proof.Experts.Body
public import Idealize.ShloMosaic.Lib.Affine
public import Idealize.ShloMosaic.Lib.Pipeline.Covers
public import Idealize.ShloMosaic.Lib.Pointwise
public import Idealize.ShloMosaic.Lib.Pipeline.ValueKit

@[expose] public section

set_option maxRecDepth 16384

noncomputable section

/-! The experts call at any two tables whose experts are among the 256: the words its maps and its body read, and the pipeline they give. -/

namespace Cert.ExpertsIdeal.Way

open Cert.ExpertsIdeal Cert.ExpertsIdeal.Gen Idealize.ShloMosaic Idealize.ShloMosaic.TcCoe

variable {F : FTy → Type} [FloatOps F]

/-- A grid point's coordinate and the places of the words read there. -/
theorem places : ∀ t : Fin grid0.N, (grid0.coords t 0).val = t.val ∧ k0_off1 (grid0.coords t) 0 = t.val ∧ k0_off2 (grid0.coords t) 0 = t.val
    ∧ k0_off3 (grid0.coords t) 0 = t.val - 1 ∧ cc0_transform_3 (grid0.coords t) = ![t.val, 0] := by decide +kernel

/-- A grid point as a block of rows. -/
def blk (t : Fin grid0.N) : Fin 784 := ⟨t.val, N_0 ▸ t.isLt⟩

theorem flag (b : BitVec 1) : Scalar.cmpi .ne (Scalar.extui b : BitVec 32) 0#32 = b := by revert b; decide

theorem small (n : Fin 784) : (BitVec.ofNat 32 n.val).toInt = n.val := by revert n; decide +kernel

theorem bit_one (b : Bool) : BitVec.ofBool b = 1#1 ↔ b = true := by cases b <;> decide

/-- The body computes rows where the block is one of the first `v`. -/
theorem live_iff (t : Fin grid0.N) (v : BitVec 32) : k0_cond1 (grid0.coords t) v = 1#1 ↔ (t.val : ℤ) < v.toInt := by
  have h : k0_cond1 (grid0.coords t) v = Scalar.cmpi .slt (BitVec.ofNat 32 (grid0.coords t 0).val) v := flag _
  rw [h, (places t).1]
  show BitVec.ofBool (BitVec.slt _ _) = 1#1 ↔ _
  rw [bit_one, BitVec.slt_iff_toInt_lt, show (BitVec.ofNat 32 t.val).toInt = (t.val : ℤ) from small (blk t)]

/-- It stores zeros elsewhere. -/
theorem dead_iff (t : Fin grid0.N) (v : BitVec 32) : k0_cond3 (grid0.coords t) v = 1#1 ↔ ¬ (t.val : ℤ) < v.toInt := by
  have h : k0_cond3 (grid0.coords t) v = Scalar.cmpi .sge (BitVec.ofNat 32 (grid0.coords t 0).val) v := flag _
  rw [h, (places t).1]
  show BitVec.ofBool (BitVec.sle _ _) = 1#1 ↔ _
  rw [bit_one, BitVec.sle_iff_toInt_le, show (BitVec.ofNat 32 t.val).toInt = (t.val : ℤ) from small (blk t), Int.not_lt]

variable (T0 : S784.Idx → BitVec 32) (T1 : S1.Idx → BitVec 32)

theorem nword_eq : nword (F := F) T1 = T1 (ix1 0) := congrArg T1 (funext fun a => match a with | ⟨0, _⟩ => Subsingleton.elim (α := Fin 1) _ _)

theorem eword_eq (t : Fin grid0.N) : eword (F := F) (grid0.coords t) T0 = T0 (ix1 (blk t)) :=
  congrArg T0 (funext fun a => match a with | ⟨0, _⟩ => Fin.ext (by
    show k0_off2 (grid0.coords t) 0 + 1 * 0 = t.val
    rw [(places t).2.2.1]; rfl))

theorem pword_eq (t : Fin grid0.N) (ht : t.val ≠ 0) : pword (F := F) (grid0.coords t) T0 = T0 (ix1 ⟨t.val - 1, by have := (blk t).isLt; show t.val - 1 < 784; have : t.val < 784 := this; omega⟩) :=
  congrArg T0 (funext fun a => match a with | ⟨0, _⟩ => Fin.ext (by
    show k0_off3 (grid0.coords t) 0 + 1 * 0 = t.val - 1
    rw [(places t).2.2.2.1]; rfl))

/-- Where the weights are not fetched anew, the block is not the first and its expert is the block before's. -/
theorem not_anew (t : Fin grid0.N) (h : ¬ anew (F := F) (grid0.coords t) T0 = 1#1) : t.val ≠ 0 ∧ eword (F := F) (grid0.coords t) T0 = pword (F := F) (grid0.coords t) T0 := by
  rw [anew, flag] at h
  have key : ∀ x y : BitVec 1, ¬ Scalar.ori x y = 1#1 → ¬ x = 1#1 ∧ ¬ y = 1#1 := by decide
  obtain ⟨h1, h2⟩ := key _ _ h
  constructor
  · intro h0
    refine h1 ?_
    rw [(places t).1, h0]; decide
  · by_contra hne
    refine h2 ?_
    show BitVec.ofBool (_ != _) = 1#1
    rw [bit_one]
    simpa using hne

/-- The tables as the pipeline takes them. -/
def tabs : pre0.Contents (Elt F) := fun | ⟨0, _⟩ => T0 | ⟨1, _⟩ => T1 | ⟨_ + 2, h⟩ => absurd h (by simp)

/-- The block of rows a grid point takes: its own, or the last that holds rows. -/
def row (t : Fin grid0.N) (v : BitVec 32) : BitVec 32 :=
  Scalar.maxsi (Scalar.minsi (BitVec.ofNat 32 t.val) (Scalar.subi v 1#32)) 0#32

theorem row_le (t : Fin grid0.N) (v : BitVec 32) : (row t v).toNat ≤ t.val := by
  have hs : (BitVec.ofNat 32 t.val).toInt = (t.val : ℤ) := small (blk t)
  have hn : (BitVec.ofNat 32 t.val).toNat = t.val := by
    have h : t.val < 784 := (blk t).isLt
    rw [BitVec.toNat_ofNat]; omega
  unfold row Scalar.maxsi Scalar.minsi IntOp.maxsi IntOp.minsi
  generalize Scalar.subi v 1#32 = w
  by_cases h1 : (BitVec.ofNat 32 t.val).slt w = true
  · rw [if_pos h1]; split
    · exact hn.le
    · exact Nat.zero_le _
  · rw [if_neg h1]; split
    · rename_i h2
      rw [BitVec.slt_iff_toInt_lt] at h1 h2
      rw [hs] at h1
      simp only [BitVec.toInt_zero, BitVec.ofNat_eq_ofNat] at h2
      have h3 := BitVec.toInt_eq_toNat_cond w
      have h4 := w.isLt
      split at h3 <;> omega
    · exact Nat.zero_le _

/-- Where the block holds rows it is its own. -/
theorem row_live (t : Fin grid0.N) (v : BitVec 32) (h : (t.val : ℤ) < v.toInt) : (row t v).toNat = t.val := by
  have hs : (BitVec.ofNat 32 t.val).toInt = (t.val : ℤ) := small (blk t)
  have hn : (BitVec.ofNat 32 t.val).toNat = t.val := by
    have h : t.val < 784 := (blk t).isLt
    rw [BitVec.toNat_ofNat]; omega
  have hv : (Scalar.subi v 1#32).toInt = v.toInt - 1 := by
    have h2 : (v - 1#32).toInt = _ := BitVec.toInt_sub (x := v) (y := 1#32)
    have h3 := BitVec.toInt_lt (x := v)
    have h1 : (1#32).toInt = 1 := by decide
    rw [h1] at h2
    exact h2.trans (Int.bmod_eq_of_le_mul_two (by omega) (by omega))
  unfold row Scalar.maxsi Scalar.minsi IntOp.maxsi IntOp.minsi
  by_cases h1 : (BitVec.ofNat 32 t.val).slt (Scalar.subi v 1#32) = true
  · rw [if_pos h1]; split
    · exact hn
    · rename_i h2
      rw [BitVec.slt_iff_toInt_lt, hs] at h2
      simp only [BitVec.toInt_zero, BitVec.ofNat_eq_ofNat] at h2
      show 0 = _
      omega
  · rw [if_neg h1]
    rw [BitVec.slt_iff_toInt_lt, hs, hv] at h1
    have h5 : Scalar.subi v 1#32 = BitVec.ofNat 32 t.val := BitVec.eq_of_toInt_eq (by rw [hv, hs]; omega)
    rw [h5]; split
    · exact hn
    · rename_i h2
      rw [BitVec.slt_iff_toInt_lt, hs] at h2
      simp only [BitVec.toInt_zero, BitVec.ofNat_eq_ofNat] at h2
      show 0 = _
      omega

theorem map0 (t : Fin grid0.N) : cc0_transform_0 inb_S1_S1_0 numel1_S1 (tabs (F := F) T0 T1) (grid0.coords t) = ![(row t (T1 (ix1 0))).toNat, 0] := by
  have h : T1 ((Rect.unit (s := S1) ![0] S1.size inb_S1_S1_0).emb (Shape.Idx.first (numel1_S1.symm ▸ Nat.one_pos))) = T1 (ix1 0) :=
    congrArg T1 (funext fun a => match a with | ⟨0, _⟩ => Subsingleton.elim (α := Fin 1) _ _)
  have h2 : (BitVec.ofNat 32 (grid0.coords t 0).val) = BitVec.ofNat 32 t.val := by rw [(places t).1]
  exact congr (congrArg (fun (n v : BitVec 32) => (![(Scalar.maxsi (Scalar.minsi n (Scalar.subi v 1#32)) 0#32).toNat, 0] : Fin 2 → ℕ)) h2) h

theorem expert (t : Fin grid0.N) : T0 ((Rect.unit (s := S784) (k0_off1 (grid0.coords t)) S1.size (k0_off1_inb (grid0.coords t))).emb (Shape.Idx.first (numel1_S1.symm ▸ Nat.one_pos))) = T0 (ix1 (blk t)) :=
  congrArg T0 (funext fun a => match a with | ⟨0, _⟩ => Fin.ext (by
    show k0_off1 (grid0.coords t) 0 + 0 = t.val
    rw [(places t).2.1]; rfl))

theorem map1 (t : Fin grid0.N) : cc0_transform_1 k0_off1_inb numel1_S1 (tabs (F := F) T0 T1) (grid0.coords t) = ![0, (T0 (ix1 (blk t))).toNat, 0, 0] :=
  congrArg (fun v : BitVec 32 => ![0, v.toNat, 0, 0]) (expert T0 t)

theorem map2 (t : Fin grid0.N) : cc0_transform_2 k0_off1_inb numel1_S1 (tabs (F := F) T0 T1) (grid0.coords t) = ![0, (T0 (ix1 (blk t))).toNat, 0, 0] :=
  congrArg (fun v : BitVec 32 => ![0, v.toNat, 0, 0]) (expert T0 t)

theorem point (i : grid0.Coords) : ∃ t : Fin grid0.N, grid0.coords t = i := Pipeline.Grid.coords_surjective grid0 i

/-- Where every expert is among the 256 every block lies in its array. -/
theorem admitted (hT : ∀ x, (T0 x).toNat < 256) : ok0 (tabs (F := F) T0 T1) := by
  refine ⟨fun i => ?_, fun i => ?_, fun i => ?_⟩ <;> obtain ⟨t, rfl⟩ := point i
  · refine ⟨?_, .inr (Affine.block_words_dvd (s := S401408x1024) (p := EltTy.packing .bf16) (by decide) (by decide))⟩
    rw [map0]
    have h1 := row_le t (T1 (ix1 0))
    have h2 : t.val < 784 := (blk t).isLt
    intro a
    match a with
    | ⟨0, _⟩ => show (_ + 1) * 512 ≤ 401408; have : (![(row t (T1 (ix1 0))).toNat, 0] : Fin 2 → ℕ) ⟨0, by decide⟩ = (row t (T1 (ix1 0))).toNat := rfl
                rw [this]; omega
    | ⟨1, _⟩ => show (0 + 1) * 1024 ≤ 1024; decide
  · refine ⟨?_, .inl rfl⟩
    rw [map1]
    have h := hT (ix1 (blk t))
    intro a
    match a with
    | ⟨0, _⟩ => show (0 + 1) * 1 ≤ 2; decide
    | ⟨1, _⟩ => show ((T0 (ix1 (blk t))).toNat + 1) * 1 ≤ 256; omega
    | ⟨2, _⟩ => show (0 + 1) * 1024 ≤ 1024; decide
    | ⟨3, _⟩ => show (0 + 1) * 512 ≤ 512; decide
  · refine ⟨?_, .inl rfl⟩
    rw [map2]
    have h := hT (ix1 (blk t))
    intro a
    match a with
    | ⟨0, _⟩ => show (0 + 1) * 1 ≤ 2; decide
    | ⟨1, _⟩ => show ((T0 (ix1 (blk t))).toNat + 1) * 1 ≤ 256; omega
    | ⟨2, _⟩ => show (0 + 1) * 256 ≤ 256; decide
    | ⟨3, _⟩ => show (0 + 1) * 1024 ≤ 1024; decide

end Cert.ExpertsIdeal.Way

end
-- ==== Proof.Experts.Run.lean ====
module

public import proofs.«01_k».proof.Proof.Experts.Tables

@[expose] public section

set_option maxRecDepth 16384
set_option Elab.async false
set_option backward.proofsInPublic true

noncomputable section

/-! The experts' launch: what every grid point finds and leaves, and the run of the whole program. -/

namespace Cert.ExpertsIdeal.Way

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (T0 : S784.Idx → BitVec 32) (T1 : S1.Idx → BitVec 32) (hT : ∀ x, (T0 x).toNat < 256)
  (m : (ℓ : Loc nD τ sig) → Buf (Elt F) ℓ) (ρ : Dev nD → PrngReg)

/-- The tables, admitted. -/
abbrev adm : (pcfg0 (F := F)).Adm := ⟨tabs T0 T1, admitted T0 T1 hT⟩
/-- The pipeline at them. -/
abbrev cf : Cfg sig Λ₀ := cfg0 (adm (F := F) T0 T1 hT)
/-- The windows' places. -/
theorem idx (t : Fin grid0.N) :
    ((cf (F := F) T0 T1 hT).win 0).index t = ![(row t (T1 (ix1 0))).toNat, 0]
    ∧ ((cf (F := F) T0 T1 hT).win 1).index t = ![0, (T0 (ix1 (blk t))).toNat, 0, 0]
    ∧ ((cf (F := F) T0 T1 hT).win 2).index t = ![0, (T0 (ix1 (blk t))).toNat, 0, 0]
    ∧ ((cf (F := F) T0 T1 hT).win 3).index t = ![t.val, 0] :=
  ⟨map0 T0 T1 t, map1 T0 T1 t, map2 T0 T1 t, (places t).2.2.2.2⟩

/-- Window `w`'s block at point `t`, as the launch finds its array. -/
def iblk (c : Dev nD) (w : Fin (cf (F := F) T0 T1 hT).W) (t : Fin grid0.N) : (((cf (F := F) T0 T1 hT).win w).xblock (grid0.coords t)).Idx → Elt F ((cf (F := F) T0 T1 hT).win w).elt :=
  (((cf (F := F) T0 T1 hT).win w).blk t).view.read (Elt F) (m (((cf (F := F) T0 T1 hT).win w).arr.view.loc (c : Thread nD τ)))

/-- A block of the first weights: the expert's. -/
theorem blk1 (c : Dev nD) (t : Fin grid0.N) (x : Fin 1024) (f : Fin 512) :
    (iblk T0 T1 hT m c 1 t : Vec F S1x1x1024x512 .f32) (ix4 0 0 x f)
      = (m ((c : Thread nD τ).loc main_arg3) : Vec F S2x256x1024x512 .f32) (ix4 0 ⟨(T0 (ix1 (blk t))).toNat, hT _⟩ x f) := by
  blk_ext [iblk, idx T0 T1 hT t]

theorem blk2 (c : Dev nD) (t : Fin grid0.N) (f : Fin 256) (x : Fin 1024) :
    (iblk T0 T1 hT m c 2 t : Vec F S1x1x256x1024 .f32) (ix4 0 0 f x)
      = (m ((c : Thread nD τ).loc main_arg4) : Vec F S2x256x256x1024 .f32) (ix4 0 ⟨(T0 (ix1 (blk t))).toNat, hT _⟩ f x) := by
  blk_ext [iblk, idx T0 T1 hT t]

theorem blk0 (c : Dev nD) (t : Fin grid0.N) (h : (t.val : ℤ) < (T1 (ix1 0)).toInt) (r : Fin 512) (x : Fin 1024) :
    (iblk T0 T1 hT m c 0 t : Vec F S512x1024 .bf16) (ix2 r x)
      = (m ((c : Thread nD τ).loc main_arg0) : Vec F S401408x1024 .bf16) (ix2 ⟨512 * (blk t).val + r.val, by omega⟩ x) := by
  blk_ext [iblk, idx T0 T1 hT t, row_live t _ h, blk]

/-- The blocks as the body's values. -/
abbrev rows (c : Dev nD) (t : Fin grid0.N) : Vec F S512x1024 .bf16 := iblk T0 T1 hT m c 0 t
abbrev wg (c : Dev nD) (t : Fin grid0.N) : Vec F S1x1x1024x512 .f32 := iblk T0 T1 hT m c 1 t
abbrev wd (c : Dev nD) (t : Fin grid0.N) : Vec F S1x1x256x1024 .f32 := iblk T0 T1 hT m c 2 t

/-- Two points of one expert find the same weights. -/
theorem wg_eq (c : Dev nD) (t s : Fin grid0.N) (h : T0 (ix1 (blk t)) = T0 (ix1 (blk s))) : wg T0 T1 hT m c t = wg T0 T1 hT m c s := by
  funext y
  obtain ⟨a, b, x, f, rfl⟩ : ∃ (a : Fin 1) (b : Fin 1) (x : Fin _) (f : Fin _), y = ix4 a b x f := ⟨_, _, _, _, eq_ix4 y⟩
  obtain rfl := Subsingleton.elim a 0
  obtain rfl := Subsingleton.elim b 0
  exact (blk1 T0 T1 hT m c t x f).trans ((congrArg (m ((c : Thread nD τ).loc main_arg3) : Vec F S2x256x1024x512 .f32) (by simp only [h])).trans (blk1 T0 T1 hT m c s x f).symm)

theorem wd_eq (c : Dev nD) (t s : Fin grid0.N) (h : T0 (ix1 (blk t)) = T0 (ix1 (blk s))) : wd T0 T1 hT m c t = wd T0 T1 hT m c s := by
  funext y
  obtain ⟨a, b, x, f, rfl⟩ : ∃ (a : Fin 1) (b : Fin 1) (x : Fin _) (f : Fin _), y = ix4 a b x f := ⟨_, _, _, _, eq_ix4 y⟩
  obtain rfl := Subsingleton.elim a 0
  obtain rfl := Subsingleton.elim b 0
  exact (blk2 T0 T1 hT m c t x f).trans ((congrArg (m ((c : Thread nD τ).loc main_arg4) : Vec F S2x256x256x1024 .f32) (by simp only [h])).trans (blk2 T0 T1 hT m c s x f).symm)

/-- What a grid point leaves in the result's block. -/
def outAt (c : Dev nD) (t : Fin grid0.N) : Vec F S512x1024 .bf16 :=
  if k0_cond1 (grid0.coords t) (nword (F := F) T1) = 1#1 then k0_pay3 (rows T0 T1 hT m c t) (k0_pay1 (wg T0 T1 hT m c t)) (k0_pay2 (wd T0 T1 hT m c t)) else k0_pay4

/-- Between two points: the tables, and the weights kept of the point before if it computed rows. -/
def Phi (c : Dev nD) (t : ℕ) : sProp 𝕄 :=
  iprop(∃ y0 y1, ⌜∀ s : Fin grid0.N, s.val + 1 = t → k0_cond1 (grid0.coords s) (nword (F := F) T1) = 1#1 → y0 = k0_pay1 (wg T0 T1 hT m c s) ∧ y1 = k0_pay2 (wd T0 T1 hT m c s)⌝
    ∗ owns (c : Thread nD τ) sg fullShare y0 ∗ owns (c : Thread nD τ) sd fullShare y1
    ∗ (tb.view.loc (c : Thread nD τ) ↦{fullShare.right} T0) ∗ (tn.view.loc (c : Thread nD τ) ↦{fullShare.right} T1))

/-- The proof's data. -/
def dats (_ : Fin 1) (c : Dev nD) : Dat τ (Elt F) Unit ℕ (UR sig nD τ) ℕ (cf (F := F) T0 T1 hT) c where
  A w := m (((cf (F := F) T0 T1 hT).win w).arr.view.loc (c : Thread nD τ))
  after w t := match w with
    | ⟨0, _⟩ => iblk T0 T1 hT m c 0 t
    | ⟨1, _⟩ => iblk T0 T1 hT m c 1 t
    | ⟨2, _⟩ => iblk T0 T1 hT m c 2 t
    | ⟨3, _⟩ => outAt T0 T1 hT m c t
  Φ t := Phi T0 T1 hT m c t.val
  q _ := fullShare
  owed _ := 0

theorem after_0 (c : Dev nD) (t : Fin (cf (F := F) T0 T1 hT).N) : (dats T0 T1 hT m 0 c).after 0 t = iblk T0 T1 hT m c 0 t := by dsimp only [dats]; rfl
theorem after_1 (c : Dev nD) (t : Fin (cf (F := F) T0 T1 hT).N) : (dats T0 T1 hT m 0 c).after 1 t = iblk T0 T1 hT m c 1 t := by dsimp only [dats]; rfl
theorem after_2 (c : Dev nD) (t : Fin (cf (F := F) T0 T1 hT).N) : (dats T0 T1 hT m 0 c).after 2 t = iblk T0 T1 hT m c 2 t := by dsimp only [dats]; rfl
theorem after_3 (c : Dev nD) (t : Fin (cf (F := F) T0 T1 hT).N) : (dats T0 T1 hT m 0 c).after 3 t = outAt T0 T1 hT m c t := by dsimp only [dats]; rfl

/-- Every input's buffer holds its block, fetched at this point or not. -/
theorem before_0 (c : Dev nD) (t : Fin (cf (F := F) T0 T1 hT).N) (d) : (dats T0 T1 hT m 0 c).before 0 t d = iblk T0 T1 hT m c 0 t :=
  ((dats T0 T1 hT m 0 c).before_in_eq_fetched 0 rfl (fun _ => rfl) (fun _ _ _ => rfl) (fun t => by rw [after_0]; unfold Dat.blockOf iblk; rfl) t d).trans (by unfold Dat.fetched Dat.blockOf iblk; rfl)
theorem before_1 (c : Dev nD) (t : Fin (cf (F := F) T0 T1 hT).N) (d) : (dats T0 T1 hT m 0 c).before 1 t d = iblk T0 T1 hT m c 1 t :=
  ((dats T0 T1 hT m 0 c).before_in_eq_fetched 1 rfl (fun _ => rfl) (fun _ _ _ => rfl) (fun t => by rw [after_1]; unfold Dat.blockOf iblk; rfl) t d).trans (by unfold Dat.fetched Dat.blockOf iblk; rfl)
theorem before_2 (c : Dev nD) (t : Fin (cf (F := F) T0 T1 hT).N) (d) : (dats T0 T1 hT m 0 c).before 2 t d = iblk T0 T1 hT m c 2 t :=
  ((dats T0 T1 hT m 0 c).before_in_eq_fetched 2 rfl (fun _ => rfl) (fun _ _ _ => rfl) (fun t => by rw [after_2]; unfold Dat.blockOf iblk; rfl) t d).trans (by unfold Dat.fetched Dat.blockOf iblk; rfl)

/-- Every point stores into the result's block. -/
theorem stored (t : Fin grid0.N) : idle0 (tabs (F := F) T0 T1) 3 (grid0.coords t) = false := by
  have h : (tabs (F := F) T0 T1).atD 1 ![0] = nword (F := F) T1 := by
    rw [nword_eq]
    unfold Pipeline.Prefetch.Contents.atD
    rw [dif_pos (by decide)]
    exact congrArg T1 (funext fun a => match a with | ⟨0, _⟩ => Subsingleton.elim (α := Fin 1) _ _)
  show (!(k0_cond1 _ _ == 1#1) && !(k0_cond3 _ _ == 1#1)) = false
  rw [h]
  by_cases h1 : k0_cond1 (grid0.coords t) (nword (F := F) T1) = 1#1
  · rw [h1]; rfl
  · have h3 := (dead_iff t (nword (F := F) T1)).2 fun hh => h1 ((live_iff t _).2 hh)
    rw [h3]; simp

/-- The windows' current staging buffers at a point. -/
abbrev ms0 (t : Fin (cf (F := F) T0 T1 hT).N) : Memref sig .tc .vmem S512x1024 .bf16 := spec0_0.stage ((cf (F := F) T0 T1 hT).slots t 0)
abbrev ms1 (t : Fin (cf (F := F) T0 T1 hT).N) : Memref sig .tc .vmem S1x1x1024x512 .f32 := spec0_1.stage ((cf (F := F) T0 T1 hT).slots t 1)
abbrev ms2 (t : Fin (cf (F := F) T0 T1 hT).N) : Memref sig .tc .vmem S1x1x256x1024 .f32 := spec0_2.stage ((cf (F := F) T0 T1 hT).slots t 2)
abbrev ms3 (t : Fin (cf (F := F) T0 T1 hT).N) : Memref sig .tc .vmem S512x1024 .bf16 := spec0_3.stage ((cf (F := F) T0 T1 hT).slots t 3)

/-- The body at a point. -/
abbrev bodyAt (t : Fin (cf (F := F) T0 T1 hT).N) : Prog (TpuEff nD τ sig (Elt F) Λ₀ .tc) PUnit :=
  body (F := F) (grid0.coords t) (ms0 T0 T1 hT t) (hstage0_0 (((cf (F := F) T0 T1 hT).slots t 0).cast nbuf0_0)) (ms1 T0 T1 hT t) (hstage0_1 (((cf (F := F) T0 T1 hT).slots t 1).cast nbuf0_1))
    (ms2 T0 T1 hT t) (hstage0_2 (((cf (F := F) T0 T1 hT).slots t 2).cast nbuf0_2)) (ms3 T0 T1 hT t) (hstage0_3 (((cf (F := F) T0 T1 hT).slots t 3).cast nbuf0_3))

/-- What a point is called with, and what it hands back. -/
def bodyPre (c : Dev nD) (t : Fin (cf (F := F) T0 T1 hT).N) : sProp 𝕄 :=
  iprop(Phi T0 T1 hT m c t.val ∗ (dats T0 T1 hT m 0 c).owesAt () t.castSucc
    ∗ (∃ d, owns (c : Thread nD τ) (ms0 T0 T1 hT t) fullShare ((dats T0 T1 hT m 0 c).before 0 t d))
    ∗ (∃ d, owns (c : Thread nD τ) (ms1 T0 T1 hT t) fullShare ((dats T0 T1 hT m 0 c).before 1 t d))
    ∗ (∃ d, owns (c : Thread nD τ) (ms2 T0 T1 hT t) fullShare ((dats T0 T1 hT m 0 c).before 2 t d))
    ∗ (∃ d, owns (c : Thread nD τ) (ms3 T0 T1 hT t) fullShare ((dats T0 T1 hT m 0 c).before 3 t d)))

def bodyPost (c : Dev nD) (t : Fin (cf (F := F) T0 T1 hT).N) : sProp 𝕄 :=
  iprop(Phi T0 T1 hT m c (t.val + 1) ∗ (dats T0 T1 hT m 0 c).owesAt () t.succ
    ∗ owns (c : Thread nD τ) (ms0 T0 T1 hT t) fullShare ((dats T0 T1 hT m 0 c).after 0 t)
    ∗ owns (c : Thread nD τ) (ms1 T0 T1 hT t) fullShare ((dats T0 T1 hT m 0 c).after 1 t)
    ∗ owns (c : Thread nD τ) (ms2 T0 T1 hT t) fullShare ((dats T0 T1 hT m 0 c).after 2 t)
    ∗ owns (c : Thread nD τ) (ms3 T0 T1 hT t) fullShare ((dats T0 T1 hT m 0 c).after 3 t))

set_option maxHeartbeats 2000000 in
/-- The body at any point. -/
theorem sound_body (c : Dev nD) (t : Fin (cf (F := F) T0 T1 hT).N) :
    bodyPre T0 T1 hT m c t ⊢ wp frame (wpE (defs₀ (F := F)) Variants.none c none) Set.univ (bodyAt (F := F) T0 T1 hT t) (fun _ => bodyPost T0 T1 hT m c t) := by
  unfold bodyPre bodyPost
  simp only [before_0, before_1, before_2]
  rw [show (dats T0 T1 hT m 0 c).owesAt () t.succ = (dats T0 T1 hT m 0 c).owesAt () t.castSucc from rfl,
    after_0, after_1, after_2, after_3]
  unfold Phi outAt
  iintro ⟨⟨%y0, %y1, %hy, HG, HD, HT0, HT1⟩, Ho, ⟨%d0, H0⟩, ⟨%d1, H1⟩, ⟨%d2, H2⟩, ⟨%d3, H3⟩⟩
  by_cases h1 : k0_cond1 (grid0.coords t) (nword (F := F) T1) = 1#1
  · have h3 : ¬ k0_cond3 (grid0.coords t) (nword (F := F) T1) = 1#1 := fun hh => (dead_iff t _).1 hh ((live_iff t _).1 h1)
    rw [if_pos h1]
    by_cases h2 : anew (F := F) (grid0.coords t) T0 = 1#1
    · iapply (fetch c (grid0.coords t) _ _ _ _ _ _ _ _ T0 T1 (rows T0 T1 hT m c t) (wg T0 T1 hT m c t) (wd T0 T1 hT m c t) h1 h2 h3)
      isplitl [H0 H1 H2 HT0 HT1]
      · isplitl [H0]; · iexact H0
        isplitl [H1]; · iexact H1
        isplitl [H2]; · iexact H2
        isplitl [HT0]; · iexact HT0
        iexact HT1
      isplitl [H3]; · iexists _; iexact H3
      isplitl [HG]; · iexists _; iexact HG
      isplitl [HD]; · iexists _; iexact HD
      iintro ⟨⟨H0, H1, H2, HT0, HT1⟩, H3, HG, HD⟩
      isplitl [HG HD HT0 HT1]
      · iexists _; iexists _
        isplitr
        swap
        · isplitl [HG]; · iexact HG
          isplitl [HD]; · iexact HD
          isplitl [HT0]; · iexact HT0
          iexact HT1
        · ipureintro
          intro s hs _
          obtain rfl : s = t := Fin.ext (by omega)
          exact ⟨rfl, rfl⟩
      isplitl [Ho]; · iexact Ho
      isplitl [H0]; · iexact H0
      isplitl [H1]; · iexact H1
      isplitl [H2]; · iexact H2
      iexact H3
    · obtain ⟨ht, he⟩ := not_anew T0 t h2
      have hs : t.val - 1 < grid0.N := by have := t.isLt; show _ < _; have h : t.val < grid0.N := this; omega
      have hlive : k0_cond1 (grid0.coords ⟨t.val - 1, hs⟩) (nword (F := F) T1) = 1#1 := by
        have := (live_iff t _).1 h1
        refine (live_iff ⟨t.val - 1, hs⟩ _).2 ?_
        show ((t.val - 1 : ℕ) : ℤ) < _
        omega
      have hT' : T0 (ix1 (blk t)) = T0 (ix1 (blk ⟨t.val - 1, hs⟩)) := (eword_eq (F := F) T0 t).symm.trans (he.trans (pword_eq T0 t ht))
      obtain ⟨rfl, rfl⟩ := hy ⟨t.val - 1, hs⟩ (by show t.val - 1 + 1 = t.val; omega) hlive
      rw [← wg_eq T0 T1 hT m c t _ hT', ← wd_eq T0 T1 hT m c t _ hT']
      iapply (keep c (grid0.coords t) _ _ _ _ _ _ _ _ T0 T1 (rows T0 T1 hT m c t) (wg T0 T1 hT m c t) (wd T0 T1 hT m c t) _ _ h1 h2 h3)
      isplitl [H0 H1 H2 HT0 HT1]
      · isplitl [H0]; · iexact H0
        isplitl [H1]; · iexact H1
        isplitl [H2]; · iexact H2
        isplitl [HT0]; · iexact HT0
        iexact HT1
      isplitl [H3]; · iexists _; iexact H3
      isplitl [HG]; · iexact HG
      isplitl [HD]; · iexact HD
      iintro ⟨⟨H0, H1, H2, HT0, HT1⟩, H3, HG, HD⟩
      isplitl [HG HD HT0 HT1]
      · iexists _; iexists _
        isplitr
        swap
        · isplitl [HG]; · iexact HG
          isplitl [HD]; · iexact HD
          isplitl [HT0]; · iexact HT0
          iexact HT1
        · ipureintro
          intro s hs _
          obtain rfl : s = t := Fin.ext (by omega)
          exact ⟨rfl, rfl⟩
      isplitl [Ho]; · iexact Ho
      isplitl [H0]; · iexact H0
      isplitl [H1]; · iexact H1
      isplitl [H2]; · iexact H2
      iexact H3
  · have h3 : k0_cond3 (grid0.coords t) (nword (F := F) T1) = 1#1 := (dead_iff t _).2 fun hh => h1 ((live_iff t _).2 hh)
    rw [if_neg h1]
    iapply (idle c (grid0.coords t) _ _ _ _ _ _ _ _ T0 T1 (rows T0 T1 hT m c t) (wg T0 T1 hT m c t) (wd T0 T1 hT m c t) h1 h3)
    isplitl [H0 H1 H2 HT0 HT1]
    · isplitl [H0]; · iexact H0
      isplitl [H1]; · iexact H1
      isplitl [H2]; · iexact H2
      isplitl [HT0]; · iexact HT0
      iexact HT1
    isplitl [H3]; · iexists _; iexact H3
    iintro ⟨⟨H0, H1, H2, HT0, HT1⟩, H3⟩
    isplitl [HG HD HT0 HT1]
    · iexists y0; iexists y1
      isplitr
      swap
      · isplitl [HG]; · iexact HG
        isplitl [HD]; · iexact HD
        isplitl [HT0]; · iexact HT0
        iexact HT1
      · ipureintro
        intro s hs hl
        obtain rfl : s = t := Fin.ext (by omega)
        exact absurd hl h1
    isplitl [Ho]; · iexact Ho
    isplitl [H0]; · iexact H0
    isplitl [H1]; · iexact H1
    isplitl [H2]; · iexact H2
    iexact H3

/-- The library's body obligation. -/
theorem body_obligation (c : Dev nD) : BodyObligation (dats (F := F) T0 T1 hT m 0 c) (defs₀ (F := F)) Variants.none () Set.univ := fun t => by
  rw [bigSep_W0, bigSep_W0]
  have i3 : (cf (F := F) T0 T1 hT).idle (3 : Fin 4) ((cf (F := F) T0 T1 hT).grid.coords t) = false := stored (F := F) T0 T1 t
  rewrite [i3]
  exact triple_restated (sound_body T0 T1 hT m c t) (by unfold defs₀; rw [Defs.onTc_tc]) .rfl fun _ => .rfl

end Cert.ExpertsIdeal.Way

end
-- ==== Proof.Experts.Launched.lean ====
module

public import proofs.«01_k».proof.Proof.Experts.Run

@[expose] public section

set_option maxRecDepth 16384
set_option Elab.async false
set_option backward.proofsInPublic true

noncomputable section

/-! The run of the whole experts program, from any memory whose table of experts holds numbers below 256. -/

namespace Cert.ExpertsIdeal.Way

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (T0 : S784.Idx → BitVec 32) (T1 : S1.Idx → BitVec 32) (hT : ∀ x, (T0 x).toNat < 256)
  (m : (ℓ : Loc nD τ sig) → Buf (Elt F) ℓ) (ρ : Dev nD → PrngReg)

/-- The program's pipeline, at the tables. -/
abbrev pcs (p : Fin 1) : Cfg sig Λ₀ := Pipeline.pin (pcfgs (F := F)) (fun _ => adm T0 T1 hT) p

theorem share_eq (c : Dev nD) (w : Fin (cf (F := F) T0 T1 hT).W) : (dats T0 T1 hT m 0 c).share w = fullShare := by
  unfold Dat.share; split <;> rfl

/-- The tables held, one by one. -/
theorem tables_eq (c : Dev nD) : (Pipeline.prefHeld pre0 c (fun _ => fullShare.right) (tabs (F := F) T0 T1) : sProp 𝕄)
    = iprop((tb.view.loc (c : Thread nD τ) ↦{fullShare.right} T0) ∗ (tn.view.loc (c : Thread nD τ) ↦{fullShare.right} T1)) := by
  unfold Pipeline.prefHeld
  rw [show (Finset.univ : Finset (Fin 2)) = insert 0 {1} from rfl, bigSep_insert (by decide), bigSep_singleton]
  rfl

/-- The scratch buffers, owned at some contents. -/
theorem scratch_eq (c : Dev nD) : (Pipeline.scopedRest spec0 c : sProp 𝕄)
    = iprop((∃ X, owns (c : Thread nD τ) sg fullShare X) ∗ (∃ X, owns (c : Thread nD τ) sd fullShare X)) := by
  have hG : (iprop(∃ X, owns (c : Thread nD τ) sg fullShare X) : sProp 𝕄) = _ := Memref.IsWhole.exists_owns_eq (c := (c : Thread nD τ)) (m := sg) (Memref.isWhole_whole _) fullShare
  have hD : (iprop(∃ X, owns (c : Thread nD τ) sd fullShare X) : sProp 𝕄) = _ := Memref.IsWhole.exists_owns_eq (c := (c : Thread nD τ)) (m := sd) (Memref.isWhole_whole _) fullShare
  rw [scopedRest0_eq, hG, hD]

/-- The launch starts with the tables and two scratch buffers. -/
theorem start (c : Dev nD) : iprop(emp ∗ Pipeline.prefHeld pre0 c (fun _ => fullShare.right) (tabs (F := F) T0 T1) ∗ Pipeline.scopedRest spec0 c) ⊢ (Phi T0 T1 hT m c 0 : sProp 𝕄) := by
  rw [tables_eq, scratch_eq]
  unfold Phi
  iintro ⟨-, ⟨HT0, HT1⟩, ⟨%y0, HG⟩, ⟨%y1, HD⟩⟩
  iexists y0; iexists y1
  isplitr
  · ipureintro
    intro s hs
    exact absurd hs (Nat.succ_ne_zero _)
  isplitl [HG]; · iexact HG
  isplitl [HD]; · iexact HD
  isplitl [HT0]; · iexact HT0
  iexact HT1

/-- It hands the scratch buffers back. -/
theorem finish (c : Dev nD) (t : ℕ) : (Phi T0 T1 hT m c t : sProp 𝕄) ⊢ iprop(emp ∗ Pipeline.scopedRest spec0 c) := by
  rw [scratch_eq]
  unfold Phi
  iintro ⟨%y0, %y1, -, HG, HD, -, -⟩
  isplitr; · iempintro
  isplitl [HG]
  · iexists y0; iexact HG
  · iexists y1; iexact HD

/-- What the run leaves: every array of the launch and the two tables. -/
abbrev Left (s : MemSt nD τ sig (Elt F)) : Prop :=
  ∀ c : Dev nD, (∀ w : Fin 4, s.mem ((spec0 w).arr.view.loc (c : Thread nD τ)) = (dats T0 T1 hT m 0 c).arrAt w (cf (F := F) T0 T1 hT).N)
    ∧ (∀ k : Fin 2, s.mem ((c : Thread nD τ).loc (pre0.ref k)) = tabs (F := F) T0 T1 k)

set_option backward.isDefEq.respectTransparency.types false in
set_option maxHeartbeats 400000 in
theorem run (h0 : ∀ c : Dev nD, m ((c : Thread nD τ).loc main_arg1) = T0) (h1 : ∀ c : Dev nD, m ((c : Thread nD τ).loc main_arg2) = T1) :
    θ_run (defs (F := F)) (onTc (τ := τ) (main (F := F))) ⟨m, fun _ => 0, ρ⟩ (fun r => Left T0 T1 hT m r.2 ∧ r.2.sem = fun _ => 0) :=
  Pipeline.θ_run_region_noSem_pf_quiescent (pcfgs (F := F)) (fun _ => adm T0 T1 hT) (dats T0 T1 hT m) () ((launch0 (F := F)).cellOf_inj fun _ => adm T0 T1 hT) (0 : Fin 1)
    (launch0 (F := F)).win.to₀ (launch0 (F := F)).pre (emb₁ : Emb (UR sig nD τ) 𝕄) defs₀ Variants.none m ρ main
    (hbody := fun c => (body_obligation T0 T1 hT m c).loose) (hne := (launch0 (F := F)).block_pos) (harr := (launch0 (F := F)).arr_whole) (hstage := (launch0 (F := F)).stage_whole)
    (howed := fun _ _ => rfl)
    (u₀ := initOf (Pipeline.cells (pcs (F := F) T0 T1 hT) ((launch0 (F := F)).cellOf_inj fun _ => adm T0 T1 hT)) (Pipeline.launchToks (pcs (F := F) T0 T1 hT) ((launch0 (F := F)).cellOf_inj fun _ => adm T0 T1 hT)))
    (hu₀ := .rfl) (V := fun c b => m ((c : Thread nD τ).loc b))
    (hmain := fun c Q => by
      delta main
      simp only [Prog.bind_lift, Prog.pure_eq_ret]
      iintro ⟨Hk, Hb⟩
      iapply Hk
      iexact Hb)
    (hsplit := fun c => Pipeline.arrays_split (pcs (F := F) T0 T1 hT) (dats T0 T1 hT m) 0 (launch0 (F := F)).win.arr_inj c (launch0 (F := F)).arr_whole (share_eq T0 T1 hT m c) _ _ fun _ => rfl)
    (hpf := fun c k => match k with | ⟨0, _⟩ => h0 c | ⟨1, _⟩ => h1 c)
    (X := fun _ => iprop(emp)) (Y := fun _ => iprop(emp)) (Z := fun _ => iprop(emp))
    (hX := fun c => by rw [unscopedRestP0_eq]; iintro -; isplitr <;> iempintro)
    (hin := fun c => start T0 T1 hT m c)
    (hout := fun c => finish T0 T1 hT m c _)
    (QY := fun _ _ => True)
    (hY := fun c s' => by
      iintro ⟨-, -, HSI⟩
      imodintro
      isplitr
      · ipureintro; trivial
      · iexact HSI)
    (hQ := fun _ h hz => ⟨fun c => ⟨(h c).1, (h c).2.1⟩, hz⟩)

/-- The run, from any memory with such a table: the result array, and the arguments as they were. -/
theorem whole (hm : ∀ (c : Dev nD) (x : S784.Idx), ((m ((c : Thread nD τ).loc main_arg1) : S784.Idx → BitVec 32) x).toNat < 256) :
    θ_run (defs (F := F)) (onTc (τ := τ) (main (F := F))) ⟨m, fun _ => 0, ρ⟩ (fun r => (∀ c : Dev nD,
      r.2.mem ((c : Thread nD τ).loc main_v0) = (dats (m ((c : Thread nD τ).loc main_arg1)) (m ((c : Thread nD τ).loc main_arg2)) (hm c) m 0 c).arrAt 3 grid0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) := by
  have all : ∀ c : Dev nD, c = 0 := fun c => Subsingleton.elim (α := Fin 1) c 0
  refine (θ_run _ _ _).mono (fun r h => ?_) (run (m (((0 : Dev nD) : Thread nD τ).loc main_arg1)) (m (((0 : Dev nD) : Thread nD τ).loc main_arg2)) (hm 0) m ρ
    (fun c => by rw [all c]) (fun c => by rw [all c]))
  refine ⟨fun c => ?_, h.2⟩
  obtain rfl := all c
  obtain ⟨hw, hk⟩ := h.1 0
  exact ⟨hw 3, (hw 0).trans ((dats _ _ (hm 0) m 0 0).arrAt_in 0 rfl _), hk 0, hk 1, (hw 1).trans ((dats _ _ (hm 0) m 0 0).arrAt_in 1 rfl _), (hw 2).trans ((dats _ _ (hm 0) m 0 0).arrAt_in 2 rfl _)⟩

end Cert.ExpertsIdeal.Way

end
-- ==== Proof.Experts.Range.lean ====
module

public import proofs.«01_k».proof.Proof.Gen.Pre_experts_in_range
public import Idealize.ShloMosaic.Lib.ReduceAll
public import Idealize.ShloMosaic.Lib.Pointwise
public import Idealize.ShloMosaic.Lib.Affine

@[expose] public section

noncomputable section

/-! What the experts' precondition says: every block's expert is one of the 256. -/

namespace Cert.Pre_experts_in_range.Fin

open Cert.Pre_experts_in_range Cert.Pre_experts_in_range.Gen Idealize.ShloMosaic

variable {F : FTy → Type} [FloatOps F]

/-- A conjunction of two bits is 1 where both are. -/
theorem both (a b : BitVec 1) (h : a &&& b = 1#1) : a = 1#1 ∧ b = 1#1 := by
  revert a b; decide

/-- A word that, read signed, lies from 0 below 256 does so read unsigned. -/
theorem small (v : BitVec 32) (h0 : IntOp.cmpi .sge v 0#32 = 1#1) (h1 : IntOp.cmpi .slt v 256#32 = 1#1) : v.toNat < 256 := by
  rw [IntOp.cmpi_sge] at h0
  rw [IntOp.cmpi_slt] at h1
  have e0 : (0#32).toInt = 0 := by decide
  have e1 : (256#32).toInt = 256 := by decide
  rw [e0] at h0
  rw [e1] at h1
  have h := BitVec.toInt_eq_toNat_cond v
  have hv := v.isLt
  split at h <;> omega

/-- The precondition's table of experts names experts among the 256. -/
theorem range (a0 : FVec F S401408x1024 .bf16) (a1 : IVec S784 32) (a2 : IVec S1 32) (a3 : FVec F S2x256x1024x512 .f32) (a4 : FVec F S2x256x256x1024 .f32)
    (H : fn (F := F) a0 a1 a2 a3 a4 = fun _ => 1#1) (x : S784.Idx) : (a1 x).toNat < 256 := by
  have H0 := congrFun H (default : S_.Idx)
  haveI : Subsingleton S_.Idx := ⟨fun a b => funext fun d => d.elim0⟩
  obtain ⟨h0, h1⟩ := both _ _ (Host.reduce_andi_all _ _ _ _ _ H0 x)
  exact small _ h0 h1

end Cert.Pre_experts_in_range.Fin
end
-- ==== Proof.Experts.Same.lean ====
module

public import proofs.«01_k».proof.Defs
public import proofs.«01_k».proof.Proof.Gen.Experts
public import proofs.«01_k».proof.Proof.Experts.Launched
public import proofs.«01_k».proof.Proof.Experts.Range
public import Idealize.ShloMosaic.Lib.Tactic

@[expose] public section

noncomputable section

/-! The experts' frame, once for both programs: the text run at words is the text run at extended reals. -/

namespace Cert.ExpertsIdeal.Way

open Cert.ExpertsIdeal Cert.ExpertsIdeal.Gen Idealize.ShloMosaic Idealize.ShloMosaic.TcCoe Idealize.SL.Sem

variable (F : FTy → Type) [FloatOps F]

/-- The program's frame at any numbers. -/
def Framed : Prop := ∀ (m : (ℓ : Loc nD τ sig) → Buf (Elt F) ℓ) (g : Dev nD → PrngReg),
  (∀ c : Dev nD, Cert.Pre_experts_in_range.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) = fun _ => 1#1) →
  θ_run (defs (F := F)) (onTc (τ := τ) (main (F := F))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0)

/-- It holds. -/
theorem framed : Framed F := fun m g hm =>
  (θ_run _ _ _).mono (fun _ h => ⟨fun c => (h.1 c).2, h.2⟩) (whole m g fun c x => Cert.Pre_experts_in_range.Fin.range _ _ _ _ _ (hm c) x)

/-- The experts program's frame at words is this text's. -/
theorem same : Cert.quiescent_Experts = Framed Bits := by sl_kernel_rfl

theorem frame_bits : Cert.quiescent_Experts := same ▸ framed Bits

theorem frame_ideal : Cert.quiescent_ExpertsIdeal := framed Ideal

end Cert.ExpertsIdeal.Way
end
-- ==== Proof.Experts.Ffn.lean ====
module

public import Idealize.ShloMosaic.PureOps.Ideal

@[expose] public section

noncomputable section

/-! One entry of an expert's result: the gated unit of one row and the column it is carried to. -/

namespace Cert.Experts1

open Idealize.ShloMosaic

/-- The row's products with the first weights. -/
def gu (xr : Fin 1024 → EReal) (wg : Fin 1024 → Fin 512 → EReal) (f : Fin 512) : EReal := ∑ x : Fin 1024, xr x * wg x f

/-- The first half through `g · σ(g)`, times the second half, carried through a column of the second weights. -/
def ffn (xr : Fin 1024 → EReal) (wg : Fin 1024 → Fin 512 → EReal) (wd : Fin 256 → EReal) : EReal :=
  ∑ f : Fin 256, gu xr wg ⟨f.val, by omega⟩ * Ideal.logistic (gu xr wg ⟨f.val, by omega⟩) * gu xr wg ⟨256 + f.val, by omega⟩ * wd f

/-- THE RESULT at row `r` of block `b`, column `d`: the expert's of that block if it is one of the first `n`, else zero. -/
def val (X : Fin 401408 → Fin 1024 → EReal) (e : Fin 784 → Fin 256) (n : ℤ) (WG : Fin 256 → Fin 1024 → Fin 512 → EReal) (WD : Fin 256 → Fin 256 → Fin 1024 → EReal)
    (b : Fin 784) (r : Fin 512) (d : Fin 1024) : EReal :=
  if (b.val : ℤ) < n then ffn (X ⟨512 * b.val + r.val, by omega⟩) (WG (e b)) (fun f => WD (e b) f d) else 0

end Cert.Experts1
end
-- ==== Proof.Experts.Value.lean ====
module

public import proofs.«01_k».proof.Proof.Experts.Launched
public import proofs.«01_k».proof.Proof.Experts.Ffn

@[expose] public section

set_option maxRecDepth 16384

noncomputable section

/-! What the experts' result array holds, element by element. -/

namespace Cert.ExpertsIdeal.Way

open Cert.ExpertsIdeal Cert.ExpertsIdeal.Gen Idealize.ShloMosaic Idealize.ShloMosaic.TcCoe Cert.Experts1

/-- The weights kept are the weights fetched. -/
theorem pay1_apply (w : Vec Ideal S1x1x1024x512 .f32) (x : Fin 1024) (f : Fin 512) : k0_pay1 (F := Ideal) w (ix2 x f) = w (ix4 0 0 x f) := by
  pointwise [k0_pay1]
theorem pay2_apply (w : Vec Ideal S1x1x256x1024 .f32) (f : Fin 256) (d : Fin 1024) : k0_pay2 (F := Ideal) w (ix2 f d) = w (ix4 0 0 f d) := by
  pointwise [k0_pay2]

/-- A block's rows are the expert's. -/
theorem pay3_apply (x0 : Vec Ideal S512x1024 .bf16) (y0 : Vec Ideal S1024x512 .bf16) (y1 : Vec Ideal S256x1024 .bf16) (r : Fin 512) (d : Fin 1024) :
    k0_pay3 (F := Ideal) x0 y0 y1 (ix2 r d) = ffn (fun x => x0 (ix2 r x)) (fun x f => y0 (ix2 x f)) (fun f => y1 (ix2 f d)) := by
  pointwise [k0_pay3, ffn, gu]

theorem pay4_apply (r : Fin 512) (d : Fin 1024) : k0_pay4 (F := Ideal) (ix2 r d) = (0 : EReal) := by
  pointwise [k0_pay4]

variable (T0 : S784.Idx → BitVec 32) (T1 : S1.Idx → BitVec 32) (hT : ∀ x, (T0 x).toNat < 256)
  (m : (ℓ : Loc nD τ sig) → Buf (Elt Ideal) ℓ) (c : Dev nD)

/-- The result, from the launch's arrays. -/
def res (b : Fin 784) (r : Fin 512) (d : Fin 1024) : EReal :=
  val (fun i x => (m ((c : Thread nD τ).loc main_arg0) : Vec Ideal S401408x1024 .bf16) (ix2 i x)) (fun b => ⟨(T0 (ix1 b)).toNat, hT _⟩) (T1 (ix1 0)).toInt
    (fun e x f => (m ((c : Thread nD τ).loc main_arg3) : Vec Ideal S2x256x1024x512 .f32) (ix4 0 e x f))
    (fun e f d => (m ((c : Thread nD τ).loc main_arg4) : Vec Ideal S2x256x256x1024 .f32) (ix4 0 e f d)) b r d

/-- What a grid point leaves. -/
theorem out_apply (t : Fin grid0.N) (r : Fin 512) (d : Fin 1024) : outAt T0 T1 hT m c t (ix2 r d) = res T0 T1 hT m c (blk t) r d := by
  have hc := live_iff t (nword (F := Ideal) T1)
  rw [nword_eq] at hc
  unfold outAt res val
  rw [nword_eq]
  by_cases h : (t.val : ℤ) < (T1 (ix1 0)).toInt
  · rw [if_pos (hc.2 h), if_pos (show ((blk t).val : ℤ) < _ from h), pay3_apply]
    have e0 : ∀ x, rows T0 T1 hT m c t (ix2 r x) = _ := fun x => blk0 T0 T1 hT m c t h r x
    have e1 : ∀ x f, k0_pay1 (F := Ideal) (wg T0 T1 hT m c t) (ix2 x f) = _ := fun x f => (pay1_apply _ x f).trans (blk1 T0 T1 hT m c t x f)
    have e2 : ∀ f, k0_pay2 (F := Ideal) (wd T0 T1 hT m c t) (ix2 f d) = _ := fun f => (pay2_apply _ f d).trans (blk2 T0 T1 hT m c t f d)
    rw [funext e0, funext fun x => funext (e1 x), funext e2]
  · rw [if_neg fun h' => h (hc.1 h'), if_neg (show ¬ ((blk t).val : ℤ) < _ from h), pay4_apply]

/-- Every block of the result is some point's. -/
theorem covered : ((cf (F := Ideal) T0 T1 hT).win 3).Covers := by
  refine ((cf (F := Ideal) T0 T1 hT).win 3).covers_of_index_surj rfl ?_ fun β => ?_
  · show ∀ a : Fin 2, 0 < S512x1024.size a
    decide
  · have h0 : (β (0 : Fin 2)).val < 784 := lt_of_lt_of_eq (β (0 : Fin 2)).isLt (by show (401408 + 512 - 1) / 512 = 784; rfl)
    have h1 : (β (1 : Fin 2)).val < 1 := lt_of_lt_of_eq (β (1 : Fin 2)).isLt (by show (1024 + 1024 - 1) / 1024 = 1; rfl)
    refine ⟨⟨(β (0 : Fin 2)).val, N_0.symm ▸ h0⟩, ?_⟩
    rw [(idx T0 T1 hT _).2.2.2]
    intro a
    match a with
    | ⟨0, _⟩ => rfl
    | ⟨1, _⟩ => exact (Nat.lt_one_iff.1 h1).symm

theorem res_congr {b b' : Fin 784} {r r' : Fin 512} {d d' : Fin 1024} (hb : b.val = b'.val) (hr : r.val = r'.val) (hd : d.val = d'.val) :
    res T0 T1 hT m c b r d = res T0 T1 hT m c b' r' d' := by
  rw [Fin.ext hb, Fin.ext hr, Fin.ext hd]

theorem out_at (t : Fin grid0.N) (y : S512x1024.Idx) : outAt T0 T1 hT m c t y = res T0 T1 hT m c (blk t) (y 0) (y 1) :=
  (congrArg (outAt T0 T1 hT m c t) (eq_ix2 y)).trans (out_apply T0 T1 hT m c t _ _)

/-- THE RESULT ARRAY, element by element. -/
theorem arr_eq : (dats T0 T1 hT m 0 c).arrAt 3 grid0.N
    = fun i : S401408x1024.Idx => res T0 T1 hT m c ⟨(i 0).val / 512, by have : (i 0).val < 401408 := (i 0).isLt; omega⟩ ⟨(i 0).val % 512, by omega⟩ (i 1) := by
  refine (dats T0 T1 hT m 0 c).arrAt_eq_of_covers 3 _ (covered T0 T1 hT) fun t hf y => ?_
  have hy : (y (0 : Fin 2)).val < 512 := (y (0 : Fin 2)).isLt
  blk_simp
  rw [after_3]
  refine (out_at T0 T1 hT m c t y).trans (res_congr _ _ _ _ _ ?_ ?_ ?_)
  · blk_simp [idx T0 T1 hT t]
    have h : ∀ a b : ℕ, b < 512 → a = (a * 512 + b) / 512 := fun a b _ => by omega
    exact h _ _ hy
  · blk_simp [idx T0 T1 hT t]
    have h : ∀ a b : ℕ, b < 512 → b = (a * 512 + b) % 512 := fun a b _ => by omega
    exact h _ _ hy
  · blk_simp [idx T0 T1 hT t]

end Cert.ExpertsIdeal.Way
end
-- ==== Proof.Experts.Gather.lean ====
module

public import Idealize.ShloMosaic.Lib.Pointwise

@[expose] public section

set_option maxRecDepth 16384

noncomputable section

/-! `table[layer, experts]` of a table of two layers' 256 matrices, read at an index. -/

namespace Cert.Experts1

open Idealize.ShloMosaic

variable {R C : ℕ} (wf : GatherDims.WF ⟨4, ![2, 256, R, C]⟩ ⟨2, ![784, 2]⟩ ⟨3, ![784, R, C]⟩ [1, 2] [0, 1] [] [0, 1] [] 1 ![1, 1, R, C])

/-- One matrix a block, out of two layers' 256. -/
abbrev taken : GatherDims ⟨4, ![2, 256, R, C]⟩ ⟨2, ![784, 2]⟩ ⟨3, ![784, R, C]⟩ := ⟨[1, 2], [0, 1], [], [], [0, 1], 1, ![1, 1, R, C], wf⟩

variable (k : IVec ⟨2, ![784, 2]⟩ 32) (b : Fin 784) (i : Fin R) (j : Fin C)

theorem start_layer : (taken wf).start (ix3 b i j) k (0 : Fin 4) = min (k (ix2 b 0)).toInt.toNat 1 := by
  have hm : (0 : Fin 4) ∈ (taken wf).startIndexMap := by show (0 : Fin 4) ∈ [(0 : Fin 4), 1]; decide
  unfold GatherDims.start
  rw [dif_pos hm]
  have h : (taken wf).siIdx (ix3 b i j) ⟨List.idxOf (0 : Fin 4) (taken wf).startIndexMap, List.idxOf_lt_length_iff.2 hm⟩ = ix2 b 0 := by
    funext a
    match a with
    | ⟨0, _⟩ => rfl
    | ⟨1, _⟩ => rfl
  rw [h]
  rfl

theorem start_expert : (taken wf).start (ix3 b i j) k (1 : Fin 4) = min (k (ix2 b 1)).toInt.toNat 255 := by
  have hm : (1 : Fin 4) ∈ (taken wf).startIndexMap := by show (1 : Fin 4) ∈ [(0 : Fin 4), 1]; decide
  unfold GatherDims.start
  rw [dif_pos hm]
  have h : (taken wf).siIdx (ix3 b i j) ⟨List.idxOf (1 : Fin 4) (taken wf).startIndexMap, List.idxOf_lt_length_iff.2 hm⟩ = ix2 b 1 := by
    funext a
    match a with
    | ⟨0, _⟩ => rfl
    | ⟨1, _⟩ => rfl
  rw [h]
  rfl

theorem start_row : (taken wf).start (ix3 b i j) k (2 : Fin 4) = 0 := by
  unfold GatherDims.start
  exact dif_neg (by show ¬ (2 : Fin 4) ∈ [(0 : Fin 4), 1]; decide)

theorem start_col : (taken wf).start (ix3 b i j) k (3 : Fin 4) = 0 := by
  unfold GatherDims.start
  exact dif_neg (by show ¬ (3 : Fin 4) ∈ [(0 : Fin 4), 1]; decide)

/-- `table[layer, expert]`: the matrix named, where layer and expert are the table's. -/
theorem gather_apply (x : (⟨4, ![2, 256, R, C]⟩ : Shape).Idx → EReal) (l : Fin 2) (e : Fin 256) (h0 : (k (ix2 b 0)).toInt = l.val) (h1 : (k (ix2 b 1)).toInt = e.val) :
    Host.gather (taken wf) x k (ix3 b i j) = x (ix4 l e i j) := by
  unfold Host.gather
  refine congrArg x (funext fun a => Fin.ext ?_)
  show (taken wf).start (ix3 b i j) k a + (taken wf).batchCoord (ix3 b i j) a + (taken wf).offCoord (ix3 b i j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (by show (0 : Fin 4) ∈ [(0 : Fin 4), 1]; decide))]
    refine (congrArg (· + 0) (start_layer wf k b i j)).trans ?_
    rw [h0]
    show min ((l.val : ℤ).toNat) 1 + 0 = l.val
    omega
  | ⟨1, _⟩ =>
    rw [GatherDims.offCoord_eq_zero _ _ _ (fun h => ((GatherDims.mem_sKept _ _).mp h).1 (by show (1 : Fin 4) ∈ [(0 : Fin 4), 1]; decide))]
    refine (congrArg (· + 0) (start_expert wf k b i j)).trans ?_
    rw [h1]
    show min ((e.val : ℤ).toNat) 255 + 0 = e.val
    omega
  | ⟨2, _⟩ =>
    refine (congrArg (· + _) (start_row wf k b i j)).trans ((Nat.zero_add _).trans ?_)
    rfl
  | ⟨3, _⟩ =>
    refine (congrArg (· + _) (start_col wf k b i j)).trans ((Nat.zero_add _).trans ?_)
    rfl

end Cert.Experts1
end
-- ==== Proof.Experts.Reference.lean ====
module

public import proofs.«01_k».proof.Proof.Gen.ExpertsReferenceIdeal.Run
public import Idealize.ShloMosaic.Lib.Pointwise
public import Idealize.ShloMosaic.Lib.Affine
public import proofs.«01_k».proof.Proof.Experts.Ffn
public import proofs.«01_k».proof.Proof.Experts.Gather

@[expose] public section

set_option maxRecDepth 16384

noncomputable section

/-! What the experts' reference computes, element by element. -/

namespace Cert.ExpertsReferenceIdeal.Ref

open Cert.ExpertsReferenceIdeal Cert.ExpertsReferenceIdeal.Gen Idealize.ShloMosaic Idealize.ShloMosaic.TcCoe Cert.Experts1

/-- Where each block's weights lie: the layer, and the expert. -/
def places (a1 : IVec S784 32) : IVec S784x2 32 :=
  concatenate S784x2 1 [⟨S784x1, (broadcastInDim S784x1 ![0] bcast_S784_S784x1_0 (id (broadcastInDim S784 ![] bcast_S_S784 (constantI S_ 32 0#32))))⟩,
    ⟨S784x1, (broadcastInDim S784x1 ![0] bcast_S784_S784x1_0 (select (cmpi .slt a1 (broadcastInDim S784 ![] bcast_S_S784 (constantI S_ 32 0#32)))
      (addi a1 (broadcastInDim S784 ![] bcast_S_S784 (constantI S_ 32 256#32))) a1))⟩] concatenates_S784x1_S784x1_S784x2_d1

/-- The products of a block's rows with its first weights. -/
def prod (a0 : FVec Ideal S401408x1024 .bf16) (w : FVec Ideal S784x1024x512 .f32) : FVec Ideal S784x512x512 .f32 :=
  Host.dotGeneral dot_S784x512x1024_S784x1024x512_S784x512x512_2_1_1_2_0_0 none (extf .f32 (shapeCast _ a0 shapeCasts_S401408x1024_S784x512x1024) bitsLt_bf16_f32) w

/-- The gated unit. -/
def gated (p : FVec Ideal S784x512x512 .f32) : FVec Ideal S784x512x256 .f32 :=
  mulf (mulf (extractStridedSlice S784x512x256 ![0, 0, 0] p slices_S784x512x512_S784x512x256_0_0_0)
    (Host.divf (broadcastInDim S784x512x256 ![] bcast_S_S784x512x256 (constant S_ .f32 0x3F800000#32))
      (addf (broadcastInDim S784x512x256 ![] bcast_S_S784x512x256 (constant S_ .f32 0x3F800000#32))
        (Host.exp (Host.negf (extractStridedSlice S784x512x256 ![0, 0, 0] p slices_S784x512x512_S784x512x256_0_0_0))))))
    (extractStridedSlice S784x512x256 ![0, 0, 256] p slices_S784x512x512_S784x512x256_0_0_256)

/-- Which blocks hold rows. -/
def alive (a2 : IVec S1 32) : IVec S784x512x1024 1 :=
  broadcastInDim S784x512x1024 ![0, 1, 2] bcast_S784x1x1_S784x512x1024_0_1_2 (broadcastInDim S784x1x1 ![0] bcast_S784_S784x1x1_0
    (cmpi .slt (iotaInDim S784 32 0) (broadcastInDim S784 ![] bcast_S_S784 (shapeCast _ a2 shapeCasts_S1_S_))))

/-- The result: the gated unit through the second weights, zero in a block without rows. -/
def outV (l : IVec S784x512x1024 1) (h : FVec Ideal S784x512x256 .f32) (w : FVec Ideal S784x256x1024 .f32) : FVec Ideal S401408x1024 .bf16 :=
  truncf .bf16 (shapeCast _ (select l (Host.dotGeneral dot_S784x512x256_S784x256x1024_S784x512x1024_2_1_1_2_0_0 none h w)
    (broadcastInDim S784x512x1024 ![] bcast_S_S784x512x1024 (id (constant S_ .f32 0x00000000#32)))) shapeCasts_S784x512x1024_S401408x1024) bitsLt_bf16_f32

theorem res_eq (m : (ℓ : Loc nD τ sig) → Buf (Elt Ideal) ℓ) (c : Dev nD) :
    Value.res_main_v37 m c = outV (alive (m ((c.tc : Thread nD τ).loc main_arg2)))
      (gated (prod (m ((c.tc : Thread nD τ).loc main_arg0)) (Host.gather gather_S2x256x1024x512_S784x2_S784x1024x512_12_01_n_n_01_1_111024512 (m ((c.tc : Thread nD τ).loc main_arg3)) (places (m ((c.tc : Thread nD τ).loc main_arg1))))))
      (Host.gather gather_S2x256x256x1024_S784x2_S784x256x1024_12_01_n_n_01_1_112561024 (m ((c.tc : Thread nD τ).loc main_arg4)) (places (m ((c.tc : Thread nD τ).loc main_arg1)))) := rfl

theorem prod_apply (a0 : FVec Ideal S401408x1024 .bf16) (w : FVec Ideal S784x1024x512 .f32) (b : Fin 784) (r : Fin 512) (f : Fin 512) :
    prod a0 w (ix3 b r f) = gu (fun x => a0 (ix2 ⟨512 * b.val + r.val, by omega⟩ x)) (fun x f => w (ix3 b x f)) f := by
  pointwise [prod, gu]
  simp only [Nat.mul_comm]

theorem gated_apply (p : FVec Ideal S784x512x512 .f32) (b : Fin 784) (r : Fin 512) (f : Fin 256) :
    gated p (ix3 b r f) = p (ix3 b r ⟨f.val, by omega⟩) * Ideal.logistic (p (ix3 b r ⟨f.val, by omega⟩)) * p (ix3 b r ⟨256 + f.val, by omega⟩) := by
  unfold Ideal.logistic
  pointwise [gated]

theorem alive_apply (a2 : IVec S1 32) (b : Fin 784) (r : Fin 512) (d : Fin 1024) :
    alive a2 (ix3 b r d) = IntOp.cmpi .slt (BitVec.ofNat 32 b.val) (a2 (ix1 0)) := by
  pointwise [alive]

theorem outV_apply (l : IVec S784x512x1024 1) (h : FVec Ideal S784x512x256 .f32) (w : FVec Ideal S784x256x1024 .f32) (b : Fin 784) (r : Fin 512) (d : Fin 1024) :
    outV l h w (ix2 ⟨512 * b.val + r.val, by omega⟩ d) = if l (ix3 b r d) = 1#1 then ∑ f : Fin 256, h (ix3 b r f) * w (ix3 b f d) else 0 := by
  have z : (id (constant (F := Ideal) S_ .f32 0x00000000#32) ix0 : EReal) = 0 := Ideal.ofBits_zero .f32
  pointwise [outV]
  exact congrArg (Scalar.select (l (ix3 b r d)) _) z

theorem places_layer (a1 : IVec S784 32) (b : Fin 784) : places a1 (ix2 b 0) = 0#32 := by
  pointwise [places]
  rfl

theorem places_expert (a1 : IVec S784 32) (b : Fin 784) : places a1 (ix2 b 1) = if IntOp.cmpi .slt (a1 (ix1 b)) 0#32 = 1#1 then a1 (ix1 b) + 256#32 else a1 (ix1 b) := by
  pointwise [places]
  rfl

/-- THE REFERENCE'S RESULT, element by element, where every block's expert is one of the 256. -/
theorem res_apply (m : (ℓ : Loc nD τ sig) → Buf (Elt Ideal) ℓ) (c : Dev nD) (hT : ∀ x, ((m ((c.tc : Thread nD τ).loc main_arg1) : IVec S784 32) x).toNat < 256)
    (b : Fin 784) (r : Fin 512) (d : Fin 1024) :
    Value.res_main_v37 m c (ix2 (⟨512 * b.val + r.val, by omega⟩ : Fin 401408) d)
      = val (fun i x => (m ((c.tc : Thread nD τ).loc main_arg0) : FVec Ideal S401408x1024 .bf16) (ix2 i x)) (fun b => ⟨((m ((c.tc : Thread nD τ).loc main_arg1) : IVec S784 32) (ix1 b)).toNat, hT _⟩)
        ((m ((c.tc : Thread nD τ).loc main_arg2) : IVec S1 32) (ix1 0)).toInt
        (fun e x f => (m ((c.tc : Thread nD τ).loc main_arg3) : FVec Ideal S2x256x1024x512 .f32) (ix4 0 e x f))
        (fun e f d => (m ((c.tc : Thread nD τ).loc main_arg4) : FVec Ideal S2x256x256x1024 .f32) (ix4 0 e f d)) b r d := by
  rw [res_eq, outV_apply, alive_apply]
  generalize (m ((c.tc : Thread nD τ).loc main_arg1) : IVec S784 32) = a1 at hT ⊢
  have hs : (a1 (ix1 b)).toInt = (a1 (ix1 b)).toNat := by
    have h := BitVec.toInt_eq_toNat_cond (a1 (ix1 b))
    have h2 := hT (ix1 b)
    split at h <;> omega
  have h1 : (places a1 (ix2 b 1)).toInt = (a1 (ix1 b)).toNat := by
    rw [places_expert, if_neg, hs]
    rw [IntOp.cmpi_slt, hs]
    have : (0#32).toInt = 0 := by decide
    omega
  have e1 : ∀ (x : FVec Ideal S2x256x1024x512 .f32) (i : Fin 1024) (j : Fin 512), Host.gather gather_S2x256x1024x512_S784x2_S784x1024x512_12_01_n_n_01_1_111024512 x (places a1) (ix3 b i j) = x (ix4 0 ⟨(a1 (ix1 b)).toNat, hT _⟩ i j) :=
    fun x i j => gather_apply gather_S2x256x1024x512_S784x2_S784x1024x512_12_01_n_n_01_1_111024512.wf (places a1) b i j x 0 ⟨_, hT _⟩ (by rw [places_layer]; rfl) h1
  have e2 : ∀ (x : FVec Ideal S2x256x256x1024 .f32) (i : Fin 256) (j : Fin 1024), Host.gather gather_S2x256x256x1024_S784x2_S784x256x1024_12_01_n_n_01_1_112561024 x (places a1) (ix3 b i j) = x (ix4 0 ⟨(a1 (ix1 b)).toNat, hT _⟩ i j) :=
    fun x i j => gather_apply gather_S2x256x256x1024_S784x2_S784x256x1024_12_01_n_n_01_1_112561024.wf (places a1) b i j x 0 ⟨_, hT _⟩ (by rw [places_layer]; rfl) h1
  have hn : (BitVec.ofNat 32 b.val).toInt = (b.val : ℤ) := by
    rw [BitVec.toInt_eq_toNat_cond, BitVec.toNat_ofNat]
    split <;> omega
  have hc : ∀ v : BitVec 32, (IntOp.cmpi .slt (BitVec.ofNat 32 b.val) v = 1#1) = ((b.val : ℤ) < v.toInt) := fun v => by rw [IntOp.cmpi_slt, hn]
  unfold val ffn
  simp only [hc, gated_apply, prod_apply, e1, e2]

end Cert.ExpertsReferenceIdeal.Ref
end
-- ==== Proof.Experts.Equation.lean ====
module

public import proofs.«01_k».proof.Proof.Experts.Same
public import proofs.«01_k».proof.Proof.Experts.Value
public import proofs.«01_k».proof.Proof.Experts.Reference

@[expose] public section

noncomputable section

/-! The experts' two results are one, at all extended reals. -/

namespace Cert.ExpertsIdeal.Way

open Idealize.ShloMosaic Idealize.ShloMosaic.TcCoe Idealize.SL.Sem

/-- The kernel's array is the reference's, where the arguments are. -/
theorem agree (m : (ℓ : Loc Cert.ExpertsIdeal.nD Cert.ExpertsIdeal.τ Cert.ExpertsIdeal.sig) → Buf (Elt Ideal) ℓ)
    (m' : (ℓ : Loc Cert.ExpertsReferenceIdeal.nD Cert.ExpertsReferenceIdeal.τ Cert.ExpertsReferenceIdeal.sig) → Buf (Elt Ideal) ℓ) (c : Dev Cert.ExpertsIdeal.nD)
    (hT : ∀ x, ((m ((c.tc : Thread Cert.ExpertsIdeal.nD Cert.ExpertsIdeal.τ).loc Cert.ExpertsIdeal.main_arg1) : S784.Idx → BitVec 32) x).toNat < 256)
    (e0 : m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0))
    (e1 : m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1))
    (e2 : m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2))
    (e3 : m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3))
    (e4 : m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) :
    (dats (m ((c : Thread Cert.ExpertsIdeal.nD Cert.ExpertsIdeal.τ).loc main_arg1)) (m ((c : Thread Cert.ExpertsIdeal.nD Cert.ExpertsIdeal.τ).loc main_arg2)) hT m 0 c).arrAt 3 grid0.N
      = Cert.ExpertsReferenceIdeal.Value.res_main_v37 m' c := by
  refine (arr_eq _ _ hT m c).trans (funext fun (i : S401408x1024.Idx) => ?_)
  have hi : (i 0).val < 401408 := (i 0).isLt
  have hb : (i 0).val / 512 < 784 := by omega
  have hx : i = ix2 (⟨512 * ((i 0).val / 512) + (i 0).val % 512, by omega⟩ : Fin 401408) (i 1) := by
    funext a
    match a with
    | ⟨0, _⟩ => exact Fin.ext (Nat.div_add_mod _ 512).symm
    | ⟨1, _⟩ => rfl
  have hT' : ∀ x, ((m' ((c.tc : Thread Cert.ExpertsReferenceIdeal.nD Cert.ExpertsReferenceIdeal.τ).loc Cert.ExpertsReferenceIdeal.main_arg1) : S784.Idx → BitVec 32) x).toNat < 256 := by
    rw [e1]; exact hT
  refine Eq.trans ?_ ((Cert.ExpertsReferenceIdeal.Ref.res_apply m' c hT' ⟨(i 0).val / 512, hb⟩ ⟨(i 0).val % 512, by omega⟩ (i 1)).symm.trans (congrArg (Cert.ExpertsReferenceIdeal.Value.res_main_v37 m' c) hx.symm))
  simp only [e0, e1, e2, e3, e4]
  rfl

/-- The kernel's result is the reference's, for experts among the 256. -/
theorem equation : Cert.algebraic_ExpertsIdeal_ExpertsReferenceIdeal := fun m g m' g' hp e => by
  have hT := fun (c : Dev Cert.ExpertsIdeal.nD) x => Cert.Pre_experts_in_range.Fin.range _ _ _ _ _ (hp c) x
  refine ⟨fun c => Cert.ExpertsReferenceIdeal.Value.res_main_v37 m' c, (θ_run _ _ _).mono (fun r h c => ⟨(h.1 c).1.trans ?_, (h.1 c).2⟩) (whole m g hT),
    Cert.ExpertsReferenceIdeal.Value.run m' g'⟩
  obtain ⟨e0, e1, e2, e3, e4⟩ := e c
  exact agree m m' c (hT c) e0 e1 e2 e3 e4

/-- The reference has no semaphore, and its run leaves its arguments as they were. -/
theorem reference_frame : Cert.quiescent_ExpertsReferenceIdeal := fun m g _ =>
  (θ_run _ _ _).mono (fun r h => ⟨fun c => (h c).2, sem_eq_zero_of_no_sems rfl _⟩) (Cert.ExpertsReferenceIdeal.Value.run m g)

end Cert.ExpertsIdeal.Way
end
-- ==== Proof.ExpertsTwo.Body.lean ====
module

public import proofs.«01_k».proof.Proof.Gen.ExpertsTwoIdeal.Skeleton
public import proofs.«01_k».proof.Proof.Gen.ExpertsTwoIdeal.Launch
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Tactic

@[expose] public section

set_option maxRecDepth 16384
set_option Elab.async false

noncomputable section

/-! The second layer: what one run of the experts' body does, on each of its three ways. -/

namespace Cert.ExpertsTwoIdeal.Way

open Cert.ExpertsTwoIdeal Cert.ExpertsTwoIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The experts' numbers, one per block of rows. -/
abbrev tb : Memref sig .tc .smem S784 .i32 := Memref.whole main_arg1
/-- How many blocks hold rows. -/
abbrev tn : Memref sig .tc .smem S1 .i32 := Memref.whole main_arg2
/-- The expert's first weights, kept from step to step. -/
abbrev sg : Memref sig .tc .vmem S1024x512 .bf16 := Memref.whole cc0_scratch0
/-- The expert's second weights, kept from step to step. -/
abbrev sd : Memref sig .tc .vmem S256x1024 .bf16 := Memref.whole cc0_scratch1

/-- The number of blocks, as the body loads it. -/
abbrev nword (T1 : S1.Idx → Elt F .i32) : Elt F .i32 :=
  View.readAt (Elt F) tn.view (Rect.unit (s := S1) ![0] S1.size inb_S1_S1_0).toLoadRect T1 (Shape.Idx.first (numel1_S1.symm ▸ Nat.one_pos))
/-- This block's expert, as the body loads it. -/
abbrev eword (i : grid0.Coords) (T0 : S784.Idx → Elt F .i32) : Elt F .i32 :=
  View.readAt (Elt F) tb.view (Rect.unit (s := S784) (k0_off2 i) S1.size (k0_off2_inb i)).toLoadRect T0 (Shape.Idx.first (numel1_S1.symm ▸ Nat.one_pos))
/-- The block before's expert, as the body loads it. -/
abbrev pword (i : grid0.Coords) (T0 : S784.Idx → Elt F .i32) : Elt F .i32 :=
  View.readAt (Elt F) tb.view (Rect.unit (s := S784) (k0_off3 i) S1.size (k0_off3_inb i)).toLoadRect T0 (Shape.Idx.first (numel1_S1.symm ▸ Nat.one_pos))
/-- Whether the body fetches the weights anew. -/
abbrev anew (i : grid0.Coords) (T0 : S784.Idx → Elt F .i32) : BitVec 1 :=
  Scalar.cmpi .ne (Scalar.extui (Scalar.ori (Scalar.cmpi .eq (BitVec.ofNat 32 (i 0).val) 0#32) (Scalar.cmpi .ne (eword i T0) (pword i T0)))) 0#32

/-- A list of one store of everything reads back as what was stored. -/
theorem read_one {s : Shape} {e : EltTy} (v : View sig .tc .vmem s e) (f : v.ty.Contents (Elt F)) (off : Fin s.rank → ℕ)
    (inb : ∀ a, off a + s.size a ≤ s.size a) (w : s.Idx → Elt F e) : v.read (Elt F) (v.writes (Elt F) f [⟨Rect.unit off s.size inb, w⟩]) = w := by
  funext y
  have h := View.read_writes_cons_emb v f (Rect.unit off s.size inb) w [] y
  rwa [show (Rect.unit off s.size inb).emb y = y from funext fun a => Fin.ext (by
    show off a + 1 * (y a).val = (y a).val
    have := inb a; omega)] at h

/-- A load of everything reads what the view holds. -/
theorem load_all {s : Shape} {e : EltTy} {sp : Space} (v : View sig .tc sp s e) (f : v.ty.Contents (Elt F)) (off : Fin s.rank → ℕ)
    (inb : ∀ a, off a + s.size a ≤ s.size a) {x : s.Idx → Elt F e} (h : v.read (Elt F) f = x) :
    v.readAt (Elt F) (Rect.unit off s.size inb).toLoadRect f = x := by
  subst h
  funext y
  exact congrArg (v.read (Elt F) f) (funext fun a => Fin.ext (by
    show off a + 1 * (y a).val = (y a).val
    have := inb a; omega))

/-- And so does a load of everything after that one store. -/
theorem load_one {s : Shape} {e : EltTy} (off off' : Fin s.rank → ℕ) (inb : ∀ a, off a + s.size a ≤ s.size a) (inb' : ∀ a, off' a + s.size a ≤ s.size a)
    (w : s.Idx → Elt F e) (v : View sig .tc .vmem s e) :
    v.readCov [⟨Rect.unit off s.size inb, w⟩] (Rect.unit off' s.size inb').toLoadRect = w := by
  unfold View.readCov
  exact load_all v _ off' inb' (read_one v _ off inb w)

section
variable (c : Dev nD) (i : grid0.Coords) (arg3 : Memref sig .tc .vmem S512x1024 .bf16) (harg3 : arg3.IsWhole) (arg4 : Memref sig .tc .vmem S1x1x1024x512 .f32) (harg4 : arg4.IsWhole)
    (arg5 : Memref sig .tc .vmem S1x1x256x1024 .f32) (harg5 : arg5.IsWhole) (arg6 : Memref sig .tc .vmem S512x1024 .bf16) (harg6 : arg6.IsWhole)
    (T0 : S784.Idx → Elt F .i32) (T1 : S1.Idx → Elt F .i32)
    (x0 : S512x1024.Idx → Elt F .bf16) (x1 : S1x1x1024x512.Idx → Elt F .f32) (x2 : S1x1x256x1024.Idx → Elt F .f32)
    (y0 : S1024x512.Idx → Elt F .bf16) (y1 : S256x1024.Idx → Elt F .bf16)

/-- What the body reads and hands back untouched: the rows, the two weights, the two tables. -/
abbrev ins : sProp 𝕄 :=
  iprop(owns (c : Thread nD τ) arg3 fullShare x0 ∗ owns (c : Thread nD τ) arg4 fullShare x1 ∗ owns (c : Thread nD τ) arg5 fullShare x2
    ∗ (tb.view.loc (c : Thread nD τ) ↦{fullShare.right} T0) ∗ (tn.view.loc (c : Thread nD τ) ↦{fullShare.right} T1))

/-- The body on its buffers. -/
abbrev body : Prog (TpuEff nD τ sig (Elt F) Λ₀ .tc) PUnit :=
  cc0_moe_experts i tb (Memref.isWhole_whole _) tn (Memref.isWhole_whole _) arg3 harg3 arg4 harg4 arg5 harg5 arg6 harg6 sg (Memref.isWhole_whole _) sd (Memref.isWhole_whole _)

set_option maxHeartbeats 8000000 in
/-- A block of rows whose expert is another one than the block before's: the weights are fetched and kept, and the rows go through them. -/
theorem fetch (h1 : k0_cond1 i (nword T1) = 1#1) (h2 : anew i T0 = 1#1) (h3 : ¬ k0_cond3 i (nword T1) = 1#1) (K : PUnit → sProp 𝕄) :
    iprop(ins c arg3 arg4 arg5 T0 T1 x0 x1 x2 ∗ (∃ d, owns (c : Thread nD τ) arg6 fullShare d)
        ∗ (∃ d, owns (c : Thread nD τ) sg fullShare d) ∗ (∃ d, owns (c : Thread nD τ) sd fullShare d)
        ∗ (iprop(ins c arg3 arg4 arg5 T0 T1 x0 x1 x2 ∗ owns (c : Thread nD τ) arg6 fullShare (k0_pay3 x0 (k0_pay1 x1) (k0_pay2 x2))
            ∗ owns (c : Thread nD τ) sg fullShare (k0_pay1 x1) ∗ owns (c : Thread nD τ) sd fullShare (k0_pay2 x2)) -∗ K ⟨⟩))
      ⊢ wp frame (wpE (defs₀ (F := F)) Variants.none c none) Set.univ (body i arg3 harg3 arg4 harg4 arg5 harg5 arg6 harg6) K := by
  unfold ins body owns
  rw [cc0_moe_experts_eq_skeleton]; unfold cc0_moe_experts_skel
  iintro ⟨⟨⟨%f0, %e0, H0⟩, ⟨%f1, %e1, H1⟩, ⟨%f2, %e2, H2⟩, HT0, HT1⟩, ⟨%d3, %f3, -, HO⟩, ⟨%d4, %f4, -, HG⟩, ⟨%d5, %f5, -, HD⟩, Hk⟩
  have hG : sg.IsWhole := Memref.isWhole_whole _
  have hD : sd.IsWhole := Memref.isWhole_whole _
  have hb : tb.IsWhole := Memref.isWhole_whole _
  have hn : tn.IsWhole := Memref.isWhole_whole _
  sl_exec! (disch := first | sl_exact h1 | sl_exact h3 | exact h2)
  sl_step
  iapply Hk
  isplitl [H0 H1 H2 HT0 HT1]
  · isplitl [H0]
    · iexists _; isplitr; swap
      · iexact H0
      · ipureintro; exact e0
    isplitl [H1]
    · iexists _; isplitr; swap
      · iexact H1
      · ipureintro; exact e1
    isplitl [H2]
    · iexists _; isplitr; swap
      · iexact H2
      · ipureintro; exact e2
    isplitl [HT0]; · iexact HT0
    iexact HT1
  isplitl [HO]
  · iexists _; isplitr; swap
    · iexact HO
    · ipureintro
      delta fetch.sl.HO_1 fetch.sl.v20 fetch.sl.v21 fetch.sl.HG_1 fetch.sl.HD_1
      refine (read_one _ _ _ _ _).trans ?_
      rw [load_all _ _ _ _ e0, load_one, load_one, load_all _ _ _ _ e1, load_all _ _ _ _ e2]
  isplitl [HG]
  · iexists _; isplitr; swap
    · iexact HG
    · ipureintro
      delta fetch.sl.HG_1
      refine (read_one _ _ _ _ _).trans ?_
      rw [load_all _ _ _ _ e1]
  · iexists _; isplitr; swap
    · iexact HD
    · ipureintro
      delta fetch.sl.HD_1
      refine (read_one _ _ _ _ _).trans ?_
      rw [load_all _ _ _ _ e2]

set_option maxHeartbeats 8000000 in
/-- A block whose expert is the block before's: the rows go through the weights kept. -/
theorem keep (h1 : k0_cond1 i (nword T1) = 1#1) (h2 : ¬ anew i T0 = 1#1) (h3 : ¬ k0_cond3 i (nword T1) = 1#1) (K : PUnit → sProp 𝕄) :
    iprop(ins c arg3 arg4 arg5 T0 T1 x0 x1 x2 ∗ (∃ d, owns (c : Thread nD τ) arg6 fullShare d)
        ∗ owns (c : Thread nD τ) sg fullShare y0 ∗ owns (c : Thread nD τ) sd fullShare y1
        ∗ (iprop(ins c arg3 arg4 arg5 T0 T1 x0 x1 x2 ∗ owns (c : Thread nD τ) arg6 fullShare (k0_pay3 x0 y0 y1)
            ∗ owns (c : Thread nD τ) sg fullShare y0 ∗ owns (c : Thread nD τ) sd fullShare y1) -∗ K ⟨⟩))
      ⊢ wp frame (wpE (defs₀ (F := F)) Variants.none c none) Set.univ (body i arg3 harg3 arg4 harg4 arg5 harg5 arg6 harg6) K := by
  unfold ins body owns
  rw [cc0_moe_experts_eq_skeleton]; unfold cc0_moe_experts_skel
  iintro ⟨⟨⟨%f0, %e0, H0⟩, ⟨%f1, %e1, H1⟩, ⟨%f2, %e2, H2⟩, HT0, HT1⟩, ⟨%d3, %f3, -, HO⟩, ⟨%f4, %e4, HG⟩, ⟨%f5, %e5, HD⟩, Hk⟩
  have hG : sg.IsWhole := Memref.isWhole_whole _
  have hD : sd.IsWhole := Memref.isWhole_whole _
  have hb : tb.IsWhole := Memref.isWhole_whole _
  have hn : tn.IsWhole := Memref.isWhole_whole _
  sl_exec! (disch := first | sl_exact h1 | sl_exact h3 | exact h2)
  sl_step
  iapply Hk
  isplitl [H0 H1 H2 HT0 HT1]
  · isplitl [H0]
    · iexists _; isplitr; swap
      · iexact H0
      · ipureintro; exact e0
    isplitl [H1]
    · iexists _; isplitr; swap
      · iexact H1
      · ipureintro; exact e1
    isplitl [H2]
    · iexists _; isplitr; swap
      · iexact H2
      · ipureintro; exact e2
    isplitl [HT0]; · iexact HT0
    iexact HT1
  isplitl [HO]
  · iexists _; isplitr; swap
    · iexact HO
    · ipureintro
      delta keep.sl.HO_1
      refine (read_one _ _ _ _ _).trans ?_
      rw [load_all _ _ _ _ e0, load_all _ _ _ _ e4, load_all _ _ _ _ e5]
  isplitl [HG]
  · iexists _; isplitr; swap
    · iexact HG
    · ipureintro; exact e4
  · iexists _; isplitr; swap
    · iexact HD
    · ipureintro; exact e5

set_option maxHeartbeats 8000000 in
/-- A block past the ones that hold rows: zeros. -/
theorem idle (h1 : ¬ k0_cond1 i (nword T1) = 1#1) (h3 : k0_cond3 i (nword T1) = 1#1) (K : PUnit → sProp 𝕄) :
    iprop(ins c arg3 arg4 arg5 T0 T1 x0 x1 x2 ∗ (∃ d, owns (c : Thread nD τ) arg6 fullShare d)
        ∗ (iprop(ins c arg3 arg4 arg5 T0 T1 x0 x1 x2 ∗ owns (c : Thread nD τ) arg6 fullShare (k0_pay4 (F := F))) -∗ K ⟨⟩))
      ⊢ wp frame (wpE (defs₀ (F := F)) Variants.none c none) Set.univ (body i arg3 harg3 arg4 harg4 arg5 harg5 arg6 harg6) K := by
  unfold ins body owns
  rw [cc0_moe_experts_eq_skeleton]; unfold cc0_moe_experts_skel
  iintro ⟨⟨⟨%f0, %e0, H0⟩, ⟨%f1, %e1, H1⟩, ⟨%f2, %e2, H2⟩, HT0, HT1⟩, ⟨%d3, %f3, -, HO⟩, Hk⟩
  have hb : tb.IsWhole := Memref.isWhole_whole _
  have hn : tn.IsWhole := Memref.isWhole_whole _
  sl_exec! (disch := first | sl_exact h1 | sl_exact h3)
  sl_step
  iapply Hk
  isplitl [H0 H1 H2 HT0 HT1]
  · isplitl [H0]
    · iexists _; isplitr; swap
      · iexact H0
      · ipureintro; exact e0
    isplitl [H1]
    · iexists _; isplitr; swap
      · iexact H1
      · ipureintro; exact e1
    isplitl [H2]
    · iexists _; isplitr; swap
      · iexact H2
      · ipureintro; exact e2
    isplitl [HT0]; · iexact HT0
    iexact HT1
  · iexists _; isplitr; swap
    · iexact HO
    · ipureintro
      delta idle.sl.HO_1
      exact read_one _ _ _ _ _

end

end Cert.ExpertsTwoIdeal.Way

end
-- ==== Proof.ExpertsTwo.Tables.lean ====
module

public import proofs.«01_k».proof.Proof.ExpertsTwo.Body
public import Idealize.ShloMosaic.Lib.Affine
public import Idealize.ShloMosaic.Lib.Pipeline.Covers
public import Idealize.ShloMosaic.Lib.Pointwise
public import Idealize.ShloMosaic.Lib.Pipeline.ValueKit

@[expose] public section

set_option maxRecDepth 16384

noncomputable section

/-! The second layer: the experts call at any two tables whose experts are among the 256: the words its maps and its body read, and the pipeline they give. -/

namespace Cert.ExpertsTwoIdeal.Way

open Cert.ExpertsTwoIdeal Cert.ExpertsTwoIdeal.Gen Idealize.ShloMosaic Idealize.ShloMosaic.TcCoe

variable {F : FTy → Type} [FloatOps F]

/-- A grid point's coordinate and the places of the words read there. -/
theorem places : ∀ t : Fin grid0.N, (grid0.coords t 0).val = t.val ∧ k0_off1 (grid0.coords t) 0 = t.val ∧ k0_off2 (grid0.coords t) 0 = t.val
    ∧ k0_off3 (grid0.coords t) 0 = t.val - 1 ∧ cc0_transform_3 (grid0.coords t) = ![t.val, 0] := by decide +kernel

/-- A grid point as a block of rows. -/
def blk (t : Fin grid0.N) : Fin 784 := ⟨t.val, N_0 ▸ t.isLt⟩

theorem flag (b : BitVec 1) : Scalar.cmpi .ne (Scalar.extui b : BitVec 32) 0#32 = b := by revert b; decide

theorem small (n : Fin 784) : (BitVec.ofNat 32 n.val).toInt = n.val := by revert n; decide +kernel

theorem bit_one (b : Bool) : BitVec.ofBool b = 1#1 ↔ b = true := by cases b <;> decide

/-- The body computes rows where the block is one of the first `v`. -/
theorem live_iff (t : Fin grid0.N) (v : BitVec 32) : k0_cond1 (grid0.coords t) v = 1#1 ↔ (t.val : ℤ) < v.toInt := by
  have h : k0_cond1 (grid0.coords t) v = Scalar.cmpi .slt (BitVec.ofNat 32 (grid0.coords t 0).val) v := flag _
  rw [h, (places t).1]
  show BitVec.ofBool (BitVec.slt _ _) = 1#1 ↔ _
  rw [bit_one, BitVec.slt_iff_toInt_lt, show (BitVec.ofNat 32 t.val).toInt = (t.val : ℤ) from small (blk t)]

/-- It stores zeros elsewhere. -/
theorem dead_iff (t : Fin grid0.N) (v : BitVec 32) : k0_cond3 (grid0.coords t) v = 1#1 ↔ ¬ (t.val : ℤ) < v.toInt := by
  have h : k0_cond3 (grid0.coords t) v = Scalar.cmpi .sge (BitVec.ofNat 32 (grid0.coords t 0).val) v := flag _
  rw [h, (places t).1]
  show BitVec.ofBool (BitVec.sle _ _) = 1#1 ↔ _
  rw [bit_one, BitVec.sle_iff_toInt_le, show (BitVec.ofNat 32 t.val).toInt = (t.val : ℤ) from small (blk t), Int.not_lt]

variable (T0 : S784.Idx → BitVec 32) (T1 : S1.Idx → BitVec 32)

theorem nword_eq : nword (F := F) T1 = T1 (ix1 0) := congrArg T1 (funext fun a => match a with | ⟨0, _⟩ => Subsingleton.elim (α := Fin 1) _ _)

theorem eword_eq (t : Fin grid0.N) : eword (F := F) (grid0.coords t) T0 = T0 (ix1 (blk t)) :=
  congrArg T0 (funext fun a => match a with | ⟨0, _⟩ => Fin.ext (by
    show k0_off2 (grid0.coords t) 0 + 1 * 0 = t.val
    rw [(places t).2.2.1]; rfl))

theorem pword_eq (t : Fin grid0.N) (ht : t.val ≠ 0) : pword (F := F) (grid0.coords t) T0 = T0 (ix1 ⟨t.val - 1, by have := (blk t).isLt; show t.val - 1 < 784; have : t.val < 784 := this; omega⟩) :=
  congrArg T0 (funext fun a => match a with | ⟨0, _⟩ => Fin.ext (by
    show k0_off3 (grid0.coords t) 0 + 1 * 0 = t.val - 1
    rw [(places t).2.2.2.1]; rfl))

/-- Where the weights are not fetched anew, the block is not the first and its expert is the block before's. -/
theorem not_anew (t : Fin grid0.N) (h : ¬ anew (F := F) (grid0.coords t) T0 = 1#1) : t.val ≠ 0 ∧ eword (F := F) (grid0.coords t) T0 = pword (F := F) (grid0.coords t) T0 := by
  rw [anew, flag] at h
  have key : ∀ x y : BitVec 1, ¬ Scalar.ori x y = 1#1 → ¬ x = 1#1 ∧ ¬ y = 1#1 := by decide
  obtain ⟨h1, h2⟩ := key _ _ h
  constructor
  · intro h0
    refine h1 ?_
    rw [(places t).1, h0]; decide
  · by_contra hne
    refine h2 ?_
    show BitVec.ofBool (_ != _) = 1#1
    rw [bit_one]
    simpa using hne

/-- The tables as the pipeline takes them. -/
def tabs : pre0.Contents (Elt F) := fun | ⟨0, _⟩ => T0 | ⟨1, _⟩ => T1 | ⟨_ + 2, h⟩ => absurd h (by simp)

/-- The block of rows a grid point takes: its own, or the last that holds rows. -/
def row (t : Fin grid0.N) (v : BitVec 32) : BitVec 32 :=
  Scalar.maxsi (Scalar.minsi (BitVec.ofNat 32 t.val) (Scalar.subi v 1#32)) 0#32

theorem row_le (t : Fin grid0.N) (v : BitVec 32) : (row t v).toNat ≤ t.val := by
  have hs : (BitVec.ofNat 32 t.val).toInt = (t.val : ℤ) := small (blk t)
  have hn : (BitVec.ofNat 32 t.val).toNat = t.val := by
    have h : t.val < 784 := (blk t).isLt
    rw [BitVec.toNat_ofNat]; omega
  unfold row Scalar.maxsi Scalar.minsi IntOp.maxsi IntOp.minsi
  generalize Scalar.subi v 1#32 = w
  by_cases h1 : (BitVec.ofNat 32 t.val).slt w = true
  · rw [if_pos h1]; split
    · exact hn.le
    · exact Nat.zero_le _
  · rw [if_neg h1]; split
    · rename_i h2
      rw [BitVec.slt_iff_toInt_lt] at h1 h2
      rw [hs] at h1
      simp only [BitVec.toInt_zero, BitVec.ofNat_eq_ofNat] at h2
      have h3 := BitVec.toInt_eq_toNat_cond w
      have h4 := w.isLt
      split at h3 <;> omega
    · exact Nat.zero_le _

/-- Where the block holds rows it is its own. -/
theorem row_live (t : Fin grid0.N) (v : BitVec 32) (h : (t.val : ℤ) < v.toInt) : (row t v).toNat = t.val := by
  have hs : (BitVec.ofNat 32 t.val).toInt = (t.val : ℤ) := small (blk t)
  have hn : (BitVec.ofNat 32 t.val).toNat = t.val := by
    have h : t.val < 784 := (blk t).isLt
    rw [BitVec.toNat_ofNat]; omega
  have hv : (Scalar.subi v 1#32).toInt = v.toInt - 1 := by
    have h2 : (v - 1#32).toInt = _ := BitVec.toInt_sub (x := v) (y := 1#32)
    have h3 := BitVec.toInt_lt (x := v)
    have h1 : (1#32).toInt = 1 := by decide
    rw [h1] at h2
    exact h2.trans (Int.bmod_eq_of_le_mul_two (by omega) (by omega))
  unfold row Scalar.maxsi Scalar.minsi IntOp.maxsi IntOp.minsi
  by_cases h1 : (BitVec.ofNat 32 t.val).slt (Scalar.subi v 1#32) = true
  · rw [if_pos h1]; split
    · exact hn
    · rename_i h2
      rw [BitVec.slt_iff_toInt_lt, hs] at h2
      simp only [BitVec.toInt_zero, BitVec.ofNat_eq_ofNat] at h2
      show 0 = _
      omega
  · rw [if_neg h1]
    rw [BitVec.slt_iff_toInt_lt, hs, hv] at h1
    have h5 : Scalar.subi v 1#32 = BitVec.ofNat 32 t.val := BitVec.eq_of_toInt_eq (by rw [hv, hs]; omega)
    rw [h5]; split
    · exact hn
    · rename_i h2
      rw [BitVec.slt_iff_toInt_lt, hs] at h2
      simp only [BitVec.toInt_zero, BitVec.ofNat_eq_ofNat] at h2
      show 0 = _
      omega

theorem map0 (t : Fin grid0.N) : cc0_transform_0 inb_S1_S1_0 numel1_S1 (tabs (F := F) T0 T1) (grid0.coords t) = ![(row t (T1 (ix1 0))).toNat, 0] := by
  have h : T1 ((Rect.unit (s := S1) ![0] S1.size inb_S1_S1_0).emb (Shape.Idx.first (numel1_S1.symm ▸ Nat.one_pos))) = T1 (ix1 0) :=
    congrArg T1 (funext fun a => match a with | ⟨0, _⟩ => Subsingleton.elim (α := Fin 1) _ _)
  have h2 : (BitVec.ofNat 32 (grid0.coords t 0).val) = BitVec.ofNat 32 t.val := by rw [(places t).1]
  exact congr (congrArg (fun (n v : BitVec 32) => (![(Scalar.maxsi (Scalar.minsi n (Scalar.subi v 1#32)) 0#32).toNat, 0] : Fin 2 → ℕ)) h2) h

theorem expert (t : Fin grid0.N) : T0 ((Rect.unit (s := S784) (k0_off1 (grid0.coords t)) S1.size (k0_off1_inb (grid0.coords t))).emb (Shape.Idx.first (numel1_S1.symm ▸ Nat.one_pos))) = T0 (ix1 (blk t)) :=
  congrArg T0 (funext fun a => match a with | ⟨0, _⟩ => Fin.ext (by
    show k0_off1 (grid0.coords t) 0 + 0 = t.val
    rw [(places t).2.1]; rfl))

theorem map1 (t : Fin grid0.N) : cc0_transform_1 k0_off1_inb numel1_S1 (tabs (F := F) T0 T1) (grid0.coords t) = ![1, (T0 (ix1 (blk t))).toNat, 0, 0] :=
  congrArg (fun v : BitVec 32 => ![1, v.toNat, 0, 0]) (expert T0 t)

theorem map2 (t : Fin grid0.N) : cc0_transform_2 k0_off1_inb numel1_S1 (tabs (F := F) T0 T1) (grid0.coords t) = ![1, (T0 (ix1 (blk t))).toNat, 0, 0] :=
  congrArg (fun v : BitVec 32 => ![1, v.toNat, 0, 0]) (expert T0 t)

theorem point (i : grid0.Coords) : ∃ t : Fin grid0.N, grid0.coords t = i := Pipeline.Grid.coords_surjective grid0 i

/-- Where every expert is among the 256 every block lies in its array. -/
theorem admitted (hT : ∀ x, (T0 x).toNat < 256) : ok0 (tabs (F := F) T0 T1) := by
  refine ⟨fun i => ?_, fun i => ?_, fun i => ?_⟩ <;> obtain ⟨t, rfl⟩ := point i
  · refine ⟨?_, .inr (Affine.block_words_dvd (s := S401408x1024) (p := EltTy.packing .bf16) (by decide) (by decide))⟩
    rw [map0]
    have h1 := row_le t (T1 (ix1 0))
    have h2 : t.val < 784 := (blk t).isLt
    intro a
    match a with
    | ⟨0, _⟩ => show (_ + 1) * 512 ≤ 401408; have : (![(row t (T1 (ix1 0))).toNat, 0] : Fin 2 → ℕ) ⟨0, by decide⟩ = (row t (T1 (ix1 0))).toNat := rfl
                rw [this]; omega
    | ⟨1, _⟩ => show (0 + 1) * 1024 ≤ 1024; decide
  · refine ⟨?_, .inl rfl⟩
    rw [map1]
    have h := hT (ix1 (blk t))
    intro a
    match a with
    | ⟨0, _⟩ => show (1 + 1) * 1 ≤ 2; decide
    | ⟨1, _⟩ => show ((T0 (ix1 (blk t))).toNat + 1) * 1 ≤ 256; omega
    | ⟨2, _⟩ => show (0 + 1) * 1024 ≤ 1024; decide
    | ⟨3, _⟩ => show (0 + 1) * 512 ≤ 512; decide
  · refine ⟨?_, .inl rfl⟩
    rw [map2]
    have h := hT (ix1 (blk t))
    intro a
    match a with
    | ⟨0, _⟩ => show (1 + 1) * 1 ≤ 2; decide
    | ⟨1, _⟩ => show ((T0 (ix1 (blk t))).toNat + 1) * 1 ≤ 256; omega
    | ⟨2, _⟩ => show (0 + 1) * 256 ≤ 256; decide
    | ⟨3, _⟩ => show (0 + 1) * 1024 ≤ 1024; decide

end Cert.ExpertsTwoIdeal.Way

end
-- ==== Proof.ExpertsTwo.Run.lean ====
module

public import proofs.«01_k».proof.Proof.ExpertsTwo.Tables

@[expose] public section

set_option maxRecDepth 16384
set_option Elab.async false
set_option backward.proofsInPublic true

noncomputable section

/-! The second layer: the experts' launch: what every grid point finds and leaves, and the run of the whole program. -/

namespace Cert.ExpertsTwoIdeal.Way

open Cert.ExpertsTwoIdeal Cert.ExpertsTwoIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (T0 : S784.Idx → BitVec 32) (T1 : S1.Idx → BitVec 32) (hT : ∀ x, (T0 x).toNat < 256)
  (m : (ℓ : Loc nD τ sig) → Buf (Elt F) ℓ) (ρ : Dev nD → PrngReg)

/-- The tables, admitted. -/
abbrev adm : (pcfg0 (F := F)).Adm := ⟨tabs T0 T1, admitted T0 T1 hT⟩
/-- The pipeline at them. -/
abbrev cf : Cfg sig Λ₀ := cfg0 (adm (F := F) T0 T1 hT)
/-- The windows' places. -/
theorem idx (t : Fin grid0.N) :
    ((cf (F := F) T0 T1 hT).win 0).index t = ![(row t (T1 (ix1 0))).toNat, 0]
    ∧ ((cf (F := F) T0 T1 hT).win 1).index t = ![1, (T0 (ix1 (blk t))).toNat, 0, 0]
    ∧ ((cf (F := F) T0 T1 hT).win 2).index t = ![1, (T0 (ix1 (blk t))).toNat, 0, 0]
    ∧ ((cf (F := F) T0 T1 hT).win 3).index t = ![t.val, 0] :=
  ⟨map0 T0 T1 t, map1 T0 T1 t, map2 T0 T1 t, (places t).2.2.2.2⟩

/-- Window `w`'s block at point `t`, as the launch finds its array. -/
def iblk (c : Dev nD) (w : Fin (cf (F := F) T0 T1 hT).W) (t : Fin grid0.N) : (((cf (F := F) T0 T1 hT).win w).xblock (grid0.coords t)).Idx → Elt F ((cf (F := F) T0 T1 hT).win w).elt :=
  (((cf (F := F) T0 T1 hT).win w).blk t).view.read (Elt F) (m (((cf (F := F) T0 T1 hT).win w).arr.view.loc (c : Thread nD τ)))

/-- A block of the first weights: the expert's. -/
theorem blk1 (c : Dev nD) (t : Fin grid0.N) (x : Fin 1024) (f : Fin 512) :
    (iblk T0 T1 hT m c 1 t : Vec F S1x1x1024x512 .f32) (ix4 0 0 x f)
      = (m ((c : Thread nD τ).loc main_arg3) : Vec F S2x256x1024x512 .f32) (ix4 1 ⟨(T0 (ix1 (blk t))).toNat, hT _⟩ x f) := by
  blk_ext [iblk, idx T0 T1 hT t]

theorem blk2 (c : Dev nD) (t : Fin grid0.N) (f : Fin 256) (x : Fin 1024) :
    (iblk T0 T1 hT m c 2 t : Vec F S1x1x256x1024 .f32) (ix4 0 0 f x)
      = (m ((c : Thread nD τ).loc main_arg4) : Vec F S2x256x256x1024 .f32) (ix4 1 ⟨(T0 (ix1 (blk t))).toNat, hT _⟩ f x) := by
  blk_ext [iblk, idx T0 T1 hT t]

theorem blk0 (c : Dev nD) (t : Fin grid0.N) (h : (t.val : ℤ) < (T1 (ix1 0)).toInt) (r : Fin 512) (x : Fin 1024) :
    (iblk T0 T1 hT m c 0 t : Vec F S512x1024 .bf16) (ix2 r x)
      = (m ((c : Thread nD τ).loc main_arg0) : Vec F S401408x1024 .bf16) (ix2 ⟨512 * (blk t).val + r.val, by omega⟩ x) := by
  blk_ext [iblk, idx T0 T1 hT t, row_live t _ h, blk]

/-- The blocks as the body's values. -/
abbrev rows (c : Dev nD) (t : Fin grid0.N) : Vec F S512x1024 .bf16 := iblk T0 T1 hT m c 0 t
abbrev wg (c : Dev nD) (t : Fin grid0.N) : Vec F S1x1x1024x512 .f32 := iblk T0 T1 hT m c 1 t
abbrev wd (c : Dev nD) (t : Fin grid0.N) : Vec F S1x1x256x1024 .f32 := iblk T0 T1 hT m c 2 t

/-- Two points of one expert find the same weights. -/
theorem wg_eq (c : Dev nD) (t s : Fin grid0.N) (h : T0 (ix1 (blk t)) = T0 (ix1 (blk s))) : wg T0 T1 hT m c t = wg T0 T1 hT m c s := by
  funext y
  obtain ⟨a, b, x, f, rfl⟩ : ∃ (a : Fin 1) (b : Fin 1) (x : Fin _) (f : Fin _), y = ix4 a b x f := ⟨_, _, _, _, eq_ix4 y⟩
  obtain rfl := Subsingleton.elim a 0
  obtain rfl := Subsingleton.elim b 0
  exact (blk1 T0 T1 hT m c t x f).trans ((congrArg (m ((c : Thread nD τ).loc main_arg3) : Vec F S2x256x1024x512 .f32) (by simp only [h])).trans (blk1 T0 T1 hT m c s x f).symm)

theorem wd_eq (c : Dev nD) (t s : Fin grid0.N) (h : T0 (ix1 (blk t)) = T0 (ix1 (blk s))) : wd T0 T1 hT m c t = wd T0 T1 hT m c s := by
  funext y
  obtain ⟨a, b, x, f, rfl⟩ : ∃ (a : Fin 1) (b : Fin 1) (x : Fin _) (f : Fin _), y = ix4 a b x f := ⟨_, _, _, _, eq_ix4 y⟩
  obtain rfl := Subsingleton.elim a 0
  obtain rfl := Subsingleton.elim b 0
  exact (blk2 T0 T1 hT m c t x f).trans ((congrArg (m ((c : Thread nD τ).loc main_arg4) : Vec F S2x256x256x1024 .f32) (by simp only [h])).trans (blk2 T0 T1 hT m c s x f).symm)

/-- What a grid point leaves in the result's block. -/
def outAt (c : Dev nD) (t : Fin grid0.N) : Vec F S512x1024 .bf16 :=
  if k0_cond1 (grid0.coords t) (nword (F := F) T1) = 1#1 then k0_pay3 (rows T0 T1 hT m c t) (k0_pay1 (wg T0 T1 hT m c t)) (k0_pay2 (wd T0 T1 hT m c t)) else k0_pay4

/-- Between two points: the tables, and the weights kept of the point before if it computed rows. -/
def Phi (c : Dev nD) (t : ℕ) : sProp 𝕄 :=
  iprop(∃ y0 y1, ⌜∀ s : Fin grid0.N, s.val + 1 = t → k0_cond1 (grid0.coords s) (nword (F := F) T1) = 1#1 → y0 = k0_pay1 (wg T0 T1 hT m c s) ∧ y1 = k0_pay2 (wd T0 T1 hT m c s)⌝
    ∗ owns (c : Thread nD τ) sg fullShare y0 ∗ owns (c : Thread nD τ) sd fullShare y1
    ∗ (tb.view.loc (c : Thread nD τ) ↦{fullShare.right} T0) ∗ (tn.view.loc (c : Thread nD τ) ↦{fullShare.right} T1))

/-- The proof's data. -/
def dats (_ : Fin 1) (c : Dev nD) : Dat τ (Elt F) Unit ℕ (UR sig nD τ) ℕ (cf (F := F) T0 T1 hT) c where
  A w := m (((cf (F := F) T0 T1 hT).win w).arr.view.loc (c : Thread nD τ))
  after w t := match w with
    | ⟨0, _⟩ => iblk T0 T1 hT m c 0 t
    | ⟨1, _⟩ => iblk T0 T1 hT m c 1 t
    | ⟨2, _⟩ => iblk T0 T1 hT m c 2 t
    | ⟨3, _⟩ => outAt T0 T1 hT m c t
  Φ t := Phi T0 T1 hT m c t.val
  q _ := fullShare
  owed _ := 0

theorem after_0 (c : Dev nD) (t : Fin (cf (F := F) T0 T1 hT).N) : (dats T0 T1 hT m 0 c).after 0 t = iblk T0 T1 hT m c 0 t := by dsimp only [dats]; rfl
theorem after_1 (c : Dev nD) (t : Fin (cf (F := F) T0 T1 hT).N) : (dats T0 T1 hT m 0 c).after 1 t = iblk T0 T1 hT m c 1 t := by dsimp only [dats]; rfl
theorem after_2 (c : Dev nD) (t : Fin (cf (F := F) T0 T1 hT).N) : (dats T0 T1 hT m 0 c).after 2 t = iblk T0 T1 hT m c 2 t := by dsimp only [dats]; rfl
theorem after_3 (c : Dev nD) (t : Fin (cf (F := F) T0 T1 hT).N) : (dats T0 T1 hT m 0 c).after 3 t = outAt T0 T1 hT m c t := by dsimp only [dats]; rfl

/-- Every input's buffer holds its block, fetched at this point or not. -/
theorem before_0 (c : Dev nD) (t : Fin (cf (F := F) T0 T1 hT).N) (d) : (dats T0 T1 hT m 0 c).before 0 t d = iblk T0 T1 hT m c 0 t :=
  ((dats T0 T1 hT m 0 c).before_in_eq_fetched 0 rfl (fun _ => rfl) (fun _ _ _ => rfl) (fun t => by rw [after_0]; unfold Dat.blockOf iblk; rfl) t d).trans (by unfold Dat.fetched Dat.blockOf iblk; rfl)
theorem before_1 (c : Dev nD) (t : Fin (cf (F := F) T0 T1 hT).N) (d) : (dats T0 T1 hT m 0 c).before 1 t d = iblk T0 T1 hT m c 1 t :=
  ((dats T0 T1 hT m 0 c).before_in_eq_fetched 1 rfl (fun _ => rfl) (fun _ _ _ => rfl) (fun t => by rw [after_1]; unfold Dat.blockOf iblk; rfl) t d).trans (by unfold Dat.fetched Dat.blockOf iblk; rfl)
theorem before_2 (c : Dev nD) (t : Fin (cf (F := F) T0 T1 hT).N) (d) : (dats T0 T1 hT m 0 c).before 2 t d = iblk T0 T1 hT m c 2 t :=
  ((dats T0 T1 hT m 0 c).before_in_eq_fetched 2 rfl (fun _ => rfl) (fun _ _ _ => rfl) (fun t => by rw [after_2]; unfold Dat.blockOf iblk; rfl) t d).trans (by unfold Dat.fetched Dat.blockOf iblk; rfl)

/-- Every point stores into the result's block. -/
theorem stored (t : Fin grid0.N) : idle0 (tabs (F := F) T0 T1) 3 (grid0.coords t) = false := by
  have h : (tabs (F := F) T0 T1).atD 1 ![0] = nword (F := F) T1 := by
    rw [nword_eq]
    unfold Pipeline.Prefetch.Contents.atD
    rw [dif_pos (by decide)]
    exact congrArg T1 (funext fun a => match a with | ⟨0, _⟩ => Subsingleton.elim (α := Fin 1) _ _)
  show (!(k0_cond1 _ _ == 1#1) && !(k0_cond3 _ _ == 1#1)) = false
  rw [h]
  by_cases h1 : k0_cond1 (grid0.coords t) (nword (F := F) T1) = 1#1
  · rw [h1]; rfl
  · have h3 := (dead_iff t (nword (F := F) T1)).2 fun hh => h1 ((live_iff t _).2 hh)
    rw [h3]; simp

/-- The windows' current staging buffers at a point. -/
abbrev ms0 (t : Fin (cf (F := F) T0 T1 hT).N) : Memref sig .tc .vmem S512x1024 .bf16 := spec0_0.stage ((cf (F := F) T0 T1 hT).slots t 0)
abbrev ms1 (t : Fin (cf (F := F) T0 T1 hT).N) : Memref sig .tc .vmem S1x1x1024x512 .f32 := spec0_1.stage ((cf (F := F) T0 T1 hT).slots t 1)
abbrev ms2 (t : Fin (cf (F := F) T0 T1 hT).N) : Memref sig .tc .vmem S1x1x256x1024 .f32 := spec0_2.stage ((cf (F := F) T0 T1 hT).slots t 2)
abbrev ms3 (t : Fin (cf (F := F) T0 T1 hT).N) : Memref sig .tc .vmem S512x1024 .bf16 := spec0_3.stage ((cf (F := F) T0 T1 hT).slots t 3)

/-- The body at a point. -/
abbrev bodyAt (t : Fin (cf (F := F) T0 T1 hT).N) : Prog (TpuEff nD τ sig (Elt F) Λ₀ .tc) PUnit :=
  body (F := F) (grid0.coords t) (ms0 T0 T1 hT t) (hstage0_0 (((cf (F := F) T0 T1 hT).slots t 0).cast nbuf0_0)) (ms1 T0 T1 hT t) (hstage0_1 (((cf (F := F) T0 T1 hT).slots t 1).cast nbuf0_1))
    (ms2 T0 T1 hT t) (hstage0_2 (((cf (F := F) T0 T1 hT).slots t 2).cast nbuf0_2)) (ms3 T0 T1 hT t) (hstage0_3 (((cf (F := F) T0 T1 hT).slots t 3).cast nbuf0_3))

/-- What a point is called with, and what it hands back. -/
def bodyPre (c : Dev nD) (t : Fin (cf (F := F) T0 T1 hT).N) : sProp 𝕄 :=
  iprop(Phi T0 T1 hT m c t.val ∗ (dats T0 T1 hT m 0 c).owesAt () t.castSucc
    ∗ (∃ d, owns (c : Thread nD τ) (ms0 T0 T1 hT t) fullShare ((dats T0 T1 hT m 0 c).before 0 t d))
    ∗ (∃ d, owns (c : Thread nD τ) (ms1 T0 T1 hT t) fullShare ((dats T0 T1 hT m 0 c).before 1 t d))
    ∗ (∃ d, owns (c : Thread nD τ) (ms2 T0 T1 hT t) fullShare ((dats T0 T1 hT m 0 c).before 2 t d))
    ∗ (∃ d, owns (c : Thread nD τ) (ms3 T0 T1 hT t) fullShare ((dats T0 T1 hT m 0 c).before 3 t d)))

def bodyPost (c : Dev nD) (t : Fin (cf (F := F) T0 T1 hT).N) : sProp 𝕄 :=
  iprop(Phi T0 T1 hT m c (t.val + 1) ∗ (dats T0 T1 hT m 0 c).owesAt () t.succ
    ∗ owns (c : Thread nD τ) (ms0 T0 T1 hT t) fullShare ((dats T0 T1 hT m 0 c).after 0 t)
    ∗ owns (c : Thread nD τ) (ms1 T0 T1 hT t) fullShare ((dats T0 T1 hT m 0 c).after 1 t)
    ∗ owns (c : Thread nD τ) (ms2 T0 T1 hT t) fullShare ((dats T0 T1 hT m 0 c).after 2 t)
    ∗ owns (c : Thread nD τ) (ms3 T0 T1 hT t) fullShare ((dats T0 T1 hT m 0 c).after 3 t))

set_option maxHeartbeats 2000000 in
/-- The body at any point. -/
theorem sound_body (c : Dev nD) (t : Fin (cf (F := F) T0 T1 hT).N) :
    bodyPre T0 T1 hT m c t ⊢ wp frame (wpE (defs₀ (F := F)) Variants.none c none) Set.univ (bodyAt (F := F) T0 T1 hT t) (fun _ => bodyPost T0 T1 hT m c t) := by
  unfold bodyPre bodyPost
  simp only [before_0, before_1, before_2]
  rw [show (dats T0 T1 hT m 0 c).owesAt () t.succ = (dats T0 T1 hT m 0 c).owesAt () t.castSucc from rfl,
    after_0, after_1, after_2, after_3]
  unfold Phi outAt
  iintro ⟨⟨%y0, %y1, %hy, HG, HD, HT0, HT1⟩, Ho, ⟨%d0, H0⟩, ⟨%d1, H1⟩, ⟨%d2, H2⟩, ⟨%d3, H3⟩⟩
  by_cases h1 : k0_cond1 (grid0.coords t) (nword (F := F) T1) = 1#1
  · have h3 : ¬ k0_cond3 (grid0.coords t) (nword (F := F) T1) = 1#1 := fun hh => (dead_iff t _).1 hh ((live_iff t _).1 h1)
    rw [if_pos h1]
    by_cases h2 : anew (F := F) (grid0.coords t) T0 = 1#1
    · iapply (fetch c (grid0.coords t) _ _ _ _ _ _ _ _ T0 T1 (rows T0 T1 hT m c t) (wg T0 T1 hT m c t) (wd T0 T1 hT m c t) h1 h2 h3)
      isplitl [H0 H1 H2 HT0 HT1]
      · isplitl [H0]; · iexact H0
        isplitl [H1]; · iexact H1
        isplitl [H2]; · iexact H2
        isplitl [HT0]; · iexact HT0
        iexact HT1
      isplitl [H3]; · iexists _; iexact H3
      isplitl [HG]; · iexists _; iexact HG
      isplitl [HD]; · iexists _; iexact HD
      iintro ⟨⟨H0, H1, H2, HT0, HT1⟩, H3, HG, HD⟩
      isplitl [HG HD HT0 HT1]
      · iexists _; iexists _
        isplitr
        swap
        · isplitl [HG]; · iexact HG
          isplitl [HD]; · iexact HD
          isplitl [HT0]; · iexact HT0
          iexact HT1
        · ipureintro
          intro s hs _
          obtain rfl : s = t := Fin.ext (by omega)
          exact ⟨rfl, rfl⟩
      isplitl [Ho]; · iexact Ho
      isplitl [H0]; · iexact H0
      isplitl [H1]; · iexact H1
      isplitl [H2]; · iexact H2
      iexact H3
    · obtain ⟨ht, he⟩ := not_anew T0 t h2
      have hs : t.val - 1 < grid0.N := by have := t.isLt; show _ < _; have h : t.val < grid0.N := this; omega
      have hlive : k0_cond1 (grid0.coords ⟨t.val - 1, hs⟩) (nword (F := F) T1) = 1#1 := by
        have := (live_iff t _).1 h1
        refine (live_iff ⟨t.val - 1, hs⟩ _).2 ?_
        show ((t.val - 1 : ℕ) : ℤ) < _
        omega
      have hT' : T0 (ix1 (blk t)) = T0 (ix1 (blk ⟨t.val - 1, hs⟩)) := (eword_eq (F := F) T0 t).symm.trans (he.trans (pword_eq T0 t ht))
      obtain ⟨rfl, rfl⟩ := hy ⟨t.val - 1, hs⟩ (by show t.val - 1 + 1 = t.val; omega) hlive
      rw [← wg_eq T0 T1 hT m c t _ hT', ← wd_eq T0 T1 hT m c t _ hT']
      iapply (keep c (grid0.coords t) _ _ _ _ _ _ _ _ T0 T1 (rows T0 T1 hT m c t) (wg T0 T1 hT m c t) (wd T0 T1 hT m c t) _ _ h1 h2 h3)
      isplitl [H0 H1 H2 HT0 HT1]
      · isplitl [H0]; · iexact H0
        isplitl [H1]; · iexact H1
        isplitl [H2]; · iexact H2
        isplitl [HT0]; · iexact HT0
        iexact HT1
      isplitl [H3]; · iexists _; iexact H3
      isplitl [HG]; · iexact HG
      isplitl [HD]; · iexact HD
      iintro ⟨⟨H0, H1, H2, HT0, HT1⟩, H3, HG, HD⟩
      isplitl [HG HD HT0 HT1]
      · iexists _; iexists _
        isplitr
        swap
        · isplitl [HG]; · iexact HG
          isplitl [HD]; · iexact HD
          isplitl [HT0]; · iexact HT0
          iexact HT1
        · ipureintro
          intro s hs _
          obtain rfl : s = t := Fin.ext (by omega)
          exact ⟨rfl, rfl⟩
      isplitl [Ho]; · iexact Ho
      isplitl [H0]; · iexact H0
      isplitl [H1]; · iexact H1
      isplitl [H2]; · iexact H2
      iexact H3
  · have h3 : k0_cond3 (grid0.coords t) (nword (F := F) T1) = 1#1 := (dead_iff t _).2 fun hh => h1 ((live_iff t _).2 hh)
    rw [if_neg h1]
    iapply (idle c (grid0.coords t) _ _ _ _ _ _ _ _ T0 T1 (rows T0 T1 hT m c t) (wg T0 T1 hT m c t) (wd T0 T1 hT m c t) h1 h3)
    isplitl [H0 H1 H2 HT0 HT1]
    · isplitl [H0]; · iexact H0
      isplitl [H1]; · iexact H1
      isplitl [H2]; · iexact H2
      isplitl [HT0]; · iexact HT0
      iexact HT1
    isplitl [H3]; · iexists _; iexact H3
    iintro ⟨⟨H0, H1, H2, HT0, HT1⟩, H3⟩
    isplitl [HG HD HT0 HT1]
    · iexists y0; iexists y1
      isplitr
      swap
      · isplitl [HG]; · iexact HG
        isplitl [HD]; · iexact HD
        isplitl [HT0]; · iexact HT0
        iexact HT1
      · ipureintro
        intro s hs hl
        obtain rfl : s = t := Fin.ext (by omega)
        exact absurd hl h1
    isplitl [Ho]; · iexact Ho
    isplitl [H0]; · iexact H0
    isplitl [H1]; · iexact H1
    isplitl [H2]; · iexact H2
    iexact H3

/-- The library's body obligation. -/
theorem body_obligation (c : Dev nD) : BodyObligation (dats (F := F) T0 T1 hT m 0 c) (defs₀ (F := F)) Variants.none () Set.univ := fun t => by
  rw [bigSep_W0, bigSep_W0]
  have i3 : (cf (F := F) T0 T1 hT).idle (3 : Fin 4) ((cf (F := F) T0 T1 hT).grid.coords t) = false := stored (F := F) T0 T1 t
  rewrite [i3]
  exact triple_restated (sound_body T0 T1 hT m c t) (by unfold defs₀; rw [Defs.onTc_tc]) .rfl fun _ => .rfl

end Cert.ExpertsTwoIdeal.Way

end
-- ==== Proof.ExpertsTwo.Launched.lean ====
module

public import proofs.«01_k».proof.Proof.ExpertsTwo.Run

@[expose] public section

set_option maxRecDepth 16384
set_option Elab.async false
set_option backward.proofsInPublic true

noncomputable section

/-! The second layer: the run of the whole experts program, from any memory whose table of experts holds numbers below 256. -/

namespace Cert.ExpertsTwoIdeal.Way

open Cert.ExpertsTwoIdeal Cert.ExpertsTwoIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (T0 : S784.Idx → BitVec 32) (T1 : S1.Idx → BitVec 32) (hT : ∀ x, (T0 x).toNat < 256)
  (m : (ℓ : Loc nD τ sig) → Buf (Elt F) ℓ) (ρ : Dev nD → PrngReg)

/-- The program's pipeline, at the tables. -/
abbrev pcs (p : Fin 1) : Cfg sig Λ₀ := Pipeline.pin (pcfgs (F := F)) (fun _ => adm T0 T1 hT) p

theorem share_eq (c : Dev nD) (w : Fin (cf (F := F) T0 T1 hT).W) : (dats T0 T1 hT m 0 c).share w = fullShare := by
  unfold Dat.share; split <;> rfl

/-- The tables held, one by one. -/
theorem tables_eq (c : Dev nD) : (Pipeline.prefHeld pre0 c (fun _ => fullShare.right) (tabs (F := F) T0 T1) : sProp 𝕄)
    = iprop((tb.view.loc (c : Thread nD τ) ↦{fullShare.right} T0) ∗ (tn.view.loc (c : Thread nD τ) ↦{fullShare.right} T1)) := by
  unfold Pipeline.prefHeld
  rw [show (Finset.univ : Finset (Fin 2)) = insert 0 {1} from rfl, bigSep_insert (by decide), bigSep_singleton]
  rfl

/-- The scratch buffers, owned at some contents. -/
theorem scratch_eq (c : Dev nD) : (Pipeline.scopedRest spec0 c : sProp 𝕄)
    = iprop((∃ X, owns (c : Thread nD τ) sg fullShare X) ∗ (∃ X, owns (c : Thread nD τ) sd fullShare X)) := by
  have hG : (iprop(∃ X, owns (c : Thread nD τ) sg fullShare X) : sProp 𝕄) = _ := Memref.IsWhole.exists_owns_eq (c := (c : Thread nD τ)) (m := sg) (Memref.isWhole_whole _) fullShare
  have hD : (iprop(∃ X, owns (c : Thread nD τ) sd fullShare X) : sProp 𝕄) = _ := Memref.IsWhole.exists_owns_eq (c := (c : Thread nD τ)) (m := sd) (Memref.isWhole_whole _) fullShare
  rw [scopedRest0_eq, hG, hD]

/-- The launch starts with the tables and two scratch buffers. -/
theorem start (c : Dev nD) : iprop(emp ∗ Pipeline.prefHeld pre0 c (fun _ => fullShare.right) (tabs (F := F) T0 T1) ∗ Pipeline.scopedRest spec0 c) ⊢ (Phi T0 T1 hT m c 0 : sProp 𝕄) := by
  rw [tables_eq, scratch_eq]
  unfold Phi
  iintro ⟨-, ⟨HT0, HT1⟩, ⟨%y0, HG⟩, ⟨%y1, HD⟩⟩
  iexists y0; iexists y1
  isplitr
  · ipureintro
    intro s hs
    exact absurd hs (Nat.succ_ne_zero _)
  isplitl [HG]; · iexact HG
  isplitl [HD]; · iexact HD
  isplitl [HT0]; · iexact HT0
  iexact HT1

/-- It hands the scratch buffers back. -/
theorem finish (c : Dev nD) (t : ℕ) : (Phi T0 T1 hT m c t : sProp 𝕄) ⊢ iprop(emp ∗ Pipeline.scopedRest spec0 c) := by
  rw [scratch_eq]
  unfold Phi
  iintro ⟨%y0, %y1, -, HG, HD, -, -⟩
  isplitr; · iempintro
  isplitl [HG]
  · iexists y0; iexact HG
  · iexists y1; iexact HD

/-- What the run leaves: every array of the launch and the two tables. -/
abbrev Left (s : MemSt nD τ sig (Elt F)) : Prop :=
  ∀ c : Dev nD, (∀ w : Fin 4, s.mem ((spec0 w).arr.view.loc (c : Thread nD τ)) = (dats T0 T1 hT m 0 c).arrAt w (cf (F := F) T0 T1 hT).N)
    ∧ (∀ k : Fin 2, s.mem ((c : Thread nD τ).loc (pre0.ref k)) = tabs (F := F) T0 T1 k)

set_option backward.isDefEq.respectTransparency.types false in
set_option maxHeartbeats 400000 in
theorem run (h0 : ∀ c : Dev nD, m ((c : Thread nD τ).loc main_arg1) = T0) (h1 : ∀ c : Dev nD, m ((c : Thread nD τ).loc main_arg2) = T1) :
    θ_run (defs (F := F)) (onTc (τ := τ) (main (F := F))) ⟨m, fun _ => 0, ρ⟩ (fun r => Left T0 T1 hT m r.2 ∧ r.2.sem = fun _ => 0) :=
  Pipeline.θ_run_region_noSem_pf_quiescent (pcfgs (F := F)) (fun _ => adm T0 T1 hT) (dats T0 T1 hT m) () ((launch0 (F := F)).cellOf_inj fun _ => adm T0 T1 hT) (0 : Fin 1)
    (launch0 (F := F)).win.to₀ (launch0 (F := F)).pre (emb₁ : Emb (UR sig nD τ) 𝕄) defs₀ Variants.none m ρ main
    (hbody := fun c => (body_obligation T0 T1 hT m c).loose) (hne := (launch0 (F := F)).block_pos) (harr := (launch0 (F := F)).arr_whole) (hstage := (launch0 (F := F)).stage_whole)
    (howed := fun _ _ => rfl)
    (u₀ := initOf (Pipeline.cells (pcs (F := F) T0 T1 hT) ((launch0 (F := F)).cellOf_inj fun _ => adm T0 T1 hT)) (Pipeline.launchToks (pcs (F := F) T0 T1 hT) ((launch0 (F := F)).cellOf_inj fun _ => adm T0 T1 hT)))
    (hu₀ := .rfl) (V := fun c b => m ((c : Thread nD τ).loc b))
    (hmain := fun c Q => by
      delta main
      simp only [Prog.bind_lift, Prog.pure_eq_ret]
      iintro ⟨Hk, Hb⟩
      iapply Hk
      iexact Hb)
    (hsplit := fun c => Pipeline.arrays_split (pcs (F := F) T0 T1 hT) (dats T0 T1 hT m) 0 (launch0 (F := F)).win.arr_inj c (launch0 (F := F)).arr_whole (share_eq T0 T1 hT m c) _ _ fun _ => rfl)
    (hpf := fun c k => match k with | ⟨0, _⟩ => h0 c | ⟨1, _⟩ => h1 c)
    (X := fun _ => iprop(emp)) (Y := fun _ => iprop(emp)) (Z := fun _ => iprop(emp))
    (hX := fun c => by rw [unscopedRestP0_eq]; iintro -; isplitr <;> iempintro)
    (hin := fun c => start T0 T1 hT m c)
    (hout := fun c => finish T0 T1 hT m c _)
    (QY := fun _ _ => True)
    (hY := fun c s' => by
      iintro ⟨-, -, HSI⟩
      imodintro
      isplitr
      · ipureintro; trivial
      · iexact HSI)
    (hQ := fun _ h hz => ⟨fun c => ⟨(h c).1, (h c).2.1⟩, hz⟩)

/-- The run, from any memory with such a table: the result array, and the arguments as they were. -/
theorem whole (hm : ∀ (c : Dev nD) (x : S784.Idx), ((m ((c : Thread nD τ).loc main_arg1) : S784.Idx → BitVec 32) x).toNat < 256) :
    θ_run (defs (F := F)) (onTc (τ := τ) (main (F := F))) ⟨m, fun _ => 0, ρ⟩ (fun r => (∀ c : Dev nD,
      r.2.mem ((c : Thread nD τ).loc main_v0) = (dats (m ((c : Thread nD τ).loc main_arg1)) (m ((c : Thread nD τ).loc main_arg2)) (hm c) m 0 c).arrAt 3 grid0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) := by
  have all : ∀ c : Dev nD, c = 0 := fun c => Subsingleton.elim (α := Fin 1) c 0
  refine (θ_run _ _ _).mono (fun r h => ?_) (run (m (((0 : Dev nD) : Thread nD τ).loc main_arg1)) (m (((0 : Dev nD) : Thread nD τ).loc main_arg2)) (hm 0) m ρ
    (fun c => by rw [all c]) (fun c => by rw [all c]))
  refine ⟨fun c => ?_, h.2⟩
  obtain rfl := all c
  obtain ⟨hw, hk⟩ := h.1 0
  exact ⟨hw 3, (hw 0).trans ((dats _ _ (hm 0) m 0 0).arrAt_in 0 rfl _), hk 0, hk 1, (hw 1).trans ((dats _ _ (hm 0) m 0 0).arrAt_in 1 rfl _), (hw 2).trans ((dats _ _ (hm 0) m 0 0).arrAt_in 2 rfl _)⟩

end Cert.ExpertsTwoIdeal.Way

end
-- ==== Proof.ExpertsTwo.Same.lean ====
module

public import proofs.«01_k».proof.Defs
public import proofs.«01_k».proof.Proof.Gen.ExpertsTwo
public import proofs.«01_k».proof.Proof.ExpertsTwo.Launched
public import proofs.«01_k».proof.Proof.Experts.Range
public import Idealize.ShloMosaic.Lib.Tactic

@[expose] public section

noncomputable section

/-! The second layer: the experts' frame, once for both programs: the text run at words is the text run at extended reals. -/

namespace Cert.ExpertsTwoIdeal.Way

open Cert.ExpertsTwoIdeal Cert.ExpertsTwoIdeal.Gen Idealize.ShloMosaic Idealize.ShloMosaic.TcCoe Idealize.SL.Sem

variable (F : FTy → Type) [FloatOps F]

/-- The program's frame at any numbers. -/
def Framed : Prop := ∀ (m : (ℓ : Loc nD τ sig) → Buf (Elt F) ℓ) (g : Dev nD → PrngReg),
  (∀ c : Dev nD, Cert.Pre_experts_in_range.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) = fun _ => 1#1) →
  θ_run (defs (F := F)) (onTc (τ := τ) (main (F := F))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0)

/-- It holds. -/
theorem framed : Framed F := fun m g hm =>
  (θ_run _ _ _).mono (fun _ h => ⟨fun c => (h.1 c).2, h.2⟩) (whole m g fun c x => Cert.Pre_experts_in_range.Fin.range _ _ _ _ _ (hm c) x)

/-- The experts program's frame at words is this text's. -/
theorem same : Cert.quiescent_ExpertsTwo = Framed Bits := by sl_kernel_rfl

theorem frame_bits : Cert.quiescent_ExpertsTwo := same ▸ framed Bits

theorem frame_ideal : Cert.quiescent_ExpertsTwoIdeal := framed Ideal

end Cert.ExpertsTwoIdeal.Way
end
-- ==== Proof.ExpertsTwo.Value.lean ====
module

public import proofs.«01_k».proof.Proof.ExpertsTwo.Launched
public import proofs.«01_k».proof.Proof.Experts.Ffn

@[expose] public section

set_option maxRecDepth 16384

noncomputable section

/-! The second layer: what the experts' result array holds, element by element. -/

namespace Cert.ExpertsTwoIdeal.Way

open Cert.ExpertsTwoIdeal Cert.ExpertsTwoIdeal.Gen Idealize.ShloMosaic Idealize.ShloMosaic.TcCoe Cert.Experts1

/-- The weights kept are the weights fetched. -/
theorem pay1_apply (w : Vec Ideal S1x1x1024x512 .f32) (x : Fin 1024) (f : Fin 512) : k0_pay1 (F := Ideal) w (ix2 x f) = w (ix4 0 0 x f) := by
  pointwise [k0_pay1]
theorem pay2_apply (w : Vec Ideal S1x1x256x1024 .f32) (f : Fin 256) (d : Fin 1024) : k0_pay2 (F := Ideal) w (ix2 f d) = w (ix4 0 0 f d) := by
  pointwise [k0_pay2]

/-- A block's rows are the expert's. -/
theorem pay3_apply (x0 : Vec Ideal S512x1024 .bf16) (y0 : Vec Ideal S1024x512 .bf16) (y1 : Vec Ideal S256x1024 .bf16) (r : Fin 512) (d : Fin 1024) :
    k0_pay3 (F := Ideal) x0 y0 y1 (ix2 r d) = ffn (fun x => x0 (ix2 r x)) (fun x f => y0 (ix2 x f)) (fun f => y1 (ix2 f d)) := by
  pointwise [k0_pay3, ffn, gu]

theorem pay4_apply (r : Fin 512) (d : Fin 1024) : k0_pay4 (F := Ideal) (ix2 r d) = (0 : EReal) := by
  pointwise [k0_pay4]

variable (T0 : S784.Idx → BitVec 32) (T1 : S1.Idx → BitVec 32) (hT : ∀ x, (T0 x).toNat < 256)
  (m : (ℓ : Loc nD τ sig) → Buf (Elt Ideal) ℓ) (c : Dev nD)

/-- The result, from the launch's arrays. -/
def res (b : Fin 784) (r : Fin 512) (d : Fin 1024) : EReal :=
  val (fun i x => (m ((c : Thread nD τ).loc main_arg0) : Vec Ideal S401408x1024 .bf16) (ix2 i x)) (fun b => ⟨(T0 (ix1 b)).toNat, hT _⟩) (T1 (ix1 0)).toInt
    (fun e x f => (m ((c : Thread nD τ).loc main_arg3) : Vec Ideal S2x256x1024x512 .f32) (ix4 1 e x f))
    (fun e f d => (m ((c : Thread nD τ).loc main_arg4) : Vec Ideal S2x256x256x1024 .f32) (ix4 1 e f d)) b r d

/-- What a grid point leaves. -/
theorem out_apply (t : Fin grid0.N) (r : Fin 512) (d : Fin 1024) : outAt T0 T1 hT m c t (ix2 r d) = res T0 T1 hT m c (blk t) r d := by
  have hc := live_iff t (nword (F := Ideal) T1)
  rw [nword_eq] at hc
  unfold outAt res val
  rw [nword_eq]
  by_cases h : (t.val : ℤ) < (T1 (ix1 0)).toInt
  · rw [if_pos (hc.2 h), if_pos (show ((blk t).val : ℤ) < _ from h), pay3_apply]
    have e0 : ∀ x, rows T0 T1 hT m c t (ix2 r x) = _ := fun x => blk0 T0 T1 hT m c t h r x
    have e1 : ∀ x f, k0_pay1 (F := Ideal) (wg T0 T1 hT m c t) (ix2 x f) = _ := fun x f => (pay1_apply _ x f).trans (blk1 T0 T1 hT m c t x f)
    have e2 : ∀ f, k0_pay2 (F := Ideal) (wd T0 T1 hT m c t) (ix2 f d) = _ := fun f => (pay2_apply _ f d).trans (blk2 T0 T1 hT m c t f d)
    rw [funext e0, funext fun x => funext (e1 x), funext e2]
  · rw [if_neg fun h' => h (hc.1 h'), if_neg (show ¬ ((blk t).val : ℤ) < _ from h), pay4_apply]

/-- Every block of the result is some point's. -/
theorem covered : ((cf (F := Ideal) T0 T1 hT).win 3).Covers := by
  refine ((cf (F := Ideal) T0 T1 hT).win 3).covers_of_index_surj rfl ?_ fun β => ?_
  · show ∀ a : Fin 2, 0 < S512x1024.size a
    decide
  · have h0 : (β (0 : Fin 2)).val < 784 := lt_of_lt_of_eq (β (0 : Fin 2)).isLt (by show (401408 + 512 - 1) / 512 = 784; rfl)
    have h1 : (β (1 : Fin 2)).val < 1 := lt_of_lt_of_eq (β (1 : Fin 2)).isLt (by show (1024 + 1024 - 1) / 1024 = 1; rfl)
    refine ⟨⟨(β (0 : Fin 2)).val, N_0.symm ▸ h0⟩, ?_⟩
    rw [(idx T0 T1 hT _).2.2.2]
    intro a
    match a with
    | ⟨0, _⟩ => rfl
    | ⟨1, _⟩ => exact (Nat.lt_one_iff.1 h1).symm

theorem res_congr {b b' : Fin 784} {r r' : Fin 512} {d d' : Fin 1024} (hb : b.val = b'.val) (hr : r.val = r'.val) (hd : d.val = d'.val) :
    res T0 T1 hT m c b r d = res T0 T1 hT m c b' r' d' := by
  rw [Fin.ext hb, Fin.ext hr, Fin.ext hd]

theorem out_at (t : Fin grid0.N) (y : S512x1024.Idx) : outAt T0 T1 hT m c t y = res T0 T1 hT m c (blk t) (y 0) (y 1) :=
  (congrArg (outAt T0 T1 hT m c t) (eq_ix2 y)).trans (out_apply T0 T1 hT m c t _ _)

/-- THE RESULT ARRAY, element by element. -/
theorem arr_eq : (dats T0 T1 hT m 0 c).arrAt 3 grid0.N
    = fun i : S401408x1024.Idx => res T0 T1 hT m c ⟨(i 0).val / 512, by have : (i 0).val < 401408 := (i 0).isLt; omega⟩ ⟨(i 0).val % 512, by omega⟩ (i 1) := by
  refine (dats T0 T1 hT m 0 c).arrAt_eq_of_covers 3 _ (covered T0 T1 hT) fun t hf y => ?_
  have hy : (y (0 : Fin 2)).val < 512 := (y (0 : Fin 2)).isLt
  blk_simp
  rw [after_3]
  refine (out_at T0 T1 hT m c t y).trans (res_congr _ _ _ _ _ ?_ ?_ ?_)
  · blk_simp [idx T0 T1 hT t]
    have h : ∀ a b : ℕ, b < 512 → a = (a * 512 + b) / 512 := fun a b _ => by omega
    exact h _ _ hy
  · blk_simp [idx T0 T1 hT t]
    have h : ∀ a b : ℕ, b < 512 → b = (a * 512 + b) % 512 := fun a b _ => by omega
    exact h _ _ hy
  · blk_simp [idx T0 T1 hT t]

end Cert.ExpertsTwoIdeal.Way
end
-- ==== Proof.ExpertsTwo.Reference.lean ====
module

public import proofs.«01_k».proof.Proof.Gen.ExpertsTwoReferenceIdeal.Run
public import Idealize.ShloMosaic.Lib.Pointwise
public import Idealize.ShloMosaic.Lib.Affine
public import proofs.«01_k».proof.Proof.Experts.Ffn
public import proofs.«01_k».proof.Proof.Experts.Gather

@[expose] public section

set_option maxRecDepth 16384

noncomputable section

/-! The second layer: what the experts' reference computes, element by element. -/

namespace Cert.ExpertsTwoReferenceIdeal.Ref

open Cert.ExpertsTwoReferenceIdeal Cert.ExpertsTwoReferenceIdeal.Gen Idealize.ShloMosaic Idealize.ShloMosaic.TcCoe Cert.Experts1

/-- Where each block's weights lie: the layer, and the expert. -/
def places (a1 : IVec S784 32) : IVec S784x2 32 :=
  concatenate S784x2 1 [⟨S784x1, (broadcastInDim S784x1 ![0] bcast_S784_S784x1_0 (id (broadcastInDim S784 ![] bcast_S_S784 (constantI S_ 32 1#32))))⟩,
    ⟨S784x1, (broadcastInDim S784x1 ![0] bcast_S784_S784x1_0 (select (cmpi .slt a1 (broadcastInDim S784 ![] bcast_S_S784 (constantI S_ 32 0#32)))
      (addi a1 (broadcastInDim S784 ![] bcast_S_S784 (constantI S_ 32 256#32))) a1))⟩] concatenates_S784x1_S784x1_S784x2_d1

/-- The products of a block's rows with its first weights. -/
def prod (a0 : FVec Ideal S401408x1024 .bf16) (w : FVec Ideal S784x1024x512 .f32) : FVec Ideal S784x512x512 .f32 :=
  Host.dotGeneral dot_S784x512x1024_S784x1024x512_S784x512x512_2_1_1_2_0_0 none (extf .f32 (shapeCast _ a0 shapeCasts_S401408x1024_S784x512x1024) bitsLt_bf16_f32) w

/-- The gated unit. -/
def gated (p : FVec Ideal S784x512x512 .f32) : FVec Ideal S784x512x256 .f32 :=
  mulf (mulf (extractStridedSlice S784x512x256 ![0, 0, 0] p slices_S784x512x512_S784x512x256_0_0_0)
    (Host.divf (broadcastInDim S784x512x256 ![] bcast_S_S784x512x256 (constant S_ .f32 0x3F800000#32))
      (addf (broadcastInDim S784x512x256 ![] bcast_S_S784x512x256 (constant S_ .f32 0x3F800000#32))
        (Host.exp (Host.negf (extractStridedSlice S784x512x256 ![0, 0, 0] p slices_S784x512x512_S784x512x256_0_0_0))))))
    (extractStridedSlice S784x512x256 ![0, 0, 256] p slices_S784x512x512_S784x512x256_0_0_256)

/-- Which blocks hold rows. -/
def alive (a2 : IVec S1 32) : IVec S784x512x1024 1 :=
  broadcastInDim S784x512x1024 ![0, 1, 2] bcast_S784x1x1_S784x512x1024_0_1_2 (broadcastInDim S784x1x1 ![0] bcast_S784_S784x1x1_0
    (cmpi .slt (iotaInDim S784 32 0) (broadcastInDim S784 ![] bcast_S_S784 (shapeCast _ a2 shapeCasts_S1_S_))))

/-- The result: the gated unit through the second weights, zero in a block without rows. -/
def outV (l : IVec S784x512x1024 1) (h : FVec Ideal S784x512x256 .f32) (w : FVec Ideal S784x256x1024 .f32) : FVec Ideal S401408x1024 .bf16 :=
  truncf .bf16 (shapeCast _ (select l (Host.dotGeneral dot_S784x512x256_S784x256x1024_S784x512x1024_2_1_1_2_0_0 none h w)
    (broadcastInDim S784x512x1024 ![] bcast_S_S784x512x1024 (id (constant S_ .f32 0x00000000#32)))) shapeCasts_S784x512x1024_S401408x1024) bitsLt_bf16_f32

theorem res_eq (m : (ℓ : Loc nD τ sig) → Buf (Elt Ideal) ℓ) (c : Dev nD) :
    Value.res_main_v37 m c = outV (alive (m ((c.tc : Thread nD τ).loc main_arg2)))
      (gated (prod (m ((c.tc : Thread nD τ).loc main_arg0)) (Host.gather gather_S2x256x1024x512_S784x2_S784x1024x512_12_01_n_n_01_1_111024512 (m ((c.tc : Thread nD τ).loc main_arg3)) (places (m ((c.tc : Thread nD τ).loc main_arg1))))))
      (Host.gather gather_S2x256x256x1024_S784x2_S784x256x1024_12_01_n_n_01_1_112561024 (m ((c.tc : Thread nD τ).loc main_arg4)) (places (m ((c.tc : Thread nD τ).loc main_arg1)))) := rfl

theorem prod_apply (a0 : FVec Ideal S401408x1024 .bf16) (w : FVec Ideal S784x1024x512 .f32) (b : Fin 784) (r : Fin 512) (f : Fin 512) :
    prod a0 w (ix3 b r f) = gu (fun x => a0 (ix2 ⟨512 * b.val + r.val, by omega⟩ x)) (fun x f => w (ix3 b x f)) f := by
  pointwise [prod, gu]
  simp only [Nat.mul_comm]

theorem gated_apply (p : FVec Ideal S784x512x512 .f32) (b : Fin 784) (r : Fin 512) (f : Fin 256) :
    gated p (ix3 b r f) = p (ix3 b r ⟨f.val, by omega⟩) * Ideal.logistic (p (ix3 b r ⟨f.val, by omega⟩)) * p (ix3 b r ⟨256 + f.val, by omega⟩) := by
  unfold Ideal.logistic
  pointwise [gated]

theorem alive_apply (a2 : IVec S1 32) (b : Fin 784) (r : Fin 512) (d : Fin 1024) :
    alive a2 (ix3 b r d) = IntOp.cmpi .slt (BitVec.ofNat 32 b.val) (a2 (ix1 0)) := by
  pointwise [alive]

theorem outV_apply (l : IVec S784x512x1024 1) (h : FVec Ideal S784x512x256 .f32) (w : FVec Ideal S784x256x1024 .f32) (b : Fin 784) (r : Fin 512) (d : Fin 1024) :
    outV l h w (ix2 ⟨512 * b.val + r.val, by omega⟩ d) = if l (ix3 b r d) = 1#1 then ∑ f : Fin 256, h (ix3 b r f) * w (ix3 b f d) else 0 := by
  have z : (id (constant (F := Ideal) S_ .f32 0x00000000#32) ix0 : EReal) = 0 := Ideal.ofBits_zero .f32
  pointwise [outV]
  exact congrArg (Scalar.select (l (ix3 b r d)) _) z

theorem places_layer (a1 : IVec S784 32) (b : Fin 784) : places a1 (ix2 b 0) = 1#32 := by
  pointwise [places]
  rfl

theorem places_expert (a1 : IVec S784 32) (b : Fin 784) : places a1 (ix2 b 1) = if IntOp.cmpi .slt (a1 (ix1 b)) 0#32 = 1#1 then a1 (ix1 b) + 256#32 else a1 (ix1 b) := by
  pointwise [places]
  rfl

/-- THE REFERENCE'S RESULT, element by element, where every block's expert is one of the 256. -/
theorem res_apply (m : (ℓ : Loc nD τ sig) → Buf (Elt Ideal) ℓ) (c : Dev nD) (hT : ∀ x, ((m ((c.tc : Thread nD τ).loc main_arg1) : IVec S784 32) x).toNat < 256)
    (b : Fin 784) (r : Fin 512) (d : Fin 1024) :
    Value.res_main_v37 m c (ix2 (⟨512 * b.val + r.val, by omega⟩ : Fin 401408) d)
      = val (fun i x => (m ((c.tc : Thread nD τ).loc main_arg0) : FVec Ideal S401408x1024 .bf16) (ix2 i x)) (fun b => ⟨((m ((c.tc : Thread nD τ).loc main_arg1) : IVec S784 32) (ix1 b)).toNat, hT _⟩)
        ((m ((c.tc : Thread nD τ).loc main_arg2) : IVec S1 32) (ix1 0)).toInt
        (fun e x f => (m ((c.tc : Thread nD τ).loc main_arg3) : FVec Ideal S2x256x1024x512 .f32) (ix4 1 e x f))
        (fun e f d => (m ((c.tc : Thread nD τ).loc main_arg4) : FVec Ideal S2x256x256x1024 .f32) (ix4 1 e f d)) b r d := by
  rw [res_eq, outV_apply, alive_apply]
  generalize (m ((c.tc : Thread nD τ).loc main_arg1) : IVec S784 32) = a1 at hT ⊢
  have hs : (a1 (ix1 b)).toInt = (a1 (ix1 b)).toNat := by
    have h := BitVec.toInt_eq_toNat_cond (a1 (ix1 b))
    have h2 := hT (ix1 b)
    split at h <;> omega
  have h1 : (places a1 (ix2 b 1)).toInt = (a1 (ix1 b)).toNat := by
    rw [places_expert, if_neg, hs]
    rw [IntOp.cmpi_slt, hs]
    have : (0#32).toInt = 0 := by decide
    omega
  have e1 : ∀ (x : FVec Ideal S2x256x1024x512 .f32) (i : Fin 1024) (j : Fin 512), Host.gather gather_S2x256x1024x512_S784x2_S784x1024x512_12_01_n_n_01_1_111024512 x (places a1) (ix3 b i j) = x (ix4 1 ⟨(a1 (ix1 b)).toNat, hT _⟩ i j) :=
    fun x i j => gather_apply gather_S2x256x1024x512_S784x2_S784x1024x512_12_01_n_n_01_1_111024512.wf (places a1) b i j x 1 ⟨_, hT _⟩ (by rw [places_layer]; rfl) h1
  have e2 : ∀ (x : FVec Ideal S2x256x256x1024 .f32) (i : Fin 256) (j : Fin 1024), Host.gather gather_S2x256x256x1024_S784x2_S784x256x1024_12_01_n_n_01_1_112561024 x (places a1) (ix3 b i j) = x (ix4 1 ⟨(a1 (ix1 b)).toNat, hT _⟩ i j) :=
    fun x i j => gather_apply gather_S2x256x256x1024_S784x2_S784x256x1024_12_01_n_n_01_1_112561024.wf (places a1) b i j x 1 ⟨_, hT _⟩ (by rw [places_layer]; rfl) h1
  have hn : (BitVec.ofNat 32 b.val).toInt = (b.val : ℤ) := by
    rw [BitVec.toInt_eq_toNat_cond, BitVec.toNat_ofNat]
    split <;> omega
  have hc : ∀ v : BitVec 32, (IntOp.cmpi .slt (BitVec.ofNat 32 b.val) v = 1#1) = ((b.val : ℤ) < v.toInt) := fun v => by rw [IntOp.cmpi_slt, hn]
  unfold val ffn
  simp only [hc, gated_apply, prod_apply, e1, e2]

end Cert.ExpertsTwoReferenceIdeal.Ref
end
-- ==== Proof.ExpertsTwo.Equation.lean ====
module

public import proofs.«01_k».proof.Proof.ExpertsTwo.Same
public import proofs.«01_k».proof.Proof.ExpertsTwo.Value
public import proofs.«01_k».proof.Proof.ExpertsTwo.Reference

@[expose] public section

noncomputable section

/-! The second layer: the experts' two results are one, at all extended reals. -/

namespace Cert.ExpertsTwoIdeal.Way

open Idealize.ShloMosaic Idealize.ShloMosaic.TcCoe Idealize.SL.Sem

/-- The kernel's array is the reference's, where the arguments are. -/
theorem agree (m : (ℓ : Loc Cert.ExpertsTwoIdeal.nD Cert.ExpertsTwoIdeal.τ Cert.ExpertsTwoIdeal.sig) → Buf (Elt Ideal) ℓ)
    (m' : (ℓ : Loc Cert.ExpertsTwoReferenceIdeal.nD Cert.ExpertsTwoReferenceIdeal.τ Cert.ExpertsTwoReferenceIdeal.sig) → Buf (Elt Ideal) ℓ) (c : Dev Cert.ExpertsTwoIdeal.nD)
    (hT : ∀ x, ((m ((c.tc : Thread Cert.ExpertsTwoIdeal.nD Cert.ExpertsTwoIdeal.τ).loc Cert.ExpertsTwoIdeal.main_arg1) : S784.Idx → BitVec 32) x).toNat < 256)
    (e0 : m' ((c.tc : Thread Cert.ExpertsTwoReferenceIdeal.nD Cert.ExpertsTwoReferenceIdeal.τ).loc Cert.ExpertsTwoReferenceIdeal.main_arg0) = m ((c.tc : Thread Cert.ExpertsTwoIdeal.nD Cert.ExpertsTwoIdeal.τ).loc Cert.ExpertsTwoIdeal.main_arg0))
    (e1 : m' ((c.tc : Thread Cert.ExpertsTwoReferenceIdeal.nD Cert.ExpertsTwoReferenceIdeal.τ).loc Cert.ExpertsTwoReferenceIdeal.main_arg1) = m ((c.tc : Thread Cert.ExpertsTwoIdeal.nD Cert.ExpertsTwoIdeal.τ).loc Cert.ExpertsTwoIdeal.main_arg1))
    (e2 : m' ((c.tc : Thread Cert.ExpertsTwoReferenceIdeal.nD Cert.ExpertsTwoReferenceIdeal.τ).loc Cert.ExpertsTwoReferenceIdeal.main_arg2) = m ((c.tc : Thread Cert.ExpertsTwoIdeal.nD Cert.ExpertsTwoIdeal.τ).loc Cert.ExpertsTwoIdeal.main_arg2))
    (e3 : m' ((c.tc : Thread Cert.ExpertsTwoReferenceIdeal.nD Cert.ExpertsTwoReferenceIdeal.τ).loc Cert.ExpertsTwoReferenceIdeal.main_arg3) = m ((c.tc : Thread Cert.ExpertsTwoIdeal.nD Cert.ExpertsTwoIdeal.τ).loc Cert.ExpertsTwoIdeal.main_arg3))
    (e4 : m' ((c.tc : Thread Cert.ExpertsTwoReferenceIdeal.nD Cert.ExpertsTwoReferenceIdeal.τ).loc Cert.ExpertsTwoReferenceIdeal.main_arg4) = m ((c.tc : Thread Cert.ExpertsTwoIdeal.nD Cert.ExpertsTwoIdeal.τ).loc Cert.ExpertsTwoIdeal.main_arg4)) :
    (dats (m ((c : Thread Cert.ExpertsTwoIdeal.nD Cert.ExpertsTwoIdeal.τ).loc main_arg1)) (m ((c : Thread Cert.ExpertsTwoIdeal.nD Cert.ExpertsTwoIdeal.τ).loc main_arg2)) hT m 0 c).arrAt 3 grid0.N
      = Cert.ExpertsTwoReferenceIdeal.Value.res_main_v37 m' c := by
  refine (arr_eq _ _ hT m c).trans (funext fun (i : S401408x1024.Idx) => ?_)
  have hi : (i 0).val < 401408 := (i 0).isLt
  have hb : (i 0).val / 512 < 784 := by omega
  have hx : i = ix2 (⟨512 * ((i 0).val / 512) + (i 0).val % 512, by omega⟩ : Fin 401408) (i 1) := by
    funext a
    match a with
    | ⟨0, _⟩ => exact Fin.ext (Nat.div_add_mod _ 512).symm
    | ⟨1, _⟩ => rfl
  have hT' : ∀ x, ((m' ((c.tc : Thread Cert.ExpertsTwoReferenceIdeal.nD Cert.ExpertsTwoReferenceIdeal.τ).loc Cert.ExpertsTwoReferenceIdeal.main_arg1) : S784.Idx → BitVec 32) x).toNat < 256 := by
    rw [e1]; exact hT
  refine Eq.trans ?_ ((Cert.ExpertsTwoReferenceIdeal.Ref.res_apply m' c hT' ⟨(i 0).val / 512, hb⟩ ⟨(i 0).val % 512, by omega⟩ (i 1)).symm.trans (congrArg (Cert.ExpertsTwoReferenceIdeal.Value.res_main_v37 m' c) hx.symm))
  simp only [e0, e1, e2, e3, e4]
  rfl

/-- The kernel's result is the reference's, for experts among the 256. -/
theorem equation : Cert.algebraic_ExpertsTwoIdeal_ExpertsTwoReferenceIdeal := fun m g m' g' hp e => by
  have hT := fun (c : Dev Cert.ExpertsTwoIdeal.nD) x => Cert.Pre_experts_in_range.Fin.range _ _ _ _ _ (hp c) x
  refine ⟨fun c => Cert.ExpertsTwoReferenceIdeal.Value.res_main_v37 m' c, (θ_run _ _ _).mono (fun r h c => ⟨(h.1 c).1.trans ?_, (h.1 c).2⟩) (whole m g hT),
    Cert.ExpertsTwoReferenceIdeal.Value.run m' g'⟩
  obtain ⟨e0, e1, e2, e3, e4⟩ := e c
  exact agree m m' c (hT c) e0 e1 e2 e3 e4

/-- The reference has no semaphore, and its run leaves its arguments as they were. -/
theorem reference_frame : Cert.quiescent_ExpertsTwoReferenceIdeal := fun m g _ =>
  (θ_run _ _ _).mono (fun r h => ⟨fun c => (h c).2, sem_eq_zero_of_no_sems rfl _⟩) (Cert.ExpertsTwoReferenceIdeal.Value.run m g)

end Cert.ExpertsTwoIdeal.Way
end
-- ==== Proof.SsdIn.Columns.lean ====
module

public import Idealize.ShloMosaic.Lib.Pointwise

@[expose] public section

noncomputable section

/-! The second mixer's columns, element by element, from the latents, their shift and scale, and the weights. -/

namespace Cert.SsdColumns

open Idealize.ShloMosaic

/-- A number times its logistic. -/
def silu (y : EReal) : EReal := y * Ideal.logistic y

/-- The logarithm of one and the exponential. -/
def soft (x : EReal) : EReal := max x 0 + Ideal.log1p (Ideal.exp (0 - max x (-x)))

section
variable (x : FVec Ideal (⟨3, ![4, 8192, 1024]⟩ : Shape) .f32) (sh sc : FVec Ideal (⟨3, ![4, 1, 1024]⟩ : Shape) .f32) (w : FVec Ideal (⟨2, ![1024, 5184]⟩ : Shape) .f32)
  (cw : FVec Ideal (⟨2, ![3, 3072]⟩ : Shape) .f32) (cb : FVec Ideal (⟨1, ![3072]⟩ : Shape) .f32) (bf bb : FVec Ideal (⟨1, ![32]⟩ : Shape) .f32) (b : Fin 4)

/-- The modulated latents. -/
def mod (i : Fin 8192) (k : Fin 1024) : EReal := x (ix3 b i k) * (1 + sc (ix3 b 0 k)) + sh (ix3 b 0 k)

/-- Their projection. -/
def proj (i : Fin 8192) (f : Fin 5184) : EReal := ∑ k : Fin 1024, mod x sh sc b i k * w (ix2 k f)

/-- The convolved columns' projections with a row of zeros on either side; row `n` is the sequence's row `n - 1`. -/
def padded (n : ℕ) (f : Fin 3072) : EReal :=
  if h : 1 ≤ n ∧ n < 8193 then proj x sh sc w b ⟨n - 1, by omega⟩ ⟨2048 + f.val, by omega⟩ else 0

/-- The convolution over three rows. -/
def conv (i : Fin 8192) (f : Fin 3072) : EReal :=
  cw (ix2 0 f) * padded x sh sc w b i.val f + cw (ix2 1 f) * padded x sh sc w b (i.val + 1) f + cw (ix2 2 f) * padded x sh sc w b (i.val + 2) f + cb (ix1 f)

/-- The two directions' biases, one after the other. -/
def bias (e : Fin 64) : EReal := if h : e.val < 32 then bf (ix1 ⟨e.val, h⟩) else bb (ix1 ⟨e.val - 32, by omega⟩)

/-- The steps. -/
def step (i : Fin 8192) (e : Fin 64) : EReal := soft (proj x sh sc w b i ⟨5120 + e.val, by omega⟩ + bias bf bb e)

end

end Cert.SsdColumns
end
-- ==== Proof.SsdIn.Block.lean ====
module

public import proofs.«01_k».proof.Proof.Gen.SsdInIdeal.Value
public import proofs.«01_k».proof.Proof.SsdIn.Columns

@[expose] public section

set_option maxRecDepth 16384

noncomputable section

/-! What one block of the second mixer's input projection computes, from the blocks it reads. -/

namespace Cert.SsdInIdeal.Blk

open Cert.SsdInIdeal Cert.SsdInIdeal.Gen Cert.SsdColumns Idealize.ShloMosaic Idealize.ShloMosaic.TcCoe

section rows
variable (v0 : Vec Ideal S1x8x1024 .f32) (v2 : Vec Ideal S1x256x1024 .f32) (v4 : Vec Ideal S1x8x1024 .f32) (v7 : Vec Ideal S1x1x1024 .f32) (v13 : Vec Ideal S1x1x1024 .f32)

/-- The modulated rows before the block, the block's own, and those after it. -/
theorem pay4_prev (r : Fin 8) (k : Fin 1024) :
    k0_pay4 (F := Ideal) v0 v2 v4 v7 v13 (ix2 ⟨r.val, by omega⟩ k) = v0 (ix3 0 r k) * (1 + v7 (ix3 0 0 k)) + v13 (ix3 0 0 k) := by
  pointwise [k0_pay4]
theorem pay4_own (r : Fin 256) (k : Fin 1024) :
    k0_pay4 (F := Ideal) v0 v2 v4 v7 v13 (ix2 ⟨8 + r.val, by omega⟩ k) = v2 (ix3 0 r k) * (1 + v7 (ix3 0 0 k)) + v13 (ix3 0 0 k) := by
  pointwise [k0_pay4]
theorem pay4_next (r : Fin 8) (k : Fin 1024) :
    k0_pay4 (F := Ideal) v0 v2 v4 v7 v13 (ix2 ⟨264 + r.val, by omega⟩ k) = v4 (ix3 0 r k) * (1 + v7 (ix3 0 0 k)) + v13 (ix3 0 0 k) := by
  pointwise [k0_pay4]
  rw [dif_neg (by omega), dif_neg (by omega)]
  exact congrArg (fun x => v4 (ix3 0 x k) * (1 + v7 (ix3 0 0 k)) + v13 (ix3 0 0 k)) (Fin.ext (by show 264 + r.val - 8 - 256 = r.val; omega))

/-- The gate's columns: the block's own rows by the gate's weights. -/
theorem pay6_apply (w : Vec Ideal S1024x2048 .bf16) (r : Fin 256) (f : Fin 2048) :
    k0_pay6 (F := Ideal) v0 v2 v4 v7 v13 w (ix3 0 r f) = ∑ k : Fin 1024, k0_pay4 (F := Ideal) v0 v2 v4 v7 v13 (ix2 ⟨8 + r.val, by omega⟩ k) * w (ix2 k f) := by
  unfold k0_pay6 k0_pay5
  generalize k0_pay4 (F := Ideal) v0 v2 v4 v7 v13 = h
  pointwise

/-- All 272 rows by the convolved columns' weights. -/
theorem pay7_apply (w : Vec Ideal S1024x3072 .bf16) (r : Fin 272) (f : Fin 3072) :
    k0_pay7 (F := Ideal) v0 v2 v4 v7 v13 w (ix2 r f) = ∑ k : Fin 1024, k0_pay4 (F := Ideal) v0 v2 v4 v7 v13 (ix2 r k) * w (ix2 k f) := by
  unfold k0_pay7
  generalize k0_pay4 (F := Ideal) v0 v2 v4 v7 v13 = h
  pointwise

end rows

/-- The steps, one row a head. -/
theorem pay3_apply (h : FVec Ideal S256x1024 .bf16) (w : Vec Ideal S1024x64 .bf16) (b : Vec Ideal S1x64 .f32) (e : Fin 64) (r : Fin 256) :
    k0_pay3 (F := Ideal) h w b (ix3 0 e r) = soft ((∑ k : Fin 1024, h (ix2 r k) * w (ix2 k e)) + b (ix2 0 e)) := by
  pointwise [k0_pay3]
  rfl

/-- The rows the convolution reads: zero outside the sequence. -/
def masked (a : BitVec 32) (u : FVec Ideal S272x3072 .f32) : FVec Ideal S272x3072 .f32 :=
  select (broadcastTo S272x3072 (shapeCast S272x1 (andi (ori k0_pay8 (broadcast S272x1 (Scalar.cmpi .sgt a 0#32)))
      (ori (cmpi .slt (iota .tc S272x1 32 [0] iota_S272x1_d0_w32) (broadcast S272x1 264#32)) (broadcast S272x1 (Scalar.cmpi .slt a 31#32))))
      shapeCasts_S272x1_S272x1) broadcasts_S272x1_S272x3072) u (broadcast S272x3072 (Scalar.ofBits .f32 0x00000000#32))

/-- The mask's bit at a block and a row. -/
theorem bit : ∀ (a : Fin 32) (r : Fin 272),
    IntOp.andi (IntOp.ori (IntOp.cmpi CmpIPredicate.sge (BitVec.ofNat 32 r.val) 8#32) (Scalar.cmpi CmpIPredicate.sgt (BitVec.ofNat 32 a.val) 0#32))
        (IntOp.ori (IntOp.cmpi CmpIPredicate.slt (BitVec.ofNat 32 r.val) 264#32) (Scalar.cmpi CmpIPredicate.slt (BitVec.ofNat 32 a.val) 31#32))
      = if (8 ≤ r.val ∨ 0 < a.val) ∧ (r.val < 264 ∨ a.val < 31) then 1#1 else 0#1 := by decide +kernel

/-- A row the convolution reads. -/
theorem masked_apply (a : Fin 32) (u : FVec Ideal S272x3072 .f32) (r : Fin 272) (f : Fin 3072) :
    masked (BitVec.ofNat 32 a.val) u (ix2 r f) = if (8 ≤ r.val ∨ 0 < a.val) ∧ (r.val < 264 ∨ a.val < 31) then u (ix2 r f) else 0 := by
  pointwise [masked, k0_pay8]
  rw [bit]
  split
  · exact if_pos rfl
  · exact if_neg (by decide)

/-- The convolved columns of a block, from the masked rows. -/
def conv (v43 : FVec Ideal S272x3072 .f32) (v48 v51 v56 v60 : Vec Ideal S1x3072 .f32) : FVec Ideal S256x3072 .f32 :=
  addf (addf (addf (mulf (broadcastTo S256x3072 v48 broadcasts_S1x3072_S256x3072)
          (extractStridedSlice S256x3072 ![8, 0] (dynamicRotate 0 1#32 none v43 rotates_S272x3072_d0) slices_S272x3072_o8_0_S256x3072))
        (mulf (broadcastTo S256x3072 v51 broadcasts_S1x3072_S256x3072) (extractStridedSlice S256x3072 ![8, 0] v43 slices_S272x3072_o8_0_S256x3072)))
      (mulf (broadcastTo S256x3072 v56 broadcasts_S1x3072_S256x3072)
        (extractStridedSlice S256x3072 ![8, 0] (dynamicRotate 0 271#32 none v43 rotates_S272x3072_d0) slices_S272x3072_o8_0_S256x3072)))
    (broadcastTo S256x3072 (shapeCast S1x3072 v60 shapeCasts_S1x3072_S1x3072) broadcasts_S1x3072_S256x3072)

/-- The block's columns are the convolution's, gated by themselves. -/
theorem pay9_eq (a : BitVec 32) (u : FVec Ideal S272x3072 .f32) (w0 w1 w2 b : Vec Ideal S1x3072 .f32) :
    k0_pay9 (F := Ideal) a u (iota .tc S272x1 32 [0] iota_S272x1_d0_w32) k0_pay8 w0 w1 w2 b
      = mulf (conv (masked a u) w0 w1 w2 b) (logistic (conv (masked a u) w0 w1 w2 b)) := rfl

/-- One element of the convolution: the row before, the row, the row after. -/
theorem conv_apply (y : FVec Ideal S272x3072 .f32) (w0 w1 w2 b : Vec Ideal S1x3072 .f32) (r : Fin 256) (f : Fin 3072) :
    conv y w0 w1 w2 b (ix2 r f) = w0 (ix2 0 f) * y (ix2 ⟨7 + r.val, by omega⟩ f) + w1 (ix2 0 f) * y (ix2 ⟨8 + r.val, by omega⟩ f)
      + w2 (ix2 0 f) * y (ix2 ⟨9 + r.val, by omega⟩ f) + b (ix2 0 f) := by
  pointwise [conv]
  have e0 : (⟨(8 + r.val + 272 - 1) % 272, Nat.mod_lt _ (by decide)⟩ : Fin 272) = ⟨7 + r.val, by omega⟩ := Fin.ext (by show (8 + r.val + 272 - 1) % 272 = 7 + r.val; omega)
  have e2 : (⟨(8 + r.val + 272 - 271) % 272, Nat.mod_lt _ (by decide)⟩ : Fin 272) = ⟨9 + r.val, by omega⟩ := Fin.ext (by show (8 + r.val + 272 - 271) % 272 = 9 + r.val; omega)
  rw [e0, e2]

theorem pay9_apply (a : Fin 32) (u : FVec Ideal S272x3072 .f32) (w0 w1 w2 b : Vec Ideal S1x3072 .f32) (r : Fin 256) (f : Fin 3072) :
    k0_pay9 (F := Ideal) (BitVec.ofNat 32 a.val) u (iota .tc S272x1 32 [0] iota_S272x1_d0_w32) k0_pay8 w0 w1 w2 b (ix2 r f)
      = silu (conv (masked (BitVec.ofNat 32 a.val) u) w0 w1 w2 b (ix2 r f)) := by
  rw [pay9_eq]
  rfl

section columns
variable (a : BitVec 32) (u : FVec Ideal S272x3072 .f32) (i28 : IVec S272x1 32) (i30 : IVec S272x1 1) (w0 w1 w2 b : Vec Ideal S1x3072 .f32) (r : Fin 256)

/-- The three results' columns of the gated convolution. -/
theorem pay10_apply (f : Fin 2048) : k0_pay10 (F := Ideal) a u i28 i30 w0 w1 w2 b (ix3 0 r f)
    = k0_pay9 (F := Ideal) a u i28 i30 w0 w1 w2 b (ix2 r ⟨f.val, by omega⟩) := by
  unfold k0_pay10
  generalize k0_pay9 (F := Ideal) a u i28 i30 w0 w1 w2 b = y
  pointwise
theorem pay1_apply (f : Fin 512) : k0_pay1 (F := Ideal) (k0_pay11 a u i28 i30 w0 w1 w2 b) (ix3 0 r f)
    = k0_pay9 (F := Ideal) a u i28 i30 w0 w1 w2 b (ix2 r ⟨2048 + f.val, by omega⟩) := by
  unfold k0_pay1 k0_pay11
  generalize k0_pay9 (F := Ideal) a u i28 i30 w0 w1 w2 b = y
  pointwise
theorem pay2_apply (f : Fin 512) : k0_pay2 (F := Ideal) (k0_pay9 a u i28 i30 w0 w1 w2 b) (ix3 0 r f)
    = k0_pay9 (F := Ideal) a u i28 i30 w0 w1 w2 b (ix2 r ⟨2560 + f.val, by omega⟩) := by
  unfold k0_pay2
  generalize k0_pay9 (F := Ideal) a u i28 i30 w0 w1 w2 b = y
  pointwise
end columns

/-- The steps' rows are the block's own modulated rows. -/
theorem pay5_apply (v0 : Vec Ideal S1x8x1024 .f32) (v2 : Vec Ideal S1x256x1024 .f32) (v4 : Vec Ideal S1x8x1024 .f32) (v7 : Vec Ideal S1x1x1024 .f32) (v13 : Vec Ideal S1x1x1024 .f32) (r : Fin 256) (k : Fin 1024) :
    k0_pay5 (F := Ideal) v0 v2 v4 v7 v13 (ix2 r k) = k0_pay4 (F := Ideal) v0 v2 v4 v7 v13 (ix2 ⟨8 + r.val, by omega⟩ k) := by
  unfold k0_pay5
  generalize k0_pay4 (F := Ideal) v0 v2 v4 v7 v13 = h
  pointwise

/-- A load of a whole block. -/
theorem ld0 (x : Vec Ideal S1x8x1024 .f32) : View.ld x r0_0 = x := View.ld_unit_zero (by decide) _ x
theorem ld1 (x : Vec Ideal S1x256x1024 .f32) : View.ld x r0_1 = x := View.ld_unit_zero (by decide) _ x
theorem ld2 (x : Vec Ideal S1x1x1024 .f32) : View.ld x r0_2 = x := View.ld_unit_zero (by decide) _ x
theorem ld3 (x : Vec Ideal S1024x2048 .bf16) : View.ld x r0_3 = x := View.ld_unit_zero (by decide) _ x
theorem ld5 (x : Vec Ideal S1024x3072 .bf16) : View.ld x r0_5 = x := View.ld_unit_zero (by decide) _ x
theorem ld9 (x : Vec Ideal S1x3072 .f32) : View.ld x r0_9 = x := View.ld_unit_zero (by decide) _ x
theorem ld11 (x : Vec Ideal S1024x64 .bf16) : View.ld x r0_11 = x := View.ld_unit_zero (by decide) _ x
theorem ld12 (x : Vec Ideal S1x64 .f32) : View.ld x r0_12 = x := View.ld_unit_zero (by decide) _ x

/-- A row of the convolution's weights as the body loads it. -/
theorem ld_row0 (y : Vec Ideal S3x3072 .f32) (f : Fin 3072) : (View.ld y r0_6 : Vec Ideal S1x3072 .f32) (ix2 0 f) = y (ix2 0 f) :=
  congrArg y (by
    funext a
    match a with
    | ⟨0, _⟩ => rfl
    | ⟨1, _⟩ => exact Fin.ext (by show 0 + 1 * f.val = f.val; omega))
theorem ld_row1 (y : Vec Ideal S3x3072 .f32) (f : Fin 3072) : (View.ld y r0_7 : Vec Ideal S1x3072 .f32) (ix2 0 f) = y (ix2 1 f) :=
  congrArg y (by
    funext a
    match a with
    | ⟨0, _⟩ => rfl
    | ⟨1, _⟩ => exact Fin.ext (by show 0 + 1 * f.val = f.val; omega))
theorem ld_row2 (y : Vec Ideal S3x3072 .f32) (f : Fin 3072) : (View.ld y r0_8 : Vec Ideal S1x3072 .f32) (ix2 0 f) = y (ix2 2 f) :=
  congrArg y (by
    funext a
    match a with
    | ⟨0, _⟩ => rfl
    | ⟨1, _⟩ => exact Fin.ext (by show 0 + 1 * f.val = f.val; omega))

section outs
variable (i : grid0.Coords) (x0 : Vec Ideal S1x256x1024 .f32) (x1 : Vec Ideal S1x8x1024 .f32) (x2 : Vec Ideal S1x8x1024 .f32) (x3 : Vec Ideal S1x1x1024 .f32) (x4 : Vec Ideal S1x1x1024 .f32) (x5 : Vec Ideal S1024x2048 .bf16) (x6 : Vec Ideal S1024x3072 .bf16) (x7 : Vec Ideal S1024x64 .bf16) (x8 : Vec Ideal S3x3072 .f32) (x9 : Vec Ideal S1x3072 .f32) (x10 : Vec Ideal S1x64 .f32)

/-- The gated convolution of a block, from the blocks the body reads. -/
def gated (a : BitVec 32) (x0 : Vec Ideal S1x256x1024 .f32) (x1 x2 : Vec Ideal S1x8x1024 .f32) (x3 x4 : Vec Ideal S1x1x1024 .f32) (x6 : Vec Ideal S1024x3072 .bf16) (x8 : Vec Ideal S3x3072 .f32) (x9 : Vec Ideal S1x3072 .f32) : FVec Ideal S256x3072 .f32 :=
  k0_pay9 (F := Ideal) a (k0_pay7 (F := Ideal) x1 x0 x2 x4 x3 x6) (iota .tc S272x1 32 [0] iota_S272x1_d0_w32) k0_pay8 (View.ld x8 r0_6) (View.ld x8 r0_7) (View.ld x8 r0_8) x9

theorem pay13_eq : k0_pay13 (F := Ideal) i x0 x1 x2 x3 x4 x5 x6 x7 x8 x9 x10 = k0_pay7 (F := Ideal) x1 x0 x2 x4 x3 x6 := by
  rw [k0_pay13, ld0, ld1, ld0, ld2, ld2, ld5]

/-- The five blocks the body stores. -/
theorem out_z (r : Fin 256) (f : Fin 2048) : out0_11 (F := Ideal) i x0 x1 x2 x3 x4 x5 x6 x7 x8 x9 x10 (ix3 0 r f)
    = ∑ k : Fin 1024, k0_pay4 (F := Ideal) x1 x0 x2 x4 x3 (ix2 ⟨8 + r.val, by omega⟩ k) * x5 (ix2 k f) := by
  rw [out0_11, View.canon_cons_unit_zero (by decide) _ _ _, ld0, ld1, ld0, ld2, ld2, ld3, pay6_apply]
theorem out_xs (r : Fin 256) (f : Fin 2048) : out0_12 (F := Ideal) i x0 x1 x2 x3 x4 x5 x6 x7 x8 x9 x10 (ix3 0 r f)
    = gated (BitVec.ofNat 32 (i 1).val) x0 x1 x2 x3 x4 x6 x8 x9 (ix2 r ⟨f.val, by omega⟩) := by
  rw [out0_12, View.canon_cons_unit_zero (by decide) _ _ _, pay10_apply, pay13_eq, k0_pay12, k0_pay14, ld9, gated]
theorem out_bm (r : Fin 256) (f : Fin 512) : out0_13 (F := Ideal) i x0 x1 x2 x3 x4 x5 x6 x7 x8 x9 x10 (ix3 0 r f)
    = gated (BitVec.ofNat 32 (i 1).val) x0 x1 x2 x3 x4 x6 x8 x9 (ix2 r ⟨2048 + f.val, by omega⟩) := by
  rw [out0_13, View.canon_cons_unit_zero (by decide) _ _ _, pay1_apply, pay13_eq, k0_pay12, k0_pay14, ld9, gated]
theorem out_cm (r : Fin 256) (f : Fin 512) : out0_14 (F := Ideal) i x0 x1 x2 x3 x4 x5 x6 x7 x8 x9 x10 (ix3 0 r f)
    = gated (BitVec.ofNat 32 (i 1).val) x0 x1 x2 x3 x4 x6 x8 x9 (ix2 r ⟨2560 + f.val, by omega⟩) := by
  rw [out0_14, View.canon_cons_unit_zero (by decide) _ _ _, pay2_apply, pay13_eq, k0_pay12, k0_pay14, ld9, gated]
theorem out_dt (e : Fin 64) (r : Fin 256) : out0_15 (F := Ideal) i x0 x1 x2 x3 x4 x5 x6 x7 x8 x9 x10 (ix3 0 e r)
    = soft ((∑ k : Fin 1024, k0_pay4 (F := Ideal) x1 x0 x2 x4 x3 (ix2 ⟨8 + r.val, by omega⟩ k) * x7 (ix2 k e)) + x10 (ix2 0 e)) := by
  rw [out0_15, View.canon_cons_unit_zero (by decide) _ _ _, ld0, ld1, ld0, ld2, ld2, ld11, ld12, pay3_apply]
  exact congrArg (fun s => soft (s + _)) (Finset.sum_congr rfl fun k _ => by rw [pay5_apply])
end outs

end Cert.SsdInIdeal.Blk
end
-- ==== Proof.SsdIn.Array.lean ====
module

public import proofs.«01_k».proof.Proof.SsdIn.Block
public import Idealize.ShloMosaic.Lib.Pipeline.ValueKit

@[expose] public section

set_option maxRecDepth 16384

noncomputable section

/-! What the five result arrays hold, from the program's arguments. -/

namespace Cert.SsdInIdeal.Arr

open Cert.SsdInIdeal Cert.SsdInIdeal.Gen Cert.SsdColumns Idealize.ShloMosaic Idealize.ShloMosaic.TcCoe

variable (m : (ℓ : Loc nD τ sig) → Buf (Elt Ideal) ℓ) (c : Dev nD)

/-- The weights and biases as the host hands them over. -/
theorem V_wz : (V m c main_v1 : FVec Ideal S1024x2048 .bf16) = (extractStridedSlice S1024x2048 ![0, 0] (truncf .bf16 (m (c, main_arg3) : FVec Ideal S1024x5184 .f32) bitsLt_bf16_f32) slices_S1024x5184_S1024x2048_0_0 : FVec Ideal S1024x2048 .bf16) := by
  unfold_abbrev_sides
  after_results
theorem V_wx : (V m c main_v2 : FVec Ideal S1024x3072 .bf16) = (extractStridedSlice S1024x3072 ![0, 2048] (truncf .bf16 (m (c, main_arg3) : FVec Ideal S1024x5184 .f32) bitsLt_bf16_f32) slices_S1024x5184_S1024x3072_0_2048 : FVec Ideal S1024x3072 .bf16) := by
  unfold_abbrev_sides
  after_results
theorem V_wdt : (V m c main_v3 : FVec Ideal S1024x64 .bf16) = (extractStridedSlice S1024x64 ![0, 5120] (truncf .bf16 (m (c, main_arg3) : FVec Ideal S1024x5184 .f32) bitsLt_bf16_f32) slices_S1024x5184_S1024x64_0_5120 : FVec Ideal S1024x64 .bf16) := by
  unfold_abbrev_sides
  after_results
theorem V_cb : V m c main_v4 = broadcastInDim S1x3072 ![1] bcast_S3072_S1x3072_1 (m (c, main_arg5) : FVec Ideal S3072 .f32) := by
  unfold_abbrev_sides
  after_results
theorem V_b : V m c main_v6 = broadcastInDim S1x64 ![1] bcast_S64_S1x64_1 (concatenate S64 0 [⟨S32, (m (c, main_arg6) : FVec Ideal S32 .f32)⟩, ⟨S32, (m (c, main_arg7) : FVec Ideal S32 .f32)⟩] concatenates_S32_S32_S64_d0) := by
  unfold_abbrev_sides
  after_results

/-- The blocks' places, by grid point. -/
theorem idx : ∀ t : Fin grid0.N,
    win0_0.index t = ![(grid0.coords t 0).val, (grid0.coords t 1).val, 0]
    ∧ win0_1.index t = ![(grid0.coords t 0).val, 32 * (grid0.coords t 1).val - 1, 0]
    ∧ win0_2.index t = ![(grid0.coords t 0).val, min (32 * (grid0.coords t 1).val + 32) 1023, 0]
    ∧ win0_3.index t = ![(grid0.coords t 0).val, 0, 0]
    ∧ win0_4.index t = ![(grid0.coords t 0).val, 0, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, 0, (grid0.coords t 1).val] := by decide +kernel

/-- A grid point's coordinates: batch and block of rows. -/
def pb (t : Fin grid0.N) : Fin 4 := ⟨(grid0.coords t 0).val, (grid0.coords t 0).isLt⟩
def pi (t : Fin grid0.N) : Fin 32 := ⟨(grid0.coords t 1).val, (grid0.coords t 1).isLt⟩

theorem x_own (t : Fin cfg0.N) (r : Fin 256) (k : Fin 1024) :
    (iblk m c 0 t : Vec Ideal S1x256x1024 .f32) (ix3 0 r k) = (m (c, main_arg0) : FVec Ideal S4x8192x1024 .f32) (ix3 (pb t) ⟨256 * (pi t).val + r.val, by omega⟩ k) := by
  rw [← V_main_arg0 m c]
  blk_ext [iblk, idx t, pb, pi]
theorem x_prev (t : Fin cfg0.N) (r : Fin 8) (k : Fin 1024) :
    (iblk m c 1 t : Vec Ideal S1x8x1024 .f32) (ix3 0 r k) = (m (c, main_arg0) : FVec Ideal S4x8192x1024 .f32) (ix3 (pb t) ⟨8 * (32 * (pi t).val - 1) + r.val, by omega⟩ k) := by
  rw [← V_main_arg0 m c]
  blk_ext [iblk, idx t, pb, pi]
theorem x_next (t : Fin cfg0.N) (r : Fin 8) (k : Fin 1024) :
    (iblk m c 2 t : Vec Ideal S1x8x1024 .f32) (ix3 0 r k) = (m (c, main_arg0) : FVec Ideal S4x8192x1024 .f32) (ix3 (pb t) ⟨8 * (min (32 * (pi t).val + 32) 1023) + r.val, by omega⟩ k) := by
  rw [← V_main_arg0 m c]
  blk_ext [iblk, idx t, pb, pi]
theorem sh_blk (t : Fin cfg0.N) (k : Fin 1024) :
    (iblk m c 3 t : Vec Ideal S1x1x1024 .f32) (ix3 0 0 k) = (m (c, main_arg1) : FVec Ideal S4x1x1024 .f32) (ix3 (pb t) 0 k) := by
  rw [← V_main_arg1 m c]
  blk_ext [iblk, idx t, pb, pi]
theorem sc_blk (t : Fin cfg0.N) (k : Fin 1024) :
    (iblk m c 4 t : Vec Ideal S1x1x1024 .f32) (ix3 0 0 k) = (m (c, main_arg2) : FVec Ideal S4x1x1024 .f32) (ix3 (pb t) 0 k) := by
  rw [← V_main_arg2 m c]
  blk_ext [iblk, idx t, pb, pi]
theorem wz_blk (t : Fin cfg0.N) (k : Fin 1024) (f : Fin 2048) :
    (iblk m c 5 t : Vec Ideal S1024x2048 .bf16) (ix2 k f) = (m (c, main_arg3) : FVec Ideal S1024x5184 .f32) (ix2 k ⟨f.val, by omega⟩) := by
  have e : (iblk m c 5 t : Vec Ideal S1024x2048 .bf16) (ix2 k f) = (V m c main_v1 : FVec Ideal S1024x2048 .bf16) (ix2 k f) := by blk_ext [iblk, idx t, pb, pi]
  rw [e, V_wz]
  pointwise
theorem wx_blk (t : Fin cfg0.N) (k : Fin 1024) (f : Fin 3072) :
    (iblk m c 6 t : Vec Ideal S1024x3072 .bf16) (ix2 k f) = (m (c, main_arg3) : FVec Ideal S1024x5184 .f32) (ix2 k ⟨2048 + f.val, by omega⟩) := by
  have e : (iblk m c 6 t : Vec Ideal S1024x3072 .bf16) (ix2 k f) = (V m c main_v2 : FVec Ideal S1024x3072 .bf16) (ix2 k f) := by blk_ext [iblk, idx t, pb, pi]
  rw [e, V_wx]
  pointwise
theorem wdt_blk (t : Fin cfg0.N) (k : Fin 1024) (e : Fin 64) :
    (iblk m c 7 t : Vec Ideal S1024x64 .bf16) (ix2 k e) = (m (c, main_arg3) : FVec Ideal S1024x5184 .f32) (ix2 k ⟨5120 + e.val, by omega⟩) := by
  have h : (iblk m c 7 t : Vec Ideal S1024x64 .bf16) (ix2 k e) = (V m c main_v3 : FVec Ideal S1024x64 .bf16) (ix2 k e) := by blk_ext [iblk, idx t, pb, pi]
  rw [h, V_wdt]
  pointwise
theorem cw_blk (t : Fin cfg0.N) (d : Fin 3) (f : Fin 3072) :
    (iblk m c 8 t : Vec Ideal S3x3072 .f32) (ix2 d f) = (m (c, main_arg4) : FVec Ideal S3x3072 .f32) (ix2 d f) := by
  rw [← V_main_arg4 m c]
  blk_ext [iblk, idx t, pb, pi]
theorem cb_blk (t : Fin cfg0.N) (f : Fin 3072) :
    (iblk m c 9 t : Vec Ideal S1x3072 .f32) (ix2 0 f) = (m (c, main_arg5) : FVec Ideal S3072 .f32) (ix1 f) := by
  have h : (iblk m c 9 t : Vec Ideal S1x3072 .f32) (ix2 0 f) = (V m c main_v4 : FVec Ideal S1x3072 .f32) (ix2 0 f) := by blk_ext [iblk, idx t, pb, pi]
  rw [h, V_cb]
  pointwise
theorem b_blk (t : Fin cfg0.N) (e : Fin 64) :
    (iblk m c 10 t : Vec Ideal S1x64 .f32) (ix2 0 e) = bias (m (c, main_arg6)) (m (c, main_arg7)) e := by
  have h : (iblk m c 10 t : Vec Ideal S1x64 .f32) (ix2 0 e) = (V m c main_v6 : FVec Ideal S1x64 .f32) (ix2 0 e) := by blk_ext [iblk, idx t, pb, pi]
  rw [h, V_b]
  pointwise [bias]

/-- The arguments, by name. -/
abbrev aX : FVec Ideal S4x8192x1024 .f32 := m (c, main_arg0)
abbrev aSh : FVec Ideal S4x1x1024 .f32 := m (c, main_arg1)
abbrev aSc : FVec Ideal S4x1x1024 .f32 := m (c, main_arg2)
abbrev aW : FVec Ideal S1024x5184 .f32 := m (c, main_arg3)
abbrev aCw : FVec Ideal S3x3072 .f32 := m (c, main_arg4)
abbrev aCb : FVec Ideal S3072 .f32 := m (c, main_arg5)
abbrev aBf : FVec Ideal S32 .f32 := m (c, main_arg6)
abbrev aBb : FVec Ideal S32 .f32 := m (c, main_arg7)

/-- A grid point's modulated rows, with the eight before and the eight after. -/
def hal (t : Fin cfg0.N) : FVec Ideal S272x1024 .bf16 := k0_pay4 (F := Ideal) (iblk m c 1 t) (iblk m c 0 t) (iblk m c 2 t) (iblk m c 4 t) (iblk m c 3 t)

theorem hal_own (t : Fin cfg0.N) (r : Fin 256) (k : Fin 1024) :
    hal m c t (ix2 ⟨8 + r.val, by omega⟩ k) = mod (aX m c) (aSh m c) (aSc m c) (pb t) ⟨256 * (pi t).val + r.val, by omega⟩ k := by
  unfold hal
  rw [Blk.pay4_own, x_own, sc_blk, sh_blk]
  rfl

/-- A row of them inside the sequence, counted from one before the block's first. -/
theorem hal_row (t : Fin cfg0.N) (q : ℕ) (hq : q ≤ 257) (h : 1 ≤ 256 * (pi t).val + q ∧ 256 * (pi t).val + q < 8193) (k : Fin 1024) :
    hal m c t (ix2 ⟨7 + q, by omega⟩ k) = mod (aX m c) (aSh m c) (aSc m c) (pb t) ⟨256 * (pi t).val + q - 1, by omega⟩ k := by
  have hp := (pi t).isLt
  rcases Nat.eq_zero_or_pos q with h0 | h0
  · have e : (⟨7 + q, by omega⟩ : Fin 272) = ⟨(7 : Fin 8).val, by omega⟩ := Fin.ext (by show 7 + q = 7; omega)
    unfold hal
    rw [e, Blk.pay4_prev, x_prev, sc_blk, sh_blk]
    exact congrArg (fun n => mod (aX m c) (aSh m c) (aSc m c) (pb t) n k) (Fin.ext (by show 8 * (32 * (pi t).val - 1) + 7 = 256 * (pi t).val + q - 1; omega))
  · rcases Nat.lt_or_ge q 257 with h1 | h1
    · have e : (⟨7 + q, by omega⟩ : Fin 272) = ⟨8 + (⟨q - 1, by omega⟩ : Fin 256).val, by show 8 + (q - 1) < 272; omega⟩ := Fin.ext (by show 7 + q = 8 + (q - 1); omega)
      rw [e, hal_own]
      exact congrArg (fun n => mod (aX m c) (aSh m c) (aSc m c) (pb t) n k) (Fin.ext (by show 256 * (pi t).val + (q - 1) = 256 * (pi t).val + q - 1; omega))
    · have e : (⟨7 + q, by omega⟩ : Fin 272) = ⟨264 + (0 : Fin 8).val, by decide⟩ := Fin.ext (by show 7 + q = 264; omega)
      unfold hal
      rw [e, Blk.pay4_next, x_next, sc_blk, sh_blk]
      exact congrArg (fun n => mod (aX m c) (aSh m c) (aSc m c) (pb t) n k) (Fin.ext (by show 8 * (min (32 * (pi t).val + 32) 1023) + 0 = 256 * (pi t).val + q - 1; omega))

/-- A grid point's projected rows. -/
def up (t : Fin cfg0.N) : FVec Ideal S272x3072 .f32 := k0_pay7 (F := Ideal) (iblk m c 1 t) (iblk m c 0 t) (iblk m c 2 t) (iblk m c 4 t) (iblk m c 3 t) (iblk m c 6 t)

/-- The masked rows are the padded sequence's. -/
theorem masked_row (t : Fin cfg0.N) (q : ℕ) (hq : q ≤ 257) (f : Fin 3072) :
    Blk.masked (BitVec.ofNat 32 (pi t).val) (up m c t) (ix2 ⟨7 + q, by omega⟩ f)
      = padded (aX m c) (aSh m c) (aSc m c) (aW m c) (pb t) (256 * (pi t).val + q) f := by
  have hp := (pi t).isLt
  rw [Blk.masked_apply, padded]
  by_cases h : 1 ≤ 256 * (pi t).val + q ∧ 256 * (pi t).val + q < 8193
  · rw [dif_pos h, if_pos (by show (8 ≤ 7 + q ∨ 0 < (pi t).val) ∧ (7 + q < 264 ∨ (pi t).val < 31); omega)]
    refine (Blk.pay7_apply _ _ _ _ _ _ _ f).trans (Finset.sum_congr rfl fun k _ => ?_)
    rw [wx_blk]
    exact congrArg (· * _) (hal_row m c t q hq h k)
  · rw [dif_neg h, if_neg (by show ¬((8 ≤ 7 + q ∨ 0 < (pi t).val) ∧ (7 + q < 264 ∨ (pi t).val < 31)); omega)]

/-- A grid point's gated convolution. -/
def xbc (t : Fin cfg0.N) : FVec Ideal S256x3072 .f32 :=
  Blk.gated (BitVec.ofNat 32 (pi t).val) (iblk m c 0 t) (iblk m c 1 t) (iblk m c 2 t) (iblk m c 3 t) (iblk m c 4 t) (iblk m c 6 t) (iblk m c 8 t) (iblk m c 9 t)

theorem xbc_apply (t : Fin cfg0.N) (r : Fin 256) (f : Fin 3072) :
    xbc m c t (ix2 r f) = silu (conv (aX m c) (aSh m c) (aSc m c) (aW m c) (aCw m c) (aCb m c) (pb t) ⟨256 * (pi t).val + r.val, by omega⟩ f) := by
  unfold xbc
  rw [Blk.gated, Blk.pay9_apply, Blk.conv_apply, Blk.ld_row0, Blk.ld_row1, Blk.ld_row2, cw_blk, cw_blk, cw_blk, cb_blk]
  have h0 := masked_row m c t r.val (by omega) f
  have h1 := masked_row m c t (r.val + 1) (by omega) f
  have h2 := masked_row m c t (r.val + 2) (by omega) f
  have e1 : (⟨7 + (r.val + 1), by omega⟩ : Fin 272) = ⟨8 + r.val, by omega⟩ := Fin.ext (by show 7 + (r.val + 1) = 8 + r.val; omega)
  have e2 : (⟨7 + (r.val + 2), by omega⟩ : Fin 272) = ⟨9 + r.val, by omega⟩ := Fin.ext (by show 7 + (r.val + 2) = 9 + r.val; omega)
  rw [e1] at h1
  rw [e2] at h2
  have e : k0_pay7 (F := Ideal) (iblk m c 1 t) (iblk m c 0 t) (iblk m c 2 t) (iblk m c 4 t) (iblk m c 3 t) (iblk m c 6 t) = up m c t := rfl
  rw [e, h0, h1, h2]
  rfl

/-- What a grid point leaves in the five arrays. -/
theorem z_blk (t : Fin cfg0.N) (r : Fin 256) (f : Fin 2048) : ((dats m 0 c).after 11 t : Vec Ideal S1x256x2048 .f32) (ix3 0 r f)
    = proj (aX m c) (aSh m c) (aSc m c) (aW m c) (pb t) ⟨256 * (pi t).val + r.val, by omega⟩ ⟨f.val, by omega⟩ := by
  rw [after0_11]
  refine (Blk.out_z _ _ _ _ _ _ _ _ _ _ _ _ r f).trans (Finset.sum_congr rfl fun k _ => ?_)
  rw [wz_blk]
  exact congrArg (· * _) (hal_own m c t r k)
theorem xs_blk (t : Fin cfg0.N) (r : Fin 256) (f : Fin 2048) : ((dats m 0 c).after 12 t : Vec Ideal S1x256x2048 .f32) (ix3 0 r f)
    = silu (conv (aX m c) (aSh m c) (aSc m c) (aW m c) (aCw m c) (aCb m c) (pb t) ⟨256 * (pi t).val + r.val, by omega⟩ ⟨f.val, by omega⟩) := by
  rw [after0_12, Blk.out_xs]
  exact xbc_apply m c t r _
theorem bm_blk (t : Fin cfg0.N) (r : Fin 256) (f : Fin 512) : ((dats m 0 c).after 13 t : Vec Ideal S1x256x512 .f32) (ix3 0 r f)
    = silu (conv (aX m c) (aSh m c) (aSc m c) (aW m c) (aCw m c) (aCb m c) (pb t) ⟨256 * (pi t).val + r.val, by omega⟩ ⟨2048 + f.val, by omega⟩) := by
  rw [after0_13, Blk.out_bm]
  exact xbc_apply m c t r _
theorem cm_blk (t : Fin cfg0.N) (r : Fin 256) (f : Fin 512) : ((dats m 0 c).after 14 t : Vec Ideal S1x256x512 .f32) (ix3 0 r f)
    = silu (conv (aX m c) (aSh m c) (aSc m c) (aW m c) (aCw m c) (aCb m c) (pb t) ⟨256 * (pi t).val + r.val, by omega⟩ ⟨2560 + f.val, by omega⟩) := by
  rw [after0_14, Blk.out_cm]
  exact xbc_apply m c t r _
theorem dt_blk (t : Fin cfg0.N) (e : Fin 64) (r : Fin 256) : ((dats m 0 c).after 15 t : Vec Ideal S1x64x256 .f32) (ix3 0 e r)
    = step (aX m c) (aSh m c) (aSc m c) (aW m c) (aBf m c) (aBb m c) (pb t) ⟨256 * (pi t).val + r.val, by omega⟩ e := by
  rw [after0_15]
  refine (Blk.out_dt _ _ _ _ _ _ _ _ _ _ _ _ e r).trans ?_
  rw [b_blk]
  refine congrArg (fun s => soft (s + _)) (Finset.sum_congr rfl fun k _ => ?_)
  rw [wdt_blk]
  exact congrArg (· * _) (hal_own m c t r k)

/-- An index of a block, by its two free coordinates. -/
theorem ix_blk {p q : ℕ} (y : (⟨3, ![1, p, q]⟩ : Shape).Idx) : y = ix3 0 (y 1) (y 2) := by
  funext a
  match a with
  | ⟨0, _⟩ => exact Subsingleton.elim (α := Fin 1) _ _
  | ⟨1, _⟩ => rfl
  | ⟨2, _⟩ => rfl

/-- A function of three coordinates depends on their numbers alone. -/
theorem of_val {p q s : ℕ} (f : Fin p → Fin q → Fin s → EReal) {x x' : Fin p} {y y' : Fin q} {z z' : Fin s} (hx : x.val = x'.val) (hy : y.val = y'.val) (hz : z.val = z'.val) :
    f x y z = f x' y' z' := by
  rw [Fin.ext hx, Fin.ext hy, Fin.ext hz]

/-- THE RESULT ARRAYS, element by element. -/
theorem z_eq : (dats m 0 c).arrAt 11 cfg0.N = fun i : S4x8192x2048.Idx =>
    proj (aX m c) (aSh m c) (aSc m c) (aW m c) (i 0) (i 1) ⟨(i 2).val, by have : (i 2).val < 2048 := (i 2).isLt; omega⟩ := by
  refine (dats m 0 c).arrAt_eq_of_covers 11 _ (by decide +kernel) fun t hf y => ?_
  blk_simp
  rw [ix_blk y]
  refine (z_blk m c t (y 1) (y 2)).trans (of_val (proj (aX m c) (aSh m c) (aSc m c) (aW m c)) ?_ ?_ ?_)
  · blk_simp [idx t]
    rfl
  · blk_simp [idx t]
    exact congrArg (· + _) (Nat.mul_comm 256 _)
  · blk_simp [idx t]
theorem xs_eq : (dats m 0 c).arrAt 12 cfg0.N = fun i : S4x8192x2048.Idx =>
    silu (conv (aX m c) (aSh m c) (aSc m c) (aW m c) (aCw m c) (aCb m c) (i 0) (i 1) ⟨(i 2).val, by have : (i 2).val < 2048 := (i 2).isLt; omega⟩) := by
  refine (dats m 0 c).arrAt_eq_of_covers 12 _ (by decide +kernel) fun t hf y => ?_
  blk_simp
  rw [ix_blk y]
  refine (xs_blk m c t (y 1) (y 2)).trans (of_val (fun b i f => silu (conv (aX m c) (aSh m c) (aSc m c) (aW m c) (aCw m c) (aCb m c) b i f)) ?_ ?_ ?_)
  · blk_simp [idx t]
    rfl
  · blk_simp [idx t]
    exact congrArg (· + _) (Nat.mul_comm 256 _)
  · blk_simp [idx t]
theorem bm_eq : (dats m 0 c).arrAt 13 cfg0.N = fun i : S4x8192x512.Idx =>
    silu (conv (aX m c) (aSh m c) (aSc m c) (aW m c) (aCw m c) (aCb m c) (i 0) (i 1) ⟨2048 + (i 2).val, by have : (i 2).val < 512 := (i 2).isLt; omega⟩) := by
  refine (dats m 0 c).arrAt_eq_of_covers 13 _ (by decide +kernel) fun t hf y => ?_
  blk_simp
  rw [ix_blk y]
  refine (bm_blk m c t (y 1) (y 2)).trans (of_val (fun b i f => silu (conv (aX m c) (aSh m c) (aSc m c) (aW m c) (aCw m c) (aCb m c) b i f)) ?_ ?_ ?_)
  · blk_simp [idx t]
    rfl
  · blk_simp [idx t]
    exact congrArg (· + _) (Nat.mul_comm 256 _)
  · exact congrArg (2048 + ·) (by blk_simp [idx t])
theorem cm_eq : (dats m 0 c).arrAt 14 cfg0.N = fun i : S4x8192x512.Idx =>
    silu (conv (aX m c) (aSh m c) (aSc m c) (aW m c) (aCw m c) (aCb m c) (i 0) (i 1) ⟨2560 + (i 2).val, by have : (i 2).val < 512 := (i 2).isLt; omega⟩) := by
  refine (dats m 0 c).arrAt_eq_of_covers 14 _ (by decide +kernel) fun t hf y => ?_
  blk_simp
  rw [ix_blk y]
  refine (cm_blk m c t (y 1) (y 2)).trans (of_val (fun b i f => silu (conv (aX m c) (aSh m c) (aSc m c) (aW m c) (aCw m c) (aCb m c) b i f)) ?_ ?_ ?_)
  · blk_simp [idx t]
    rfl
  · blk_simp [idx t]
    exact congrArg (· + _) (Nat.mul_comm 256 _)
  · exact congrArg (2560 + ·) (by blk_simp [idx t])
theorem dt_eq : (dats m 0 c).arrAt 15 cfg0.N = fun i : S4x64x8192.Idx =>
    step (aX m c) (aSh m c) (aSc m c) (aW m c) (aBf m c) (aBb m c) (i 0) (i 2) (i 1) := by
  refine (dats m 0 c).arrAt_eq_of_covers 15 _ (by decide +kernel) fun t hf y => ?_
  blk_simp
  rw [ix_blk y]
  refine (dt_blk m c t (y 1) (y 2)).trans (of_val (step (aX m c) (aSh m c) (aSc m c) (aW m c) (aBf m c) (aBb m c)) ?_ ?_ ?_)
  · blk_simp [idx t]
    rfl
  · blk_simp [idx t]
    exact congrArg (· + _) (Nat.mul_comm 256 _)
  · blk_simp [idx t]

end Cert.SsdInIdeal.Arr
end
-- ==== Proof.SsdIn.Reference.lean ====
module

public import proofs.«01_k».proof.Proof.Gen.SsdInReferenceIdeal.Run
public import proofs.«01_k».proof.Proof.SsdIn.Columns

@[expose] public section

set_option maxRecDepth 16384

noncomputable section

/-! What the reference of the second mixer's input projection computes, element by element. -/

namespace Cert.SsdInReferenceIdeal.Ref

open Cert.SsdInReferenceIdeal Cert.SsdInReferenceIdeal.Gen Cert.SsdColumns Idealize.ShloMosaic Idealize.ShloMosaic.TcCoe

/-- The modulated latents through the input weights. -/
def whole (x : FVec Ideal S4x8192x1024 .f32) (sh sc : FVec Ideal S4x1x1024 .f32) (w : FVec Ideal S1024x5184 .f32) : FVec Ideal S4x8192x5184 .f32 :=
  Host.dotGeneral dot_S4x8192x1024_S1024x5184_S4x8192x5184_2_0_01_1_n_n none
    (addf (mulf x (broadcastInDim S4x8192x1024 ![0, 1, 2] bcast_S4x1x1024_S4x8192x1024_0_1_2 (addf (broadcastInDim S4x1x1024 ![] bcast_S_S4x1x1024 (constant S_ .f32 0x3F800000#32)) sc)))
      (broadcastInDim S4x8192x1024 ![0, 1, 2] bcast_S4x1x1024_S4x8192x1024_0_1_2 sh)) w

/-- The convolved columns with a row of zeros on either side. -/
def wide (u : FVec Ideal S4x8192x5184 .f32) : FVec Ideal S4x8194x3072 .f32 :=
  pad S4x8194x3072 ![0, 1, 0] ![0, 1, 0] ![0, 0, 0] (extractStridedSlice S4x8192x3072 ![0, 0, 2048] u slices_S4x8192x5184_S4x8192x3072_0_0_2048)
    (sitofp .f32 (constantI S_ 32 0#32)) pads_S4x8192x3072_S4x8194x3072_000_110_000 h_S_

/-- A row of weights along the columns. -/
def along (v : FVec Ideal S3072 .f32) : FVec Ideal S4x8192x3072 .f32 :=
  broadcastInDim S4x8192x3072 ![0, 1, 2] bcast_S1x1x3072_S4x8192x3072_0_1_2 (broadcastInDim S1x1x3072 ![2] bcast_S3072_S1x1x3072_2 v)

/-- The convolution: three shifted copies, weighted and summed. -/
def three (p : FVec Ideal S4x8194x3072 .f32) (cw : FVec Ideal S3x3072 .f32) (cb : FVec Ideal S3072 .f32) : FVec Ideal S4x8192x3072 .f32 :=
  addf (addf (addf (addf (broadcastInDim S4x8192x3072 ![] bcast_S_S4x8192x3072 (constant S_ .f32 0x00000000#32))
      (mulf (extractStridedSlice S4x8192x3072 ![0, 0, 0] p slices_S4x8194x3072_S4x8192x3072_0_0_0) (along (shapeCast _ (extractStridedSlice S1x3072 ![0, 0] cw slices_S3x3072_S1x3072_0_0) shapeCasts_S1x3072_S3072))))
      (mulf (extractStridedSlice S4x8192x3072 ![0, 1, 0] p slices_S4x8194x3072_S4x8192x3072_0_1_0) (along (shapeCast _ (extractStridedSlice S1x3072 ![1, 0] cw slices_S3x3072_S1x3072_1_0) shapeCasts_S1x3072_S3072))))
      (mulf (extractStridedSlice S4x8192x3072 ![0, 2, 0] p slices_S4x8194x3072_S4x8192x3072_0_2_0) (along (shapeCast _ (extractStridedSlice S1x3072 ![2, 0] cw slices_S3x3072_S1x3072_2_0) shapeCasts_S1x3072_S3072))))
    (along cb)

/-- A number times its logistic, over the array. -/
def gate (y : FVec Ideal S4x8192x3072 .f32) : FVec Ideal S4x8192x3072 .f32 :=
  mulf y (Host.divf (broadcastInDim S4x8192x3072 ![] bcast_S_S4x8192x3072 (constant S_ .f32 0x3F800000#32))
    (addf (broadcastInDim S4x8192x3072 ![] bcast_S_S4x8192x3072 (constant S_ .f32 0x3F800000#32)) (Host.exp (Host.negf y))))

/-- Zeros. -/
def zeros : FVec Ideal S4x8192x32 .f32 := broadcastInDim S4x8192x32 ![] bcast_S_S4x8192x32 (constant S_ .f32 0x00000000#32)

/-- A direction's projections and its bias. -/
def biased (u : FVec Ideal S4x8192x32 .f32) (v : FVec Ideal S32 .f32) : FVec Ideal S4x8192x32 .f32 :=
  addf u (broadcastInDim S4x8192x32 ![0, 1, 2] bcast_S1x1x32_S4x8192x32_0_1_2 (broadcastInDim S1x1x32 ![2] bcast_S32_S1x1x32_2 v))

/-- The logarithm of one and the exponential, over the array. -/
def plus (y : FVec Ideal S4x8192x32 .f32) : FVec Ideal S4x8192x32 .f32 :=
  select (cmpf .une (subf y zeros) (subf y zeros)) (addf y zeros) (addf (maximumf y zeros) (Host.log1p (Host.exp (Host.negf (Host.absf (subf y zeros))))))

/-- The steps of both directions, laid head by head. -/
def steps (u : FVec Ideal S4x8192x5184 .f32) (bf bb : FVec Ideal S32 .f32) : FVec Ideal S4x64x8192 .f32 :=
  transpose S4x64x8192 [0, 2, 1] (concatenate S4x8192x64 2
    [⟨S4x8192x32, (plus (biased (extractStridedSlice S4x8192x32 ![0, 0, 0] (extractStridedSlice S4x8192x64 ![0, 0, 5120] u slices_S4x8192x5184_S4x8192x64_0_0_5120) slices_S4x8192x64_S4x8192x32_0_0_0) bf))⟩,
     ⟨S4x8192x32, (plus (biased (extractStridedSlice S4x8192x32 ![0, 0, 32] (extractStridedSlice S4x8192x64 ![0, 0, 5120] u slices_S4x8192x5184_S4x8192x64_0_0_5120) slices_S4x8192x64_S4x8192x32_0_0_32) bb))⟩]
    concatenates_S4x8192x32_S4x8192x32_S4x8192x64_d2) transposes_S4x8192x64_S4x64x8192_0_2_1

section
variable (m : (ℓ : Loc nD τ sig) → Buf (Elt Ideal) ℓ) (c : Dev nD)

/-- The arguments, by name. -/
abbrev aX : FVec Ideal S4x8192x1024 .f32 := m ((c.tc : Thread nD τ).loc main_arg0)
abbrev aSh : FVec Ideal S4x1x1024 .f32 := m ((c.tc : Thread nD τ).loc main_arg1)
abbrev aSc : FVec Ideal S4x1x1024 .f32 := m ((c.tc : Thread nD τ).loc main_arg2)
abbrev aW : FVec Ideal S1024x5184 .f32 := m ((c.tc : Thread nD τ).loc main_arg3)
abbrev aCw : FVec Ideal S3x3072 .f32 := m ((c.tc : Thread nD τ).loc main_arg4)
abbrev aCb : FVec Ideal S3072 .f32 := m ((c.tc : Thread nD τ).loc main_arg5)
abbrev aBf : FVec Ideal S32 .f32 := m ((c.tc : Thread nD τ).loc main_arg6)
abbrev aBb : FVec Ideal S32 .f32 := m ((c.tc : Thread nD τ).loc main_arg7)

/-- The results as these stages. -/
def resZ : FVec Ideal S4x8192x2048 .f32 := extractStridedSlice S4x8192x2048 ![0, 0, 0] (whole (aX m c) (aSh m c) (aSc m c) (aW m c)) slices_S4x8192x5184_S4x8192x2048_0_0_0
theorem res_xs : Value.res_main_v37 m c = extractStridedSlice S4x8192x2048 ![0, 0, 0] (gate (three (wide (whole (aX m c) (aSh m c) (aSc m c) (aW m c))) (aCw m c) (aCb m c))) slices_S4x8192x3072_S4x8192x2048_0_0_0 := rfl
theorem res_bm : Value.res_main_v38 m c = extractStridedSlice S4x8192x512 ![0, 0, 2048] (gate (three (wide (whole (aX m c) (aSh m c) (aSc m c) (aW m c))) (aCw m c) (aCb m c))) slices_S4x8192x3072_S4x8192x512_0_0_2048 := rfl
theorem res_cm : Value.res_main_v39 m c = extractStridedSlice S4x8192x512 ![0, 0, 2560] (gate (three (wide (whole (aX m c) (aSh m c) (aSc m c) (aW m c))) (aCw m c) (aCb m c))) slices_S4x8192x3072_S4x8192x512_0_0_2560 := rfl
theorem res_dt : Value.res_main_v51 m c = steps (whole (aX m c) (aSh m c) (aSc m c) (aW m c)) (aBf m c) (aBb m c) := rfl
end

/-- One element of the projection. -/
theorem whole_apply (x : FVec Ideal S4x8192x1024 .f32) (sh sc : FVec Ideal S4x1x1024 .f32) (w : FVec Ideal S1024x5184 .f32) (b : Fin 4) (i : Fin 8192) (f : Fin 5184) :
    whole x sh sc w (ix3 b i f) = proj x sh sc w b i f := by
  pointwise [whole, proj, mod]

/-- One element of the padded columns. -/
theorem wide_apply (u : FVec Ideal S4x8192x5184 .f32) (b : Fin 4) (n : Fin 8194) (f : Fin 3072) :
    wide u (ix3 b n f) = if h : 1 ≤ n.val ∧ n.val < 8193 then u (ix3 b ⟨n.val - 1, by omega⟩ ⟨2048 + f.val, by omega⟩) else 0 := by
  pointwise [wide]
  by_cases h : 1 ≤ n.val ∧ n.val < 8193
  · rw [dif_pos h, dif_pos (by omega)]
  · rw [dif_neg h, dif_neg (by omega)]
    show ((((0#32 : BitVec 32).toInt : ℝ)) : EReal) = 0
    norm_num

/-- One element of the convolution. -/
theorem three_apply (p : FVec Ideal S4x8194x3072 .f32) (cw : FVec Ideal S3x3072 .f32) (cb : FVec Ideal S3072 .f32) (b : Fin 4) (i : Fin 8192) (f : Fin 3072) :
    three p cw cb (ix3 b i f) = p (ix3 b ⟨i.val, by omega⟩ f) * cw (ix2 0 f) + p (ix3 b ⟨i.val + 1, by omega⟩ f) * cw (ix2 1 f) + p (ix3 b ⟨i.val + 2, by omega⟩ f) * cw (ix2 2 f) + cb (ix1 f) := by
  pointwise [three, along]
  simp only [Nat.add_comm 1 i.val, Nat.add_comm 2 i.val]

/-- One element of the gated array. -/
theorem gate_apply (y : FVec Ideal S4x8192x3072 .f32) (b : Fin 4) (i : Fin 8192) (f : Fin 3072) : gate y (ix3 b i f) = silu (y (ix3 b i f)) := by
  pointwise [gate]
  rfl

/-- One element of the steps before the laying out. -/
theorem plus_apply (y : FVec Ideal S4x8192x32 .f32) (b : Fin 4) (i : Fin 8192) (e : Fin 32) : plus y (ix3 b i e) = soft (y (ix3 b i e)) := by
  pointwise [plus, zeros, soft]
  rw [if_neg (fun h => h rfl), zero_sub]
  rfl

theorem biased_apply (y : FVec Ideal S4x8192x32 .f32) (v : FVec Ideal S32 .f32) (b : Fin 4) (i : Fin 8192) (e : Fin 32) : biased y v (ix3 b i e) = y (ix3 b i e) + v (ix1 e) := by
  pointwise [biased]

/-- One element of the steps. -/
theorem steps_apply (u : FVec Ideal S4x8192x5184 .f32) (bf bb : FVec Ideal S32 .f32) (b : Fin 4) (e : Fin 64) (i : Fin 8192) :
    steps u bf bb (ix3 b e i) = soft (u (ix3 b i ⟨5120 + e.val, by omega⟩) + bias bf bb e) := by
  unfold steps
  have hp := plus_apply
  generalize plus = q at hp ⊢
  have hb := biased_apply
  generalize biased = q' at hb ⊢
  pointwise [bias]
  split
  · rw [hp, hb]
    pointwise
  · rw [hp, hb]
    pointwise
    exact congrArg (fun x => soft (u (ix3 b i x) + _)) (Fin.ext (by show 5120 + (32 + (e.val - 32)) = 5120 + e.val; omega))

/-- One element of the gated convolution of the padded projections. -/
theorem xbc_apply (x : FVec Ideal S4x8192x1024 .f32) (sh sc : FVec Ideal S4x1x1024 .f32) (w : FVec Ideal S1024x5184 .f32) (cw : FVec Ideal S3x3072 .f32) (cb : FVec Ideal S3072 .f32)
    (b : Fin 4) (i : Fin 8192) (f : Fin 3072) : gate (three (wide (whole x sh sc w)) cw cb) (ix3 b i f) = silu (conv x sh sc w cw cb b i f) := by
  have hw : ∀ n : Fin 8194, wide (whole x sh sc w) (ix3 b n f) = padded x sh sc w b n.val f := fun n => by
    rw [wide_apply]
    unfold padded
    split
    · exact whole_apply x sh sc w b _ _
    · rfl
  rw [gate_apply, three_apply, hw, hw, hw, mul_comm, mul_comm (padded x sh sc w b _ f) (cw (ix2 1 f)), mul_comm (padded x sh sc w b _ f) (cw (ix2 2 f))]
  rfl

section
variable (m : (ℓ : Loc nD τ sig) → Buf (Elt Ideal) ℓ) (c : Dev nD) (b : Fin 4) (i : Fin 8192)

/-- THE FIVE RESULTS, element by element. -/
theorem z_at (f : Fin 2048) : resZ m c (ix3 b i f) = proj (aX m c) (aSh m c) (aSc m c) (aW m c) b i ⟨f.val, by omega⟩ := by
  unfold resZ
  have h := whole_apply (aX m c) (aSh m c) (aSc m c) (aW m c)
  generalize whole (aX m c) (aSh m c) (aSc m c) (aW m c) = v at h ⊢
  pointwise
  exact h _ _ _
theorem xs_at (f : Fin 2048) : (Value.res_main_v37 m c : FVec Ideal S4x8192x2048 .f32) (ix3 b i f)
    = silu (conv (aX m c) (aSh m c) (aSc m c) (aW m c) (aCw m c) (aCb m c) b i ⟨f.val, by omega⟩) := by
  rw [res_xs]
  have h := xbc_apply (aX m c) (aSh m c) (aSc m c) (aW m c) (aCw m c) (aCb m c)
  generalize gate (three (wide (whole (aX m c) (aSh m c) (aSc m c) (aW m c))) (aCw m c) (aCb m c)) = v at h ⊢
  pointwise
  exact h _ _ _
theorem bm_at (f : Fin 512) : (Value.res_main_v38 m c : FVec Ideal S4x8192x512 .f32) (ix3 b i f)
    = silu (conv (aX m c) (aSh m c) (aSc m c) (aW m c) (aCw m c) (aCb m c) b i ⟨2048 + f.val, by omega⟩) := by
  rw [res_bm]
  have h := xbc_apply (aX m c) (aSh m c) (aSc m c) (aW m c) (aCw m c) (aCb m c)
  generalize gate (three (wide (whole (aX m c) (aSh m c) (aSc m c) (aW m c))) (aCw m c) (aCb m c)) = v at h ⊢
  pointwise
  exact h _ _ _
theorem cm_at (f : Fin 512) : (Value.res_main_v39 m c : FVec Ideal S4x8192x512 .f32) (ix3 b i f)
    = silu (conv (aX m c) (aSh m c) (aSc m c) (aW m c) (aCw m c) (aCb m c) b i ⟨2560 + f.val, by omega⟩) := by
  rw [res_cm]
  have h := xbc_apply (aX m c) (aSh m c) (aSc m c) (aW m c) (aCw m c) (aCb m c)
  generalize gate (three (wide (whole (aX m c) (aSh m c) (aSc m c) (aW m c))) (aCw m c) (aCb m c)) = v at h ⊢
  pointwise
  exact h _ _ _
theorem dt_at (e : Fin 64) : (Value.res_main_v51 m c : FVec Ideal S4x64x8192 .f32) (ix3 b e i)
    = step (aX m c) (aSh m c) (aSc m c) (aW m c) (aBf m c) (aBb m c) b i e := by
  rw [res_dt, steps_apply, whole_apply]
  rfl
end

end Cert.SsdInReferenceIdeal.Ref
end
-- ==== Proof.SsdIn.Equation.lean ====
module

public import proofs.«01_k».proof.Proof.SsdIn.Array
public import proofs.«01_k».proof.Proof.SsdIn.Reference
public import proofs.«01_k».proof.Defs

@[expose] public section

set_option maxRecDepth 16384

noncomputable section

/-! The second mixer's input projection: the kernel's five results are the reference's, at all extended reals. -/

namespace Cert.SsdInIdeal.Way

open Cert.SsdInIdeal Cert.SsdInIdeal.Gen Cert.SsdColumns Idealize.ShloMosaic Idealize.ShloMosaic.TcCoe Idealize.SL.Sem

/-- An index of three coordinates. -/
theorem ix_three {p q s : ℕ} (y : (⟨3, ![p, q, s]⟩ : Shape).Idx) : y = ix3 (y 0) (y 1) (y 2) := by
  funext a
  match a with
  | ⟨0, _⟩ => rfl
  | ⟨1, _⟩ => rfl
  | ⟨2, _⟩ => rfl

/-- The kernel's arrays are the reference's, where the arguments are. -/
theorem agree (m : (ℓ : Loc Cert.SsdInIdeal.nD Cert.SsdInIdeal.τ Cert.SsdInIdeal.sig) → Buf (Elt Ideal) ℓ)
    (m' : (ℓ : Loc Cert.SsdInReferenceIdeal.nD Cert.SsdInReferenceIdeal.τ Cert.SsdInReferenceIdeal.sig) → Buf (Elt Ideal) ℓ) (c : Dev Cert.SsdInIdeal.nD)
    (e0 : m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0))
    (e1 : m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1))
    (e2 : m' ((c.tc : Thread Cert.SsdInReferenceIdeal.nD Cert.SsdInReferenceIdeal.τ).loc Cert.SsdInReferenceIdeal.main_arg2) = m ((c.tc : Thread Cert.SsdInIdeal.nD Cert.SsdInIdeal.τ).loc Cert.SsdInIdeal.main_arg2))
    (e3 : m' ((c.tc : Thread Cert.SsdInReferenceIdeal.nD Cert.SsdInReferenceIdeal.τ).loc Cert.SsdInReferenceIdeal.main_arg3) = m ((c.tc : Thread Cert.SsdInIdeal.nD Cert.SsdInIdeal.τ).loc Cert.SsdInIdeal.main_arg3))
    (e4 : m' ((c.tc : Thread Cert.SsdInReferenceIdeal.nD Cert.SsdInReferenceIdeal.τ).loc Cert.SsdInReferenceIdeal.main_arg4) = m ((c.tc : Thread Cert.SsdInIdeal.nD Cert.SsdInIdeal.τ).loc Cert.SsdInIdeal.main_arg4))
    (e5 : m' ((c.tc : Thread Cert.SsdInReferenceIdeal.nD Cert.SsdInReferenceIdeal.τ).loc Cert.SsdInReferenceIdeal.main_arg5) = m ((c.tc : Thread Cert.SsdInIdeal.nD Cert.SsdInIdeal.τ).loc Cert.SsdInIdeal.main_arg5))
    (e6 : m' ((c.tc : Thread Cert.SsdInReferenceIdeal.nD Cert.SsdInReferenceIdeal.τ).loc Cert.SsdInReferenceIdeal.main_arg6) = m ((c.tc : Thread Cert.SsdInIdeal.nD Cert.SsdInIdeal.τ).loc Cert.SsdInIdeal.main_arg6))
    (e7 : m' ((c.tc : Thread Cert.SsdInReferenceIdeal.nD Cert.SsdInReferenceIdeal.τ).loc Cert.SsdInReferenceIdeal.main_arg7) = m ((c.tc : Thread Cert.SsdInIdeal.nD Cert.SsdInIdeal.τ).loc Cert.SsdInIdeal.main_arg7)) :
    (dats m 0 c).arrAt 11 cfg0.N = Cert.SsdInReferenceIdeal.Ref.resZ m' c
    ∧ (dats m 0 c).arrAt 12 cfg0.N = Cert.SsdInReferenceIdeal.Value.res_main_v37 m' c
    ∧ (dats m 0 c).arrAt 13 cfg0.N = Cert.SsdInReferenceIdeal.Value.res_main_v38 m' c
    ∧ (dats m 0 c).arrAt 14 cfg0.N = Cert.SsdInReferenceIdeal.Value.res_main_v39 m' c
    ∧ (dats m 0 c).arrAt 15 cfg0.N = Cert.SsdInReferenceIdeal.Value.res_main_v51 m' c := by
  refine ⟨(Arr.z_eq m c).trans (funext fun (i : S4x8192x2048.Idx) => ?_), (Arr.xs_eq m c).trans (funext fun (i : S4x8192x2048.Idx) => ?_),
    (Arr.bm_eq m c).trans (funext fun (i : S4x8192x512.Idx) => ?_), (Arr.cm_eq m c).trans (funext fun (i : S4x8192x512.Idx) => ?_),
    (Arr.dt_eq m c).trans (funext fun (i : S4x64x8192.Idx) => ?_)⟩
  · refine Eq.trans ?_ ((Cert.SsdInReferenceIdeal.Ref.z_at m' c (i 0) (i 1) (i 2)).symm.trans (congrArg (Cert.SsdInReferenceIdeal.Ref.resZ m' c) (ix_three i).symm))
    simp only [Cert.SsdInReferenceIdeal.Ref.aX, Cert.SsdInReferenceIdeal.Ref.aSh, Cert.SsdInReferenceIdeal.Ref.aSc, Cert.SsdInReferenceIdeal.Ref.aW, Cert.SsdInReferenceIdeal.Ref.aCw, Cert.SsdInReferenceIdeal.Ref.aCb, Cert.SsdInReferenceIdeal.Ref.aBf, Cert.SsdInReferenceIdeal.Ref.aBb, e0, e1, e2, e3, e4, e5, e6, e7]
  · refine Eq.trans ?_ ((Cert.SsdInReferenceIdeal.Ref.xs_at m' c (i 0) (i 1) (i 2)).symm.trans (congrArg (Cert.SsdInReferenceIdeal.Value.res_main_v37 m' c) (ix_three i).symm))
    simp only [Cert.SsdInReferenceIdeal.Ref.aX, Cert.SsdInReferenceIdeal.Ref.aSh, Cert.SsdInReferenceIdeal.Ref.aSc, Cert.SsdInReferenceIdeal.Ref.aW, Cert.SsdInReferenceIdeal.Ref.aCw, Cert.SsdInReferenceIdeal.Ref.aCb, Cert.SsdInReferenceIdeal.Ref.aBf, Cert.SsdInReferenceIdeal.Ref.aBb, e0, e1, e2, e3, e4, e5, e6, e7]
  · refine Eq.trans ?_ ((Cert.SsdInReferenceIdeal.Ref.bm_at m' c (i 0) (i 1) (i 2)).symm.trans (congrArg (Cert.SsdInReferenceIdeal.Value.res_main_v38 m' c) (ix_three i).symm))
    simp only [Cert.SsdInReferenceIdeal.Ref.aX, Cert.SsdInReferenceIdeal.Ref.aSh, Cert.SsdInReferenceIdeal.Ref.aSc, Cert.SsdInReferenceIdeal.Ref.aW, Cert.SsdInReferenceIdeal.Ref.aCw, Cert.SsdInReferenceIdeal.Ref.aCb, Cert.SsdInReferenceIdeal.Ref.aBf, Cert.SsdInReferenceIdeal.Ref.aBb, e0, e1, e2, e3, e4, e5, e6, e7]
  · refine Eq.trans ?_ ((Cert.SsdInReferenceIdeal.Ref.cm_at m' c (i 0) (i 1) (i 2)).symm.trans (congrArg (Cert.SsdInReferenceIdeal.Value.res_main_v39 m' c) (ix_three i).symm))
    simp only [Cert.SsdInReferenceIdeal.Ref.aX, Cert.SsdInReferenceIdeal.Ref.aSh, Cert.SsdInReferenceIdeal.Ref.aSc, Cert.SsdInReferenceIdeal.Ref.aW, Cert.SsdInReferenceIdeal.Ref.aCw, Cert.SsdInReferenceIdeal.Ref.aCb, Cert.SsdInReferenceIdeal.Ref.aBf, Cert.SsdInReferenceIdeal.Ref.aBb, e0, e1, e2, e3, e4, e5, e6, e7]
  · refine Eq.trans ?_ ((Cert.SsdInReferenceIdeal.Ref.dt_at m' c (i 0) (i 2) (i 1)).symm.trans (congrArg (Cert.SsdInReferenceIdeal.Value.res_main_v51 m' c) (ix_three i).symm))
    simp only [Cert.SsdInReferenceIdeal.Ref.aX, Cert.SsdInReferenceIdeal.Ref.aSh, Cert.SsdInReferenceIdeal.Ref.aSc, Cert.SsdInReferenceIdeal.Ref.aW, Cert.SsdInReferenceIdeal.Ref.aCw, Cert.SsdInReferenceIdeal.Ref.aCb, Cert.SsdInReferenceIdeal.Ref.aBf, Cert.SsdInReferenceIdeal.Ref.aBb, e0, e1, e2, e3, e4, e5, e6, e7]

/-- The kernel's results are the reference's. -/
theorem equation : Cert.algebraic_SsdInIdeal_SsdInReferenceIdeal := fun m g m' g' _ e => by
  refine ⟨fun c => Cert.SsdInReferenceIdeal.Ref.resZ m' c, fun c => Cert.SsdInReferenceIdeal.Value.res_main_v37 m' c, fun c => Cert.SsdInReferenceIdeal.Value.res_main_v38 m' c,
    fun c => Cert.SsdInReferenceIdeal.Value.res_main_v39 m' c, fun c => Cert.SsdInReferenceIdeal.Value.res_main_v51 m' c,
    (θ_run _ _ _).mono (fun r h c => ?_) (Cert.SsdInIdeal.Value.run_blocks m g), Cert.SsdInReferenceIdeal.Value.run m' g'⟩
  obtain ⟨h0, h1, h2, h3, h4, hr⟩ := h c
  obtain ⟨e0, e1, e2, e3, e4, e5, e6, e7⟩ := e c
  obtain ⟨a0, a1, a2, a3, a4⟩ := agree m m' c e0 e1 e2 e3 e4 e5 e6 e7
  exact ⟨h0.trans a0, h1.trans a1, h2.trans a2, h3.trans a3, h4.trans a4, hr⟩

/-- The reference has no semaphore, and its run leaves its arguments as they were. -/
theorem reference_frame : Cert.quiescent_SsdInReferenceIdeal := fun m g _ =>
  (θ_run _ _ _).mono (fun r h => ⟨fun c => (h c).2.2.2.2.2, sem_eq_zero_of_no_sems rfl _⟩) (Cert.SsdInReferenceIdeal.Value.run m g)

end Cert.SsdInIdeal.Way
end
-- ==== Proof.Out.Norm.lean ====
module

public import Idealize.ShloMosaic.Lib.Pointwise

@[expose] public section

set_option maxRecDepth 16384

noncomputable section

/-! A row's residual sum, its norm and its modulation: the mathematics both mixers' outputs end with. -/

namespace Cert.OutNorm

open Idealize.ShloMosaic

/-- The constants: the residual's weight, the norm's guard, the row's length, and one. -/
def alpha : EReal := Ideal.ofBits .f32 0x3FB504F3#32
def guard : EReal := Ideal.ofBits .f32 0x3727C5AC#32
def len : EReal := Ideal.ofBits .f32 0x44800000#32

/-- A row's mean. -/
def mean (r : Fin 1024 → EReal) : EReal := Ideal.div (∑ k, r k) len

/-- A row less its mean. -/
def dev (r : Fin 1024 → EReal) (k : Fin 1024) : EReal := r k - mean r

/-- A row's norm: its deviations over their root mean square, scaled and shifted. -/
def norm (r g b : Fin 1024 → EReal) (k : Fin 1024) : EReal :=
  dev r k * Ideal.rsqrt (mean (fun k => dev r k * dev r k) + guard) * g k + b k

/-- The norm, modulated. -/
def modulated (r g b sc sh : Fin 1024 → EReal) (k : Fin 1024) : EReal := norm r g b k * (1 + sc k) + sh k

/-- The residual sum: the weighted stream and the gated update. -/
def carried (x gate u : Fin 1024 → EReal) (k : Fin 1024) : EReal := alpha * x k + gate k * u k

/-- An index of a block, by its two free coordinates. -/
theorem ix_free {p q : ℕ} (y : (⟨3, ![1, p, q]⟩ : Shape).Idx) : y = ix3 0 (y 1) (y 2) := by
  funext a
  match a with
  | ⟨0, _⟩ => exact Subsingleton.elim (α := Fin 1) _ _
  | ⟨1, _⟩ => rfl
  | ⟨2, _⟩ => rfl

/-- An index of three coordinates. -/
theorem ix_full {p q s : ℕ} (y : (⟨3, ![p, q, s]⟩ : Shape).Idx) : y = ix3 (y 0) (y 1) (y 2) := by
  funext a
  match a with
  | ⟨0, _⟩ => rfl
  | ⟨1, _⟩ => rfl
  | ⟨2, _⟩ => rfl

/-- A function of three coordinates depends on their numbers alone. -/
theorem of_nat {p q s : ℕ} (f : Fin p → Fin q → Fin s → EReal) {x x' : Fin p} {y y' : Fin q} {z z' : Fin s} (hx : x.val = x'.val) (hy : y.val = y'.val) (hz : z.val = z'.val) :
    f x y z = f x' y' z' := by
  rw [Fin.ext hx, Fin.ext hy, Fin.ext hz]

section results
variable (row : Fin 4 → Fin 8192 → Fin 1024 → EReal) (g b : FVec Ideal ⟨1, ![1024]⟩ .f32) (sh sc : FVec Ideal ⟨3, ![4, 1, 1024]⟩ .f32)

/-- The two results of a mixer's output, from its residual rows: the norm and the modulated norm. -/
def normed (n : Fin 4) (i : Fin 8192) (f : Fin 1024) : EReal := norm (row n i) (fun k => g (ix1 k)) (fun k => b (ix1 k)) f
def fed (n : Fin 4) (i : Fin 8192) (f : Fin 1024) : EReal :=
  modulated (row n i) (fun k => g (ix1 k)) (fun k => b (ix1 k)) (fun k => sc (ix3 n 0 k)) (fun k => sh (ix3 n 0 k)) f
end results

end Cert.OutNorm
end
-- ==== Proof.SsdOut.Rows.lean ====
module

public import proofs.«01_k».proof.Proof.Out.Norm

@[expose] public section

set_option maxRecDepth 16384

noncomputable section

/-! The second mixer's residual rows: the mathematics both the kernel's blocks and the reference's arrays hold. -/

namespace Cert.SsdRows

open Cert.OutNorm Idealize.ShloMosaic

/-- The constants: a group's width and its norm's guard. -/
def width : EReal := Ideal.ofBits .f32 0x44000000#32
def guardR : EReal := Ideal.ofBits .f32 0x358637BD#32

/-- A number times its logistic. -/
def silu (z : EReal) : EReal := z * Ideal.logistic z

/-- One gated element: both directions and the skipped input, by the gate. -/
def gatedOf (yf yb xs d z : EReal) : EReal := (yf + yb + xs * d) * silu z

/-- The inverse of a group's root mean square. -/
def invRms (u : Fin 512 → EReal) : EReal := Ideal.rsqrt (Ideal.div (∑ k, u k * u k) width + guardR)

/-- The group an index of 2048 lies in, whole. -/
def group (y : Fin 2048 → EReal) (e : Fin 2048) (k : Fin 512) : EReal := y ⟨512 * (e.val / 512) + k.val, by omega⟩

/-- A row after its groups' norms. -/
def grouped (y g : Fin 2048 → EReal) (e : Fin 2048) : EReal := y e * invRms (group y e) * g e

/-- A row through the output weights. -/
def through (y g : Fin 2048 → EReal) (w : Fin 2048 → Fin 1024 → EReal) (f : Fin 1024) : EReal := ∑ k : Fin 2048, grouped y g k * w k f

section
variable (x : FVec Ideal ⟨3, ![4, 8192, 1024]⟩ .f32) (yf yb xs z : FVec Ideal ⟨3, ![4, 8192, 2048]⟩ .f32) (d : FVec Ideal ⟨1, ![32]⟩ .f32)
  (ng : FVec Ideal ⟨1, ![2048]⟩ .f32) (w : FVec Ideal ⟨2, ![2048, 1024]⟩ .f32) (gate : FVec Ideal ⟨3, ![4, 1, 1024]⟩ .f32) (n : Fin 4) (i : Fin 8192)

/-- The gated row. -/
def gatedRow (e : Fin 2048) : EReal := gatedOf (yf (ix3 n i e)) (yb (ix3 n i e)) (xs (ix3 n i e)) (d (ix1 ⟨e.val / 64, by omega⟩)) (z (ix3 n i e))

/-- The residual row. -/
def ssdRow : Fin 1024 → EReal :=
  carried (fun f => x (ix3 n i f)) (fun f => gate (ix3 n 0 f)) (through (gatedRow yf yb xs z d n i) (fun e => ng (ix1 e)) (fun k f => w (ix2 k f)))
end

end Cert.SsdRows
end
-- ==== Proof.SsdOut.Block.lean ====
module

public import proofs.«01_k».proof.Proof.Gen.SsdOutIdeal.Frame
public import proofs.«01_k».proof.Proof.SsdOut.Rows

@[expose] public section

set_option maxRecDepth 16384

noncomputable section

/-! What one block of the second mixer's output computes, from the blocks it reads. -/

namespace Cert.SsdOutIdeal.Blk

open Cert.SsdOutIdeal Cert.SsdOutIdeal.Gen Cert.OutNorm Cert.SsdRows Idealize.ShloMosaic Idealize.ShloMosaic.TcCoe

/-- One element of the gated rows. -/
theorem pay3_apply (z yf yb xs : Vec Ideal S1x256x2048 .f32) (d : Vec Ideal S1x1x2048 .f32) (r : Fin 256) (e : Fin 2048) :
    k0_pay3 (F := Ideal) z yf yb xs d (ix2 r e) = gatedOf (yf (ix3 0 r e)) (yb (ix3 0 r e)) (xs (ix3 0 r e)) (d (ix3 0 0 e)) (z (ix3 0 r e)) := by
  pointwise [k0_pay3, gatedOf, silu]

/-- A group's columns over their root mean square. -/
def unit (u : FVec Ideal S256x512 .f32) : FVec Ideal S256x512 .f32 :=
  mulf u (broadcastTo S256x512 (rsqrt (addf (divf (shapeCast S256x1 (multiReduction .add [1] S256 (mulf u u) 0x00000000#32 reduces_S256x512_S256 (.inl rfl) rfl) shapeCasts_S256_S256x1)
    (broadcast S256x1 (Scalar.ofBits .f32 0x44000000#32))) (broadcast S256x1 (Scalar.ofBits .f32 0x358637BD#32)))) broadcasts_S256x1_S256x512)

theorem unit_apply (u : FVec Ideal S256x512 .f32) (r : Fin 256) (k : Fin 512) : unit u (ix2 r k) = u (ix2 r k) * invRms (fun k => u (ix2 r k)) := by
  pointwise [unit, invRms, width, guardR]

/-- The four groups, normed and laid side by side. -/
def four (y : FVec Ideal S256x2048 .f32) : FVec Ideal S256x2048 .f32 :=
  concatenate S256x2048 1 [⟨S256x512, unit (extractStridedSlice S256x512 ![0, 0] y slices_S256x2048_o0_0_S256x512)⟩,
    ⟨S256x512, unit (extractStridedSlice S256x512 ![0, 512] y slices_S256x2048_o0_512_S256x512)⟩,
    ⟨S256x512, unit (extractStridedSlice S256x512 ![0, 1024] y slices_S256x2048_o0_1024_S256x512)⟩,
    ⟨S256x512, unit (extractStridedSlice S256x512 ![0, 1536] y slices_S256x2048_o0_1536_S256x512)⟩] concatenates_S256x512_S256x512_S256x512_S256x512_S256x2048_d1

theorem four_apply (y : FVec Ideal S256x2048 .f32) (r : Fin 256) (e : Fin 2048) :
    four y (ix2 r e) = y (ix2 r e) * invRms (group (fun e => y (ix2 r e)) e) := by
  have h := unit_apply
  unfold four
  generalize unit = q at h ⊢
  pointwise
  simp only [h]
  pointwise
  have key : ∀ (a : Fin 2048) (o : ℕ) (hb : ∀ k : Fin 512, o + k.val < 2048), a.val = e.val → o = 512 * (e.val / 512) →
      y (ix2 r a) * invRms (fun k : Fin 512 => y (ix2 r ⟨o + k.val, hb k⟩)) = y (ix2 r e) * invRms (group (fun e => y (ix2 r e)) e) := fun a o hb ha ho => by
    subst ho
    rw [Fin.ext ha]
    rfl
  have he := e.isLt
  split
  · refine Eq.trans (congrArg (fun u => y (ix2 r e) * invRms u) (funext fun k => congrArg (fun a => y (ix2 r a)) (Fin.ext (Nat.zero_add k.val).symm))) (key e 0 (fun k => by omega) rfl (by omega))
  · split
    · exact key _ 512 (fun k => by omega) (by show 512 + (e.val - 512) = e.val; omega) (by omega)
    · split
      · exact key _ 1024 (fun k => by omega) (by show 1024 + (e.val - 512 - 512) = e.val; omega) (by omega)
      · exact key _ 1536 (fun k => by omega) (by show 1536 + (e.val - 512 - 512 - 512) = e.val; omega) (by omega)

/-- The groups' norm by its weights, through the output weights, by the gate. -/
def updated (v : FVec Ideal S256x2048 .f32) (n : Vec Ideal S1x1x2048 .f32) (w : Vec Ideal S2048x1024 .bf16) (g : Vec Ideal S1x1x1024 .f32) : FVec Ideal S256x1024 .f32 :=
  mulf (broadcastTo S256x1024 (shapeCast S1x1024 g shapeCasts_S1x1x1024_S1x1024) broadcasts_S1x1024_S256x1024)
    (matmul dot_S256x2048_S2048x1024_S256x1024_1_0_0_1_n_n none (truncf .bf16 (mulf v (broadcastTo S256x2048 (shapeCast S1x2048 n shapeCasts_S1x1x2048_S1x2048) broadcasts_S1x2048_S256x2048)) bitsLt_bf16_f32)
      (shapeCast S2048x1024 w shapeCasts_S2048x1024_S2048x1024 : FVec Ideal S2048x1024 .bf16) (constant S256x1024 .f32 0x00000000#32))

theorem updated_apply (v : FVec Ideal S256x2048 .f32) (n : Vec Ideal S1x1x2048 .f32) (w : Vec Ideal S2048x1024 .bf16) (g : Vec Ideal S1x1x1024 .f32) (r : Fin 256) (f : Fin 1024) :
    updated v n w g (ix2 r f) = g (ix3 0 0 f) * ∑ k : Fin 2048, v (ix2 r k) * n (ix3 0 0 k) * w (ix2 k f) := by
  pointwise [updated]

theorem pay8_eq (z yf yb xs : Vec Ideal S1x256x2048 .f32) (d n : Vec Ideal S1x1x2048 .f32) (w : Vec Ideal S2048x1024 .bf16) (g : Vec Ideal S1x1x1024 .f32) :
    k0_pay8 (F := Ideal) (k0_pay3 z yf yb xs d) (k0_pay4 z yf yb xs d) (k0_pay5 z yf yb xs d) (k0_pay6 z yf yb xs d) n w g
      = updated (four (k0_pay3 (F := Ideal) z yf yb xs d)) n w g := rfl

/-- The mean of a block's row, along the row. -/
def means (u : FVec Ideal S256x1024 .f32) : FVec Ideal S256x1024 .f32 :=
  broadcastTo S256x1024 (divf (shapeCast S256x1 (multiReduction .add [1] S256 u 0x00000000#32 reduces_S256x1024_S256 (.inl rfl) rfl) shapeCasts_S256_S256x1)
    (broadcast S256x1 (Scalar.ofBits .f32 0x44800000#32))) broadcasts_S256x1_S256x1024

theorem means_apply (u : FVec Ideal S256x1024 .f32) (r : Fin 256) (f : Fin 1024) : means u (ix2 r f) = mean (fun k => u (ix2 r k)) := by
  pointwise [means, mean, len]

/-- The rows' norm. -/
def norms (u v : FVec Ideal S256x1024 .f32) (g b : Vec Ideal S1x1x1024 .f32) : FVec Ideal S256x1024 .f32 :=
  addf (mulf (mulf (subf u v) (broadcastTo S256x1024 (rsqrt (addf (divf (shapeCast S256x1 (multiReduction .add [1] S256 (mulf (subf u v) (subf u v)) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024))
    (broadcastTo S256x1024 (shapeCast S1x1024 g shapeCasts_S1x1x1024_S1x1024) broadcasts_S1x1024_S256x1024))
    (broadcastTo S256x1024 (shapeCast S1x1024 b shapeCasts_S1x1x1024_S1x1024) broadcasts_S1x1024_S256x1024)

theorem pay9_eq (p q : FVec Ideal S256x1024 .f32) (g b : Vec Ideal S1x1x1024 .f32) : k0_pay9 (F := Ideal) p q g b = norms (addf p q) (means (addf p q)) g b := rfl

theorem norms_apply (u : FVec Ideal S256x1024 .f32) (g b : Vec Ideal S1x1x1024 .f32) (r : Fin 256) (f : Fin 1024) :
    norms u (means u) g b (ix2 r f) = norm (fun k => u (ix2 r k)) (fun k => g (ix3 0 0 k)) (fun k => b (ix3 0 0 k)) f := by
  have h := means_apply u
  generalize means u = v at h ⊢
  pointwise [norms]
  simp only [h]
  rfl

/-- One element of the modulated rows. -/
theorem pay11_apply (p q : FVec Ideal S256x1024 .f32) (g b sc sh : Vec Ideal S1x1x1024 .f32) (r : Fin 256) (f : Fin 1024) :
    k0_pay11 (F := Ideal) p q g b sc sh (ix2 r f) = k0_pay9 (F := Ideal) p q g b (ix2 r f) * (1 + sc (ix3 0 0 f)) + sh (ix3 0 0 f) := by
  unfold k0_pay11
  generalize k0_pay9 (F := Ideal) p q g b = v
  pointwise

theorem pay7_apply (x : Vec Ideal S1x256x1024 .f32) (r : Fin 256) (f : Fin 1024) : k0_pay7 (F := Ideal) x (ix2 r f) = alpha * x (ix3 0 r f) := by
  pointwise [k0_pay7, alpha]

/-- A load of a whole block. -/
theorem ld0 (x : Vec Ideal S1x256x2048 .f32) : View.ld x r0_0 = x := View.ld_unit_zero (by decide) _ x
theorem ld1 (x : Vec Ideal S1x1x2048 .f32) : View.ld x r0_1 = x := View.ld_unit_zero (by decide) _ x
theorem ld2 (x : Vec Ideal S1x256x1024 .f32) : View.ld x r0_2 = x := View.ld_unit_zero (by decide) _ x
theorem ld3 (x : Vec Ideal S2048x1024 .bf16) : View.ld x r0_3 = x := View.ld_unit_zero (by decide) _ x
theorem ld4 (x : Vec Ideal S1x1x1024 .f32) : View.ld x r0_4 = x := View.ld_unit_zero (by decide) _ x

section outs
variable (x0 : Vec Ideal S1x256x1024 .f32) (x1 x2 x3 x4 : Vec Ideal S1x256x2048 .f32) (x5 x6 : Vec Ideal S1x1x2048 .f32) (x7 : Vec Ideal S2048x1024 .bf16) (x8 x9 x10 x11 x12 : Vec Ideal S1x1x1024 .f32)

/-- A block's gated row and its residual row, from the blocks the body reads. -/
def gatedRow (x1 x2 x3 x4 : Vec Ideal S1x256x2048 .f32) (x5 : Vec Ideal S1x1x2048 .f32) (r : Fin 256) (e : Fin 2048) : EReal :=
  gatedOf (x1 (ix3 0 r e)) (x2 (ix3 0 r e)) (x3 (ix3 0 r e)) (x5 (ix3 0 0 e)) (x4 (ix3 0 r e))
def row (x0 : Vec Ideal S1x256x1024 .f32) (x1 x2 x3 x4 : Vec Ideal S1x256x2048 .f32) (x5 x6 : Vec Ideal S1x1x2048 .f32) (x7 : Vec Ideal S2048x1024 .bf16) (x8 : Vec Ideal S1x1x1024 .f32) (r : Fin 256) : Fin 1024 → EReal :=
  carried (fun f => x0 (ix3 0 r f)) (fun f => x8 (ix3 0 0 f)) (through (gatedRow x1 x2 x3 x4 x5 r) (fun e => x6 (ix3 0 0 e)) (fun k f => x7 (ix2 k f)))

theorem pay12_eq : k0_pay12 (F := Ideal) x0 x1 x2 x3 x4 x5 x6 x7 x8 x9 x10 x11 x12 = k0_pay7 (F := Ideal) x0 := by
  rw [k0_pay12, ld2]
theorem pay13_eq : k0_pay13 (F := Ideal) x0 x1 x2 x3 x4 x5 x6 x7 x8 x9 x10 x11 x12 = updated (four (k0_pay3 (F := Ideal) x4 x1 x2 x3 x5)) x6 x7 x8 := by
  rw [k0_pay13, ld0, ld0, ld0, ld0, ld1, ld1, ld3, ld4, pay8_eq]

theorem row_eq (r : Fin 256) : (fun k => addf (k0_pay7 (F := Ideal) x0) (updated (four (k0_pay3 (F := Ideal) x4 x1 x2 x3 x5)) x6 x7 x8) (ix2 r k)) = row x0 x1 x2 x3 x4 x5 x6 x7 x8 r := by
  funext f
  show k0_pay7 (F := Ideal) x0 (ix2 r f) + updated (four (k0_pay3 (F := Ideal) x4 x1 x2 x3 x5)) x6 x7 x8 (ix2 r f) = _
  rw [pay7_apply, updated_apply]
  simp only [four_apply, pay3_apply]
  rfl

/-- The rows' norm, whole. -/
theorem normed_apply (r : Fin 256) (f : Fin 1024) : k0_pay9 (F := Ideal) (k0_pay12 x0 x1 x2 x3 x4 x5 x6 x7 x8 x9 x10 x11 x12) (k0_pay13 x0 x1 x2 x3 x4 x5 x6 x7 x8 x9 x10 x11 x12) x9 x10 (ix2 r f)
    = norm (row x0 x1 x2 x3 x4 x5 x6 x7 x8 r) (fun k => x9 (ix3 0 0 k)) (fun k => x10 (ix3 0 0 k)) f := by
  rw [pay12_eq, pay13_eq, pay9_eq, norms_apply, row_eq]
theorem fed_apply (r : Fin 256) (f : Fin 1024) : k0_pay14 (F := Ideal) x0 x1 x2 x3 x4 x5 x6 x7 x8 x9 x10 x11 x12 (ix2 r f)
    = modulated (row x0 x1 x2 x3 x4 x5 x6 x7 x8 r) (fun k => x9 (ix3 0 0 k)) (fun k => x10 (ix3 0 0 k)) (fun k => x12 (ix3 0 0 k)) (fun k => x11 (ix3 0 0 k)) f := by
  rw [k0_pay14, ld4, ld4, ld4, ld4, pay11_apply, normed_apply]
  rfl

/-- The three blocks the body stores. -/
theorem out_x (r : Fin 256) (f : Fin 1024) : out0_13 (F := Ideal) x0 x1 x2 x3 x4 x5 x6 x7 x8 x9 x10 x11 x12 (ix3 0 r f)
    = norm (row x0 x1 x2 x3 x4 x5 x6 x7 x8 r) (fun k => x9 (ix3 0 0 k)) (fun k => x10 (ix3 0 0 k)) f := by
  rw [out0_13, View.canon_cons_unit_zero (by decide) _ _ _, ld4, ld4, ← normed_apply, k0_pay10]
  generalize k0_pay9 (F := Ideal) _ _ _ _ = v
  pointwise
theorem out_ff (r : Fin 256) (f : Fin 1024) : out0_14 (F := Ideal) x0 x1 x2 x3 x4 x5 x6 x7 x8 x9 x10 x11 x12 (ix3 0 r f)
    = modulated (row x0 x1 x2 x3 x4 x5 x6 x7 x8 r) (fun k => x9 (ix3 0 0 k)) (fun k => x10 (ix3 0 0 k)) (fun k => x12 (ix3 0 0 k)) (fun k => x11 (ix3 0 0 k)) f := by
  rw [out0_14, View.canon_cons_unit_zero (by decide) _ _ _, ← fed_apply, k0_pay1]
  generalize k0_pay14 (F := Ideal) _ _ _ _ _ _ _ _ _ _ _ _ _ = v
  pointwise
theorem out_half (r : Fin 256) (f : Fin 1024) : out0_15 (F := Ideal) x0 x1 x2 x3 x4 x5 x6 x7 x8 x9 x10 x11 x12 (ix3 0 r f)
    = modulated (row x0 x1 x2 x3 x4 x5 x6 x7 x8 r) (fun k => x9 (ix3 0 0 k)) (fun k => x10 (ix3 0 0 k)) (fun k => x12 (ix3 0 0 k)) (fun k => x11 (ix3 0 0 k)) f := by
  rw [out0_15, View.canon_cons_unit_zero (by decide) _ _ _, ← fed_apply, k0_pay2]
  generalize k0_pay14 (F := Ideal) _ _ _ _ _ _ _ _ _ _ _ _ _ = v
  pointwise
end outs

end Cert.SsdOutIdeal.Blk
end
-- ==== Proof.SsdOut.Array.lean ====
module

public import proofs.«01_k».proof.Proof.SsdOut.Block
public import proofs.«01_k».proof.Proof.SsdOut.Rows
public import Idealize.ShloMosaic.Lib.Pipeline.ValueKit

@[expose] public section

set_option maxRecDepth 16384

noncomputable section

/-! What the second mixer's three result arrays hold, from the program's arguments. -/

namespace Cert.SsdOutIdeal.Arr

open Cert.SsdOutIdeal Cert.SsdOutIdeal.Gen Cert.OutNorm Cert.SsdRows Idealize.ShloMosaic Idealize.ShloMosaic.TcCoe Idealize.SL.Sem

variable (m : (ℓ : Loc nD τ sig) → Buf (Elt Ideal) ℓ) (c : Dev nD)

/-- The rows of weights and the output weights as the host hands them over. -/
theorem V_d : (V m c main_v2 : FVec Ideal S1x1x2048 .f32) = (shapeCast S1x1x2048 (shapeCast S2048 (broadcastInDim S32x64 ![0] bcast_S32_S32x64_0 (m (c, main_arg5) : FVec Ideal S32 .f32)) shapeCasts_S32x64_S2048) shapeCasts_S2048_S1x1x2048 : FVec Ideal S1x1x2048 .f32) := by
  unfold_abbrev_sides
  after_results
  rfl
theorem V_n : (V m c main_v3 : FVec Ideal S1x1x2048 .f32) = (shapeCast S1x1x2048 (m (c, main_arg6) : FVec Ideal S2048 .f32) shapeCasts_S2048_S1x1x2048 : FVec Ideal S1x1x2048 .f32) := by
  unfold_abbrev_sides
  after_results
  rfl
theorem V_w : (V m c main_v4 : FVec Ideal S2048x1024 .bf16) = (truncf .bf16 (m (c, main_arg7) : FVec Ideal S2048x1024 .f32) bitsLt_bf16_f32 : FVec Ideal S2048x1024 .bf16) := by
  unfold_abbrev_sides
  after_results
theorem V_g : (V m c main_v5 : FVec Ideal S1x1x1024 .f32) = (shapeCast S1x1x1024 (m (c, main_arg9) : FVec Ideal S1024 .f32) shapeCasts_S1024_S1x1x1024 : FVec Ideal S1x1x1024 .f32) := by
  unfold_abbrev_sides
  after_results
  rfl
theorem V_b : (V m c main_v6 : FVec Ideal S1x1x1024 .f32) = (shapeCast S1x1x1024 (m (c, main_arg10) : FVec Ideal S1024 .f32) shapeCasts_S1024_S1x1x1024 : FVec Ideal S1x1x1024 .f32) := by
  unfold_abbrev_sides
  after_results
  rfl

/-- The blocks' places, by grid point. -/
theorem idx : ∀ t : Fin grid0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![0, 0, 0]
    ∧ win0_6.index t = ![0, 0, 0]
    ∧ win0_7.index t = ![0, 0]
    ∧ win0_8.index t = ![(grid0.coords t 0).val, 0, 0]
    ∧ win0_9.index t = ![0, 0, 0]
    ∧ win0_10.index t = ![0, 0, 0]
    ∧ win0_11.index t = ![(grid0.coords t 0).val, 0, 0]
    ∧ win0_12.index t = ![(grid0.coords t 0).val, 0, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0] := by decide +kernel

/-- A grid point's coordinates: batch and block of rows. -/
def pb (t : Fin grid0.N) : Fin 4 := ⟨(grid0.coords t 0).val, (grid0.coords t 0).isLt⟩
def pi (t : Fin grid0.N) : Fin 32 := ⟨(grid0.coords t 1).val, (grid0.coords t 1).isLt⟩

/-- The blocks the body reads, from the arguments. -/
theorem x_blk (t : Fin cfg0.N) (r : Fin 256) (k : Fin 1024) :
    (iblk m c 0 t : Vec Ideal S1x256x1024 .f32) (ix3 0 r k) = (m (c, main_arg0) : FVec Ideal S4x8192x1024 .f32) (ix3 (pb t) ⟨256 * (pi t).val + r.val, by omega⟩ k) := by
  rw [← V_main_arg0 m c]
  blk_ext [iblk, idx t, pb, pi]
theorem yf_blk (t : Fin cfg0.N) (r : Fin 256) (k : Fin 2048) :
    (iblk m c 1 t : Vec Ideal S1x256x2048 .f32) (ix3 0 r k) = (m (c, main_arg1) : FVec Ideal S4x8192x2048 .f32) (ix3 (pb t) ⟨256 * (pi t).val + r.val, by omega⟩ k) := by
  rw [← V_main_arg1 m c]
  blk_ext [iblk, idx t, pb, pi]
theorem yb_blk (t : Fin cfg0.N) (r : Fin 256) (k : Fin 2048) :
    (iblk m c 2 t : Vec Ideal S1x256x2048 .f32) (ix3 0 r k) = (m (c, main_arg2) : FVec Ideal S4x8192x2048 .f32) (ix3 (pb t) ⟨256 * (pi t).val + r.val, by omega⟩ k) := by
  rw [← V_main_arg2 m c]
  blk_ext [iblk, idx t, pb, pi]
theorem xs_blk (t : Fin cfg0.N) (r : Fin 256) (k : Fin 2048) :
    (iblk m c 3 t : Vec Ideal S1x256x2048 .f32) (ix3 0 r k) = (m (c, main_arg3) : FVec Ideal S4x8192x2048 .f32) (ix3 (pb t) ⟨256 * (pi t).val + r.val, by omega⟩ k) := by
  rw [← V_main_arg3 m c]
  blk_ext [iblk, idx t, pb, pi]
theorem z_blk (t : Fin cfg0.N) (r : Fin 256) (k : Fin 2048) :
    (iblk m c 4 t : Vec Ideal S1x256x2048 .f32) (ix3 0 r k) = (m (c, main_arg4) : FVec Ideal S4x8192x2048 .f32) (ix3 (pb t) ⟨256 * (pi t).val + r.val, by omega⟩ k) := by
  rw [← V_main_arg4 m c]
  blk_ext [iblk, idx t, pb, pi]
theorem d_blk (t : Fin cfg0.N) (e : Fin 2048) :
    (iblk m c 5 t : Vec Ideal S1x1x2048 .f32) (ix3 0 0 e) = (m (c, main_arg5) : FVec Ideal S32 .f32) (ix1 ⟨e.val / 64, by omega⟩) := by
  have h : (iblk m c 5 t : Vec Ideal S1x1x2048 .f32) (ix3 0 0 e) = (V m c main_v2 : FVec Ideal S1x1x2048 .f32) (ix3 0 0 e) := by blk_ext [iblk, idx t, pb, pi]
  rw [h, V_d]
  pointwise
theorem n_blk (t : Fin cfg0.N) (e : Fin 2048) :
    (iblk m c 6 t : Vec Ideal S1x1x2048 .f32) (ix3 0 0 e) = (m (c, main_arg6) : FVec Ideal S2048 .f32) (ix1 e) := by
  have h : (iblk m c 6 t : Vec Ideal S1x1x2048 .f32) (ix3 0 0 e) = (V m c main_v3 : FVec Ideal S1x1x2048 .f32) (ix3 0 0 e) := by blk_ext [iblk, idx t, pb, pi]
  rw [h, V_n]
  pointwise
theorem w_blk (t : Fin cfg0.N) (k : Fin 2048) (f : Fin 1024) :
    (iblk m c 7 t : Vec Ideal S2048x1024 .bf16) (ix2 k f) = (m (c, main_arg7) : FVec Ideal S2048x1024 .f32) (ix2 k f) := by
  have h : (iblk m c 7 t : Vec Ideal S2048x1024 .bf16) (ix2 k f) = (V m c main_v4 : FVec Ideal S2048x1024 .bf16) (ix2 k f) := by blk_ext [iblk, idx t, pb, pi]
  rw [h, V_w]
  pointwise
theorem g_blk (t : Fin cfg0.N) (k : Fin 1024) :
    (iblk m c 9 t : Vec Ideal S1x1x1024 .f32) (ix3 0 0 k) = (m (c, main_arg9) : FVec Ideal S1024 .f32) (ix1 k) := by
  have h : (iblk m c 9 t : Vec Ideal S1x1x1024 .f32) (ix3 0 0 k) = (V m c main_v5 : FVec Ideal S1x1x1024 .f32) (ix3 0 0 k) := by blk_ext [iblk, idx t, pb, pi]
  rw [h, V_g]
  pointwise
theorem b_blk (t : Fin cfg0.N) (k : Fin 1024) :
    (iblk m c 10 t : Vec Ideal S1x1x1024 .f32) (ix3 0 0 k) = (m (c, main_arg10) : FVec Ideal S1024 .f32) (ix1 k) := by
  have h : (iblk m c 10 t : Vec Ideal S1x1x1024 .f32) (ix3 0 0 k) = (V m c main_v6 : FVec Ideal S1x1x1024 .f32) (ix3 0 0 k) := by blk_ext [iblk, idx t, pb, pi]
  rw [h, V_b]
  pointwise
theorem gate_blk (t : Fin cfg0.N) (k : Fin 1024) :
    (iblk m c 8 t : Vec Ideal S1x1x1024 .f32) (ix3 0 0 k) = (m (c, main_arg8) : FVec Ideal S4x1x1024 .f32) (ix3 (pb t) 0 k) := by
  rw [← V_main_arg8 m c]
  blk_ext [iblk, idx t, pb, pi]
theorem sh_blk (t : Fin cfg0.N) (k : Fin 1024) :
    (iblk m c 11 t : Vec Ideal S1x1x1024 .f32) (ix3 0 0 k) = (m (c, main_arg11) : FVec Ideal S4x1x1024 .f32) (ix3 (pb t) 0 k) := by
  rw [← V_main_arg11 m c]
  blk_ext [iblk, idx t, pb, pi]
theorem sc_blk (t : Fin cfg0.N) (k : Fin 1024) :
    (iblk m c 12 t : Vec Ideal S1x1x1024 .f32) (ix3 0 0 k) = (m (c, main_arg12) : FVec Ideal S4x1x1024 .f32) (ix3 (pb t) 0 k) := by
  rw [← V_main_arg12 m c]
  blk_ext [iblk, idx t, pb, pi]

/-- The residual rows of the arguments, and the two results they give. -/
def rows : Fin 4 → Fin 8192 → Fin 1024 → EReal :=
  ssdRow (m (c, main_arg0) : FVec Ideal S4x8192x1024 .f32) (m (c, main_arg1) : FVec Ideal S4x8192x2048 .f32) (m (c, main_arg2) : FVec Ideal S4x8192x2048 .f32) (m (c, main_arg3) : FVec Ideal S4x8192x2048 .f32) (m (c, main_arg4) : FVec Ideal S4x8192x2048 .f32)
    (m (c, main_arg5) : FVec Ideal S32 .f32) (m (c, main_arg6) : FVec Ideal S2048 .f32) (m (c, main_arg7) : FVec Ideal S2048x1024 .f32) (m (c, main_arg8) : FVec Ideal S4x1x1024 .f32)
def outX : Fin 4 → Fin 8192 → Fin 1024 → EReal :=
  normed (rows m c) (m (c, main_arg9) : FVec Ideal S1024 .f32) (m (c, main_arg10) : FVec Ideal S1024 .f32)
def outF : Fin 4 → Fin 8192 → Fin 1024 → EReal :=
  fed (rows m c) (m (c, main_arg9) : FVec Ideal S1024 .f32) (m (c, main_arg10) : FVec Ideal S1024 .f32) (m (c, main_arg11) : FVec Ideal S4x1x1024 .f32) (m (c, main_arg12) : FVec Ideal S4x1x1024 .f32)

theorem gated_blk (t : Fin cfg0.N) (r : Fin 256) :
    Blk.gatedRow (iblk m c 1 t) (iblk m c 2 t) (iblk m c 3 t) (iblk m c 4 t) (iblk m c 5 t) r
      = gatedRow (m (c, main_arg1) : FVec Ideal S4x8192x2048 .f32) (m (c, main_arg2) : FVec Ideal S4x8192x2048 .f32) (m (c, main_arg3) : FVec Ideal S4x8192x2048 .f32) (m (c, main_arg4) : FVec Ideal S4x8192x2048 .f32) (m (c, main_arg5) : FVec Ideal S32 .f32) (pb t) ⟨256 * (pi t).val + r.val, by omega⟩ := by
  funext e
  unfold Blk.gatedRow gatedRow
  simp only [yf_blk m c t, yb_blk m c t, xs_blk m c t, z_blk m c t, d_blk m c t]

theorem row_blk (t : Fin cfg0.N) (r : Fin 256) :
    Blk.row (iblk m c 0 t) (iblk m c 1 t) (iblk m c 2 t) (iblk m c 3 t) (iblk m c 4 t) (iblk m c 5 t) (iblk m c 6 t) (iblk m c 7 t) (iblk m c 8 t) r = rows m c (pb t) ⟨256 * (pi t).val + r.val, by omega⟩ := by
  funext f
  unfold Blk.row rows ssdRow carried
  rw [gated_blk m c t r]
  simp only [x_blk m c t, n_blk m c t, w_blk m c t, gate_blk m c t]

/-- What a grid point leaves in the three arrays. -/
theorem after_x (t : Fin cfg0.N) (r : Fin 256) (f : Fin 1024) : ((dats m 0 c).after 13 t : Vec Ideal S1x256x1024 .f32) (ix3 0 r f)
    = outX m c (pb t) ⟨256 * (pi t).val + r.val, by omega⟩ f := by
  rw [after0_13]
  refine (Blk.out_x _ _ _ _ _ _ _ _ _ _ _ _ _ r f).trans ?_
  rw [row_blk m c t r, outX, normed]
  simp only [g_blk m c t, b_blk m c t]
theorem after_f (t : Fin cfg0.N) (r : Fin 256) (f : Fin 1024) : ((dats m 0 c).after 14 t : Vec Ideal S1x256x1024 .f32) (ix3 0 r f)
    = outF m c (pb t) ⟨256 * (pi t).val + r.val, by omega⟩ f := by
  rw [after0_14]
  refine (Blk.out_ff _ _ _ _ _ _ _ _ _ _ _ _ _ r f).trans ?_
  rw [row_blk m c t r, outF, fed]
  simp only [g_blk m c t, b_blk m c t, sh_blk m c t, sc_blk m c t]
theorem after_h (t : Fin cfg0.N) (r : Fin 256) (f : Fin 1024) : ((dats m 0 c).after 15 t : Vec Ideal S1x256x1024 .bf16) (ix3 0 r f)
    = outF m c (pb t) ⟨256 * (pi t).val + r.val, by omega⟩ f := by
  rw [after0_15]
  refine (Blk.out_half _ _ _ _ _ _ _ _ _ _ _ _ _ r f).trans ?_
  rw [row_blk m c t r, outF, fed]
  simp only [g_blk m c t, b_blk m c t, sh_blk m c t, sc_blk m c t]

/-- THE RESULT ARRAYS, element by element. -/
theorem x_eq : (dats m 0 c).arrAt 13 cfg0.N = fun i : S4x8192x1024.Idx => outX m c (i 0) (i 1) (i 2) := by
  refine (dats m 0 c).arrAt_eq_of_covers 13 _ (by decide +kernel) fun t hf y => ?_
  blk_simp
  rw [ix_free y]
  refine (after_x m c t (y 1) (y 2)).trans (of_nat (outX m c) ?_ ?_ ?_)
  · blk_simp [idx t]
    rfl
  · blk_simp [idx t]
    exact congrArg (· + _) (Nat.mul_comm 256 _)
  · blk_simp [idx t]
theorem f_eq : (dats m 0 c).arrAt 14 cfg0.N = fun i : S4x8192x1024.Idx => outF m c (i 0) (i 1) (i 2) := by
  refine (dats m 0 c).arrAt_eq_of_covers 14 _ (by decide +kernel) fun t hf y => ?_
  blk_simp
  rw [ix_free y]
  refine (after_f m c t (y 1) (y 2)).trans (of_nat (outF m c) ?_ ?_ ?_)
  · blk_simp [idx t]
    rfl
  · blk_simp [idx t]
    exact congrArg (· + _) (Nat.mul_comm 256 _)
  · blk_simp [idx t]
theorem half_eq : (dats m 0 c).arrAt 15 cfg0.N = fun i : S4x8192x1024.Idx => outF m c (i 0) (i 1) (i 2) := by
  refine (dats m 0 c).arrAt_eq_of_covers 15 _ (by decide +kernel) fun t hf y => ?_
  blk_simp
  rw [ix_free y]
  refine (after_h m c t (y 1) (y 2)).trans (of_nat (outF m c) ?_ ?_ ?_)
  · blk_simp [idx t]
    rfl
  · blk_simp [idx t]
    exact congrArg (· + _) (Nat.mul_comm 256 _)
  · blk_simp [idx t]

/-- THE RUN: the three result arrays are what the pipeline leaves, and the arguments are as they were. -/
theorem runs (g : Dev nD → PrngReg) : θ_run defs (onTc (τ := τ) (main (F := Ideal))) ⟨m, fun _ => 0, g⟩ fun r => ∀ c : Dev nD,
    r.2.mem ((c : Thread nD τ).loc main_v7_0) = (dats m 0 c).arrAt 13 cfg0.N
    ∧ r.2.mem ((c : Thread nD τ).loc main_v7_1) = (dats m 0 c).arrAt 14 cfg0.N
    ∧ r.2.mem ((c : Thread nD τ).loc main_v7_2) = (dats m 0 c).arrAt 15 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12) := by
  refine (θ_run defs _ _).mono (fun r h => ?_) (θ_run_and (run_main m g) (unchanged m g))
  exact fun c => ⟨(h.1 c).1 13, (h.1 c).1 14, (h.1 c).1 15, h.2 c⟩

end Cert.SsdOutIdeal.Arr
end
-- ==== Proof.SsdOut.Reference.lean ====
module

public import proofs.«01_k».proof.Proof.Gen.SsdOutReferenceIdeal.Run
public import proofs.«01_k».proof.Proof.SsdOut.Rows

@[expose] public section

set_option maxRecDepth 16384

noncomputable section

/-! What the reference of the second mixer's output computes, element by element. -/

namespace Cert.SsdOutReferenceIdeal.Ref

open Cert.SsdOutReferenceIdeal Cert.SsdOutReferenceIdeal.Gen Cert.OutNorm Cert.SsdRows Idealize.ShloMosaic Idealize.ShloMosaic.TcCoe

/-- A row's elements by head. -/
def heads (u : FVec Ideal S4x8192x2048 .f32) : FVec Ideal S4x8192x32x64 .f32 := shapeCast _ u shapeCasts_S4x8192x2048_S4x8192x32x64

/-- A head's weight along its elements. -/
def skip (d : FVec Ideal S32 .f32) : FVec Ideal S4x8192x32x64 .f32 :=
  broadcastInDim S4x8192x32x64 ![0, 1, 2, 3] bcast_S1x1x32x1_S4x8192x32x64_0_1_2_3 (broadcastInDim S1x1x32x1 ![2, 3] bcast_S32x1_S1x1x32x1_2_3 (broadcastInDim S32x1 ![0] bcast_S32_S32x1_0 d))

/-- Both directions and the skipped input, summed. -/
def summed (yf yb xs : FVec Ideal S4x8192x2048 .f32) (d : FVec Ideal S32 .f32) : FVec Ideal S4x8192x2048 .f32 :=
  shapeCast _ (addf (addf (heads yf) (heads yb)) (mulf (heads xs) (skip d))) shapeCasts_S4x8192x32x64_S4x8192x2048

/-- The sum by the gate times its logistic. -/
def gates (y z : FVec Ideal S4x8192x2048 .f32) : FVec Ideal S4x8192x2048 .f32 :=
  mulf y (mulf z (Host.divf (broadcastInDim S4x8192x2048 ![] bcast_S_S4x8192x2048 (constant S_ .f32 0x3F800000#32))
    (addf (broadcastInDim S4x8192x2048 ![] bcast_S_S4x8192x2048 (constant S_ .f32 0x3F800000#32)) (Host.exp (Host.negf z)))))

/-- The rows by group. -/
def groups (y : FVec Ideal S4x8192x2048 .f32) : FVec Ideal S4x8192x4x512 .f32 := shapeCast _ y shapeCasts_S4x8192x2048_S4x8192x4x512

/-- The inverse root mean squares of the groups. -/
def invs (v : FVec Ideal S4x8192x4x512 .f32) : FVec Ideal S4x8192x4x1 .f32 :=
  Host.rsqrt (addf (Host.divf (broadcastInDim S4x8192x4x1 ![0, 1, 2] bcast_S4x8192x4_S4x8192x4x1_0_1_2 (Host.reduceAdd (mulf v v) (constant S_ .f32 0x00000000#32) reducesTo_S4x8192x4x512_S4x8192x4_d3 h_S_))
    (broadcastInDim S4x8192x4x1 ![] bcast_S_S4x8192x4x1 (constant S_ .f32 0x44000000#32))) (broadcastInDim S4x8192x4x1 ![] bcast_S_S4x8192x4x1 (constant S_ .f32 0x358637BD#32)))

/-- The groups' norm, laid back along the row. -/
def scaled (v : FVec Ideal S4x8192x4x512 .f32) (q : FVec Ideal S4x8192x4x1 .f32) (g : FVec Ideal S2048 .f32) : FVec Ideal S4x8192x2048 .f32 :=
  shapeCast _ (mulf (mulf v (broadcastInDim S4x8192x4x512 ![0, 1, 2, 3] bcast_S4x8192x4x1_S4x8192x4x512_0_1_2_3 q))
    (broadcastInDim S4x8192x4x512 ![0, 1, 2, 3] bcast_S1x1x4x512_S4x8192x4x512_0_1_2_3 (broadcastInDim S1x1x4x512 ![2, 3] bcast_S4x512_S1x1x4x512_2_3 (shapeCast _ g shapeCasts_S2048_S4x512))))
    shapeCasts_S4x8192x4x512_S4x8192x2048

/-- The rows through the output weights. -/
def project (y : FVec Ideal S4x8192x2048 .f32) (w : FVec Ideal S2048x1024 .f32) : FVec Ideal S4x8192x1024 .f32 :=
  Host.dotGeneral dot_S4x8192x2048_S2048x1024_S4x8192x1024_2_0_01_1_n_n none y w

/-- The update, whole. -/
def whole (yf yb xs z : FVec Ideal S4x8192x2048 .f32) (d : FVec Ideal S32 .f32) (g : FVec Ideal S2048 .f32) (w : FVec Ideal S2048x1024 .f32) : FVec Ideal S4x8192x1024 .f32 :=
  project (scaled (groups (gates (summed yf yb xs d) z)) (invs (groups (gates (summed yf yb xs d) z))) g) w

/-- The residual sum. -/
def sum (x : FVec Ideal S4x8192x1024 .f32) (gate : FVec Ideal S4x1x1024 .f32) (u : FVec Ideal S4x8192x1024 .f32) : FVec Ideal S4x8192x1024 .f32 :=
  addf (mulf (broadcastInDim S4x8192x1024 ![] bcast_S_S4x8192x1024 (constant S_ .f32 0x3FB504F3#32)) x) (mulf (broadcastInDim S4x8192x1024 ![0, 1, 2] bcast_S4x1x1024_S4x8192x1024_0_1_2 gate) u)

/-- The rows' means. -/
def means (u : FVec Ideal S4x8192x1024 .f32) : FVec Ideal S4x8192x1 .f32 :=
  Host.divf (broadcastInDim S4x8192x1 ![0, 1] bcast_S4x8192_S4x8192x1_0_1 (Host.reduceAdd u (constant S_ .f32 0x00000000#32) reducesTo_S4x8192x1024_S4x8192_d2 h_S_)) (broadcastInDim S4x8192x1 ![] bcast_S_S4x8192x1 (constant S_ .f32 0x44800000#32))

/-- The rows less their means. -/
def devs (u : FVec Ideal S4x8192x1024 .f32) : FVec Ideal S4x8192x1024 .f32 :=
  subf u (broadcastInDim S4x8192x1024 ![0, 1, 2] bcast_S4x8192x1_S4x8192x1024_0_1_2 (means u))

/-- A row of weights along the sequence. -/
def along (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)

/-- The rows' norm. -/
def norms (v : FVec Ideal S4x8192x1024 .f32) (g b : FVec Ideal S1024 .f32) : FVec Ideal S4x8192x1024 .f32 :=
  addf (mulf (mulf v (broadcastInDim S4x8192x1024 ![0, 1, 2] bcast_S4x8192x1_S4x8192x1024_0_1_2
    (Host.rsqrt (addf (means (mulf v v)) (broadcastInDim S4x8192x1 ![] bcast_S_S4x8192x1 (constant S_ .f32 0x3727C5AC#32)))))) (along g)) (along b)

/-- The modulation. -/
def modulate (v : FVec Ideal S4x8192x1024 .f32) (sh sc : FVec Ideal S4x1x1024 .f32) : FVec Ideal S4x8192x1024 .f32 :=
  addf (mulf v (broadcastInDim S4x8192x1024 ![0, 1, 2] bcast_S4x1x1024_S4x8192x1024_0_1_2 (addf (broadcastInDim S4x1x1024 ![] bcast_S_S4x1x1024 (constant S_ .f32 0x3F800000#32)) sc)))
    (broadcastInDim S4x8192x1024 ![0, 1, 2] bcast_S4x1x1024_S4x8192x1024_0_1_2 sh)

section
variable (m : (ℓ : Loc nD τ sig) → Buf (Elt Ideal) ℓ) (c : Dev nD)

/-- The arguments, by name. -/
abbrev aX : FVec Ideal S4x8192x1024 .f32 := m ((c.tc : Thread nD τ).loc main_arg0)
abbrev aYf : FVec Ideal S4x8192x2048 .f32 := m ((c.tc : Thread nD τ).loc main_arg1)
abbrev aYb : FVec Ideal S4x8192x2048 .f32 := m ((c.tc : Thread nD τ).loc main_arg2)
abbrev aXs : FVec Ideal S4x8192x2048 .f32 := m ((c.tc : Thread nD τ).loc main_arg3)
abbrev aZ : FVec Ideal S4x8192x2048 .f32 := m ((c.tc : Thread nD τ).loc main_arg4)
abbrev aD : FVec Ideal S32 .f32 := m ((c.tc : Thread nD τ).loc main_arg5)
abbrev aN : FVec Ideal S2048 .f32 := m ((c.tc : Thread nD τ).loc main_arg6)
abbrev aW : FVec Ideal S2048x1024 .f32 := m ((c.tc : Thread nD τ).loc main_arg7)
abbrev aGate : FVec Ideal S4x1x1024 .f32 := m ((c.tc : Thread nD τ).loc main_arg8)
abbrev aG : FVec Ideal S1024 .f32 := m ((c.tc : Thread nD τ).loc main_arg9)
abbrev aB : FVec Ideal S1024 .f32 := m ((c.tc : Thread nD τ).loc main_arg10)
abbrev aSh : FVec Ideal S4x1x1024 .f32 := m ((c.tc : Thread nD τ).loc main_arg11)
abbrev aSc : FVec Ideal S4x1x1024 .f32 := m ((c.tc : Thread nD τ).loc main_arg12)

/-- The results as these stages. -/
theorem res_x : Value.res_main_v57 m c = norms (devs (sum (aX m c) (aGate m c) (whole (aYf m c) (aYb m c) (aXs m c) (aZ m c) (aD m c) (aN m c) (aW m c)))) (aG m c) (aB m c) := rfl
theorem res_f : Value.res_main_v63 m c = modulate (norms (devs (sum (aX m c) (aGate m c) (whole (aYf m c) (aYb m c) (aXs m c) (aZ m c) (aD m c) (aN m c) (aW m c)))) (aG m c) (aB m c)) (aSh m c) (aSc m c) := rfl
theorem res_half : Value.res_main_v64 m c = truncf .bf16 (modulate (norms (devs (sum (aX m c) (aGate m c) (whole (aYf m c) (aYb m c) (aXs m c) (aZ m c) (aD m c) (aN m c) (aW m c)))) (aG m c) (aB m c)) (aSh m c) (aSc m c)) bitsLt_bf16_f32 := rfl
end

/-- One element of the gated sum. -/
theorem summed_apply (yf yb xs : FVec Ideal S4x8192x2048 .f32) (d : FVec Ideal S32 .f32) (n : Fin 4) (i : Fin 8192) (e : Fin 2048) :
    summed yf yb xs d (ix3 n i e) = yf (ix3 n i e) + yb (ix3 n i e) + xs (ix3 n i e) * d (ix1 ⟨e.val / 64, by omega⟩) := by
  pointwise [summed, heads, skip]
theorem gates_apply (y z : FVec Ideal S4x8192x2048 .f32) (n : Fin 4) (i : Fin 8192) (e : Fin 2048) : gates y z (ix3 n i e) = y (ix3 n i e) * silu (z (ix3 n i e)) := by
  pointwise [gates]
  rfl

/-- One element of the groups' norm. -/
theorem groups_apply (y : FVec Ideal S4x8192x2048 .f32) (n : Fin 4) (i : Fin 8192) (j : Fin 4) (k : Fin 512) : groups y (ix4 n i j k) = y (ix3 n i ⟨512 * j.val + k.val, by omega⟩) := by
  pointwise [groups]
  simp only [Nat.mul_comm]
theorem invs_apply (v : FVec Ideal S4x8192x4x512 .f32) (n : Fin 4) (i : Fin 8192) (j : Fin 4) : invs v (ix4 n i j 0) = invRms (fun k => v (ix4 n i j k)) := by
  pointwise [invs, invRms, width, guardR]
theorem scaled_apply (v : FVec Ideal S4x8192x4x512 .f32) (q : FVec Ideal S4x8192x4x1 .f32) (g : FVec Ideal S2048 .f32) (n : Fin 4) (i : Fin 8192) (e : Fin 2048) :
    scaled v q g (ix3 n i e) = v (ix4 n i ⟨e.val / 512, by omega⟩ ⟨e.val % 512, by omega⟩) * q (ix4 n i ⟨e.val / 512, by omega⟩ 0) * g (ix1 e) := by
  pointwise [scaled]
theorem project_apply (y : FVec Ideal S4x8192x2048 .f32) (w : FVec Ideal S2048x1024 .f32) (n : Fin 4) (i : Fin 8192) (f : Fin 1024) :
    project y w (ix3 n i f) = ∑ k : Fin 2048, y (ix3 n i k) * w (ix2 k f) := by
  pointwise [project]

theorem grouped_apply (y : FVec Ideal S4x8192x2048 .f32) (g : FVec Ideal S2048 .f32) (n : Fin 4) (i : Fin 8192) (e : Fin 2048) :
    scaled (groups y) (invs (groups y)) g (ix3 n i e) = grouped (fun e => y (ix3 n i e)) (fun e => g (ix1 e)) e := by
  rw [scaled_apply, invs_apply, groups_apply]
  simp only [groups_apply]
  unfold grouped group
  refine congrArg (fun a => y (ix3 n i a) * _ * _) (Fin.ext ?_)
  show 512 * (e.val / 512) + e.val % 512 = e.val
  omega

/-- One element of the update. -/
theorem whole_apply (yf yb xs z : FVec Ideal S4x8192x2048 .f32) (d : FVec Ideal S32 .f32) (g : FVec Ideal S2048 .f32) (w : FVec Ideal S2048x1024 .f32) (n : Fin 4) (i : Fin 8192) (f : Fin 1024) :
    whole yf yb xs z d g w (ix3 n i f) = through (gatedRow yf yb xs z d n i) (fun e => g (ix1 e)) (fun k f => w (ix2 k f)) f := by
  unfold whole
  rw [project_apply]
  refine Finset.sum_congr rfl fun k _ => congrArg (· * _) ?_
  rw [grouped_apply]
  simp only [gates_apply, summed_apply]
  rfl

/-- One element of the residual sum. -/
theorem sum_apply (x : FVec Ideal S4x8192x1024 .f32) (gate : FVec Ideal S4x1x1024 .f32) (u : FVec Ideal S4x8192x1024 .f32) (n : Fin 4) (i : Fin 8192) (f : Fin 1024) :
    sum x gate u (ix3 n i f) = carried (fun f => x (ix3 n i f)) (fun f => gate (ix3 n 0 f)) (fun f => u (ix3 n i f)) f := by
  pointwise [sum, carried, alpha]

theorem means_apply (u : FVec Ideal S4x8192x1024 .f32) (n : Fin 4) (i : Fin 8192) : means u (ix3 n i 0) = mean (fun k => u (ix3 n i k)) := by
  pointwise [means, mean, len]

theorem devs_apply (u : FVec Ideal S4x8192x1024 .f32) (n : Fin 4) (i : Fin 8192) (f : Fin 1024) : devs u (ix3 n i f) = dev (fun k => u (ix3 n i k)) f := by
  have h := means_apply u
  unfold devs
  generalize means u = v at h ⊢
  pointwise
  rw [h]
  rfl

/-- One element of the norm. -/
theorem norms_apply (u : FVec Ideal S4x8192x1024 .f32) (g b : FVec Ideal S1024 .f32) (n : Fin 4) (i : Fin 8192) (f : Fin 1024) :
    norms (devs u) g b (ix3 n i f) = norm (fun k => u (ix3 n i k)) (fun k => g (ix1 k)) (fun k => b (ix1 k)) f := by
  have h := means_apply (mulf (devs u) (devs u))
  have hd := devs_apply u
  unfold norms
  generalize means (mulf (devs u) (devs u)) = v at h ⊢
  pointwise [along]
  rw [h, hd]
  have e : (fun k => mulf (devs u) (devs u) (ix3 n i k)) = fun k => dev (fun k => u (ix3 n i k)) k * dev (fun k => u (ix3 n i k)) k := funext fun k => by
    show devs u (ix3 n i k) * devs u (ix3 n i k) = _
    rw [hd]
  rw [e]
  rfl

/-- One element of the modulation. -/
theorem modulate_apply (v : FVec Ideal S4x8192x1024 .f32) (sh sc : FVec Ideal S4x1x1024 .f32) (n : Fin 4) (i : Fin 8192) (f : Fin 1024) :
    modulate v sh sc (ix3 n i f) = v (ix3 n i f) * (1 + sc (ix3 n 0 f)) + sh (ix3 n 0 f) := by
  pointwise [modulate]

section
variable (m : (ℓ : Loc nD τ sig) → Buf (Elt Ideal) ℓ) (c : Dev nD) (n : Fin 4) (i : Fin 8192) (f : Fin 1024)

theorem rows_eq : (fun k => sum (aX m c) (aGate m c) (whole (aYf m c) (aYb m c) (aXs m c) (aZ m c) (aD m c) (aN m c) (aW m c)) (ix3 n i k)) = ssdRow (aX m c) (aYf m c) (aYb m c) (aXs m c) (aZ m c) (aD m c) (aN m c) (aW m c) (aGate m c) n i := by
  funext k
  rw [sum_apply]
  simp only [whole_apply]
  rfl

/-- THE THREE RESULTS, element by element. -/
theorem x_at : (Value.res_main_v57 m c : FVec Ideal S4x8192x1024 .f32) (ix3 n i f) = normed (ssdRow (aX m c) (aYf m c) (aYb m c) (aXs m c) (aZ m c) (aD m c) (aN m c) (aW m c) (aGate m c)) (aG m c) (aB m c) n i f := by
  rw [res_x, norms_apply, rows_eq]
  rfl
theorem f_at : (Value.res_main_v63 m c : FVec Ideal S4x8192x1024 .f32) (ix3 n i f) = fed (ssdRow (aX m c) (aYf m c) (aYb m c) (aXs m c) (aZ m c) (aD m c) (aN m c) (aW m c) (aGate m c)) (aG m c) (aB m c) (aSh m c) (aSc m c) n i f := by
  rw [res_f, modulate_apply, norms_apply, rows_eq]
  rfl
theorem half_at : (Value.res_main_v64 m c : FVec Ideal S4x8192x1024 .bf16) (ix3 n i f) = fed (ssdRow (aX m c) (aYf m c) (aYb m c) (aXs m c) (aZ m c) (aD m c) (aN m c) (aW m c) (aGate m c)) (aG m c) (aB m c) (aSh m c) (aSc m c) n i f := by
  rw [res_half]
  refine Eq.trans ?_ (f_at m c n i f)
  rw [res_f]
  generalize modulate _ _ _ = v
  rfl
end

end Cert.SsdOutReferenceIdeal.Ref
end
-- ==== Proof.SsdOut.Equation.lean ====
module

public import proofs.«01_k».proof.Proof.SsdOut.Array
public import proofs.«01_k».proof.Proof.SsdOut.Reference
public import proofs.«01_k».proof.Defs

@[expose] public section

set_option maxRecDepth 16384

noncomputable section

/-! The second mixer's output: the kernel's three results are the reference's, at all extended reals. -/

namespace Cert.SsdOutIdeal.Way

open Cert.SsdOutIdeal Cert.SsdOutIdeal.Gen Cert.OutNorm Idealize.ShloMosaic Idealize.ShloMosaic.TcCoe Idealize.SL.Sem

/-- The kernel's arrays are the reference's, where the arguments are. -/
theorem agree (m : (ℓ : Loc Cert.SsdOutIdeal.nD Cert.SsdOutIdeal.τ Cert.SsdOutIdeal.sig) → Buf (Elt Ideal) ℓ)
    (m' : (ℓ : Loc Cert.SsdOutReferenceIdeal.nD Cert.SsdOutReferenceIdeal.τ Cert.SsdOutReferenceIdeal.sig) → Buf (Elt Ideal) ℓ) (c : Dev Cert.SsdOutIdeal.nD)
    (e0 : m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0))
    (e1 : m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1))
    (e2 : m' ((c.tc : Thread Cert.SsdOutReferenceIdeal.nD Cert.SsdOutReferenceIdeal.τ).loc Cert.SsdOutReferenceIdeal.main_arg2) = m ((c.tc : Thread Cert.SsdOutIdeal.nD Cert.SsdOutIdeal.τ).loc Cert.SsdOutIdeal.main_arg2))
    (e3 : m' ((c.tc : Thread Cert.SsdOutReferenceIdeal.nD Cert.SsdOutReferenceIdeal.τ).loc Cert.SsdOutReferenceIdeal.main_arg3) = m ((c.tc : Thread Cert.SsdOutIdeal.nD Cert.SsdOutIdeal.τ).loc Cert.SsdOutIdeal.main_arg3))
    (e4 : m' ((c.tc : Thread Cert.SsdOutReferenceIdeal.nD Cert.SsdOutReferenceIdeal.τ).loc Cert.SsdOutReferenceIdeal.main_arg4) = m ((c.tc : Thread Cert.SsdOutIdeal.nD Cert.SsdOutIdeal.τ).loc Cert.SsdOutIdeal.main_arg4))
    (e5 : m' ((c.tc : Thread Cert.SsdOutReferenceIdeal.nD Cert.SsdOutReferenceIdeal.τ).loc Cert.SsdOutReferenceIdeal.main_arg5) = m ((c.tc : Thread Cert.SsdOutIdeal.nD Cert.SsdOutIdeal.τ).loc Cert.SsdOutIdeal.main_arg5))
    (e6 : m' ((c.tc : Thread Cert.SsdOutReferenceIdeal.nD Cert.SsdOutReferenceIdeal.τ).loc Cert.SsdOutReferenceIdeal.main_arg6) = m ((c.tc : Thread Cert.SsdOutIdeal.nD Cert.SsdOutIdeal.τ).loc Cert.SsdOutIdeal.main_arg6))
    (e7 : m' ((c.tc : Thread Cert.SsdOutReferenceIdeal.nD Cert.SsdOutReferenceIdeal.τ).loc Cert.SsdOutReferenceIdeal.main_arg7) = m ((c.tc : Thread Cert.SsdOutIdeal.nD Cert.SsdOutIdeal.τ).loc Cert.SsdOutIdeal.main_arg7))
    (e8 : m' ((c.tc : Thread Cert.SsdOutReferenceIdeal.nD Cert.SsdOutReferenceIdeal.τ).loc Cert.SsdOutReferenceIdeal.main_arg8) = m ((c.tc : Thread Cert.SsdOutIdeal.nD Cert.SsdOutIdeal.τ).loc Cert.SsdOutIdeal.main_arg8))
    (e9 : m' ((c.tc : Thread Cert.SsdOutReferenceIdeal.nD Cert.SsdOutReferenceIdeal.τ).loc Cert.SsdOutReferenceIdeal.main_arg9) = m ((c.tc : Thread Cert.SsdOutIdeal.nD Cert.SsdOutIdeal.τ).loc Cert.SsdOutIdeal.main_arg9))
    (e10 : m' ((c.tc : Thread Cert.SsdOutReferenceIdeal.nD Cert.SsdOutReferenceIdeal.τ).loc Cert.SsdOutReferenceIdeal.main_arg10) = m ((c.tc : Thread Cert.SsdOutIdeal.nD Cert.SsdOutIdeal.τ).loc Cert.SsdOutIdeal.main_arg10))
    (e11 : m' ((c.tc : Thread Cert.SsdOutReferenceIdeal.nD Cert.SsdOutReferenceIdeal.τ).loc Cert.SsdOutReferenceIdeal.main_arg11) = m ((c.tc : Thread Cert.SsdOutIdeal.nD Cert.SsdOutIdeal.τ).loc Cert.SsdOutIdeal.main_arg11))
    (e12 : m' ((c.tc : Thread Cert.SsdOutReferenceIdeal.nD Cert.SsdOutReferenceIdeal.τ).loc Cert.SsdOutReferenceIdeal.main_arg12) = m ((c.tc : Thread Cert.SsdOutIdeal.nD Cert.SsdOutIdeal.τ).loc Cert.SsdOutIdeal.main_arg12)) :
    (dats m 0 c).arrAt 13 cfg0.N = Cert.SsdOutReferenceIdeal.Value.res_main_v57 m' c
    ∧ (dats m 0 c).arrAt 14 cfg0.N = Cert.SsdOutReferenceIdeal.Value.res_main_v63 m' c
    ∧ (dats m 0 c).arrAt 15 cfg0.N = Cert.SsdOutReferenceIdeal.Value.res_main_v64 m' c := by
  refine ⟨(Arr.x_eq m c).trans (funext fun (i : S4x8192x1024.Idx) => ?_),
    (Arr.f_eq m c).trans (funext fun (i : S4x8192x1024.Idx) => ?_),
    (Arr.half_eq m c).trans (funext fun (i : S4x8192x1024.Idx) => ?_)⟩
  · refine Eq.trans ?_ ((Cert.SsdOutReferenceIdeal.Ref.x_at m' c (i 0) (i 1) (i 2)).symm.trans (congrArg (Cert.SsdOutReferenceIdeal.Value.res_main_v57 m' c) (ix_full i).symm))
    simp only [Cert.SsdOutReferenceIdeal.Ref.aX, Cert.SsdOutReferenceIdeal.Ref.aYf, Cert.SsdOutReferenceIdeal.Ref.aYb, Cert.SsdOutReferenceIdeal.Ref.aXs, Cert.SsdOutReferenceIdeal.Ref.aZ, Cert.SsdOutReferenceIdeal.Ref.aD, Cert.SsdOutReferenceIdeal.Ref.aN, Cert.SsdOutReferenceIdeal.Ref.aW, Cert.SsdOutReferenceIdeal.Ref.aGate, Cert.SsdOutReferenceIdeal.Ref.aG, Cert.SsdOutReferenceIdeal.Ref.aB, Cert.SsdOutReferenceIdeal.Ref.aSh, Cert.SsdOutReferenceIdeal.Ref.aSc, e0, e1, e2, e3, e4, e5, e6, e7, e8, e9, e10, e11, e12]
    rfl
  · refine Eq.trans ?_ ((Cert.SsdOutReferenceIdeal.Ref.f_at m' c (i 0) (i 1) (i 2)).symm.trans (congrArg (Cert.SsdOutReferenceIdeal.Value.res_main_v63 m' c) (ix_full i).symm))
    simp only [Cert.SsdOutReferenceIdeal.Ref.aX, Cert.SsdOutReferenceIdeal.Ref.aYf, Cert.SsdOutReferenceIdeal.Ref.aYb, Cert.SsdOutReferenceIdeal.Ref.aXs, Cert.SsdOutReferenceIdeal.Ref.aZ, Cert.SsdOutReferenceIdeal.Ref.aD, Cert.SsdOutReferenceIdeal.Ref.aN, Cert.SsdOutReferenceIdeal.Ref.aW, Cert.SsdOutReferenceIdeal.Ref.aGate, Cert.SsdOutReferenceIdeal.Ref.aG, Cert.SsdOutReferenceIdeal.Ref.aB, Cert.SsdOutReferenceIdeal.Ref.aSh, Cert.SsdOutReferenceIdeal.Ref.aSc, e0, e1, e2, e3, e4, e5, e6, e7, e8, e9, e10, e11, e12]
    rfl
  · refine Eq.trans ?_ ((Cert.SsdOutReferenceIdeal.Ref.half_at m' c (i 0) (i 1) (i 2)).symm.trans (congrArg (Cert.SsdOutReferenceIdeal.Value.res_main_v64 m' c) (ix_full i).symm))
    simp only [Cert.SsdOutReferenceIdeal.Ref.aX, Cert.SsdOutReferenceIdeal.Ref.aYf, Cert.SsdOutReferenceIdeal.Ref.aYb, Cert.SsdOutReferenceIdeal.Ref.aXs, Cert.SsdOutReferenceIdeal.Ref.aZ, Cert.SsdOutReferenceIdeal.Ref.aD, Cert.SsdOutReferenceIdeal.Ref.aN, Cert.SsdOutReferenceIdeal.Ref.aW, Cert.SsdOutReferenceIdeal.Ref.aGate, Cert.SsdOutReferenceIdeal.Ref.aG, Cert.SsdOutReferenceIdeal.Ref.aB, Cert.SsdOutReferenceIdeal.Ref.aSh, Cert.SsdOutReferenceIdeal.Ref.aSc, e0, e1, e2, e3, e4, e5, e6, e7, e8, e9, e10, e11, e12]
    rfl

/-- The kernel's results are the reference's. -/
theorem equation : Cert.algebraic_SsdOutIdeal_SsdOutReferenceIdeal := fun m g m' g' _ e => by
  refine ⟨fun c => Cert.SsdOutReferenceIdeal.Value.res_main_v57 m' c, fun c => Cert.SsdOutReferenceIdeal.Value.res_main_v63 m' c, fun c => Cert.SsdOutReferenceIdeal.Value.res_main_v64 m' c,
    (θ_run _ _ _).mono (fun r h c => ?_) (Cert.SsdOutIdeal.Arr.runs m g), Cert.SsdOutReferenceIdeal.Value.run m' g'⟩
  obtain ⟨h0, h1, h2, hr⟩ := h c
  obtain ⟨e0, e1, e2, e3, e4, e5, e6, e7, e8, e9, e10, e11, e12⟩ := e c
  obtain ⟨a0, a1, a2⟩ := agree m m' c e0 e1 e2 e3 e4 e5 e6 e7 e8 e9 e10 e11 e12
  exact ⟨h0.trans a0, h1.trans a1, h2.trans a2, hr⟩

/-- The reference has no semaphore, and its run leaves its arguments as they were. -/
theorem reference_frame : Cert.quiescent_SsdOutReferenceIdeal := fun m g _ =>
  (θ_run _ _ _).mono (fun r h => ⟨fun c => (h c).2.2.2, sem_eq_zero_of_no_sems rfl _⟩) (Cert.SsdOutReferenceIdeal.Value.run m g)

end Cert.SsdOutIdeal.Way
end
-- ==== Proof.MixOut.Block.lean ====
module

public import proofs.«01_k».proof.Proof.Gen.MixOutIdeal.Value
public import proofs.«01_k».proof.Proof.Out.Norm

@[expose] public section

set_option maxRecDepth 16384

noncomputable section

/-! What one block of the first mixer's output computes, from the blocks it reads. -/

namespace Cert.MixOutIdeal.Blk

open Cert.MixOutIdeal Cert.MixOutIdeal.Gen Cert.OutNorm Idealize.ShloMosaic Idealize.ShloMosaic.TcCoe

/-- The block's residual rows. -/
theorem pay6_apply (h : Vec Ideal S1x256x512 .f32) (w : Vec Ideal S512x1024 .bf16) (a : Vec Ideal S1x256x512 .f32) (w' : Vec Ideal S512x1024 .bf16)
    (x : Vec Ideal S1x256x1024 .f32) (g : Vec Ideal S1x1x1024 .f32) (r : Fin 256) (f : Fin 1024) :
    k0_pay6 (F := Ideal) h w a w' x g (ix2 r f)
      = carried (fun f => x (ix3 0 r f)) (fun f => g (ix3 0 0 f))
          (fun f => (∑ k : Fin 512, h (ix3 0 r k) * w (ix2 k f)) + ∑ k : Fin 512, a (ix3 0 r k) * w' (ix2 k f)) f := by
  pointwise [k0_pay6, carried, alpha]

/-- The mean of a block's row, along the row. -/
def means (u : FVec Ideal S256x1024 .f32) : FVec Ideal S256x1024 .f32 :=
  broadcastTo S256x1024 (divf (shapeCast S256x1 (multiReduction .add [1] S256 u 0x00000000#32 reduces_S256x1024_S256 (.inl rfl) rfl) shapeCasts_S256_S256x1)
    (broadcast S256x1 (Scalar.ofBits .f32 0x44800000#32))) broadcasts_S256x1_S256x1024

theorem pay9_eq (h : Vec Ideal S1x256x512 .f32) (w : Vec Ideal S512x1024 .bf16) (a : Vec Ideal S1x256x512 .f32) (w' : Vec Ideal S512x1024 .bf16)
    (x : Vec Ideal S1x256x1024 .f32) (g : Vec Ideal S1x1x1024 .f32) : k0_pay9 (F := Ideal) h w a w' x g = means (k0_pay6 (F := Ideal) h w a w' x g) := rfl

theorem means_apply (u : FVec Ideal S256x1024 .f32) (r : Fin 256) (f : Fin 1024) : means u (ix2 r f) = mean (fun k => u (ix2 r k)) := by
  pointwise [means, mean, len]

/-- One element of the normed rows. -/
theorem pay1_apply (u : FVec Ideal S256x1024 .f32) (g b : Vec Ideal S1x1x1024 .f32) (r : Fin 256) (f : Fin 1024) :
    k0_pay1 (F := Ideal) u (k0_pay7 g) (k0_pay8 b) (means u) (ix2 r f)
      = norm (fun k => u (ix2 r k)) (fun k => g (ix3 0 0 k)) (fun k => b (ix3 0 0 k)) f := by
  have h := means_apply u
  generalize means u = v at h ⊢
  pointwise [k0_pay1, k0_pay7, k0_pay8]
  simp only [h]
  rfl

/-- One element of the modulated rows. -/
theorem pay3_apply (u : FVec Ideal S256x1024 .f32) (g b sc sh : Vec Ideal S1x1x1024 .f32) (r : Fin 256) (f : Fin 1024) :
    k0_pay3 (F := Ideal) u (k0_pay7 g) (k0_pay8 b) (means u) sc sh (ix2 r f)
      = modulated (fun k => u (ix2 r k)) (fun k => g (ix3 0 0 k)) (fun k => b (ix3 0 0 k)) (fun k => sc (ix3 0 0 k)) (fun k => sh (ix3 0 0 k)) f := by
  have h := pay1_apply u g b r f
  unfold k0_pay3
  generalize k0_pay1 (F := Ideal) u (k0_pay7 g) (k0_pay8 b) (means u) = v at h ⊢
  pointwise
  rw [h]
  rfl

/-- A load of a whole block. -/
theorem ld0 (x : Vec Ideal S1x256x512 .f32) : View.ld x r0_0 = x := View.ld_unit_zero (by decide) _ x
theorem ld1 (x : Vec Ideal S512x1024 .bf16) : View.ld x r0_1 = x := View.ld_unit_zero (by decide) _ x
theorem ld2 (x : Vec Ideal S1x256x1024 .f32) : View.ld x r0_2 = x := View.ld_unit_zero (by decide) _ x
theorem ld3 (x : Vec Ideal S1x1x1024 .f32) : View.ld x r0_3 = x := View.ld_unit_zero (by decide) _ x

section outs
variable (x0 : Vec Ideal S1x256x1024 .f32) (x1 x2 : Vec Ideal S1x256x512 .f32) (x3 x4 : Vec Ideal S512x1024 .bf16) (x5 x6 x7 x8 x9 : Vec Ideal S1x1x1024 .f32)

/-- A block's residual row, from the blocks the body reads. -/
def row (x0 : Vec Ideal S1x256x1024 .f32) (x1 x2 : Vec Ideal S1x256x512 .f32) (x3 x4 : Vec Ideal S512x1024 .bf16) (x5 : Vec Ideal S1x1x1024 .f32) (r : Fin 256) : Fin 1024 → EReal :=
  carried (fun f => x0 (ix3 0 r f)) (fun f => x5 (ix3 0 0 f))
    (fun f => (∑ k : Fin 512, x1 (ix3 0 r k) * x3 (ix2 k f)) + ∑ k : Fin 512, x2 (ix3 0 r k) * x4 (ix2 k f))

theorem row_eq (r : Fin 256) : (fun k => k0_pay6 (F := Ideal) x1 x3 x2 x4 x0 x5 (ix2 r k)) = row x0 x1 x2 x3 x4 x5 r :=
  funext fun f => pay6_apply x1 x3 x2 x4 x0 x5 r f

theorem pay10_eq : k0_pay10 (F := Ideal) x0 x1 x2 x3 x4 x5 x6 x7 x8 x9 = k0_pay6 (F := Ideal) x1 x3 x2 x4 x0 x5 := by
  rw [k0_pay10, ld0, ld1, ld0, ld1, ld2, ld3]
theorem pay11_eq : k0_pay11 (F := Ideal) x0 x1 x2 x3 x4 x5 x6 x7 x8 x9 = k0_pay7 (F := Ideal) x6 := by
  rw [k0_pay11, ld3]
theorem pay12_eq : k0_pay12 (F := Ideal) x0 x1 x2 x3 x4 x5 x6 x7 x8 x9 = k0_pay8 (F := Ideal) x7 := by
  rw [k0_pay12, ld3]
theorem pay13_eq : k0_pay13 (F := Ideal) x0 x1 x2 x3 x4 x5 x6 x7 x8 x9 = means (k0_pay6 (F := Ideal) x1 x3 x2 x4 x0 x5) := by
  rw [k0_pay13, ld0, ld1, ld0, ld1, ld2, ld3, pay9_eq]

/-- The three blocks the body stores. -/
theorem out_x (r : Fin 256) (f : Fin 1024) : out0_10 (F := Ideal) x0 x1 x2 x3 x4 x5 x6 x7 x8 x9 (ix3 0 r f)
    = norm (row x0 x1 x2 x3 x4 x5 r) (fun k => x6 (ix3 0 0 k)) (fun k => x7 (ix3 0 0 k)) f := by
  rw [out0_10, View.canon_cons_unit_zero (by decide) _ _ _, pay10_eq, pay11_eq, pay12_eq, pay13_eq, ← row_eq, ← pay1_apply, k0_pay2]
  generalize k0_pay1 (F := Ideal) _ _ _ _ = v
  pointwise
theorem out_ff (r : Fin 256) (f : Fin 1024) : out0_11 (F := Ideal) x0 x1 x2 x3 x4 x5 x6 x7 x8 x9 (ix3 0 r f)
    = modulated (row x0 x1 x2 x3 x4 x5 r) (fun k => x6 (ix3 0 0 k)) (fun k => x7 (ix3 0 0 k)) (fun k => x9 (ix3 0 0 k)) (fun k => x8 (ix3 0 0 k)) f := by
  rw [out0_11, View.canon_cons_unit_zero (by decide) _ _ _, pay10_eq, pay11_eq, pay12_eq, pay13_eq, ld3, ld3, ← row_eq, ← pay3_apply, k0_pay4]
  generalize k0_pay3 (F := Ideal) _ _ _ _ _ _ = v
  pointwise
theorem out_half (r : Fin 256) (f : Fin 1024) : out0_12 (F := Ideal) x0 x1 x2 x3 x4 x5 x6 x7 x8 x9 (ix3 0 r f)
    = modulated (row x0 x1 x2 x3 x4 x5 r) (fun k => x6 (ix3 0 0 k)) (fun k => x7 (ix3 0 0 k)) (fun k => x9 (ix3 0 0 k)) (fun k => x8 (ix3 0 0 k)) f := by
  rw [out0_12, View.canon_cons_unit_zero (by decide) _ _ _, pay10_eq, pay11_eq, pay12_eq, pay13_eq, ld3, ld3, ← row_eq, ← pay3_apply, k0_pay5]
  generalize k0_pay3 (F := Ideal) _ _ _ _ _ _ = v
  pointwise
end outs

end Cert.MixOutIdeal.Blk
end
-- ==== Proof.MixOut.Rows.lean ====
module

public import proofs.«01_k».proof.Proof.Out.Norm

@[expose] public section

set_option maxRecDepth 16384

noncomputable section

/-! The first mixer's residual rows: the mathematics both the kernel's blocks and the reference's arrays hold. -/

namespace Cert.MixRows

open Cert.OutNorm Idealize.ShloMosaic

/-- The Hyena's columns by the output weights' first half, the attention's by the second. -/
def update (h a : FVec Ideal ⟨3, ![4, 8192, 512]⟩ .f32) (w : FVec Ideal ⟨2, ![1024, 1024]⟩ .f32) (n : Fin 4) (i : Fin 8192) (f : Fin 1024) : EReal :=
  (∑ k : Fin 512, h (ix3 n i k) * w (ix2 ⟨k.val, by omega⟩ f)) + ∑ k : Fin 512, a (ix3 n i k) * w (ix2 ⟨512 + k.val, by omega⟩ f)

/-- The residual row. -/
def mixRow (x : FVec Ideal ⟨3, ![4, 8192, 1024]⟩ .f32) (h a : FVec Ideal ⟨3, ![4, 8192, 512]⟩ .f32) (w : FVec Ideal ⟨2, ![1024, 1024]⟩ .f32)
    (gate : FVec Ideal ⟨3, ![4, 1, 1024]⟩ .f32) (n : Fin 4) (i : Fin 8192) : Fin 1024 → EReal :=
  carried (fun f => x (ix3 n i f)) (fun f => gate (ix3 n 0 f)) (update h a w n i)

end Cert.MixRows
end
-- ==== Proof.MixOut.Array.lean ====
module

public import proofs.«01_k».proof.Proof.MixOut.Block
public import proofs.«01_k».proof.Proof.MixOut.Rows
public import Idealize.ShloMosaic.Lib.Pipeline.ValueKit

@[expose] public section

set_option maxRecDepth 16384

noncomputable section

/-! What the first mixer's three result arrays hold, from the program's arguments. -/

namespace Cert.MixOutIdeal.Arr

open Cert.MixOutIdeal Cert.MixOutIdeal.Gen Cert.OutNorm Cert.MixRows Idealize.ShloMosaic Idealize.ShloMosaic.TcCoe

variable (m : (ℓ : Loc nD τ sig) → Buf (Elt Ideal) ℓ) (c : Dev nD)

/-- The weights and the norm's rows as the host hands them over. -/
theorem V_wh : (V m c main_v1 : FVec Ideal S512x1024 .bf16) = (extractStridedSlice S512x1024 ![0, 0] (truncf .bf16 (m (c, main_arg3) : FVec Ideal S1024x1024 .f32) bitsLt_bf16_f32) slices_S1024x1024_S512x1024_0_0 : FVec Ideal S512x1024 .bf16) := by
  unfold_abbrev_sides
  after_results
theorem V_wa : (V m c main_v2 : FVec Ideal S512x1024 .bf16) = (extractStridedSlice S512x1024 ![512, 0] (truncf .bf16 (m (c, main_arg3) : FVec Ideal S1024x1024 .f32) bitsLt_bf16_f32) slices_S1024x1024_S512x1024_512_0 : FVec Ideal S512x1024 .bf16) := by
  unfold_abbrev_sides
  after_results
theorem V_g : (V m c main_v3 : FVec Ideal S1x1x1024 .f32) = (shapeCast S1x1x1024 (m (c, main_arg5) : FVec Ideal S1024 .f32) shapeCasts_S1024_S1x1x1024 : FVec Ideal S1x1x1024 .f32) := by
  unfold_abbrev_sides
  after_results
  rfl
theorem V_b : (V m c main_v4 : FVec Ideal S1x1x1024 .f32) = (shapeCast S1x1x1024 (m (c, main_arg6) : FVec Ideal S1024 .f32) shapeCasts_S1024_S1x1x1024 : FVec Ideal S1x1x1024 .f32) := by
  unfold_abbrev_sides
  after_results
  rfl

/-- The blocks' places, by grid point. -/
theorem idx : ∀ t : Fin grid0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0] ∧ win0_4.index t = ![0, 0]
    ∧ win0_5.index t = ![(grid0.coords t 0).val, 0, 0]
    ∧ win0_6.index t = ![0, 0, 0] ∧ win0_7.index t = ![0, 0, 0]
    ∧ win0_8.index t = ![(grid0.coords t 0).val, 0, 0]
    ∧ win0_9.index t = ![(grid0.coords t 0).val, 0, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0] := by decide +kernel

/-- A grid point's coordinates: batch and block of rows. -/
def pb (t : Fin grid0.N) : Fin 4 := ⟨(grid0.coords t 0).val, (grid0.coords t 0).isLt⟩
def pi (t : Fin grid0.N) : Fin 32 := ⟨(grid0.coords t 1).val, (grid0.coords t 1).isLt⟩

/-- The blocks the body reads, from the arguments. -/
theorem x_blk (t : Fin cfg0.N) (r : Fin 256) (k : Fin 1024) :
    (iblk m c 0 t : Vec Ideal S1x256x1024 .f32) (ix3 0 r k) = (m (c, main_arg0) : FVec Ideal S4x8192x1024 .f32) (ix3 (pb t) ⟨256 * (pi t).val + r.val, by omega⟩ k) := by
  rw [← V_main_arg0 m c]
  blk_ext [iblk, idx t, pb, pi]
theorem h_blk (t : Fin cfg0.N) (r : Fin 256) (k : Fin 512) :
    (iblk m c 1 t : Vec Ideal S1x256x512 .f32) (ix3 0 r k) = (m (c, main_arg1) : FVec Ideal S4x8192x512 .f32) (ix3 (pb t) ⟨256 * (pi t).val + r.val, by omega⟩ k) := by
  rw [← V_main_arg1 m c]
  blk_ext [iblk, idx t, pb, pi]
theorem a_blk (t : Fin cfg0.N) (r : Fin 256) (k : Fin 512) :
    (iblk m c 2 t : Vec Ideal S1x256x512 .f32) (ix3 0 r k) = (m (c, main_arg2) : FVec Ideal S4x8192x512 .f32) (ix3 (pb t) ⟨256 * (pi t).val + r.val, by omega⟩ k) := by
  rw [← V_main_arg2 m c]
  blk_ext [iblk, idx t, pb, pi]
theorem wh_blk (t : Fin cfg0.N) (k : Fin 512) (f : Fin 1024) :
    (iblk m c 3 t : Vec Ideal S512x1024 .bf16) (ix2 k f) = (m (c, main_arg3) : FVec Ideal S1024x1024 .f32) (ix2 ⟨k.val, by omega⟩ f) := by
  have e : (iblk m c 3 t : Vec Ideal S512x1024 .bf16) (ix2 k f) = (V m c main_v1 : FVec Ideal S512x1024 .bf16) (ix2 k f) := by blk_ext [iblk, idx t, pb, pi]
  rw [e, V_wh]
  pointwise
theorem wa_blk (t : Fin cfg0.N) (k : Fin 512) (f : Fin 1024) :
    (iblk m c 4 t : Vec Ideal S512x1024 .bf16) (ix2 k f) = (m (c, main_arg3) : FVec Ideal S1024x1024 .f32) (ix2 ⟨512 + k.val, by omega⟩ f) := by
  have e : (iblk m c 4 t : Vec Ideal S512x1024 .bf16) (ix2 k f) = (V m c main_v2 : FVec Ideal S512x1024 .bf16) (ix2 k f) := by blk_ext [iblk, idx t, pb, pi]
  rw [e, V_wa]
  pointwise
theorem gate_blk (t : Fin cfg0.N) (k : Fin 1024) :
    (iblk m c 5 t : Vec Ideal S1x1x1024 .f32) (ix3 0 0 k) = (m (c, main_arg4) : FVec Ideal S4x1x1024 .f32) (ix3 (pb t) 0 k) := by
  rw [← V_main_arg4 m c]
  blk_ext [iblk, idx t, pb, pi]
theorem g_blk (t : Fin cfg0.N) (k : Fin 1024) :
    (iblk m c 6 t : Vec Ideal S1x1x1024 .f32) (ix3 0 0 k) = (m (c, main_arg5) : FVec Ideal S1024 .f32) (ix1 k) := by
  have e : (iblk m c 6 t : Vec Ideal S1x1x1024 .f32) (ix3 0 0 k) = (V m c main_v3 : FVec Ideal S1x1x1024 .f32) (ix3 0 0 k) := by blk_ext [iblk, idx t, pb, pi]
  rw [e, V_g]
  pointwise
theorem b_blk (t : Fin cfg0.N) (k : Fin 1024) :
    (iblk m c 7 t : Vec Ideal S1x1x1024 .f32) (ix3 0 0 k) = (m (c, main_arg6) : FVec Ideal S1024 .f32) (ix1 k) := by
  have e : (iblk m c 7 t : Vec Ideal S1x1x1024 .f32) (ix3 0 0 k) = (V m c main_v4 : FVec Ideal S1x1x1024 .f32) (ix3 0 0 k) := by blk_ext [iblk, idx t, pb, pi]
  rw [e, V_b]
  pointwise
theorem sh_blk (t : Fin cfg0.N) (k : Fin 1024) :
    (iblk m c 8 t : Vec Ideal S1x1x1024 .f32) (ix3 0 0 k) = (m (c, main_arg7) : FVec Ideal S4x1x1024 .f32) (ix3 (pb t) 0 k) := by
  rw [← V_main_arg7 m c]
  blk_ext [iblk, idx t, pb, pi]
theorem sc_blk (t : Fin cfg0.N) (k : Fin 1024) :
    (iblk m c 9 t : Vec Ideal S1x1x1024 .f32) (ix3 0 0 k) = (m (c, main_arg8) : FVec Ideal S4x1x1024 .f32) (ix3 (pb t) 0 k) := by
  rw [← V_main_arg8 m c]
  blk_ext [iblk, idx t, pb, pi]

/-- The residual rows of the arguments, and the two results they give. -/
def rows : Fin 4 → Fin 8192 → Fin 1024 → EReal :=
  mixRow (m (c, main_arg0) : FVec Ideal S4x8192x1024 .f32) (m (c, main_arg1) : FVec Ideal S4x8192x512 .f32) (m (c, main_arg2) : FVec Ideal S4x8192x512 .f32) (m (c, main_arg3) : FVec Ideal S1024x1024 .f32) (m (c, main_arg4) : FVec Ideal S4x1x1024 .f32)
def outX : Fin 4 → Fin 8192 → Fin 1024 → EReal :=
  normed (rows m c) (m (c, main_arg5) : FVec Ideal S1024 .f32) (m (c, main_arg6) : FVec Ideal S1024 .f32)
def outF : Fin 4 → Fin 8192 → Fin 1024 → EReal :=
  fed (rows m c) (m (c, main_arg5) : FVec Ideal S1024 .f32) (m (c, main_arg6) : FVec Ideal S1024 .f32) (m (c, main_arg7) : FVec Ideal S4x1x1024 .f32) (m (c, main_arg8) : FVec Ideal S4x1x1024 .f32)

theorem row_blk (t : Fin cfg0.N) (r : Fin 256) :
    Blk.row (iblk m c 0 t) (iblk m c 1 t) (iblk m c 2 t) (iblk m c 3 t) (iblk m c 4 t) (iblk m c 5 t) r = rows m c (pb t) ⟨256 * (pi t).val + r.val, by omega⟩ := by
  funext f
  unfold Blk.row rows mixRow carried update
  simp only [x_blk m c t, h_blk m c t, a_blk m c t, wh_blk m c t, wa_blk m c t, gate_blk m c t]

/-- What a grid point leaves in the three arrays. -/
theorem after_x (t : Fin cfg0.N) (r : Fin 256) (f : Fin 1024) : ((dats m 0 c).after 10 t : Vec Ideal S1x256x1024 .f32) (ix3 0 r f)
    = outX m c (pb t) ⟨256 * (pi t).val + r.val, by omega⟩ f := by
  rw [after0_10]
  refine (Blk.out_x _ _ _ _ _ _ _ _ _ _ r f).trans ?_
  rw [row_blk m c t r, outX, normed]
  simp only [g_blk m c t, b_blk m c t]
theorem after_f (t : Fin cfg0.N) (r : Fin 256) (f : Fin 1024) : ((dats m 0 c).after 11 t : Vec Ideal S1x256x1024 .f32) (ix3 0 r f)
    = outF m c (pb t) ⟨256 * (pi t).val + r.val, by omega⟩ f := by
  rw [after0_11]
  refine (Blk.out_ff _ _ _ _ _ _ _ _ _ _ r f).trans ?_
  rw [row_blk m c t r, outF, fed]
  simp only [g_blk m c t, b_blk m c t, sh_blk m c t, sc_blk m c t]
theorem after_h (t : Fin cfg0.N) (r : Fin 256) (f : Fin 1024) : ((dats m 0 c).after 12 t : Vec Ideal S1x256x1024 .bf16) (ix3 0 r f)
    = outF m c (pb t) ⟨256 * (pi t).val + r.val, by omega⟩ f := by
  rw [after0_12]
  refine (Blk.out_half _ _ _ _ _ _ _ _ _ _ r f).trans ?_
  rw [row_blk m c t r, outF, fed]
  simp only [g_blk m c t, b_blk m c t, sh_blk m c t, sc_blk m c t]

/-- THE RESULT ARRAYS, element by element. -/
theorem x_eq : (dats m 0 c).arrAt 10 cfg0.N = fun i : S4x8192x1024.Idx => outX m c (i 0) (i 1) (i 2) := by
  refine (dats m 0 c).arrAt_eq_of_covers 10 _ (by decide +kernel) fun t hf y => ?_
  blk_simp
  rw [ix_free y]
  refine (after_x m c t (y 1) (y 2)).trans (of_nat (outX m c) ?_ ?_ ?_)
  · blk_simp [idx t]
    rfl
  · blk_simp [idx t]
    exact congrArg (· + _) (Nat.mul_comm 256 _)
  · blk_simp [idx t]
theorem f_eq : (dats m 0 c).arrAt 11 cfg0.N = fun i : S4x8192x1024.Idx => outF m c (i 0) (i 1) (i 2) := by
  refine (dats m 0 c).arrAt_eq_of_covers 11 _ (by decide +kernel) fun t hf y => ?_
  blk_simp
  rw [ix_free y]
  refine (after_f m c t (y 1) (y 2)).trans (of_nat (outF m c) ?_ ?_ ?_)
  · blk_simp [idx t]
    rfl
  · blk_simp [idx t]
    exact congrArg (· + _) (Nat.mul_comm 256 _)
  · blk_simp [idx t]
theorem half_eq : (dats m 0 c).arrAt 12 cfg0.N = fun i : S4x8192x1024.Idx => outF m c (i 0) (i 1) (i 2) := by
  refine (dats m 0 c).arrAt_eq_of_covers 12 _ (by decide +kernel) fun t hf y => ?_
  blk_simp
  rw [ix_free y]
  refine (after_h m c t (y 1) (y 2)).trans (of_nat (outF m c) ?_ ?_ ?_)
  · blk_simp [idx t]
    rfl
  · blk_simp [idx t]
    exact congrArg (· + _) (Nat.mul_comm 256 _)
  · blk_simp [idx t]

end Cert.MixOutIdeal.Arr
end
-- ==== Proof.MixOut.Reference.lean ====
module

public import proofs.«01_k».proof.Proof.Gen.MixOutReferenceIdeal.Run
public import proofs.«01_k».proof.Proof.MixOut.Rows

@[expose] public section

set_option maxRecDepth 16384

noncomputable section

/-! What the reference of the first mixer's output computes, element by element. -/

namespace Cert.MixOutReferenceIdeal.Ref

open Cert.MixOutReferenceIdeal Cert.MixOutReferenceIdeal.Gen Cert.OutNorm Cert.MixRows Idealize.ShloMosaic Idealize.ShloMosaic.TcCoe

/-- The two paths' columns side by side, through the output weights. -/
def both (h a : FVec Ideal S4x8192x512 .f32) (w : FVec Ideal S1024x1024 .f32) : FVec Ideal S4x8192x1024 .f32 :=
  Host.dotGeneral dot_S4x8192x1024_S1024x1024_S4x8192x1024_2_0_01_1_n_n none (concatenate S4x8192x1024 2 [⟨S4x8192x512, h⟩, ⟨S4x8192x512, a⟩] concatenates_S4x8192x512_S4x8192x512_S4x8192x1024_d2) w

/-- The residual sum. -/
def sum (x : FVec Ideal S4x8192x1024 .f32) (gate : FVec Ideal S4x1x1024 .f32) (u : FVec Ideal S4x8192x1024 .f32) : FVec Ideal S4x8192x1024 .f32 :=
  addf (mulf (broadcastInDim S4x8192x1024 ![] bcast_S_S4x8192x1024 (constant S_ .f32 0x3FB504F3#32)) x) (mulf (broadcastInDim S4x8192x1024 ![0, 1, 2] bcast_S4x1x1024_S4x8192x1024_0_1_2 gate) u)

/-- The rows' means. -/
def means (u : FVec Ideal S4x8192x1024 .f32) : FVec Ideal S4x8192x1 .f32 :=
  Host.divf (broadcastInDim S4x8192x1 ![0, 1] bcast_S4x8192_S4x8192x1_0_1 (Host.reduceAdd u (constant S_ .f32 0x00000000#32) reducesTo_S4x8192x1024_S4x8192_d2 h_S_)) (broadcastInDim S4x8192x1 ![] bcast_S_S4x8192x1 (constant S_ .f32 0x44800000#32))

/-- The rows less their means. -/
def devs (u : FVec Ideal S4x8192x1024 .f32) : FVec Ideal S4x8192x1024 .f32 :=
  subf u (broadcastInDim S4x8192x1024 ![0, 1, 2] bcast_S4x8192x1_S4x8192x1024_0_1_2 (means u))

/-- A row of weights along the sequence. -/
def along (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)

/-- The rows' norm. -/
def norms (v : FVec Ideal S4x8192x1024 .f32) (g b : FVec Ideal S1024 .f32) : FVec Ideal S4x8192x1024 .f32 :=
  addf (mulf (mulf v (broadcastInDim S4x8192x1024 ![0, 1, 2] bcast_S4x8192x1_S4x8192x1024_0_1_2
    (Host.rsqrt (addf (means (mulf v v)) (broadcastInDim S4x8192x1 ![] bcast_S_S4x8192x1 (constant S_ .f32 0x3727C5AC#32)))))) (along g)) (along b)

/-- The modulation. -/
def modulate (v : FVec Ideal S4x8192x1024 .f32) (sh sc : FVec Ideal S4x1x1024 .f32) : FVec Ideal S4x8192x1024 .f32 :=
  addf (mulf v (broadcastInDim S4x8192x1024 ![0, 1, 2] bcast_S4x1x1024_S4x8192x1024_0_1_2 (addf (broadcastInDim S4x1x1024 ![] bcast_S_S4x1x1024 (constant S_ .f32 0x3F800000#32)) sc)))
    (broadcastInDim S4x8192x1024 ![0, 1, 2] bcast_S4x1x1024_S4x8192x1024_0_1_2 sh)

section
variable (m : (ℓ : Loc nD τ sig) → Buf (Elt Ideal) ℓ) (c : Dev nD)

/-- The arguments, by name. -/
abbrev aX : FVec Ideal S4x8192x1024 .f32 := m ((c.tc : Thread nD τ).loc main_arg0)
abbrev aH : FVec Ideal S4x8192x512 .f32 := m ((c.tc : Thread nD τ).loc main_arg1)
abbrev aA : FVec Ideal S4x8192x512 .f32 := m ((c.tc : Thread nD τ).loc main_arg2)
abbrev aW : FVec Ideal S1024x1024 .f32 := m ((c.tc : Thread nD τ).loc main_arg3)
abbrev aGate : FVec Ideal S4x1x1024 .f32 := m ((c.tc : Thread nD τ).loc main_arg4)
abbrev aG : FVec Ideal S1024 .f32 := m ((c.tc : Thread nD τ).loc main_arg5)
abbrev aB : FVec Ideal S1024 .f32 := m ((c.tc : Thread nD τ).loc main_arg6)
abbrev aSh : FVec Ideal S4x1x1024 .f32 := m ((c.tc : Thread nD τ).loc main_arg7)
abbrev aSc : FVec Ideal S4x1x1024 .f32 := m ((c.tc : Thread nD τ).loc main_arg8)

/-- The results as these stages. -/
theorem res_x : Value.res_main_v30 m c = norms (devs (sum (aX m c) (aGate m c) (both (aH m c) (aA m c) (aW m c)))) (aG m c) (aB m c) := rfl
theorem res_f : Value.res_main_v36 m c = modulate (norms (devs (sum (aX m c) (aGate m c) (both (aH m c) (aA m c) (aW m c)))) (aG m c) (aB m c)) (aSh m c) (aSc m c) := rfl
theorem res_half : Value.res_main_v37 m c = truncf .bf16 (modulate (norms (devs (sum (aX m c) (aGate m c) (both (aH m c) (aA m c) (aW m c)))) (aG m c) (aB m c)) (aSh m c) (aSc m c)) bitsLt_bf16_f32 := rfl
end

/-- One element of the update. -/
theorem both_apply (h a : FVec Ideal S4x8192x512 .f32) (w : FVec Ideal S1024x1024 .f32) (n : Fin 4) (i : Fin 8192) (f : Fin 1024) : both h a w (ix3 n i f) = update h a w n i f := by
  pointwise [both, update]

/-- One element of the residual sum. -/
theorem sum_apply (x : FVec Ideal S4x8192x1024 .f32) (gate : FVec Ideal S4x1x1024 .f32) (u : FVec Ideal S4x8192x1024 .f32) (n : Fin 4) (i : Fin 8192) (f : Fin 1024) :
    sum x gate u (ix3 n i f) = carried (fun f => x (ix3 n i f)) (fun f => gate (ix3 n 0 f)) (fun f => u (ix3 n i f)) f := by
  pointwise [sum, carried, alpha]

theorem means_apply (u : FVec Ideal S4x8192x1024 .f32) (n : Fin 4) (i : Fin 8192) : means u (ix3 n i 0) = mean (fun k => u (ix3 n i k)) := by
  pointwise [means, mean, len]

theorem devs_apply (u : FVec Ideal S4x8192x1024 .f32) (n : Fin 4) (i : Fin 8192) (f : Fin 1024) : devs u (ix3 n i f) = dev (fun k => u (ix3 n i k)) f := by
  have h := means_apply u
  unfold devs
  generalize means u = v at h ⊢
  pointwise
  rw [h]
  rfl

/-- One element of the norm. -/
theorem norms_apply (u : FVec Ideal S4x8192x1024 .f32) (g b : FVec Ideal S1024 .f32) (n : Fin 4) (i : Fin 8192) (f : Fin 1024) :
    norms (devs u) g b (ix3 n i f) = norm (fun k => u (ix3 n i k)) (fun k => g (ix1 k)) (fun k => b (ix1 k)) f := by
  have h := means_apply (mulf (devs u) (devs u))
  have hd := devs_apply u
  unfold norms
  generalize means (mulf (devs u) (devs u)) = v at h ⊢
  pointwise [along]
  rw [h, hd]
  have e : (fun k => mulf (devs u) (devs u) (ix3 n i k)) = fun k => dev (fun k => u (ix3 n i k)) k * dev (fun k => u (ix3 n i k)) k := funext fun k => by
    show devs u (ix3 n i k) * devs u (ix3 n i k) = _
    rw [hd]
  rw [e]
  rfl

/-- One element of the modulation. -/
theorem modulate_apply (v : FVec Ideal S4x8192x1024 .f32) (sh sc : FVec Ideal S4x1x1024 .f32) (n : Fin 4) (i : Fin 8192) (f : Fin 1024) :
    modulate v sh sc (ix3 n i f) = v (ix3 n i f) * (1 + sc (ix3 n 0 f)) + sh (ix3 n 0 f) := by
  pointwise [modulate]

section
variable (m : (ℓ : Loc nD τ sig) → Buf (Elt Ideal) ℓ) (c : Dev nD) (n : Fin 4) (i : Fin 8192) (f : Fin 1024)

theorem rows_eq : (fun k => sum (aX m c) (aGate m c) (both (aH m c) (aA m c) (aW m c)) (ix3 n i k)) = mixRow (aX m c) (aH m c) (aA m c) (aW m c) (aGate m c) n i := by
  funext k
  rw [sum_apply]
  simp only [both_apply]
  rfl

/-- THE THREE RESULTS, element by element. -/
theorem x_at : (Value.res_main_v30 m c : FVec Ideal S4x8192x1024 .f32) (ix3 n i f) = normed (mixRow (aX m c) (aH m c) (aA m c) (aW m c) (aGate m c)) (aG m c) (aB m c) n i f := by
  rw [res_x, norms_apply, rows_eq]
  rfl
theorem f_at : (Value.res_main_v36 m c : FVec Ideal S4x8192x1024 .f32) (ix3 n i f) = fed (mixRow (aX m c) (aH m c) (aA m c) (aW m c) (aGate m c)) (aG m c) (aB m c) (aSh m c) (aSc m c) n i f := by
  rw [res_f, modulate_apply, norms_apply, rows_eq]
  rfl
theorem half_at : (Value.res_main_v37 m c : FVec Ideal S4x8192x1024 .bf16) (ix3 n i f) = fed (mixRow (aX m c) (aH m c) (aA m c) (aW m c) (aGate m c)) (aG m c) (aB m c) (aSh m c) (aSc m c) n i f := by
  rw [res_half]
  refine Eq.trans ?_ (f_at m c n i f)
  rw [res_f]
  generalize modulate _ _ _ = v
  rfl
end

end Cert.MixOutReferenceIdeal.Ref
end
-- ==== Proof.MixOut.Equation.lean ====
module

public import proofs.«01_k».proof.Proof.MixOut.Array
public import proofs.«01_k».proof.Proof.MixOut.Reference
public import proofs.«01_k».proof.Defs

@[expose] public section

set_option maxRecDepth 16384

noncomputable section

/-! The first mixer's output: the kernel's three results are the reference's, at all extended reals. -/

namespace Cert.MixOutIdeal.Way

open Cert.MixOutIdeal Cert.MixOutIdeal.Gen Cert.OutNorm Idealize.ShloMosaic Idealize.ShloMosaic.TcCoe Idealize.SL.Sem

/-- The kernel's arrays are the reference's, where the arguments are. -/
theorem agree (m : (ℓ : Loc Cert.MixOutIdeal.nD Cert.MixOutIdeal.τ Cert.MixOutIdeal.sig) → Buf (Elt Ideal) ℓ)
    (m' : (ℓ : Loc Cert.MixOutReferenceIdeal.nD Cert.MixOutReferenceIdeal.τ Cert.MixOutReferenceIdeal.sig) → Buf (Elt Ideal) ℓ) (c : Dev Cert.MixOutIdeal.nD)
    (e0 : m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0))
    (e1 : m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1))
    (e2 : m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2))
    (e3 : m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3))
    (e4 : m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4))
    (e5 : m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5))
    (e6 : m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6))
    (e7 : m' ((c.tc : Thread Cert.MixOutReferenceIdeal.nD Cert.MixOutReferenceIdeal.τ).loc Cert.MixOutReferenceIdeal.main_arg7) = m ((c.tc : Thread Cert.MixOutIdeal.nD Cert.MixOutIdeal.τ).loc Cert.MixOutIdeal.main_arg7))
    (e8 : m' ((c.tc : Thread Cert.MixOutReferenceIdeal.nD Cert.MixOutReferenceIdeal.τ).loc Cert.MixOutReferenceIdeal.main_arg8) = m ((c.tc : Thread Cert.MixOutIdeal.nD Cert.MixOutIdeal.τ).loc Cert.MixOutIdeal.main_arg8)) :
    (dats m 0 c).arrAt 10 cfg0.N = Cert.MixOutReferenceIdeal.Value.res_main_v30 m' c
    ∧ (dats m 0 c).arrAt 11 cfg0.N = Cert.MixOutReferenceIdeal.Value.res_main_v36 m' c
    ∧ (dats m 0 c).arrAt 12 cfg0.N = Cert.MixOutReferenceIdeal.Value.res_main_v37 m' c := by
  refine ⟨(Arr.x_eq m c).trans (funext fun (i : S4x8192x1024.Idx) => ?_),
    (Arr.f_eq m c).trans (funext fun (i : S4x8192x1024.Idx) => ?_),
    (Arr.half_eq m c).trans (funext fun (i : S4x8192x1024.Idx) => ?_)⟩
  · refine Eq.trans ?_ ((Cert.MixOutReferenceIdeal.Ref.x_at m' c (i 0) (i 1) (i 2)).symm.trans (congrArg (Cert.MixOutReferenceIdeal.Value.res_main_v30 m' c) (ix_full i).symm))
    simp only [Cert.MixOutReferenceIdeal.Ref.aX, Cert.MixOutReferenceIdeal.Ref.aH, Cert.MixOutReferenceIdeal.Ref.aA, Cert.MixOutReferenceIdeal.Ref.aW, Cert.MixOutReferenceIdeal.Ref.aGate, Cert.MixOutReferenceIdeal.Ref.aG, Cert.MixOutReferenceIdeal.Ref.aB, Cert.MixOutReferenceIdeal.Ref.aSh, Cert.MixOutReferenceIdeal.Ref.aSc, e0, e1, e2, e3, e4, e5, e6, e7, e8]
    rfl
  · refine Eq.trans ?_ ((Cert.MixOutReferenceIdeal.Ref.f_at m' c (i 0) (i 1) (i 2)).symm.trans (congrArg (Cert.MixOutReferenceIdeal.Value.res_main_v36 m' c) (ix_full i).symm))
    simp only [Cert.MixOutReferenceIdeal.Ref.aX, Cert.MixOutReferenceIdeal.Ref.aH, Cert.MixOutReferenceIdeal.Ref.aA, Cert.MixOutReferenceIdeal.Ref.aW, Cert.MixOutReferenceIdeal.Ref.aGate, Cert.MixOutReferenceIdeal.Ref.aG, Cert.MixOutReferenceIdeal.Ref.aB, Cert.MixOutReferenceIdeal.Ref.aSh, Cert.MixOutReferenceIdeal.Ref.aSc, e0, e1, e2, e3, e4, e5, e6, e7, e8]
    rfl
  · refine Eq.trans ?_ ((Cert.MixOutReferenceIdeal.Ref.half_at m' c (i 0) (i 1) (i 2)).symm.trans (congrArg (Cert.MixOutReferenceIdeal.Value.res_main_v37 m' c) (ix_full i).symm))
    simp only [Cert.MixOutReferenceIdeal.Ref.aX, Cert.MixOutReferenceIdeal.Ref.aH, Cert.MixOutReferenceIdeal.Ref.aA, Cert.MixOutReferenceIdeal.Ref.aW, Cert.MixOutReferenceIdeal.Ref.aGate, Cert.MixOutReferenceIdeal.Ref.aG, Cert.MixOutReferenceIdeal.Ref.aB, Cert.MixOutReferenceIdeal.Ref.aSh, Cert.MixOutReferenceIdeal.Ref.aSc, e0, e1, e2, e3, e4, e5, e6, e7, e8]
    rfl

/-- The kernel's results are the reference's. -/
theorem equation : Cert.algebraic_MixOutIdeal_MixOutReferenceIdeal := fun m g m' g' _ e => by
  refine ⟨fun c => Cert.MixOutReferenceIdeal.Value.res_main_v30 m' c, fun c => Cert.MixOutReferenceIdeal.Value.res_main_v36 m' c, fun c => Cert.MixOutReferenceIdeal.Value.res_main_v37 m' c,
    (θ_run _ _ _).mono (fun r h c => ?_) (Cert.MixOutIdeal.Value.run_blocks m g), Cert.MixOutReferenceIdeal.Value.run m' g'⟩
  obtain ⟨h0, h1, h2, hr⟩ := h c
  obtain ⟨e0, e1, e2, e3, e4, e5, e6, e7, e8⟩ := e c
  obtain ⟨a0, a1, a2⟩ := agree m m' c e0 e1 e2 e3 e4 e5 e6 e7 e8
  exact ⟨h0.trans a0, h1.trans a1, h2.trans a2, hr⟩

/-- The reference has no semaphore, and its run leaves its arguments as they were. -/
theorem reference_frame : Cert.quiescent_MixOutReferenceIdeal := fun m g _ =>
  (θ_run _ _ _).mono (fun r h => ⟨fun c => (h c).2.2.2, sem_eq_zero_of_no_sems rfl _⟩) (Cert.MixOutReferenceIdeal.Value.run m g)

end Cert.MixOutIdeal.Way
end
-- ==== Proof.lean ====
module

public import proofs.«01_k».proof.Defs
public import proofs.«01_k».proof.Proof.Gen.KernelIdeal.Value
public import proofs.«01_k».proof.Proof.Gen.ReferenceIdeal.Run
public import proofs.«01_k».proof.Proof.Finite
public import proofs.«01_k».proof.Proof.Equation
public import proofs.«01_k».proof.Proof.Experts.Equation
public import proofs.«01_k».proof.Proof.ExpertsTwo.Equation
public import proofs.«01_k».proof.Proof.SsdIn.Equation
public import proofs.«01_k».proof.Proof.SsdOut.Equation
public import proofs.«01_k».proof.Proof.MixOut.Equation
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Experts
public import proofs.«01_k».proof.Proof.Gen.Experts.Skeleton
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_experts_in_range
public import proofs.«01_k».proof.Proof.Gen.ExpertsTwo
public import proofs.«01_k».proof.Proof.Gen.ExpertsTwo.Skeleton
public import proofs.«01_k».proof.Proof.Gen.ExpertsTwoIdeal
public import proofs.«01_k».proof.Proof.Gen.ExpertsTwoIdeal.Skeleton
public import proofs.«01_k».proof.Proof.Gen.ExpertsTwoIdeal.Launch
public import proofs.«01_k».proof.Proof.Gen.ExpertsTwoReferenceIdeal
public import proofs.«01_k».proof.Proof.Gen.ExpertsTwoReferenceIdeal.Run
public import proofs.«01_k».proof.Proof.Gen.SsdIn
public import proofs.«01_k».proof.Proof.Gen.SsdIn.Skeleton
public import proofs.«01_k».proof.Proof.Gen.SsdIn.Launch
public import proofs.«01_k».proof.Proof.Gen.SsdIn.Points
public import proofs.«01_k».proof.Proof.Gen.SsdIn.Frame
public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInIdeal.Points
public import proofs.«01_k».proof.Proof.Gen.SsdInIdeal.Frame
public import proofs.«01_k».proof.Proof.Gen.SsdInIdeal.Value
public import proofs.«01_k».proof.Proof.Gen.SsdInReferenceIdeal
public import proofs.«01_k».proof.Proof.Gen.SsdInReferenceIdeal.Run
public import proofs.«01_k».proof.Proof.Gen.SsdOut
public import proofs.«01_k».proof.Proof.Gen.SsdOut.Skeleton
public import proofs.«01_k».proof.Proof.Gen.SsdOut.Launch
public import proofs.«01_k».proof.Proof.Gen.SsdOut.Points
public import proofs.«01_k».proof.Proof.Gen.SsdOut.Frame
public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutReferenceIdeal
public import proofs.«01_k».proof.Proof.Gen.SsdOutReferenceIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import Idealize.ShloMosaic.Adequacy
public import Idealize.ShloMosaic.Init

@[expose] public section

noncomputable section

namespace Cert.Proof

open Idealize.ShloMosaic Idealize.SL.Sem Cert.Kernel

/-- The reference program has no semaphore, and its run leaves its arguments as they were. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run m g)

/-- The kernel's result is the reference's, for real queries and keys. -/
theorem attention : Cert.algebraic_KernelIdeal_ReferenceIdeal_pre_finite_scores (hKernelIdeal := Cert.KernelIdeal.Gen.facts) (hReferenceIdeal := Cert.ReferenceIdeal.Gen.facts)
    (hPre_finite_scores := Cert.Pre_finite_scores.Gen.facts) := fun m g m' g' hp e => by
  refine ⟨fun c => Cert.ReferenceIdeal.Value.res_main_v22 m' c, (θ_run _ _ _).mono (fun r h c => ⟨(h c).1.trans ?_, (h c).2⟩) (Cert.KernelIdeal.Value.run_blocks m g),
    Cert.ReferenceIdeal.Value.run m' g'⟩
  obtain ⟨h0, h1, h2, h3, h5, h6⟩ := Cert.Pre_finite_scores.Fin.reals _ _ _ _ _ _ _ _ (hp c)
  obtain ⟨e0, e1, e2, e3, e4, e5, e6, e7⟩ := e c
  refine (Cert.KernelIdeal.Arr.arr_eq m c).trans ?_
  rw [Cert.KernelIdeal.Tab.V_q, Cert.KernelIdeal.Tab.V_k, Cert.KernelIdeal.Tab.V_v]
  refine (Cert.Att.equation _ _ _ _ _ _ _ _ h0 h1 h2 h3 h5 h6).trans ?_
  rw [← e0, ← e1, ← e2, ← e3, ← e4, ← e5, ← e6, ← e7]
  exact (Cert.ReferenceIdeal.Att.res_eq m' c).symm

/-- The programs' frames; the idealizations rewrote nothing; the results of each kernel and its reference are one. -/
theorem claim : Cert.Claim := ⟨Cert.Kernel.Gen.facts, Cert.KernelIdeal.Gen.facts, Cert.ReferenceIdeal.Gen.facts, Cert.Experts.Gen.facts, Cert.ExpertsIdeal.Gen.facts,
  Cert.ExpertsReferenceIdeal.Gen.facts, Cert.ExpertsTwo.Gen.facts, Cert.ExpertsTwoIdeal.Gen.facts, Cert.ExpertsTwoReferenceIdeal.Gen.facts,
  Cert.SsdIn.Gen.facts, Cert.SsdInIdeal.Gen.facts, Cert.SsdInReferenceIdeal.Gen.facts,
  Cert.SsdOut.Gen.facts, Cert.SsdOutIdeal.Gen.facts, Cert.SsdOutReferenceIdeal.Gen.facts, Cert.MixOut.Gen.facts, Cert.MixOutIdeal.Gen.facts, Cert.MixOutReferenceIdeal.Gen.facts, Cert.Pre_finite_scores.Gen.facts, Cert.Pre_experts_in_range.Gen.facts,
  fun m g _ => Cert.Kernel.Gen.frame m g, fun m g _ => Cert.KernelIdeal.Gen.frame m g, fun m g _ => Cert.KernelIdeal.Gen.frame m g,
  reference_frame, fun m g _ => reference_frame m g trivial,
  Cert.ExpertsIdeal.Way.frame_bits, Cert.ExpertsIdeal.Way.frame_ideal, Cert.ExpertsIdeal.Way.reference_frame, fun m g _ => Cert.ExpertsIdeal.Way.reference_frame m g trivial,
  Cert.ExpertsTwoIdeal.Way.frame_bits, Cert.ExpertsTwoIdeal.Way.frame_ideal, Cert.ExpertsTwoIdeal.Way.reference_frame, fun m g _ => Cert.ExpertsTwoIdeal.Way.reference_frame m g trivial,
  fun m g _ => Cert.SsdIn.Gen.frame m g, fun m g _ => Cert.SsdInIdeal.Gen.frame m g, Cert.SsdInIdeal.Way.reference_frame,
  fun m g _ => Cert.SsdOut.Gen.frame m g, fun m g _ => Cert.SsdOutIdeal.Gen.frame m g, Cert.SsdOutIdeal.Way.reference_frame,
  fun m g _ => Cert.MixOut.Gen.frame m g, fun m g _ => Cert.MixOutIdeal.Gen.frame m g, Cert.MixOutIdeal.Way.reference_frame,
  trivial, attention, trivial, Cert.ExpertsIdeal.Way.equation, trivial, Cert.ExpertsTwoIdeal.Way.equation, trivial, Cert.SsdInIdeal.Way.equation,
  trivial, Cert.SsdOutIdeal.Way.equation, trivial, Cert.MixOutIdeal.Way.equation⟩

end Cert.Proof

end
